-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))).2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)) (v6 : (c : Dev Cert.KernelIdeal.nD) → Buf (Elt Ideal) ((c.tc : Thread Cert.KernelIdeal.nD Cert.KernelIdeal.τ).loc Cert.KernelIdeal.main_v11_6)) (v7 : (c : Dev Cert.KernelIdeal.nD) → Buf (Elt Ideal) ((c.tc : Thread Cert.KernelIdeal.nD Cert.KernelIdeal.τ).loc Cert.KernelIdeal.main_v11_7)) (v8 : (c : Dev Cert.KernelIdeal.nD) → Buf (Elt Ideal) ((c.tc : Thread Cert.KernelIdeal.nD Cert.KernelIdeal.τ).loc Cert.KernelIdeal.main_v11_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_v11_6) = v6 c
          ∧ r.2.mem ((c.tc : Thread Cert.KernelIdeal.nD Cert.KernelIdeal.τ).loc Cert.KernelIdeal.main_v11_7) = v7 c
          ∧ r.2.mem ((c.tc : Thread Cert.KernelIdeal.nD Cert.KernelIdeal.τ).loc Cert.KernelIdeal.main_v11_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v116) = v5 c
          ∧ r.2.mem ((c.tc : Thread Cert.ReferenceIdeal.nD Cert.ReferenceIdeal.τ).loc Cert.ReferenceIdeal.main_v117) = v6 c
          ∧ r.2.mem ((c.tc : Thread Cert.ReferenceIdeal.nD Cert.ReferenceIdeal.τ).loc Cert.ReferenceIdeal.main_v118) = v7 c
          ∧ r.2.mem ((c.tc : Thread Cert.ReferenceIdeal.nD Cert.ReferenceIdeal.τ).loc Cert.ReferenceIdeal.main_v119) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v129_0)) (v1 : (c : Dev Cert.Kernel2Ideal.nD) → Buf (Elt Ideal) ((c.tc : Thread Cert.Kernel2Ideal.nD Cert.Kernel2Ideal.τ).loc Cert.Kernel2Ideal.main_v129_1)) (v2 : (c : Dev Cert.Kernel2Ideal.nD) → Buf (Elt Ideal) ((c.tc : Thread Cert.Kernel2Ideal.nD Cert.Kernel2Ideal.τ).loc Cert.Kernel2Ideal.main_v129_2)) (v3 : (c : Dev Cert.Kernel2Ideal.nD) → Buf (Elt Ideal) ((c.tc : Thread Cert.Kernel2Ideal.nD Cert.Kernel2Ideal.τ).loc Cert.Kernel2Ideal.main_v129_3)) (v4 : (c : Dev Cert.Kernel2Ideal.nD) → Buf (Elt Ideal) ((c.tc : Thread Cert.Kernel2Ideal.nD Cert.Kernel2Ideal.τ).loc Cert.Kernel2Ideal.main_v129_4)) (v5 : (c : Dev Cert.Kernel2Ideal.nD) → Buf (Elt Ideal) ((c.tc : Thread Cert.Kernel2Ideal.nD Cert.Kernel2Ideal.τ).loc Cert.Kernel2Ideal.main_v129_5)) (v6 : (c : Dev Cert.Kernel2Ideal.nD) → Buf (Elt Ideal) ((c.tc : Thread Cert.Kernel2Ideal.nD Cert.Kernel2Ideal.τ).loc Cert.Kernel2Ideal.main_v129_6)) (v7 : (c : Dev Cert.Kernel2Ideal.nD) → Buf (Elt Ideal) ((c.tc : Thread Cert.Kernel2Ideal.nD Cert.Kernel2Ideal.τ).loc Cert.Kernel2Ideal.main_v129_7)) (v8 : (c : Dev Cert.Kernel2Ideal.nD) → Buf (Elt Ideal) ((c.tc : Thread Cert.Kernel2Ideal.nD Cert.Kernel2Ideal.τ).loc Cert.Kernel2Ideal.main_v129_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v129_0) = v0 c
          ∧ r.2.mem ((c.tc : Thread Cert.Kernel2Ideal.nD Cert.Kernel2Ideal.τ).loc Cert.Kernel2Ideal.main_v129_1) = v1 c
          ∧ r.2.mem ((c.tc : Thread Cert.Kernel2Ideal.nD Cert.Kernel2Ideal.τ).loc Cert.Kernel2Ideal.main_v129_2) = v2 c
          ∧ r.2.mem ((c.tc : Thread Cert.Kernel2Ideal.nD Cert.Kernel2Ideal.τ).loc Cert.Kernel2Ideal.main_v129_3) = v3 c
          ∧ r.2.mem ((c.tc : Thread Cert.Kernel2Ideal.nD Cert.Kernel2Ideal.τ).loc Cert.Kernel2Ideal.main_v129_4) = v4 c
          ∧ r.2.mem ((c.tc : Thread Cert.Kernel2Ideal.nD Cert.Kernel2Ideal.τ).loc Cert.Kernel2Ideal.main_v129_5) = v5 c
          ∧ r.2.mem ((c.tc : Thread Cert.Kernel2Ideal.nD Cert.Kernel2Ideal.τ).loc Cert.Kernel2Ideal.main_v129_6) = v6 c
          ∧ r.2.mem ((c.tc : Thread Cert.Kernel2Ideal.nD Cert.Kernel2Ideal.τ).loc Cert.Kernel2Ideal.main_v129_7) = v7 c
          ∧ r.2.mem ((c.tc : Thread Cert.Kernel2Ideal.nD Cert.Kernel2Ideal.τ).loc Cert.Kernel2Ideal.main_v129_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v322) = v0 c
          ∧ r.2.mem ((c.tc : Thread Cert.Reference2Ideal.nD Cert.Reference2Ideal.τ).loc Cert.Reference2Ideal.main_v323) = v1 c
          ∧ r.2.mem ((c.tc : Thread Cert.Reference2Ideal.nD Cert.Reference2Ideal.τ).loc Cert.Reference2Ideal.main_v324) = v2 c
          ∧ r.2.mem ((c.tc : Thread Cert.Reference2Ideal.nD Cert.Reference2Ideal.τ).loc Cert.Reference2Ideal.main_v325) = v3 c
          ∧ r.2.mem ((c.tc : Thread Cert.Reference2Ideal.nD Cert.Reference2Ideal.τ).loc Cert.Reference2Ideal.main_v326) = v4 c
          ∧ r.2.mem ((c.tc : Thread Cert.Reference2Ideal.nD Cert.Reference2Ideal.τ).loc Cert.Reference2Ideal.main_v327) = v5 c
          ∧ r.2.mem ((c.tc : Thread Cert.Reference2Ideal.nD Cert.Reference2Ideal.τ).loc Cert.Reference2Ideal.main_v328) = v6 c
          ∧ r.2.mem ((c.tc : Thread Cert.Reference2Ideal.nD Cert.Reference2Ideal.τ).loc Cert.Reference2Ideal.main_v329) = v7 c
          ∧ r.2.mem ((c.tc : Thread Cert.Reference2Ideal.nD Cert.Reference2Ideal.τ).loc Cert.Reference2Ideal.main_v330) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S1x4096x1024 : Shape := ⟨3, ![1, 4096, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1024 : S_.BroadcastsInDim S1024 (![] : Fin 0 → Fin S1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg6 : FVec F S1x2816x1024 .f32) (main_v2 : IVec S1x4096x1024 1) (main_v5 : IVec S1x4096x1024 1) (main_v8 : IVec S1x1024 1) (main_v11 : IVec S1024 1) (main_v14 : IVec S1x1024x2816 1) (main_v17 : IVec S1x1024x2816 1) : IVec S1x4096x1024 1 × IVec S1x4096x1024 1 × IVec S1x1024 1 × IVec S1024 1 × IVec S1x1024x2816 1 × IVec S1x1024x2816 1 × IVec S1x2816x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  (main_v2, main_v5, main_v8, main_v11, main_v14, main_v17, main_v20)

def fn {F : FTy → Type} [FloatOps F] (main_arg0 : FVec F S1x4096x1024 .f32) (main_arg1 : FVec F S1x4096x1024 .f32) (main_arg2 : FVec F S1x1024 .f32) (main_arg3 : FVec F S1024 .f32) (main_arg4 : FVec F S1x1024x2816 .f32) (main_arg5 : FVec F S1x1024x2816 .f32) (main_arg6 : FVec F S1x2816x1024 .f32) : IVec S1x4096x1024 1 × IVec S1x4096x1024 1 × IVec S1x1024 1 × IVec S1024 1 × IVec S1x1024x2816 1 × IVec S1x1024x2816 1 × IVec S1x2816x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x2816 .f32 := Host.absf main_arg4
  let main_cst_3 : FVec F S_ .f32 := constant S_ .f32 0x7F800000#32
  let main_v13 : FVec F S1x1024x2816 .f32 := broadcastInDim S1x1024x2816 ![] bcast_S_S1x1024x2816 main_cst_3
  let main_v14 : IVec S1x1024x2816 1 := cmpf .olt main_v12 main_v13
  let main_v15 : FVec F S1x1024x2816 .f32 := Host.absf main_arg5
  let main_cst_4 : FVec F S_ .f32 := constant S_ .f32 0x7F800000#32
  let main_v16 : FVec F S1x1024x2816 .f32 := broadcastInDim S1x1024x2816 ![] bcast_S_S1x1024x2816 main_cst_4
  let main_v17 : IVec S1x1024x2816 1 := cmpf .olt main_v15 main_v16
  fn_part1 (F := F) main_arg6 main_v2 main_v5 main_v8 main_v11 main_v14 main_v17
-- ==== Pre_finite2.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1x1536 : Shape := ⟨2, ![1, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S1x1536 : S_.BroadcastsInDim S1x1536 (![] : Fin 0 → Fin S1x1536.rank)
  bcast_S_S1x31x512 : S_.BroadcastsInDim S1x31x512 (![] : Fin 0 → Fin S1x31x512.rank)
  bcast_S_S1x512 : S_.BroadcastsInDim S1x512 (![] : Fin 0 → Fin S1x512.rank)
  bcast_S_S1x4x128x128 : S_.BroadcastsInDim S1x4x128x128 (![] : Fin 0 → Fin S1x4x128x128.rank)
  bcast_S_S1x1024x1024 : S_.BroadcastsInDim S1x1024x1024 (![] : Fin 0 → Fin S1x1024x1024.rank)

variable [Facts]

def fn_part1 {F : FTy → Type} [FloatOps F] (main_arg6 : FVec F S1x512 .f32) (main_arg7 : FVec F S1x512 .f32) (main_arg8 : FVec F S1x512 .f32) (main_arg9 : FVec F S1x4x128x128 .f32) (main_arg10 : FVec F S1x512 .f32) (main_arg11 : FVec F S1x1024x1024 .f32) (main_v2 : IVec S1x4096x1024 1) (main_v5 : IVec S1x4096x1024 1) (main_v8 : IVec S1x1024 1) (main_v11 : IVec S1x1024x1536 1) (main_v14 : IVec S1x1536 1) (main_v17 : IVec S1x31x512 1) : IVec S1x4096x1024 1 × IVec S1x4096x1024 1 × IVec S1x1024 1 × IVec S1x1024x1536 1 × IVec S1x1536 1 × IVec S1x31x512 1 × IVec S1x512 1 × IVec S1x512 1 × IVec S1x512 1 × IVec S1x4x128x128 1 × IVec S1x512 1 × IVec S1x1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x4x128x128 .f32 := Host.absf main_arg9
  let main_cst_8 : FVec F S_ .f32 := constant S_ .f32 0x7F800000#32
  let main_v28 : FVec F S1x4x128x128 .f32 := broadcastInDim S1x4x128x128 ![] bcast_S_S1x4x128x128 main_cst_8
  let main_v29 : IVec S1x4x128x128 1 := cmpf .olt main_v27 main_v28
  let main_v30 : FVec F S1x512 .f32 := Host.absf main_arg10
  let main_cst_9 : FVec F S_ .f32 := constant S_ .f32 0x7F800000#32
  let main_v31 : FVec F S1x512 .f32 := broadcastInDim S1x512 ![] bcast_S_S1x512 main_cst_9
  let main_v32 : IVec S1x512 1 := cmpf .olt main_v30 main_v31
  let main_v33 : FVec F S1x1024x1024 .f32 := Host.absf main_arg11
  let main_cst_10 : FVec F S_ .f32 := constant S_ .f32 0x7F800000#32
  let main_v34 : FVec F S1x1024x1024 .f32 := broadcastInDim S1x1024x1024 ![] bcast_S_S1x1024x1024 main_cst_10
  let main_v35 : IVec S1x1024x1024 1 := cmpf .olt main_v33 main_v34
  (main_v2, main_v5, main_v8, main_v11, main_v14, main_v17, main_v20, main_v23, main_v26, main_v29, main_v32, main_v35)

def fn {F : FTy → Type} [FloatOps F] (main_arg0 : FVec F S1x4096x1024 .f32) (main_arg1 : FVec F S1x4096x1024 .f32) (main_arg2 : FVec F S1x1024 .f32) (main_arg3 : FVec F S1x1024x1536 .f32) (main_arg4 : FVec F S1x1536 .f32) (main_arg5 : FVec F S1x31x512 .f32) (main_arg6 : FVec F S1x512 .f32) (main_arg7 : FVec F S1x512 .f32) (main_arg8 : FVec F S1x512 .f32) (main_arg9 : FVec F S1x4x128x128 .f32) (main_arg10 : FVec F S1x512 .f32) (main_arg11 : FVec F S1x1024x1024 .f32) : IVec S1x4096x1024 1 × IVec S1x4096x1024 1 × IVec S1x1024 1 × IVec S1x1024x1536 1 × IVec S1x1536 1 × IVec S1x31x512 1 × IVec S1x512 1 × IVec S1x512 1 × IVec S1x512 1 × IVec S1x4x128x128 1 × IVec S1x512 1 × IVec S1x1024x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x1536 .f32 := Host.absf main_arg3
  let main_cst_2 : FVec F S_ .f32 := constant S_ .f32 0x7F800000#32
  let main_v10 : FVec F S1x1024x1536 .f32 := broadcastInDim S1x1024x1536 ![] bcast_S_S1x1024x1536 main_cst_2
  let main_v11 : IVec S1x1024x1536 1 := cmpf .olt main_v9 main_v10
  let main_v12 : FVec F S1x1536 .f32 := Host.absf main_arg4
  let main_cst_3 : FVec F S_ .f32 := constant S_ .f32 0x7F800000#32
  let main_v13 : FVec F S1x1536 .f32 := broadcastInDim S1x1536 ![] bcast_S_S1x1536 main_cst_3
  let main_v14 : IVec S1x1536 1 := cmpf .olt main_v12 main_v13
  let main_v15 : FVec F S1x31x512 .f32 := Host.absf main_arg5
  let main_cst_4 : FVec F S_ .f32 := constant S_ .f32 0x7F800000#32
  let main_v16 : FVec F S1x31x512 .f32 := broadcastInDim S1x31x512 ![] bcast_S_S1x31x512 main_cst_4
  let main_v17 : IVec S1x31x512 1 := cmpf .olt main_v15 main_v16
  fn_part1 (F := F) main_arg6 main_arg7 main_arg8 main_arg9 main_arg10 main_arg11 main_v2 main_v5 main_v8 main_v11 main_v14 main_v17
-- ==== Kernel.lean ====
abbrev S1x4096x1024 : Shape := ⟨3, ![1, 4096, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x1024 : Shape := ⟨2, ![4096, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩
abbrev S1 : Shape := ⟨1, ![1]⟩
abbrev S1x1 : Shape := ⟨2, ![1, 1]⟩

abbrev nBuf : Space → Nat
  | .hbm => 27
  | .vmem => 26
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .bf16⟩
  | .hbm, ⟨20, _⟩ => ⟨S4096x2816, .bf16⟩
  | .hbm, ⟨21, _⟩ => ⟨S4096x2816, .bf16⟩
  | .hbm, ⟨22, _⟩ => ⟨S4096x2816, .bf16⟩
  | .hbm, ⟨23, _⟩ => ⟨S4096x1024, .bf16⟩
  | .hbm, ⟨24, _⟩ => ⟨S1x128, .f32⟩
  | .hbm, ⟨25, _⟩ => ⟨S1x1024, .f32⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S256x2816, .f32⟩
  | .local _ .vmem, ⟨25, _⟩ => ⟨S256x2816, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_v11_8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1x4096x1024 : Shape := ⟨3, ![1, 4096, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S4096x2816 : Shape := ⟨2, ![4096, 2816]⟩
abbrev S4096x1024 : Shape := ⟨2, ![4096, 1024]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024, .f32⟩
  | 3 => ⟨S1024, .f32⟩
  | 4 => ⟨S1x1024x2816, .f32⟩
  | 5 => ⟨S1x1024x2816, .f32⟩
  | 6 => ⟨S1x2816x1024, .f32⟩
  | 7 => ⟨S_, .f32⟩
  | 8 => ⟨S4096x2816, .f32⟩
  | 9 => ⟨S4096x1024, .f32⟩
  | 10 => ⟨S1024, .f32⟩
  | 11 => ⟨S_, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S1024x2816, .f32⟩
  | 34 => ⟨S4096x2816, .f32⟩
  | 35 => ⟨S4096x2816, .f32⟩
  | 36 => ⟨S1024x2816, .f32⟩
  | 37 => ⟨S4096x2816, .f32⟩
  | 38 => ⟨S4096x2816, .f32⟩
  | 39 => ⟨S4096x2816, .f32⟩
  | 40 => ⟨S4096x2816, .f32⟩
  | 41 => ⟨S_, .f32⟩
  | 42 => ⟨S4096x2816, .f32⟩
  | 43 => ⟨S4096x2816, .f32⟩
  | 44 => ⟨S_, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S4096x2816, .f32⟩
  | 51 => ⟨S4096x2816, .f32⟩
  | 52 => ⟨S4096x2816, .f32⟩
  | 53 => ⟨S2816x1024, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1024, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096, .f32⟩
  | 85 => ⟨S_, .f32⟩
  | 86 => ⟨S4096, .f32⟩
  | 87 => ⟨S4096, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S4096, .f32⟩
  | 96 => ⟨S_, .f32⟩
  | 97 => ⟨S4096, .f32⟩
  | 98 => ⟨S4096, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S_, .f32⟩
  | 108 => ⟨S1024, .f32⟩
  | 109 => ⟨S4096x1024, .f32⟩
  | 110 => ⟨S_, .f32⟩
  | 111 => ⟨S4096, .f32⟩
  | 112 => ⟨S4096x1, .f32⟩
  | 113 => ⟨S4096x1024, .f32⟩
  | 114 => ⟨S4096x1024, .f32⟩
  | 115 => ⟨S4096x1, .f32⟩
  | 116 => ⟨S_, .f32⟩
  | 117 => ⟨S4096x1, .f32⟩
  | 118 => ⟨S4096x1, .f32⟩
  | 119 => ⟨S_, .f32⟩
  | 120 => ⟨S4096, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x2816, .f32⟩
  | 127 => ⟨S4096x2816, .f32⟩
  | _ => ⟨S1x4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x2816, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S1024, .f32⟩
  | 11 => ⟨S1x1024, .f32⟩
  | 12 => ⟨S4096x1024, .f32⟩
  | 13 => ⟨S4096x1024, .f32⟩
  | 14 => ⟨S_, .f32⟩
  | 15 => ⟨S1024, .f32⟩
  | 16 => ⟨S4096x1024, .f32⟩
  | 17 => ⟨S_, .f32⟩
  | 18 => ⟨S4096, .f32⟩
  | 19 => ⟨S4096x1, .f32⟩
  | 20 => ⟨S4096x1024, .f32⟩
  | 21 => ⟨S4096x1024, .f32⟩
  | 22 => ⟨S4096x1024, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .bf16⟩
  | 35 => ⟨S4096x2816, .bf16⟩
  | 36 => ⟨S4096x2816, .bf16⟩
  | 37 => ⟨S4096x2816, .bf16⟩
  | 38 => ⟨S4096x1024, .bf16⟩
  | 39 => ⟨S1x128, .f32⟩
  | 40 => ⟨S1x1024, .f32⟩
  | 41 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v26_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v26_1 : Ref sig .tc := ⟨.hbm, 50, rfl⟩
abbrev main_v26_0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_cst_14 : Ref sig .tc := ⟨.hbm, 92, rfl⟩
abbrev main_cst_15 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_20 : Ref sig .tc := ⟨.hbm, 116, rfl⟩
abbrev main_v76 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_23 : Ref sig .tc := ⟨.hbm, 142, rfl⟩
abbrev main_v96 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_25 : Ref sig .tc := ⟨.hbm, 152, rfl⟩
abbrev main_v104 : Ref sig .tc := ⟨.hbm, 153, rfl⟩
abbrev main_v105 : Ref sig .tc := ⟨.hbm, 154, rfl⟩
abbrev main_cst_26 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩

abbrev nD : Nat := 1
abbrev τ : Topo := Topo.v7x

variable {F : FTy → Type} [FloatOps F]
-- ==== Kernel2.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1x1536 : Shape := ⟨2, ![1, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S4096x1024 : Shape := ⟨2, ![4096, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S4096x512 : Shape := ⟨2, ![4096, 512]⟩
abbrev S31x512 : Shape := ⟨2, ![31, 512]⟩
abbrev S512 : Shape := ⟨1, ![512]⟩
abbrev S30x512 : Shape := ⟨2, ![30, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S4096x128 : Shape := ⟨2, ![4096, 128]⟩
abbrev S2x128 : Shape := ⟨2, ![2, 128]⟩
abbrev S4098x128 : Shape := ⟨2, ![4098, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S1536x1024 : Shape := ⟨2, ![1536, 1024]⟩
abbrev S32x512 : Shape := ⟨2, ![32, 512]⟩
abbrev S4x128x128 : Shape := ⟨3, ![4, 128, 128]⟩
abbrev S1024x1024 : Shape := ⟨2, ![1024, 1024]⟩
abbrev S512x1024 : Shape := ⟨2, ![512, 1024]⟩
abbrev S512x512 : Shape := ⟨2, ![512, 512]⟩
abbrev S512x1536 : Shape := ⟨2, ![512, 1536]⟩
abbrev S8x544x512 : Shape := ⟨3, ![8, 544, 512]⟩
abbrev S544x512 : Shape := ⟨2, ![544, 512]⟩
abbrev S1x32x512 : Shape := ⟨3, ![1, 32, 512]⟩
abbrev S512x1 : Shape := ⟨2, ![512, 1]⟩
abbrev S1x512x512 : Shape := ⟨3, ![1, 512, 512]⟩
abbrev S1x536x512 : Shape := ⟨3, ![1, 536, 512]⟩
abbrev S536x512 : Shape := ⟨2, ![536, 512]⟩
abbrev S64x512 : Shape := ⟨2, ![64, 512]⟩
abbrev S1x64x512 : Shape := ⟨3, ![1, 64, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S528x384 : Shape := ⟨2, ![528, 384]⟩
abbrev S520x256 : Shape := ⟨2, ![520, 256]⟩

abbrev nBuf : Space → Nat
  | .hbm => 183
  | .vmem => 40
  | .smem => 0
  | _ => 0

abbrev hbmTy0_0 (i : Nat) : BufTy := match i % 128 with
  | 0 => ⟨S1x4096x1024, .f32⟩
  | 1 => ⟨S1x4096x1024, .f32⟩
  | 2 => ⟨S1x1024, .f32⟩
  | 3 => ⟨S1x1024x1536, .f32⟩
  | 4 => ⟨S1x1536, .f32⟩
  | 5 => ⟨S1x31x512, .f32⟩
  | 6 => ⟨S1x512, .f32⟩
  | 7 => ⟨S1x512, .f32⟩
  | 8 => ⟨S1x512, .f32⟩
  | 9 => ⟨S1x4x128x128, .f32⟩
  | 10 => ⟨S1x512, .f32⟩
  | 11 => ⟨S1x1024x1024, .f32⟩
  | 12 => ⟨S4096x1024, .f32⟩
  | 13 => ⟨S1024, .f32⟩
  | 14 => ⟨S1024x1536, .f32⟩
  | 15 => ⟨S1536, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x1536, .f32⟩
  | 33 => ⟨S1x1536, .f32⟩
  | 34 => ⟨S4096x1536, .f32⟩
  | 35 => ⟨S4096x1536, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S31x512, .f32⟩
  | 49 => ⟨S512, .f32⟩
  | 50 => ⟨S_, .f32⟩
  | 51 => ⟨S30x512, .f32⟩
  | 52 => ⟨S4126x512, .f32⟩
  | 53 => ⟨S4096x31, .i32⟩
  | 54 => ⟨S4096x31, .i32⟩
  | 55 => ⟨S4096x31, .i32⟩
  | 56 => ⟨S_, .i32⟩
  | 57 => ⟨S4096x31, .i32⟩
  | 58 => ⟨S4096x31, .i1⟩
  | 59 => ⟨S_, .i32⟩
  | 60 => ⟨S4096x31, .i32⟩
  | 61 => ⟨S4096x31, .i32⟩
  | 62 => ⟨S4096x31, .i32⟩
  | 63 => ⟨S4096x31x1, .i32⟩
  | 64 => ⟨S4096x31x512, .f32⟩
  | 65 => ⟨S1x31x512, .f32⟩
  | 66 => ⟨S4096x31x512, .f32⟩
  | 67 => ⟨S4096x31x512, .f32⟩
  | 68 => ⟨S_, .f32⟩
  | 69 => ⟨S4096x512, .f32⟩
  | 70 => ⟨S1x512, .f32⟩
  | 71 => ⟨S4096x512, .f32⟩
  | 72 => ⟨S4096x512, .f32⟩
  | 73 => ⟨S4096x128, .f32⟩
  | 74 => ⟨S4096, .i32⟩
  | 75 => ⟨S_, .f32⟩
  | 76 => ⟨S_, .f32⟩
  | 77 => ⟨S4096x128, .f32⟩
  | 78 => ⟨S_, .f32⟩
  | 79 => ⟨S2x128, .f32⟩
  | 80 => ⟨S4098x128, .f32⟩
  | 81 => ⟨S4096x128, .f32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S4096x1, .f32⟩
  | 90 => ⟨S4096x128, .f32⟩
  | 91 => ⟨S4096x128, .f32⟩
  | 92 => ⟨S4096x128, .f32⟩
  | 93 => ⟨S4096x128, .f32⟩
  | 94 => ⟨S4096x128, .f32⟩
  | 95 => ⟨S4096, .i32⟩
  | 96 => ⟨S_, .f32⟩
  | 97 => ⟨S_, .f32⟩
  | 98 => ⟨S4096x128, .f32⟩
  | 99 => ⟨S_, .f32⟩
  | 100 => ⟨S4x128, .f32⟩
  | 101 => ⟨S4100x128, .f32⟩
  | 102 => ⟨S4096x128, .f32⟩
  | 103 => ⟨S_, .i32⟩
  | 104 => ⟨S4096, .i32⟩
  | 105 => ⟨S4096, .i32⟩
  | 106 => ⟨S_, .i32⟩
  | 107 => ⟨S4096, .i32⟩
  | 108 => ⟨S4096, .i32⟩
  | 109 => ⟨S4096, .f32⟩
  | 110 => ⟨S4096x1, .f32⟩
  | 111 => ⟨S4096x128, .f32⟩
  | 112 => ⟨S4096x128, .f32⟩
  | 113 => ⟨S4096x128, .f32⟩
  | 114 => ⟨S4096x128, .f32⟩
  | 115 => ⟨S4096x128, .f32⟩
  | 116 => ⟨S4096, .i32⟩
  | 117 => ⟨S_, .f32⟩
  | 118 => ⟨S_, .f32⟩
  | 119 => ⟨S4096x128, .f32⟩
  | 120 => ⟨S_, .f32⟩
  | 121 => ⟨S8x128, .f32⟩
  | 122 => ⟨S4104x128, .f32⟩
  | 123 => ⟨S4096x128, .f32⟩
  | 124 => ⟨S_, .i32⟩
  | 125 => ⟨S4096, .i32⟩
  | 126 => ⟨S4096, .i32⟩
  | 127 => ⟨S_, .i32⟩
  | _ => ⟨S1x4096x1024, .f32⟩

abbrev hbmTy0_1 (i : Nat) : BufTy := match i % 128 with
  | 0 => ⟨S4096, .i32⟩
  | 1 => ⟨S4096, .i32⟩
  | 2 => ⟨S4096, .f32⟩
  | 3 => ⟨S4096x1, .f32⟩
  | 4 => ⟨S4096x128, .f32⟩
  | 5 => ⟨S4096x128, .f32⟩
  | 6 => ⟨S4096x128, .f32⟩
  | 7 => ⟨S4096x128, .f32⟩
  | 8 => ⟨S4096x128, .f32⟩
  | 9 => ⟨S4096, .i32⟩
  | 10 => ⟨S_, .f32⟩
  | 11 => ⟨S_, .f32⟩
  | 12 => ⟨S4096x128, .f32⟩
  | 13 => ⟨S_, .f32⟩
  | 14 => ⟨S16x128, .f32⟩
  | 15 => ⟨S4112x128, .f32⟩
  | 16 => ⟨S4096x128, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S4096x1, .f32⟩
  | 25 => ⟨S4096x128, .f32⟩
  | 26 => ⟨S4096x128, .f32⟩
  | 27 => ⟨S4096x128, .f32⟩
  | 28 => ⟨S4096x128, .f32⟩
  | 29 => ⟨S4096x512, .f32⟩
  | 30 => ⟨S4096x512, .bf16⟩
  | 31 => ⟨S4096x1024, .f32⟩
  | 32 => ⟨S4096x1024, .f32⟩
  | 33 => ⟨S1024x1536, .f32⟩
  | 34 => ⟨S1536x1024, .f32⟩
  | 35 => ⟨S1536x1024, .bf16⟩
  | 36 => ⟨S31x512, .f32⟩
  | 37 => ⟨S_, .i32⟩
  | 38 => ⟨S_, .f32⟩
  | 39 => ⟨S32x512, .f32⟩
  | 40 => ⟨S4x128x128, .f32⟩
  | 41 => ⟨S4x128x128, .bf16⟩
  | 42 => ⟨S1024x1024, .f32⟩
  | 43 => ⟨S1024x1024, .bf16⟩
  | 44 => ⟨S4096x1024, .f32⟩
  | 45 => ⟨S4096x1536, .bf16⟩
  | 46 => ⟨S4096x1024, .bf16⟩
  | 47 => ⟨S1x1024, .f32⟩
  | 48 => ⟨S1x1536, .f32⟩
  | 49 => ⟨S32x512, .f32⟩
  | 50 => ⟨S1x512, .f32⟩
  | 51 => ⟨S1x512, .f32⟩
  | 52 => ⟨S1x512, .f32⟩
  | 53 => ⟨S4x128x128, .f32⟩
  | 54 => ⟨S1x512, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1536x1024, .bf16⟩
  | .local _ .vmem, ⟨14, _⟩ => ⟨S32x512, .f32⟩
  | .local _ .vmem, ⟨15, _⟩ => ⟨S1x512, .f32⟩
  | .local _ .vmem, ⟨16, _⟩ => ⟨S1x512, .f32⟩
  | .local _ .vmem, ⟨17, _⟩ => ⟨S4x128x128, .bf16⟩
  | .local _ .vmem, ⟨18, _⟩ => ⟨S1x512, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1536, .bf16⟩
  | .local _ .vmem, ⟨23, _⟩ => ⟨S512x1536, .bf16⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | .local _ .vmem, ⟨27, _⟩ => ⟨S1x1536, .f32⟩
  | .local _ .vmem, ⟨28, _⟩ => ⟨S32x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S4x128x128, .f32⟩
  | .local _ .vmem, ⟨33, _⟩ => ⟨S1x512, .f32⟩
  | .local _ .vmem, ⟨34, _⟩ => ⟨S8x544x512, .f32⟩
  | .local _ .vmem, ⟨35, _⟩ => ⟨S544x512, .f32⟩
  | .local _ .vmem, ⟨36, _⟩ => ⟨S544x512, .f32⟩
  | .local _ .vmem, ⟨37, _⟩ => ⟨S544x512, .f32⟩
  | .local _ .vmem, ⟨38, _⟩ => ⟨S512x512, .f32⟩
  | .local _ .vmem, ⟨39, _⟩ => ⟨S512x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_call0_cst : Ref sig .tc := ⟨.hbm, 75, rfl⟩
abbrev main_call0_call0_v0 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call1_call0_cst : Ref sig .tc := ⟨.hbm, 96, rfl⟩
abbrev main_call1_call0_v0 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_c_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call2_call0_cst : Ref sig .tc := ⟨.hbm, 117, rfl⟩
abbrev main_call2_call0_v0 : Ref sig .tc := ⟨.hbm, 118, rfl⟩
abbrev main_v86 : Ref sig .tc := ⟨.hbm, 119, rfl⟩
abbrev main_cst_13 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_14 : Ref sig .tc := ⟨.hbm, 124, rfl⟩
abbrev main_v90 : Ref sig .tc := ⟨.hbm, 125, rfl⟩
abbrev main_v91 : Ref sig .tc := ⟨.hbm, 126, rfl⟩
abbrev main_c_15 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call3_call0_cst : Ref sig .tc := ⟨.hbm, 138, rfl⟩
abbrev main_call3_call0_v0 : Ref sig .tc := ⟨.hbm, 139, rfl⟩
abbrev main_v102 : Ref sig .tc := ⟨.hbm, 140, rfl⟩
abbrev main_cst_16 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_c_17 : Ref sig .tc := ⟨.hbm, 145, rfl⟩
abbrev main_v106 : Ref sig .tc := ⟨.hbm, 146, rfl⟩
abbrev main_v107 : Ref sig .tc := ⟨.hbm, 147, rfl⟩
abbrev main_c_18 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_19 : Ref sig .tc := ⟨.hbm, 165, rfl⟩
abbrev main_call4_v0 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129_0 : Ref sig .tc := ⟨.hbm, 172, rfl⟩
abbrev main_v129_1 : Ref sig .tc := ⟨.hbm, 173, rfl⟩
abbrev main_v129_2 : Ref sig .tc := ⟨.hbm, 174, rfl⟩
abbrev main_v129_3 : Ref sig .tc := ⟨.hbm, 175, rfl⟩
abbrev main_v129_4 : Ref sig .tc := ⟨.hbm, 176, rfl⟩
abbrev main_v129_5 : Ref sig .tc := ⟨.hbm, 177, rfl⟩
abbrev main_v129_6 : Ref sig .tc := ⟨.hbm, 178, rfl⟩
abbrev main_v129_7 : Ref sig .tc := ⟨.hbm, 179, rfl⟩
abbrev main_v129_8 : Ref sig .tc := ⟨.hbm, 180, rfl⟩
abbrev main_v129_9 : Ref sig .tc := ⟨.hbm, 181, rfl⟩
abbrev main_v129_10 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_scratch4 : Ref sig .tc := ⟨.vmem, 38, rfl⟩
abbrev cc0_scratch5 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_76 : BitVec 32 := 0#32
  let c8_i32 : BitVec 32 := 8#32
  let v119 : BitVec 32 := Scalar.addi c0_i32_76 c8_i32
  let c1_i32 : BitVec 32 := 1#32
  ⟨c0_i32_76, v119, c1_i32⟩
def k0_mult1 (k0_t1 : Fin k0_t1_loop.trips) : BitVec 32 :=
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  v708
def k0_off1 (k0_t1 : Fin k0_t1_loop.trips) (c24_i32 : BitVec 32) : Fin 3 → Nat :=
  let c6_535 : Index := 6#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v713 : BitVec 32 := Scalar.addi v709 c24_i32
  let v714 : Index := Scalar.indexCast v713
  let c0_536 : Index := 0#32
  ![6, v714.toNat, 0]
def k0_off2 (k0_t1 : Fin k0_t1_loop.trips) (c24_i32_539 : BitVec 32) : Fin 3 → Nat :=
  let c5_540 : Index := 5#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v722 : BitVec 32 := Scalar.addi v709 c24_i32_539
  let v723 : Index := Scalar.indexCast v722
  let c0_541 : Index := 0#32
  ![5, v723.toNat, 0]
def k0_off3 (k0_t1 : Fin k0_t1_loop.trips) (c24_i32_544 : BitVec 32) : Fin 3 → Nat :=
  let c4_545 : Index := 4#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v731 : BitVec 32 := Scalar.addi v709 c24_i32_544
  let v732 : Index := Scalar.indexCast v731
  let c0_546 : Index := 0#32
  ![4, v732.toNat, 0]
def k0_off4 (k0_t1 : Fin k0_t1_loop.trips) (c24_i32_549 : BitVec 32) : Fin 3 → Nat :=
  let c3_550 : Index := 3#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v740 : BitVec 32 := Scalar.addi v709 c24_i32_549
  let v741 : Index := Scalar.indexCast v740
  let c0_551 : Index := 0#32
  ![3, v741.toNat, 0]
def k0_off5 (k0_t1 : Fin k0_t1_loop.trips) (c24_i32_554 : BitVec 32) : Fin 3 → Nat :=
  let c2_555 : Index := 2#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v749 : BitVec 32 := Scalar.addi v709 c24_i32_554
  let v750 : Index := Scalar.indexCast v749
  let c0_556 : Index := 0#32
  ![2, v750.toNat, 0]
def k0_off6 (k0_t1 : Fin k0_t1_loop.trips) (c24_i32_559 : BitVec 32) : Fin 3 → Nat :=
  let c1_560 : Index := 1#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v758 : BitVec 32 := Scalar.addi v709 c24_i32_559
  let v759 : Index := Scalar.indexCast v758
  let c0_561 : Index := 0#32
  ![1, v759.toNat, 0]
def k0_off7 (k0_t1 : Fin k0_t1_loop.trips) (c24_i32_564 : BitVec 32) : Fin 3 → Nat :=
  let c0_565 : Index := 0#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v767 : BitVec 32 := Scalar.addi v709 c24_i32_564
  let v768 : Index := Scalar.indexCast v767
  let c0_566 : Index := 0#32
  ![0, v768.toNat, 0]
def k0_off8 (k0_t1 : Fin k0_t1_loop.trips) (c16_i32_569 : BitVec 32) : Fin 3 → Nat :=
  let c7_570 : Index := 7#32
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v776 : BitVec 32 := Scalar.addi v709 c16_i32_569
  let v777 : Index := Scalar.indexCast v776
  let c0_571 : Index := 0#32
  ![7, v777.toNat, 0]
def k0_off9 (k0_t1 : Fin k0_t1_loop.trips) : Fin 2 → Nat :=
  let c0_i32_76 : BitVec 32 := 0#32
  let c1_i32 : BitVec 32 := 1#32
  let arg32 : BitVec 32 := Scf.iv c0_i32_76 c1_i32 k0_t1
  let c64_i32 : BitVec 32 := 64#32
  let v708 : BitVec 32 := Scalar.muli arg32 c64_i32
  let v709 : BitVec 32 := v708
  let v990 : Index := Scalar.indexCast v709
  let c0_687 : Index := 0#32
  ![v990.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference2Ideal.lean ====
abbrev S1x4096x1024 : Shape := ⟨3, ![1, 4096, 1024]⟩
abbrev S1x1024 : Shape := ⟨2, ![1, 1024]⟩
abbrev S1x1024x1536 : Shape := ⟨3, ![1, 1024, 1536]⟩
abbrev S1x1536 : Shape := ⟨2, ![1, 1536]⟩
abbrev S1x31x512 : Shape := ⟨3, ![1, 31, 512]⟩
abbrev S1x512 : Shape := ⟨2, ![1, 512]⟩
abbrev S1x4x128x128 : Shape := ⟨4, ![1, 4, 128, 128]⟩
abbrev S1x1024x1024 : Shape := ⟨3, ![1, 1024, 1024]⟩
abbrev S4096x1024 : Shape := ⟨2, ![4096, 1024]⟩
abbrev S1024 : Shape := ⟨1, ![1024]⟩
abbrev S1536 : Shape := ⟨1, ![1536]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S31x512 : Shape := ⟨2, ![31, 512]⟩
abbrev S512 : Shape := ⟨1, ![512]⟩
abbrev S4096x512 : Shape := ⟨2, ![4096, 512]⟩
abbrev S30x512 : Shape := ⟨2, ![30, 512]⟩
abbrev S4126x512 : Shape := ⟨2, ![4126, 512]⟩
abbrev S4096x31 : Shape := ⟨2, ![4096, 31]⟩
abbrev S4096x31x1 : Shape := ⟨3, ![4096, 31, 1]⟩
abbrev S4096x31x512 : Shape := ⟨3, ![4096, 31, 512]⟩
abbrev S4096x128 : Shape := ⟨2, ![4096, 128]⟩
abbrev S2x128 : Shape := ⟨2, ![2, 128]⟩
abbrev S4098x128 : Shape := ⟨2, ![4098, 128]⟩
abbrev S1x1x128x128 : Shape := ⟨4, ![1, 1, 128, 128]⟩
abbrev S128x128 : Shape := ⟨2, ![128, 128]⟩
abbrev S4x128 : Shape := ⟨2, ![4, 128]⟩
abbrev S4100x128 : Shape := ⟨2, ![4100, 128]⟩
abbrev S8x128 : Shape := ⟨2, ![8, 128]⟩
abbrev S4104x128 : Shape := ⟨2, ![4104, 128]⟩
abbrev S16x128 : Shape := ⟨2, ![16, 128]⟩
abbrev S4112x128 : Shape := ⟨2, ![4112, 128]⟩
abbrev S1024x1024 : Shape := ⟨2, ![1024, 1024]⟩
abbrev S32x512 : Shape := ⟨2, ![32, 512]⟩

abbrev nBuf : Space → Nat
  | .hbm => 445
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024, .f32⟩
  | 3 => ⟨S1x1024x1536, .f32⟩
  | 4 => ⟨S1x1536, .f32⟩
  | 5 => ⟨S1x31x512, .f32⟩
  | 6 => ⟨S1x512, .f32⟩
  | 7 => ⟨S1x512, .f32⟩
  | 8 => ⟨S1x512, .f32⟩
  | 9 => ⟨S1x4x128x128, .f32⟩
  | 10 => ⟨S1x512, .f32⟩
  | 11 => ⟨S1x1024x1024, .f32⟩
  | 12 => ⟨S4096x1024, .f32⟩
  | 13 => ⟨S1024, .f32⟩
  | 14 => ⟨S1536, .f32⟩
  | 15 => ⟨S1024x1536, .f32⟩
  | 16 => ⟨S4096x1024, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1024, .f32⟩
  | 32 => ⟨S4096x1024, .f32⟩
  | 33 => ⟨S1x1024, .f32⟩
  | 34 => ⟨S4096x1024, .f32⟩
  | 35 => ⟨S4096x1024, .f32⟩
  | 36 => ⟨S4096x1536, .f32⟩
  | 37 => ⟨S1x1536, .f32⟩
  | 38 => ⟨S4096x1536, .f32⟩
  | 39 => ⟨S4096x1536, .f32⟩
  | 40 => ⟨S4096x1024, .f32⟩
  | 41 => ⟨S31x512, .f32⟩
  | 42 => ⟨S512, .f32⟩
  | 43 => ⟨S512, .f32⟩
  | 44 => ⟨S512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S4096x512, .f32⟩
  | 61 => ⟨S_, .f32⟩
  | 62 => ⟨S30x512, .f32⟩
  | 63 => ⟨S4126x512, .f32⟩
  | 64 => ⟨S_, .f32⟩
  | 65 => ⟨S30x512, .f32⟩
  | 66 => ⟨S4096x31, .i32⟩
  | 67 => ⟨S4096x31, .i32⟩
  | 68 => ⟨S4096x31, .i32⟩
  | 69 => ⟨S_, .i32⟩
  | 70 => ⟨S4096x31, .i32⟩
  | 71 => ⟨S4096x31, .i1⟩
  | 72 => ⟨S_, .i32⟩
  | 73 => ⟨S4096x31, .i32⟩
  | 74 => ⟨S4096x31, .i32⟩
  | 75 => ⟨S4096x31, .i32⟩
  | 76 => ⟨S4096x31x1, .i32⟩
  | 77 => ⟨S4096x31x512, .f32⟩
  | 78 => ⟨S1x31x512, .f32⟩
  | 79 => ⟨S4096x31x512, .f32⟩
  | 80 => ⟨S4096x31x512, .f32⟩
  | 81 => ⟨S_, .f32⟩
  | 82 => ⟨S4096x512, .f32⟩
  | 83 => ⟨S1x512, .f32⟩
  | 84 => ⟨S4096x512, .f32⟩
  | 85 => ⟨S4096x512, .f32⟩
  | 86 => ⟨S_, .f32⟩
  | 87 => ⟨S4096, .f32⟩
  | 88 => ⟨S4096x1, .f32⟩
  | 89 => ⟨S_, .f32⟩
  | 90 => ⟨S4096x1, .f32⟩
  | 91 => ⟨S4096x1, .f32⟩
  | 92 => ⟨S4096x512, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S4096x512, .f32⟩
  | 105 => ⟨S4096x512, .f32⟩
  | 106 => ⟨S_, .f32⟩
  | 107 => ⟨S4096x1, .f32⟩
  | 108 => ⟨S4096x1, .f32⟩
  | 109 => ⟨S4096x1, .f32⟩
  | 110 => ⟨S4096x1, .f32⟩
  | 111 => ⟨S_, .f32⟩
  | 112 => ⟨S4096x1, .f32⟩
  | 113 => ⟨S4096x1, .f32⟩
  | 114 => ⟨S4096x512, .f32⟩
  | 115 => ⟨S4096x512, .f32⟩
  | 116 => ⟨S1x512, .f32⟩
  | 117 => ⟨S4096x512, .f32⟩
  | 118 => ⟨S4096x512, .f32⟩
  | 119 => ⟨S1x512, .f32⟩
  | 120 => ⟨S4096x512, .f32⟩
  | 121 => ⟨S4096x512, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S_, .f32⟩
  | _ => ⟨S1x4096x1024, .f32⟩

abbrev hbmTy0_1 (i : Nat) : BufTy := match i % 128 with
  | 0 => ⟨S4096x512, .f32⟩
  | 1 => ⟨S4096x512, .f32⟩
  | 2 => ⟨S_, .f32⟩
  | 3 => ⟨S4096x512, .f32⟩
  | 4 => ⟨S4096x512, .f32⟩
  | 5 => ⟨S4096x512, .f32⟩
  | 6 => ⟨S4096x512, .f32⟩
  | 7 => ⟨S4096x128, .f32⟩
  | 8 => ⟨S4096, .i32⟩
  | 9 => ⟨S_, .f32⟩
  | 10 => ⟨S_, .f32⟩
  | 11 => ⟨S4096x128, .f32⟩
  | 12 => ⟨S_, .f32⟩
  | 13 => ⟨S2x128, .f32⟩
  | 14 => ⟨S4098x128, .f32⟩
  | 15 => ⟨S_, .f32⟩
  | 16 => ⟨S2x128, .f32⟩
  | 17 => ⟨S4096x128, .f32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096, .f32⟩
  | 25 => ⟨S4096x1, .f32⟩
  | 26 => ⟨S4096x128, .f32⟩
  | 27 => ⟨S4096x128, .f32⟩
  | 28 => ⟨S4096x128, .f32⟩
  | 29 => ⟨S4096x128, .f32⟩
  | 30 => ⟨S1x1x128x128, .f32⟩
  | 31 => ⟨S128x128, .f32⟩
  | 32 => ⟨S4096x128, .f32⟩
  | 33 => ⟨S4096x128, .f32⟩
  | 34 => ⟨S4096, .i32⟩
  | 35 => ⟨S_, .f32⟩
  | 36 => ⟨S_, .f32⟩
  | 37 => ⟨S4096x128, .f32⟩
  | 38 => ⟨S_, .f32⟩
  | 39 => ⟨S4x128, .f32⟩
  | 40 => ⟨S4100x128, .f32⟩
  | 41 => ⟨S_, .f32⟩
  | 42 => ⟨S4x128, .f32⟩
  | 43 => ⟨S4096x128, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S4096, .f32⟩
  | 51 => ⟨S4096x1, .f32⟩
  | 52 => ⟨S4096x128, .f32⟩
  | 53 => ⟨S4096x128, .f32⟩
  | 54 => ⟨S4096x128, .f32⟩
  | 55 => ⟨S4096x128, .f32⟩
  | 56 => ⟨S1x1x128x128, .f32⟩
  | 57 => ⟨S128x128, .f32⟩
  | 58 => ⟨S4096x128, .f32⟩
  | 59 => ⟨S4096x128, .f32⟩
  | 60 => ⟨S4096, .i32⟩
  | 61 => ⟨S_, .f32⟩
  | 62 => ⟨S_, .f32⟩
  | 63 => ⟨S4096x128, .f32⟩
  | 64 => ⟨S_, .f32⟩
  | 65 => ⟨S8x128, .f32⟩
  | 66 => ⟨S4104x128, .f32⟩
  | 67 => ⟨S_, .f32⟩
  | 68 => ⟨S8x128, .f32⟩
  | 69 => ⟨S4096x128, .f32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S4096, .f32⟩
  | 77 => ⟨S4096x1, .f32⟩
  | 78 => ⟨S4096x128, .f32⟩
  | 79 => ⟨S4096x128, .f32⟩
  | 80 => ⟨S4096x128, .f32⟩
  | 81 => ⟨S4096x128, .f32⟩
  | 82 => ⟨S1x1x128x128, .f32⟩
  | 83 => ⟨S128x128, .f32⟩
  | 84 => ⟨S4096x128, .f32⟩
  | 85 => ⟨S4096x128, .f32⟩
  | 86 => ⟨S4096, .i32⟩
  | 87 => ⟨S_, .f32⟩
  | 88 => ⟨S_, .f32⟩
  | 89 => ⟨S4096x128, .f32⟩
  | 90 => ⟨S_, .f32⟩
  | 91 => ⟨S16x128, .f32⟩
  | 92 => ⟨S4112x128, .f32⟩
  | 93 => ⟨S_, .f32⟩
  | 94 => ⟨S16x128, .f32⟩
  | 95 => ⟨S4096x128, .f32⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S4096, .f32⟩
  | 103 => ⟨S4096x1, .f32⟩
  | 104 => ⟨S4096x128, .f32⟩
  | 105 => ⟨S4096x128, .f32⟩
  | 106 => ⟨S4096x128, .f32⟩
  | 107 => ⟨S4096x128, .f32⟩
  | 108 => ⟨S1x1x128x128, .f32⟩
  | 109 => ⟨S128x128, .f32⟩
  | 110 => ⟨S4096x128, .f32⟩
  | 111 => ⟨S4096x512, .f32⟩
  | 112 => ⟨S512, .f32⟩
  | 113 => ⟨S1x512, .f32⟩
  | 114 => ⟨S4096x512, .f32⟩
  | 115 => ⟨S4096x512, .f32⟩
  | 116 => ⟨S4096x1024, .f32⟩
  | 117 => ⟨S1024x1024, .f32⟩
  | 118 => ⟨S4096x1024, .f32⟩
  | 119 => ⟨S4096x1024, .f32⟩
  | 120 => ⟨S4096x1024, .f32⟩
  | 121 => ⟨S4096x1024, .f32⟩
  | 122 => ⟨S4096x512, .f32⟩
  | 123 => ⟨S4096x512, .f32⟩
  | 124 => ⟨S4096x512, .f32⟩
  | 125 => ⟨S4096x512, .f32⟩
  | 126 => ⟨S4096x128, .f32⟩
  | 127 => ⟨S4096x128, .f32⟩
  | _ => ⟨S1x4096x1024, .f32⟩

abbrev hbmTy0_2 (i : Nat) : BufTy := match i % 128 with
  | 0 => ⟨S4096x128, .f32⟩
  | 1 => ⟨S4096x128, .f32⟩
  | 2 => ⟨S4096x128, .f32⟩
  | 3 => ⟨S4096x128, .f32⟩
  | 4 => ⟨S4096x128, .f32⟩
  | 5 => ⟨S4096x128, .f32⟩
  | 6 => ⟨S4096x128, .f32⟩
  | 7 => ⟨S_, .f32⟩
  | 8 => ⟨S4112x128, .f32⟩
  | 9 => ⟨S16x128, .f32⟩
  | 10 => ⟨S4096x128, .f32⟩
  | 11 => ⟨S4096x128, .f32⟩
  | 12 => ⟨S_, .f32⟩
  | 13 => ⟨S_, .f32⟩
  | 14 => ⟨S4096x128, .f32⟩
  | 15 => ⟨S4096x128, .f32⟩
  | 16 => ⟨S_, .f32⟩
  | 17 => ⟨S4096x512, .f32⟩
  | 18 => ⟨S4096x128, .f32⟩
  | 19 => ⟨S4096x128, .f32⟩
  | 20 => ⟨S4096x128, .f32⟩
  | 21 => ⟨S4096x128, .f32⟩
  | 22 => ⟨S4096x128, .f32⟩
  | 23 => ⟨S_, .f32⟩
  | 24 => ⟨S4104x128, .f32⟩
  | 25 => ⟨S8x128, .f32⟩
  | 26 => ⟨S4096x128, .f32⟩
  | 27 => ⟨S4096x128, .f32⟩
  | 28 => ⟨S_, .f32⟩
  | 29 => ⟨S_, .f32⟩
  | 30 => ⟨S4096x128, .f32⟩
  | 31 => ⟨S4096x128, .f32⟩
  | 32 => ⟨S_, .f32⟩
  | 33 => ⟨S4096x512, .f32⟩
  | 34 => ⟨S4096x512, .f32⟩
  | 35 => ⟨S4096x128, .f32⟩
  | 36 => ⟨S4096x128, .f32⟩
  | 37 => ⟨S4096x128, .f32⟩
  | 38 => ⟨S4096x128, .f32⟩
  | 39 => ⟨S4096x128, .f32⟩
  | 40 => ⟨S_, .f32⟩
  | 41 => ⟨S4100x128, .f32⟩
  | 42 => ⟨S4x128, .f32⟩
  | 43 => ⟨S4096x128, .f32⟩
  | 44 => ⟨S4096x128, .f32⟩
  | 45 => ⟨S_, .f32⟩
  | 46 => ⟨S_, .f32⟩
  | 47 => ⟨S4096x128, .f32⟩
  | 48 => ⟨S4096x128, .f32⟩
  | 49 => ⟨S_, .f32⟩
  | 50 => ⟨S4096x512, .f32⟩
  | 51 => ⟨S4096x512, .f32⟩
  | 52 => ⟨S4096x128, .f32⟩
  | 53 => ⟨S4096x128, .f32⟩
  | 54 => ⟨S4096x128, .f32⟩
  | 55 => ⟨S4096x128, .f32⟩
  | 56 => ⟨S4096x128, .f32⟩
  | 57 => ⟨S_, .f32⟩
  | 58 => ⟨S4098x128, .f32⟩
  | 59 => ⟨S2x128, .f32⟩
  | 60 => ⟨S4096x128, .f32⟩
  | 61 => ⟨S4096x128, .f32⟩
  | 62 => ⟨S_, .f32⟩
  | 63 => ⟨S_, .f32⟩
  | 64 => ⟨S4096x128, .f32⟩
  | 65 => ⟨S4096x128, .f32⟩
  | 66 => ⟨S_, .f32⟩
  | 67 => ⟨S4096x512, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S512, .f32⟩
  | 75 => ⟨S1x512, .f32⟩
  | 76 => ⟨S_, .f32⟩
  | 77 => ⟨S512, .f32⟩
  | 78 => ⟨S4096x512, .f32⟩
  | 79 => ⟨S_, .f32⟩
  | 80 => ⟨S512, .f32⟩
  | 81 => ⟨S1x512, .f32⟩
  | 82 => ⟨S4096x512, .f32⟩
  | 83 => ⟨S4096x512, .f32⟩
  | 84 => ⟨S_, .f32⟩
  | 85 => ⟨S512, .f32⟩
  | 86 => ⟨S4096x512, .f32⟩
  | 87 => ⟨S_, .f32⟩
  | 88 => ⟨S4096, .f32⟩
  | 89 => ⟨S4096x1, .f32⟩
  | 90 => ⟨S4096x512, .f32⟩
  | 91 => ⟨S4096x512, .f32⟩
  | 92 => ⟨S4096x1, .f32⟩
  | 93 => ⟨S4096x512, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x512, .f32⟩
  | 103 => ⟨S4096x512, .f32⟩
  | 104 => ⟨S4096x512, .f32⟩
  | 105 => ⟨S_, .f32⟩
  | 106 => ⟨S4096, .f32⟩
  | 107 => ⟨S4096x1, .f32⟩
  | 108 => ⟨S4096x512, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x512, .f32⟩
  | 116 => ⟨S4096x512, .f32⟩
  | 117 => ⟨S_, .f32⟩
  | 118 => ⟨S512, .f32⟩
  | 119 => ⟨S1x512, .f32⟩
  | 120 => ⟨S_, .f32⟩
  | 121 => ⟨S512, .f32⟩
  | 122 => ⟨S4096x31x512, .f32⟩
  | 123 => ⟨S4096x31x512, .f32⟩
  | 124 => ⟨S_, .f32⟩
  | 125 => ⟨S31x512, .f32⟩
  | 126 => ⟨S1x31x512, .f32⟩
  | 127 => ⟨S4096x31x512, .f32⟩
  | _ => ⟨S1x4096x1024, .f32⟩

abbrev hbmTy0_3 (i : Nat) : BufTy := match i % 128 with
  | 0 => ⟨S4096x31x512, .f32⟩
  | 1 => ⟨S_, .f32⟩
  | 2 => ⟨S31x512, .f32⟩
  | 3 => ⟨S_, .f32⟩
  | 4 => ⟨S4126x512, .f32⟩
  | 5 => ⟨S4126x512, .f32⟩
  | 6 => ⟨S30x512, .f32⟩
  | 7 => ⟨S4096x512, .f32⟩
  | 8 => ⟨S4096x512, .f32⟩
  | 9 => ⟨S4096x512, .f32⟩
  | 10 => ⟨S4096x512, .f32⟩
  | 11 => ⟨S_, .f32⟩
  | 12 => ⟨S4096x1536, .f32⟩
  | 13 => ⟨S_, .f32⟩
  | 14 => ⟨S4096x1536, .f32⟩
  | 15 => ⟨S4096x1536, .f32⟩
  | 16 => ⟨S_, .f32⟩
  | 17 => ⟨S4096x1536, .f32⟩
  | 18 => ⟨S4096x1536, .f32⟩
  | 19 => ⟨S_, .f32⟩
  | 20 => ⟨S1536, .f32⟩
  | 21 => ⟨S1x1536, .f32⟩
  | 22 => ⟨S_, .f32⟩
  | 23 => ⟨S1536, .f32⟩
  | 24 => ⟨S4096x1024, .f32⟩
  | 25 => ⟨S4096x1024, .f32⟩
  | 26 => ⟨S_, .f32⟩
  | 27 => ⟨S1024, .f32⟩
  | 28 => ⟨S1x1024, .f32⟩
  | 29 => ⟨S4096x1024, .f32⟩
  | 30 => ⟨S4096x1024, .f32⟩
  | 31 => ⟨S_, .f32⟩
  | 32 => ⟨S1024, .f32⟩
  | 33 => ⟨S4096x1024, .f32⟩
  | 34 => ⟨S_, .f32⟩
  | 35 => ⟨S4096, .f32⟩
  | 36 => ⟨S4096x1, .f32⟩
  | 37 => ⟨S4096x1024, .f32⟩
  | 38 => ⟨S4096x1024, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1536, .bf16⟩
  | 52 => ⟨S4096x1024, .bf16⟩
  | 53 => ⟨S1x1024, .f32⟩
  | 54 => ⟨S1x1536, .f32⟩
  | 55 => ⟨S_, .i32⟩
  | 56 => ⟨S_, .f32⟩
  | 57 => ⟨S32x512, .f32⟩
  | 58 => ⟨S1x512, .f32⟩
  | 59 => ⟨S1x512, .f32⟩
  | 60 => ⟨S1x512, .f32⟩
  | _ => ⟨S1x4096x1024, .f32⟩

abbrev hbmTy (i : Nat) : BufTy := match i / 128 with
  | 0 => hbmTy0_0 i
  | 1 => hbmTy0_1 i
  | 2 => hbmTy0_2 i
  | 3 => hbmTy0_3 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_cst_13 : Ref sig .tc := ⟨.hbm, 98, rfl⟩
abbrev main_v71 : Ref sig .tc := ⟨.hbm, 99, rfl⟩
abbrev main_v72 : Ref sig .tc := ⟨.hbm, 100, rfl⟩
abbrev main_cst_14 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_v91_2 : Ref sig .tc := ⟨.hbm, 129, rfl⟩
abbrev main_call0_cst_1 : Ref sig .tc := ⟨.hbm, 130, rfl⟩
abbrev main_call0_v6 : Ref sig .tc := ⟨.hbm, 131, rfl⟩
abbrev main_call0_v7 : Ref sig .tc := ⟨.hbm, 132, rfl⟩
abbrev main_v91_1 : Ref sig .tc := ⟨.hbm, 133, rfl⟩
abbrev main_v91_0 : Ref sig .tc := ⟨.hbm, 134, rfl⟩
abbrev main_v92 : Ref sig .tc := ⟨.hbm, 135, rfl⟩
abbrev main_v93 : Ref sig .tc := ⟨.hbm, 136, rfl⟩
abbrev main_call1_call0_cst : Ref sig .tc := ⟨.hbm, 137, rfl⟩
abbrev main_call1_call0_v0 : Ref sig .tc := ⟨.hbm, 138, rfl⟩
abbrev main_v94 : Ref sig .tc := ⟨.hbm, 139, rfl⟩
abbrev main_cst_17 : Ref sig .tc := ⟨.hbm, 140, rfl⟩
abbrev main_v95 : Ref sig .tc := ⟨.hbm, 141, rfl⟩
abbrev main_v96 : Ref sig .tc := ⟨.hbm, 142, rfl⟩
abbrev main_cst_18 : Ref sig .tc := ⟨.hbm, 143, rfl⟩
abbrev main_v97 : Ref sig .tc := ⟨.hbm, 144, rfl⟩
abbrev main_v98 : Ref sig .tc := ⟨.hbm, 145, rfl⟩
abbrev main_c_19 : Ref sig .tc := ⟨.hbm, 146, rfl⟩
abbrev main_v99 : Ref sig .tc := ⟨.hbm, 147, rfl⟩
abbrev main_v100 : Ref sig .tc := ⟨.hbm, 148, rfl⟩
abbrev main_c_20 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_call2_call0_cst : Ref sig .tc := ⟨.hbm, 163, rfl⟩
abbrev main_call2_call0_v0 : Ref sig .tc := ⟨.hbm, 164, rfl⟩
abbrev main_v114 : Ref sig .tc := ⟨.hbm, 165, rfl⟩
abbrev main_cst_21 : Ref sig .tc := ⟨.hbm, 166, rfl⟩
abbrev main_v115 : Ref sig .tc := ⟨.hbm, 167, rfl⟩
abbrev main_v116 : Ref sig .tc := ⟨.hbm, 168, rfl⟩
abbrev main_cst_22 : Ref sig .tc := ⟨.hbm, 169, rfl⟩
abbrev main_v117 : Ref sig .tc := ⟨.hbm, 170, rfl⟩
abbrev main_v118 : Ref sig .tc := ⟨.hbm, 171, rfl⟩
abbrev main_c_23 : Ref sig .tc := ⟨.hbm, 172, rfl⟩
abbrev main_v119 : Ref sig .tc := ⟨.hbm, 173, rfl⟩
abbrev main_v120 : Ref sig .tc := ⟨.hbm, 174, rfl⟩
abbrev main_c_24 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_call3_call0_cst : Ref sig .tc := ⟨.hbm, 189, rfl⟩
abbrev main_call3_call0_v0 : Ref sig .tc := ⟨.hbm, 190, rfl⟩
abbrev main_v134 : Ref sig .tc := ⟨.hbm, 191, rfl⟩
abbrev main_cst_25 : Ref sig .tc := ⟨.hbm, 192, rfl⟩
abbrev main_v135 : Ref sig .tc := ⟨.hbm, 193, rfl⟩
abbrev main_v136 : Ref sig .tc := ⟨.hbm, 194, rfl⟩
abbrev main_cst_26 : Ref sig .tc := ⟨.hbm, 195, rfl⟩
abbrev main_v137 : Ref sig .tc := ⟨.hbm, 196, rfl⟩
abbrev main_v138 : Ref sig .tc := ⟨.hbm, 197, rfl⟩
abbrev main_c_27 : Ref sig .tc := ⟨.hbm, 198, rfl⟩
abbrev main_v139 : Ref sig .tc := ⟨.hbm, 199, rfl⟩
abbrev main_v140 : Ref sig .tc := ⟨.hbm, 200, rfl⟩
abbrev main_c_28 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_call4_call0_cst : Ref sig .tc := ⟨.hbm, 215, rfl⟩
abbrev main_call4_call0_v0 : Ref sig .tc := ⟨.hbm, 216, rfl⟩
abbrev main_v154 : Ref sig .tc := ⟨.hbm, 217, rfl⟩
abbrev main_cst_29 : Ref sig .tc := ⟨.hbm, 218, rfl⟩
abbrev main_v155 : Ref sig .tc := ⟨.hbm, 219, rfl⟩
abbrev main_v156 : Ref sig .tc := ⟨.hbm, 220, rfl⟩
abbrev main_cst_30 : Ref sig .tc := ⟨.hbm, 221, rfl⟩
abbrev main_v157 : Ref sig .tc := ⟨.hbm, 222, rfl⟩
abbrev main_v158 : Ref sig .tc := ⟨.hbm, 223, rfl⟩
abbrev main_c_31 : Ref sig .tc := ⟨.hbm, 224, rfl⟩
abbrev main_v159 : Ref sig .tc := ⟨.hbm, 225, rfl⟩
abbrev main_v160 : Ref sig .tc := ⟨.hbm, 226, rfl⟩
abbrev main_c_32 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_33 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_call5_call0_cst : Ref sig .tc := ⟨.hbm, 268, rfl⟩
abbrev main_call5_call0_v0 : Ref sig .tc := ⟨.hbm, 269, rfl⟩
abbrev main_v200 : Ref sig .tc := ⟨.hbm, 270, rfl⟩
abbrev main_v201 : Ref sig .tc := ⟨.hbm, 271, rfl⟩
abbrev main_cst_34 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_cst_35 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_call6_call0_cst : Ref sig .tc := ⟨.hbm, 284, rfl⟩
abbrev main_call6_call0_v0 : Ref sig .tc := ⟨.hbm, 285, rfl⟩
abbrev main_v212 : Ref sig .tc := ⟨.hbm, 286, rfl⟩
abbrev main_v213 : Ref sig .tc := ⟨.hbm, 287, rfl⟩
abbrev main_cst_36 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_cst_37 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_call7_call0_cst : Ref sig .tc := ⟨.hbm, 301, rfl⟩
abbrev main_call7_call0_v0 : Ref sig .tc := ⟨.hbm, 302, rfl⟩
abbrev main_v225 : Ref sig .tc := ⟨.hbm, 303, rfl⟩
abbrev main_v226 : Ref sig .tc := ⟨.hbm, 304, rfl⟩
abbrev main_cst_38 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_cst_39 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_call8_call0_cst : Ref sig .tc := ⟨.hbm, 318, rfl⟩
abbrev main_call8_call0_v0 : Ref sig .tc := ⟨.hbm, 319, rfl⟩
abbrev main_v238 : Ref sig .tc := ⟨.hbm, 320, rfl⟩
abbrev main_v239 : Ref sig .tc := ⟨.hbm, 321, rfl⟩
abbrev main_cst_40 : Ref sig .tc := ⟨.hbm, 322, rfl⟩
abbrev main_v240 : Ref sig .tc := ⟨.hbm, 323, rfl⟩
abbrev main_v241 : Ref sig .tc := ⟨.hbm, 324, rfl⟩
abbrev main_call9_v0 : Ref sig .tc := ⟨.hbm, 325, rfl⟩
abbrev main_call9_v1 : Ref sig .tc := ⟨.hbm, 326, rfl⟩
abbrev main_call9_v2 : Ref sig .tc := ⟨.hbm, 327, rfl⟩
abbrev main_v242 : Ref sig .tc := ⟨.hbm, 328, rfl⟩
abbrev main_cst_41 : Ref sig .tc := ⟨.hbm, 329, rfl⟩
abbrev main_v243 : Ref sig .tc := ⟨.hbm, 330, rfl⟩
abbrev main_v244 : Ref sig .tc := ⟨.hbm, 331, rfl⟩
abbrev main_cst_42 : Ref sig .tc := ⟨.hbm, 332, rfl⟩
abbrev main_v245 : Ref sig .tc := ⟨.hbm, 333, rfl⟩
abbrev main_v246 : Ref sig .tc := ⟨.hbm, 334, rfl⟩
abbrev main_cst_43 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_cst_44 : Ref sig .tc := ⟨.hbm, 340, rfl⟩
abbrev main_v251 : Ref sig .tc := ⟨.hbm, 341, rfl⟩
abbrev main_v252 : Ref sig .tc := ⟨.hbm, 342, rfl⟩
abbrev main_cst_45 : Ref sig .tc := ⟨.hbm, 343, rfl⟩
abbrev main_v253 : Ref sig .tc := ⟨.hbm, 344, rfl⟩
abbrev main_v254 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_v258 : Ref sig .tc := ⟨.hbm, 349, rfl⟩
abbrev main_cst_46 : Ref sig .tc := ⟨.hbm, 350, rfl⟩
abbrev main_v259 : Ref sig .tc := ⟨.hbm, 351, rfl⟩
abbrev main_v260 : Ref sig .tc := ⟨.hbm, 352, rfl⟩
abbrev main_cst_47 : Ref sig .tc := ⟨.hbm, 353, rfl⟩
abbrev main_v261 : Ref sig .tc := ⟨.hbm, 354, rfl⟩
abbrev main_v262 : Ref sig .tc := ⟨.hbm, 355, rfl⟩
abbrev main_cst_48 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_cst_49 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_cst_50 : Ref sig .tc := ⟨.hbm, 366, rfl⟩
abbrev main_v271 : Ref sig .tc := ⟨.hbm, 367, rfl⟩
abbrev main_v272 : Ref sig .tc := ⟨.hbm, 368, rfl⟩
abbrev main_cst_51 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_cst_52 : Ref sig .tc := ⟨.hbm, 373, rfl⟩
abbrev main_v276 : Ref sig .tc := ⟨.hbm, 374, rfl⟩
abbrev main_v277 : Ref sig .tc := ⟨.hbm, 375, rfl⟩
abbrev main_cst_53 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_cst_54 : Ref sig .tc := ⟨.hbm, 380, rfl⟩
abbrev main_v281 : Ref sig .tc := ⟨.hbm, 381, rfl⟩
abbrev main_v282 : Ref sig .tc := ⟨.hbm, 382, rfl⟩
abbrev main_v283 : Ref sig .tc := ⟨.hbm, 383, rfl⟩
abbrev main_v284 : Ref sig .tc := ⟨.hbm, 384, rfl⟩
abbrev main_cst_55 : Ref sig .tc := ⟨.hbm, 385, rfl⟩
abbrev main_v285 : Ref sig .tc := ⟨.hbm, 386, rfl⟩
abbrev main_cst_56 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_cst_57 : Ref sig .tc := ⟨.hbm, 395, rfl⟩
abbrev main_v293 : Ref sig .tc := ⟨.hbm, 396, rfl⟩
abbrev main_cst_58 : Ref sig .tc := ⟨.hbm, 397, rfl⟩
abbrev main_v294 : Ref sig .tc := ⟨.hbm, 398, rfl⟩
abbrev main_v295 : Ref sig .tc := ⟨.hbm, 399, rfl⟩
abbrev main_cst_59 : Ref sig .tc := ⟨.hbm, 400, rfl⟩
abbrev main_v296 : Ref sig .tc := ⟨.hbm, 401, rfl⟩
abbrev main_v297 : Ref sig .tc := ⟨.hbm, 402, rfl⟩
abbrev main_cst_60 : Ref sig .tc := ⟨.hbm, 403, rfl⟩
abbrev main_v298 : Ref sig .tc := ⟨.hbm, 404, rfl⟩
abbrev main_v299 : Ref sig .tc := ⟨.hbm, 405, rfl⟩
abbrev main_cst_61 : Ref sig .tc := ⟨.hbm, 406, rfl⟩
abbrev main_v300 : Ref sig .tc := ⟨.hbm, 407, rfl⟩
abbrev main_v301 : Ref sig .tc := ⟨.hbm, 408, rfl⟩
abbrev main_v302 : Ref sig .tc := ⟨.hbm, 409, rfl⟩
abbrev main_cst_62 : Ref sig .tc := ⟨.hbm, 410, rfl⟩
abbrev main_v303 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_cst_63 : Ref sig .tc := ⟨.hbm, 415, rfl⟩
abbrev main_v307 : Ref sig .tc := ⟨.hbm, 416, rfl⟩
abbrev main_v308 : Ref sig .tc := ⟨.hbm, 417, rfl⟩
abbrev main_cst_64 : Ref sig .tc := ⟨.hbm, 418, rfl⟩
abbrev main_v309 : Ref sig .tc := ⟨.hbm, 419, rfl⟩
abbrev main_v310 : Ref sig .tc := ⟨.hbm, 420, rfl⟩
abbrev main_v311 : Ref sig .tc := ⟨.hbm, 421, rfl⟩
abbrev main_v312 : Ref sig .tc := ⟨.hbm, 422, rfl⟩
abbrev main_v313 : Ref sig .tc := ⟨.hbm, 423, rfl⟩
abbrev main_cst_65 : Ref sig .tc := ⟨.hbm, 424, rfl⟩
abbrev main_v314 : Ref sig .tc := ⟨.hbm, 425, rfl⟩
abbrev main_v315 : Ref sig .tc := ⟨.hbm, 426, rfl⟩
abbrev main_cst_66 : Ref sig .tc := ⟨.hbm, 427, rfl⟩
abbrev main_v316 : Ref sig .tc := ⟨.hbm, 428, rfl⟩
abbrev main_v317 : Ref sig .tc := ⟨.hbm, 429, rfl⟩
abbrev main_v318 : Ref sig .tc := ⟨.hbm, 430, rfl⟩
abbrev main_v319 : Ref sig .tc := ⟨.hbm, 431, rfl⟩
abbrev main_v320 : Ref sig .tc := ⟨.hbm, 432, rfl⟩
abbrev main_v321 : Ref sig .tc := ⟨.hbm, 433, rfl⟩
abbrev main_v322 : Ref sig .tc := ⟨.hbm, 434, rfl⟩
abbrev main_v323 : Ref sig .tc := ⟨.hbm, 435, rfl⟩
abbrev main_v324 : Ref sig .tc := ⟨.hbm, 436, rfl⟩
abbrev main_v325 : Ref sig .tc := ⟨.hbm, 437, rfl⟩
abbrev main_v326 : Ref sig .tc := ⟨.hbm, 438, rfl⟩
abbrev main_c_67 : Ref sig .tc := ⟨.hbm, 439, rfl⟩
abbrev main_call10_v0 : Ref sig .tc := ⟨.hbm, 440, rfl⟩
abbrev main_v327 : Ref sig .tc := ⟨.hbm, 441, rfl⟩
abbrev main_v328 : Ref sig .tc := ⟨.hbm, 442, rfl⟩
abbrev main_v329 : Ref sig .tc := ⟨.hbm, 443, rfl⟩
abbrev main_v330 : Ref sig .tc := ⟨.hbm, 444, rfl⟩

abbrev nD : Nat := 1
abbrev τ : Topo := Topo.v7x

variable {F : FTy → Type} [FloatOps F]
-- ==== Proof.Reals.lean ====
/- Finite values inside the extended reals: each operation of the two programs, taken at real arguments, gives a real value. -/
module

public import Idealize.ShloMosaic.PureOps.Ideal
public import Idealize.ShloMosaic.PureOps.Ideal.Laws
public import Mathlib.Tactic.Ring
public import Mathlib.Tactic.FieldSimp
public import Mathlib.Tactic.NormNum
public import Mathlib.Tactic.Positivity

@[expose] public section

noncomputable section

namespace Cert.Reals

open Idealize.ShloMosaic

/-- A sum of real values is the value of the real sum. -/
theorem sum_c {ι : Type*} [Fintype ι] (f : ι → ℝ) : ∑ i, (f i : EReal) = ((∑ i, f i : ℝ) : EReal) := by
  classical
  have h : ∀ s : Finset ι, ∑ i ∈ s, (f i : EReal) = ((∑ i ∈ s, f i : ℝ) : EReal) := fun s => by
    induction s using Finset.induction_on with
    | empty => simp
    | insert a s ha ih => rw [Finset.sum_insert ha, Finset.sum_insert ha, ih, EReal.coe_add]
  exact h Finset.univ

/-- A product of two real values. -/
theorem mul_c (a b : ℝ) : (a : EReal) * b = ((a * b : ℝ) : EReal) := (EReal.coe_mul a b).symm

/-- A sum of two real values. -/
theorem add_c (a b : ℝ) : (a : EReal) + b = ((a + b : ℝ) : EReal) := (EReal.coe_add a b).symm

/-- A difference of two real values. -/
theorem sub_c (a b : ℝ) : (a : EReal) - b = ((a - b : ℝ) : EReal) := (EReal.coe_sub a b).symm

/-- A quotient by a real value that is not zero. -/
theorem div_c (a : ℝ) {b : ℝ} (h : b ≠ 0) : Ideal.div (a : EReal) (b : EReal) = ((a / b : ℝ) : EReal) := by
  rw [Ideal.div_coe h, mul_c, mul_one_div]

/-- The reciprocal square root of a positive real value. -/
theorem rsqrt_c {a : ℝ} (h : 0 < a) : Ideal.rsqrt (a : EReal) = (((√a)⁻¹ : ℝ) : EReal) := by
  rw [Ideal.rsqrt_coe, if_neg (not_lt.2 h.le), if_neg h.ne']

/-- A finite extended real is the value of its real part. -/
theorem coe_of_abs_lt_top {a : EReal} (h : max a (-a) < ⊤) : a = ((a.toReal : ℝ) : EReal) := by
  refine (EReal.coe_toReal ?_ ?_).symm
  · rintro rfl
    simp at h
  · rintro rfl
    simp at h

/-- The word of 1024. -/
theorem c1024 : Ideal.ofBits .f32 0x44800000#32 = ((1024 : ℝ) : EReal) := by
  simp [Ideal.ofBits, Ideal.ieee, -EReal.coe_mul]
  norm_num

/-- The word of one half. -/
theorem cHalf : Ideal.ofBits .f32 0x3F000000#32 = ((1 / 2 : ℝ) : EReal) := by
  simp [Ideal.ofBits, Ideal.ieee, -EReal.coe_mul]
  norm_num

/-- The word of minus one half. -/
theorem cNegHalf : Ideal.ofBits .f32 0xBF000000#32 = ((-(1 / 2) : ℝ) : EReal) := by
  simp [Ideal.ofBits, Ideal.ieee, -EReal.coe_mul]
  norm_num

/-- The word of two. -/
theorem cTwo : Ideal.ofBits .f32 0x40000000#32 = ((2 : ℝ) : EReal) := by
  simp [Ideal.ofBits, Ideal.ieee, -EReal.coe_mul]
  norm_num

/-- One as a real. -/
theorem one_c : (1 : EReal) = ((1 : ℝ) : EReal) := EReal.coe_one.symm

/-- The word of one. -/
theorem cOne : Ideal.ofBits .f32 0x3F800000#32 = ((1 : ℝ) : EReal) := by
  simp [Ideal.ofBits, Ideal.ieee, -EReal.coe_mul]
  norm_num

/-- The word of zero. -/
theorem cZero : Ideal.ofBits .f32 0x00000000#32 = ((0 : ℝ) : EReal) := by simp

/-- The word of plus infinity. -/
theorem cInf : Ideal.ofBits .f32 0x7F800000#32 = ⊤ := by
  simp [Ideal.ofBits, Ideal.ieee]

/-- The small constant under the root of a root-mean-square norm: the number its word stands for. -/
def eps : ℝ := 8796093 * (1 / 8796093022208)

theorem eps_pos : 0 < eps := by
  unfold eps
  norm_num

/-- The word of the small constant. -/
theorem cEps : Ideal.ofBits .f32 0x358637BD#32 = (eps : EReal) := by
  unfold eps
  simp [Ideal.ofBits, Ideal.ieee, -EReal.coe_mul]
  norm_num

end Cert.Reals

end
-- ==== Proof.Finite.lean ====
/- The precondition, read: a comparison of an array's magnitudes with infinity that says 1 everywhere makes every element real. -/
module

public import proofs.«01_k».proof.Defs
public import proofs.«01_k».proof.Proof.Reals
public import Idealize.ShloMosaic.Lib.Pointwise

@[expose] public section

noncomputable section

namespace Cert.Reals

open Idealize.ShloMosaic

/-- An array whose magnitudes all compare below infinity holds real numbers. -/
theorem real_of_lt_inf {s : Shape} (x : FVec Ideal s .f32) {S₀ : Shape} {dims : Fin S₀.rank → Fin s.rank} (h : S₀.BroadcastsInDim s dims)
    (e : cmpf .olt (Host.absf x) (broadcastInDim s dims h (constant S₀ .f32 0x7F800000#32)) = fun _ => 1#1) (i : s.Idx) :
    x i = ((x i).toReal : EReal) := by
  have hi := congrFun e i
  refine coe_of_abs_lt_top ?_
  by_contra hn
  have h2 : Ideal.cmp .olt (max (x i) (-(x i))) (Ideal.ofBits .f32 0x7F800000#32) = 1#1 := hi
  rw [cInf] at h2
  simp [Ideal.cmp, hn] at h2

end Cert.Reals

namespace Cert.Pre_finite

/-- The shape facts the precondition states. -/
instance facts : Cert.Pre_finite.Facts where
  bcast_S_S1x4096x1024 := by decide
  bcast_S_S1x1024 := by decide
  bcast_S_S1024 := by decide
  bcast_S_S1x1024x2816 := by decide
  bcast_S_S1x2816x1024 := by decide

end Cert.Pre_finite

end
-- ==== Proof.Ffn.Spec.lean ====
/- The feed-forward half of the layer and its gradient, for ONE row of the sequence, over the real numbers. -/
module

public import proofs.«01_k».proof.Proof.Reals
public import Mathlib.Analysis.SpecialFunctions.Exp
public import Mathlib.Algebra.BigOperators.Fin
import Mathlib.Tactic.Ring

@[expose] public section

noncomputable section

namespace Cert.Ffn

open Cert.Reals Idealize.ShloMosaic

/-- A row of the model's width, and a row of the hidden width. -/
abbrev Row := Fin 1024 → ℝ
abbrev Hid := Fin 2816 → ℝ

/-- The parameters: the scales of the two norms, and the three weight matrices as the model stores them. -/
structure Par where
  gf : Row
  gl : Row
  wg : Fin 1024 → Hid
  wu : Fin 1024 → Hid
  wd : Fin 2816 → Row

/-- The mean of the squares plus the small constant. -/
def ms (v : Row) : ℝ := (∑ k, v k * v k) / 1024 + eps

theorem ms_pos (v : Row) : 0 < ms v := by
  have h : 0 ≤ ∑ k, v k * v k := Finset.sum_nonneg fun k _ => mul_self_nonneg (v k)
  have := eps_pos
  unfold ms
  positivity

/-- The reciprocal root of `ms`. -/
def rs (v : Row) : ℝ := (√(ms v))⁻¹

/-- The normalised row. -/
def hat (v : Row) (k : Fin 1024) : ℝ := v k * rs v

/-- The gradient of the normalised row `hat v` applied to a cotangent `d`. -/
def normGrad (v d : Row) (k : Fin 1024) : ℝ := rs v * (d k - hat v k * ((∑ j, d j * hat v j) / 1024))

section Row

variable (p : Par) (h t : Row)

/-- The norm's output. -/
def hn (k : Fin 1024) : ℝ := hat h k * p.gf k
/-- The gate's product and the up product. -/
def gt (f : Fin 2816) : ℝ := ∑ k, hn p h k * p.wg k f
def up (f : Fin 2816) : ℝ := ∑ k, hn p h k * p.wu k f
/-- The logistic function of the gate. -/
def sg (f : Fin 2816) : ℝ := (1 + Real.exp (-gt p h f))⁻¹
/-- The gated activation. -/
def act (f : Fin 2816) : ℝ := gt p h f * sg p h f * up p h f
/-- The residual stream after the feed-forward half. -/
def h2 (k : Fin 1024) : ℝ := h k + ∑ f, act p h f * p.wd f k
/-- The final norm's output less the target. -/
def diff (k : Fin 1024) : ℝ := hat (h2 p h) k * p.gl k - t k
/-- The row's part of the loss. -/
def loss : ℝ := 1 / 2 * (∑ k, diff p h t k * diff p h t k) / 1024
/-- The loss's gradient at the final norm's output, and behind its scale. -/
def dout (k : Fin 1024) : ℝ := diff p h t k / 1024
def dn (k : Fin 1024) : ℝ := dout p h t k * p.gl k
/-- The row's part of the final scale's gradient. -/
def dgl (k : Fin 1024) : ℝ := dout p h t k * hat (h2 p h) k
/-- The gradient of `h2`, of the activation, of the gate's product and of the up product. -/
def dh2 (k : Fin 1024) : ℝ := normGrad (h2 p h) (dn p h t) k
def dact (f : Fin 2816) : ℝ := ∑ k, dh2 p h t k * p.wd f k
def dgt (f : Fin 2816) : ℝ := dact p h t f * up p h f * (sg p h f * (1 + gt p h f * (1 - sg p h f)))
def dup (f : Fin 2816) : ℝ := dact p h t f * (gt p h f * sg p h f)
/-- The gradient of the norm's output, and behind its scale. -/
def dhn (k : Fin 1024) : ℝ := ∑ f, dgt p h t f * p.wg k f + ∑ f, dup p h t f * p.wu k f
def dnn (k : Fin 1024) : ℝ := dhn p h t k * p.gf k
/-- The row's part of the scale's gradient. -/
def dgf (k : Fin 1024) : ℝ := dhn p h t k * hat h k
/-- The gradient of the row. -/
def dh1 (k : Fin 1024) : ℝ := dh2 p h t k + normGrad h (dnn p h t) k

end Row

/-- The hidden axis in three pieces: 1024, 1024 and 768 entries. -/
def e0 (j : Fin 1024) : Fin 2816 := ⟨j.val, by omega⟩
def e1 (j : Fin 1024) : Fin 2816 := ⟨1024 + j.val, by omega⟩
def e2 (j : Fin 768) : Fin 2816 := ⟨2048 + j.val, by omega⟩

/-- A sum over the hidden axis is the sum over its three pieces. -/
theorem sum_pieces (f : Fin 2816 → ℝ) : ∑ i, f i = ∑ j, f (e0 j) + ∑ j, f (e1 j) + ∑ j, f (e2 j) := by
  rw [show (∑ i : Fin 2816, f i) = ∑ i : Fin (1024 + 1024 + 768), f i from rfl, Fin.sum_univ_add, Fin.sum_univ_add]
  rfl

/-- The mean of squares of real entries, with the small constant added. -/
theorem ms_c (v : Row) : Ideal.div (∑ k, (v k : EReal) * v k) (Ideal.ofBits .f32 0x44800000#32) + Ideal.ofBits .f32 0x358637BD#32 = (ms v : EReal) := by
  simp only [mul_c, sum_c, c1024, cEps, div_c _ (by norm_num : (1024 : ℝ) ≠ 0), add_c, ms]

/-- … and the reciprocal root of it. -/
theorem rs_c (v : Row) : Ideal.rsqrt (Ideal.div (∑ k, (v k : EReal) * v k) (Ideal.ofBits .f32 0x44800000#32) + Ideal.ofBits .f32 0x358637BD#32) =
    (rs v : EReal) := by
  rw [ms_c, rsqrt_c (ms_pos v), rs]

/-- A quotient by the word of 1024. -/
theorem div1024 (a : ℝ) : Ideal.div (a : EReal) (Ideal.ofBits .f32 0x44800000#32) = ((a / 1024 : ℝ) : EReal) := by
  rw [c1024, div_c _ (by norm_num)]

/-- The norm's gradient as the reference splits it up: once through the quotient, twice through the square. -/
theorem normGrad_eq (v d : Row) (k : Fin 1024) :
    d k * rs v + v k * ((∑ j, v j * d j) * (-(1 / 2) * (rs v / ms v)) / 1024) + (∑ j, v j * d j) * (-(1 / 2) * (rs v / ms v)) / 1024 * v k =
      normGrad v d k := by
  have h : rs v * rs v = 1 / ms v := by
    rw [rs, ← mul_inv, Real.mul_self_sqrt (ms_pos v).le, one_div]
  have hs : ∑ j, d j * hat v j = rs v * ∑ j, v j * d j := by
    rw [Finset.mul_sum]
    exact Finset.sum_congr rfl fun j _ => by rw [hat]; ring
  rw [normGrad, hs, hat, div_eq_mul_one_div (rs v), ← h]
  ring

end Cert.Ffn

end
-- ==== Proof.Ffn.Block.lean ====
/- What one grid point of the feed-forward kernel leaves in each output block, as the body's payloads over the point's input
   blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Ffn

open Cert.KernelIdeal Cert.KernelIdeal.Gen Idealize.ShloMosaic Idealize.ShloMosaic.TcCoe Idealize.SL.Sem

variable {F : FTy → Type} [FloatOps F]

/-- The three row pieces of a weight matrix. -/
def w0 (x : Vec F S2816x1024 .bf16) : Vec F S1024x1024 .bf16 :=
  View.ld x (Rect.unit ![0, 0] ![1024, 1024] inb_S2816x1024_S1024x1024_0_0)
def w1 (x : Vec F S2816x1024 .bf16) : Vec F S1024x1024 .bf16 :=
  View.ld x (Rect.unit ![1024, 0] ![1024, 1024] inb_S2816x1024_S1024x1024_1024_0)
def w2 (x : Vec F S2816x1024 .bf16) : Vec F S768x1024 .bf16 :=
  View.ld x (Rect.unit ![2048, 0] ![768, 1024] inb_S2816x1024_S768x1024_2048_0)

/-- The seven input blocks of a point. -/
structure Ins (F : FTy → Type) where
  x0 : Vec F S256x1024 .f32
  x1 : Vec F S256x1024 .f32
  x2 : Vec F S1x1024 .f32
  x3 : Vec F S1x1024 .f32
  x4 : Vec F S2816x1024 .bf16
  x5 : Vec F S2816x1024 .bf16
  x6 : Vec F S2816x1024 .bf16

namespace Ins

variable (x : Ins F)

/-- The forward half: the norm's output, the residual stream before the last piece, the last piece of the gate. -/
def hn := k0_pay7 x.x0 x.x2
def h2a := k0_pay19 (k0_pay4 x.x0) x.hn (k0_pay9 x.x0 x.x2 (w0 x.x5)) (k0_pay12 x.x0 x.x2 (w0 x.x4)) (w0 x.x6) (w1 x.x4) (w1 x.x5) (w1 x.x6)
def gt2 := k0_pay20 x.hn (w2 x.x4)
/-- The three pieces of the activation. -/
def act0 := k0_pay13 (k0_pay9 x.x0 x.x2 (w0 x.x5)) (k0_pay12 x.x0 x.x2 (w0 x.x4))
def act1 := k0_pay18 x.hn (w1 x.x4) (w1 x.x5)
def act2 := k0_pay24 x.hn x.gt2 (w2 x.x5)
/-- The final norm: reciprocal root, normalised rows, difference to the target. -/
def r3 := k0_pay26 x.hn x.h2a x.gt2 (w2 x.x5) (w2 x.x6)
def n3 := k0_pay27 x.hn x.h2a x.gt2 (w2 x.x5) (w2 x.x6)
def diff := k0_pay29 x.hn x.h2a x.gt2 (w2 x.x5) (w2 x.x6) x.x3 x.x1
def sq := k0_pay31 x.hn x.h2a x.gt2 (w2 x.x5) (w2 x.x6) x.x3 x.x1
/-- The gradient at the final norm's input. -/
def dh2 := k0_pay35 x.r3 x.n3 (k0_pay28 x.x3) x.diff
def dh2b := k0_pay36 x.r3 x.n3 (k0_pay28 x.x3) x.diff
/-- The pieces of the gate's and the up product as the backward half loads them. -/
def g0 := k0_pay10 x.x0 x.x2 (w0 x.x4)
def u0 := k0_pay11 x.x0 x.x2 (w0 x.x5)
def g1 := k0_pay16 x.hn (w1 x.x4)
def u1 := k0_pay17 x.hn (w1 x.x5)
def g2 := k0_pay22 x.gt2
def u2 := k0_pay23 x.hn (w2 x.x5)
/-- The three pieces of the gate's gradient and of the up product's. -/
def dgt0 := k0_pay40 x.dh2b x.g0 x.u0 (w0 x.x6)
def dup0 := k0_pay41 x.dh2b x.g0 (w0 x.x6)
def dgt1 := k0_pay47 x.g1 (k0_pay43 x.g1) (k0_pay45 x.dh2b x.u1 (w1 x.x6)) k0_pay46
def dup1 := k0_pay48 x.g1 (k0_pay43 x.g1) (k0_pay44 x.dh2b (w1 x.x6))
def dgt2 := k0_pay52 x.dh2b x.g2 x.u2 (w2 x.x6)
def dup2 := k0_pay53 x.dh2b x.g2 (w2 x.x6)
/-- The gradient at the first norm's output before the last piece. -/
def dhna := k0_pay49 (k0_pay42 x.dh2b k0_pay37 x.g0 x.u0 (w0 x.x6) (w0 x.x4) (w0 x.x5)) x.g1 (k0_pay43 x.g1) (k0_pay44 x.dh2b (w1 x.x6))
  (k0_pay45 x.dh2b x.u1 (w1 x.x6)) k0_pay46 (w1 x.x4) (w1 x.x5)
/-- The block of the kernel's first result. -/
def dh1 := k0_pay56 (k0_pay5 x.x0) (k0_pay6 x.x0) x.dh2 x.dhna x.dgt2 x.dup2 (w2 x.x4) (w2 x.x5) x.x2
/-- One step of each accumulated result. -/
def lossStep (a : Vec F S1x128 .f32) := k0_pay32 (k0_pay30 a) x.sq
def dglStep (a : Vec F S1x1024 .f32) := k0_pay34 x.n3 x.diff a
def dgfStep (a : Vec F S1x1024 .f32) := k0_pay55 (k0_pay6 x.x0) x.dhna x.dgt2 x.dup2 (w2 x.x4) (w2 x.x5) a

/-- A block of the hidden width from its three pieces. -/
def glue (a : Vec F S256x1024 .bf16) (b : Vec F S256x1024 .bf16) (d : Vec F S256x768 .bf16) : Vec F S256x2816 .bf16 :=
  View.canon
      [⟨Rect.unit ![0, 2048] ![256, 768] inb_S256x2816_S256x768_0_2048, d⟩,
        ⟨Rect.unit ![0, 1024] ![256, 1024] inb_S256x2816_S256x1024_0_1024, b⟩,
        ⟨Rect.unit ![0, 0] ![256, 1024] inb_S256x2816_S256x1024_0_0, a⟩]

end Ins

variable (m : (ℓ : Loc nD τ sig) → Buf (Elt F) ℓ) (c : Dev nD) (t : Fin cfg0.N)

/-- The input blocks of point `t`. -/
def insAt : Ins F := ⟨iblk m c 0 t, iblk m c 1 t, iblk m c 2 t, iblk m c 3 t, iblk m c 4 t, iblk m c 5 t, iblk m c 6 t⟩

/-- After a point the block of the gradient at the input holds this term of the point's input blocks. -/
theorem dh1_eq : (outsAt0 m c t.val t.isLt).1 = (insAt m c t).dh1 := by
  generalize hR : (insAt m c t).dh1 = R
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    subst hR
    simp only [Ins.hn, Ins.h2a, Ins.gt2, Ins.act0, Ins.act1, Ins.act2, Ins.r3, Ins.n3, Ins.diff, Ins.sq, Ins.dh2, Ins.dh2b, Ins.g0, Ins.u0,
      Ins.g1, Ins.u1, Ins.g2, Ins.u2, Ins.dgt0, Ins.dup0, Ins.dgt1, Ins.dup1, Ins.dgt2, Ins.dup2, Ins.dhna, Ins.dh1, Ins.lossStep,
      Ins.dglStep, Ins.dgfStep, Ins.glue, insAt, w0, w1, w2]

/-- After a point the block of the normalised input holds this term of the point's input blocks. -/
theorem hn_eq : (outsAt0 m c t.val t.isLt).2.1 = (insAt m c t).hn := by
  generalize hR : (insAt m c t).hn = R
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    subst hR
    simp only [Ins.hn, Ins.h2a, Ins.gt2, Ins.act0, Ins.act1, Ins.act2, Ins.r3, Ins.n3, Ins.diff, Ins.sq, Ins.dh2, Ins.dh2b, Ins.g0, Ins.u0,
      Ins.g1, Ins.u1, Ins.g2, Ins.u2, Ins.dgt0, Ins.dup0, Ins.dgt1, Ins.dup1, Ins.dgt2, Ins.dup2, Ins.dhna, Ins.dh1, Ins.lossStep,
      Ins.dglStep, Ins.dgfStep, Ins.glue, insAt, w0, w1, w2]

/-- After a point the block of the gated activations holds this term of the point's input blocks. -/
theorem act_eq : (outsAt0 m c t.val t.isLt).2.2.1 = Ins.glue (insAt m c t).act0 (insAt m c t).act1 (insAt m c t).act2 := by
  generalize hR : Ins.glue (insAt m c t).act0 (insAt m c t).act1 (insAt m c t).act2 = R
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    subst hR
    simp only [Ins.hn, Ins.h2a, Ins.gt2, Ins.act0, Ins.act1, Ins.act2, Ins.r3, Ins.n3, Ins.diff, Ins.sq, Ins.dh2, Ins.dh2b, Ins.g0, Ins.u0,
      Ins.g1, Ins.u1, Ins.g2, Ins.u2, Ins.dgt0, Ins.dup0, Ins.dgt1, Ins.dup1, Ins.dgt2, Ins.dup2, Ins.dhna, Ins.dh1, Ins.lossStep,
      Ins.dglStep, Ins.dgfStep, Ins.glue, insAt, w0, w1, w2]

/-- After a point the block of the gradient at the gate holds this term of the point's input blocks. -/
theorem dgt_eq : (outsAt0 m c t.val t.isLt).2.2.2.1 = Ins.glue (insAt m c t).dgt0 (insAt m c t).dgt1 (insAt m c t).dgt2 := by
  generalize hR : Ins.glue (insAt m c t).dgt0 (insAt m c t).dgt1 (insAt m c t).dgt2 = R
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    subst hR
    simp only [Ins.hn, Ins.h2a, Ins.gt2, Ins.act0, Ins.act1, Ins.act2, Ins.r3, Ins.n3, Ins.diff, Ins.sq, Ins.dh2, Ins.dh2b, Ins.g0, Ins.u0,
      Ins.g1, Ins.u1, Ins.g2, Ins.u2, Ins.dgt0, Ins.dup0, Ins.dgt1, Ins.dup1, Ins.dgt2, Ins.dup2, Ins.dhna, Ins.dh1, Ins.lossStep,
      Ins.dglStep, Ins.dgfStep, Ins.glue, insAt, w0, w1, w2]

/-- After a point the block of the gradient at the up projection holds this term of the point's input blocks. -/
theorem dup_eq : (outsAt0 m c t.val t.isLt).2.2.2.2.1 = Ins.glue (insAt m c t).dup0 (insAt m c t).dup1 (insAt m c t).dup2 := by
  generalize hR : Ins.glue (insAt m c t).dup0 (insAt m c t).dup1 (insAt m c t).dup2 = R
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    subst hR
    simp only [Ins.hn, Ins.h2a, Ins.gt2, Ins.act0, Ins.act1, Ins.act2, Ins.r3, Ins.n3, Ins.diff, Ins.sq, Ins.dh2, Ins.dh2b, Ins.g0, Ins.u0,
      Ins.g1, Ins.u1, Ins.g2, Ins.u2, Ins.dgt0, Ins.dup0, Ins.dgt1, Ins.dup1, Ins.dgt2, Ins.dup2, Ins.dhna, Ins.dh1, Ins.lossStep,
      Ins.dglStep, Ins.dgfStep, Ins.glue, insAt, w0, w1, w2]

/-- After a point the block of the gradient at the second residual stream holds this term of the point's input blocks. -/
theorem dh2b_eq : (outsAt0 m c t.val t.isLt).2.2.2.2.2.1 = (insAt m c t).dh2b := by
  generalize hR : (insAt m c t).dh2b = R
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    subst hR
    simp only [Ins.hn, Ins.h2a, Ins.gt2, Ins.act0, Ins.act1, Ins.act2, Ins.r3, Ins.n3, Ins.diff, Ins.sq, Ins.dh2, Ins.dh2b, Ins.g0, Ins.u0,
      Ins.g1, Ins.u1, Ins.g2, Ins.u2, Ins.dgt0, Ins.dup0, Ins.dgt1, Ins.dup1, Ins.dgt2, Ins.dup2, Ins.dhna, Ins.dh1, Ins.lossStep,
      Ins.dglStep, Ins.dgfStep, Ins.glue, insAt, w0, w1, w2]

/-- The first point adds its rows' part of the loss to the initial value. -/
theorem lossStep_A (h0 : t.val % 16 = 0) : (outsAt0 m c t.val t.isLt).2.2.2.2.2.2.1 = (insAt m c t).lossStep k0_pay1 := by
  generalize hR : (insAt m c t).lossStep k0_pay1 = R
  rw [outsAt0_A m c t h0]
  frame_open
  simp (disch := decide) only [↓ View.readCov_skip, ↓ View.readCov_cons_toLoadRect, ↓ View.readCov_fill]
  frame_out
  subst hR
  simp only [Ins.hn, Ins.h2a, Ins.gt2, Ins.act0, Ins.act1, Ins.act2, Ins.r3, Ins.n3, Ins.diff, Ins.sq, Ins.dh2, Ins.dh2b, Ins.g0, Ins.u0,
    Ins.g1, Ins.u1, Ins.g2, Ins.u2, Ins.dgt0, Ins.dup0, Ins.dgt1, Ins.dup1, Ins.dgt2, Ins.dup2, Ins.dhna, Ins.dh1, Ins.lossStep,
    Ins.dglStep, Ins.dgfStep, Ins.glue, insAt, w0, w1, w2]

/-- A later point adds its rows' part of the loss to what the point before left. -/
theorem lossStep_B (h0 : ¬ t.val % 16 = 0) : (outsAt0 m c t.val t.isLt).2.2.2.2.2.2.1 = (insAt m c t).lossStep (outsAt0 m c (t.val - 1) (by omega)).2.2.2.2.2.2.1 := by
  generalize hR : (insAt m c t).lossStep (outsAt0 m c (t.val - 1) (by omega)).2.2.2.2.2.2.1 = R
  rw [outsAt0_B m c t h0]
  frame_open
  simp (disch := decide) only [↓ View.readCov_skip, ↓ View.readCov_cons_toLoadRect, ↓ View.readCov_fill]
  frame_out
  subst hR
  simp only [Ins.hn, Ins.h2a, Ins.gt2, Ins.act0, Ins.act1, Ins.act2, Ins.r3, Ins.n3, Ins.diff, Ins.sq, Ins.dh2, Ins.dh2b, Ins.g0, Ins.u0,
    Ins.g1, Ins.u1, Ins.g2, Ins.u2, Ins.dgt0, Ins.dup0, Ins.dgt1, Ins.dup1, Ins.dgt2, Ins.dup2, Ins.dhna, Ins.dh1, Ins.lossStep,
    Ins.dglStep, Ins.dgfStep, Ins.glue, insAt, w0, w1, w2]

/-- The first point adds its rows' part of the last norm's weight gradient to the initial value. -/
theorem dglStep_A (h0 : t.val % 16 = 0) : (outsAt0 m c t.val t.isLt).2.2.2.2.2.2.2.1 = (insAt m c t).dglStep k0_pay2 := by
  generalize hR : (insAt m c t).dglStep k0_pay2 = R
  rw [outsAt0_A m c t h0]
  frame_open
  simp (disch := decide) only [↓ View.readCov_skip, ↓ View.readCov_cons_toLoadRect, ↓ View.readCov_fill]
  frame_out
  subst hR
  simp only [Ins.hn, Ins.h2a, Ins.gt2, Ins.act0, Ins.act1, Ins.act2, Ins.r3, Ins.n3, Ins.diff, Ins.sq, Ins.dh2, Ins.dh2b, Ins.g0, Ins.u0,
    Ins.g1, Ins.u1, Ins.g2, Ins.u2, Ins.dgt0, Ins.dup0, Ins.dgt1, Ins.dup1, Ins.dgt2, Ins.dup2, Ins.dhna, Ins.dh1, Ins.lossStep,
    Ins.dglStep, Ins.dgfStep, Ins.glue, insAt, w0, w1, w2]

/-- A later point adds its rows' part of the last norm's weight gradient to what the point before left. -/
theorem dglStep_B (h0 : ¬ t.val % 16 = 0) : (outsAt0 m c t.val t.isLt).2.2.2.2.2.2.2.1 = (insAt m c t).dglStep (outsAt0 m c (t.val - 1) (by omega)).2.2.2.2.2.2.2.1 := by
  generalize hR : (insAt m c t).dglStep (outsAt0 m c (t.val - 1) (by omega)).2.2.2.2.2.2.2.1 = R
  rw [outsAt0_B m c t h0]
  frame_open
  simp (disch := decide) only [↓ View.readCov_skip, ↓ View.readCov_cons_toLoadRect, ↓ View.readCov_fill]
  frame_out
  subst hR
  simp only [Ins.hn, Ins.h2a, Ins.gt2, Ins.act0, Ins.act1, Ins.act2, Ins.r3, Ins.n3, Ins.diff, Ins.sq, Ins.dh2, Ins.dh2b, Ins.g0, Ins.u0,
    Ins.g1, Ins.u1, Ins.g2, Ins.u2, Ins.dgt0, Ins.dup0, Ins.dgt1, Ins.dup1, Ins.dgt2, Ins.dup2, Ins.dhna, Ins.dh1, Ins.lossStep,
    Ins.dglStep, Ins.dgfStep, Ins.glue, insAt, w0, w1, w2]

/-- The first point adds its rows' part of the first norm's weight gradient to the initial value. -/
theorem dgfStep_A (h0 : t.val % 16 = 0) : (outsAt0 m c t.val t.isLt).2.2.2.2.2.2.2.2 = (insAt m c t).dgfStep k0_pay3 := by
  generalize hR : (insAt m c t).dgfStep k0_pay3 = R
  rw [outsAt0_A m c t h0]
  frame_open
  simp (disch := decide) only [↓ View.readCov_skip, ↓ View.readCov_cons_toLoadRect, ↓ View.readCov_fill]
  frame_out
  subst hR
  simp only [Ins.hn, Ins.h2a, Ins.gt2, Ins.act0, Ins.act1, Ins.act2, Ins.r3, Ins.n3, Ins.diff, Ins.sq, Ins.dh2, Ins.dh2b, Ins.g0, Ins.u0,
    Ins.g1, Ins.u1, Ins.g2, Ins.u2, Ins.dgt0, Ins.dup0, Ins.dgt1, Ins.dup1, Ins.dgt2, Ins.dup2, Ins.dhna, Ins.dh1, Ins.lossStep,
    Ins.dglStep, Ins.dgfStep, Ins.glue, insAt, w0, w1, w2]

/-- A later point adds its rows' part of the first norm's weight gradient to what the point before left. -/
theorem dgfStep_B (h0 : ¬ t.val % 16 = 0) : (outsAt0 m c t.val t.isLt).2.2.2.2.2.2.2.2 = (insAt m c t).dgfStep (outsAt0 m c (t.val - 1) (by omega)).2.2.2.2.2.2.2.2 := by
  generalize hR : (insAt m c t).dgfStep (outsAt0 m c (t.val - 1) (by omega)).2.2.2.2.2.2.2.2 = R
  rw [outsAt0_B m c t h0]
  frame_open
  simp (disch := decide) only [↓ View.readCov_skip, ↓ View.readCov_cons_toLoadRect, ↓ View.readCov_fill]
  frame_out
  subst hR
  simp only [Ins.hn, Ins.h2a, Ins.gt2, Ins.act0, Ins.act1, Ins.act2, Ins.r3, Ins.n3, Ins.diff, Ins.sq, Ins.dh2, Ins.dh2b, Ins.g0, Ins.u0,
    Ins.g1, Ins.u1, Ins.g2, Ins.u2, Ins.dgt0, Ins.dup0, Ins.dgt1, Ins.dup1, Ins.dgt2, Ins.dup2, Ins.dhna, Ins.dh1, Ins.lossStep,
    Ins.dglStep, Ins.dgfStep, Ins.glue, insAt, w0, w1, w2]

end Cert.Ffn

end
-- ==== Proof.Ffn.BlockValue.lean ====
/- The body's payloads at real input blocks: every entry is the row function of Spec.lean at its row. -/
module

public import proofs.«01_k».proof.Proof.Ffn.Spec
public import proofs.«01_k».proof.Proof.Ffn.Block
public import Idealize.ShloMosaic.Lib.Pointwise

@[expose] public section

set_option maxRecDepth 16384

noncomputable section

namespace Cert.Ffn

open Cert.KernelIdeal Cert.KernelIdeal.Gen Idealize.ShloMosaic Cert.Reals

/-- The input blocks hold the rows `H`, `T` and the parameters `p`. -/
structure Ins.Real (x : Ins Ideal) (p : Par) (H T : Fin 256 → Row) : Prop where
  x0 : ∀ i k, x.x0 (ix2 i k) = (H i k : EReal)
  x1 : ∀ i k, x.x1 (ix2 i k) = (T i k : EReal)
  x2 : ∀ k, x.x2 (ix2 0 k) = (p.gf k : EReal)
  x3 : ∀ k, x.x3 (ix2 0 k) = (p.gl k : EReal)
  x4 : ∀ f k, x.x4 (ix2 f k) = (p.wg k f : EReal)
  x5 : ∀ f k, x.x5 (ix2 f k) = (p.wu k f : EReal)
  x6 : ∀ f k, x.x6 (ix2 f k) = (p.wd f k : EReal)

/-- The pieces of a weight matrix at coordinates. -/
theorem w0_apply (x : Vec Ideal S2816x1024 .bf16) (j k : Fin 1024) : w0 x (ix2 j k) = x (ix2 (e0 j) k) := by
  pointwise [w0]
  blk_ext <;> simp [e0]
theorem w1_apply (x : Vec Ideal S2816x1024 .bf16) (j k : Fin 1024) : w1 x (ix2 j k) = x (ix2 (e1 j) k) := by
  pointwise [w1]
  blk_ext <;> simp [e1]
theorem w2_apply (x : Vec Ideal S2816x1024 .bf16) (j : Fin 768) (k : Fin 1024) : w2 x (ix2 j k) = x (ix2 (e2 j) k) := by
  pointwise [w2]
  blk_ext <;> simp [e2]

namespace Ins.Real

variable {x : Ins Ideal} {p : Par} {H T : Fin 256 → Row} (hx : x.Real p H T)
include hx

theorem r2 (i : Fin 256) : k0_pay5 x.x0 (ix2 i 0) = (rs (H i) : EReal) := by
  pointwise [k0_pay5, k0_pay4]
  simp only [hx.x0, rs_c]

theorem hhat (i : Fin 256) (k : Fin 1024) : k0_pay6 x.x0 (ix2 i k) = (hat (H i) k : EReal) := by
  pointwise [k0_pay6, k0_pay4]
  simp only [hx.x0, hx.r2, mul_c, hat]

theorem hn (i : Fin 256) (k : Fin 1024) : x.hn (ix2 i k) = (Ffn.hn p (H i) k : EReal) := by
  pointwise [Ins.hn, k0_pay7]
  simp only [hx.hhat, hx.x2, mul_c, Ffn.hn]

theorem g0 (i : Fin 256) (j : Fin 1024) : x.g0 (ix2 i j) = (gt p (H i) (e0 j) : EReal) := by
  pointwise [Ins.g0, k0_pay10, k0_pay8]
  simp only [show k0_pay7 x.x0 x.x2 = x.hn from rfl, hx.hn, w0_apply, hx.x4, mul_c, sum_c, gt]

theorem u0 (i : Fin 256) (j : Fin 1024) : x.u0 (ix2 i j) = (up p (H i) (e0 j) : EReal) := by
  pointwise [Ins.u0, k0_pay11, k0_pay9]
  simp only [show k0_pay7 x.x0 x.x2 = x.hn from rfl, hx.hn, w0_apply, hx.x5, mul_c, sum_c, up]

theorem g1 (i : Fin 256) (j : Fin 1024) : x.g1 (ix2 i j) = (gt p (H i) (e1 j) : EReal) := by
  pointwise [Ins.g1, k0_pay16, k0_pay14]
  simp only [hx.hn, w1_apply, hx.x4, mul_c, sum_c, gt]

theorem u1 (i : Fin 256) (j : Fin 1024) : x.u1 (ix2 i j) = (up p (H i) (e1 j) : EReal) := by
  pointwise [Ins.u1, k0_pay17, k0_pay15]
  simp only [hx.hn, w1_apply, hx.x5, mul_c, sum_c, up]

theorem g2 (i : Fin 256) (j : Fin 768) : x.g2 (ix2 i j) = (gt p (H i) (e2 j) : EReal) := by
  pointwise [Ins.g2, Ins.gt2, k0_pay22, k0_pay20]
  simp only [hx.hn, w2_apply, hx.x4, mul_c, sum_c, gt]

theorem u2 (i : Fin 256) (j : Fin 768) : x.u2 (ix2 i j) = (up p (H i) (e2 j) : EReal) := by
  pointwise [Ins.u2, k0_pay23, k0_pay21]
  simp only [hx.hn, w2_apply, hx.x5, mul_c, sum_c, up]

theorem act0 (i : Fin 256) (j : Fin 1024) : x.act0 (ix2 i j) = (act p (H i) (e0 j) : EReal) := by
  have hg := hx.g0 i j
  have hu := hx.u0 i j
  pointwise [Ins.g0, k0_pay10] at hg
  pointwise [Ins.u0, k0_pay11] at hu
  pointwise [Ins.act0, k0_pay13, k0_pay12]
  simp only [hg, hu, Ideal.logistic_coe, mul_c, act, sg]

theorem act1 (i : Fin 256) (j : Fin 1024) : x.act1 (ix2 i j) = (act p (H i) (e1 j) : EReal) := by
  have hg := hx.g1 i j
  have hu := hx.u1 i j
  pointwise [Ins.g1, k0_pay16, k0_pay14] at hg
  pointwise [Ins.u1, k0_pay17, k0_pay15] at hu
  pointwise [Ins.act1, k0_pay18, k0_pay14, k0_pay15]
  simp only [hg, hu, Ideal.logistic_coe, mul_c, act, sg]

theorem act2 (i : Fin 256) (j : Fin 768) : x.act2 (ix2 i j) = (act p (H i) (e2 j) : EReal) := by
  have hg := hx.g2 i j
  have hu := hx.u2 i j
  pointwise [Ins.g2, k0_pay22] at hg
  pointwise [Ins.u2, k0_pay23] at hu
  pointwise [Ins.act2, k0_pay24]
  simp only [hg, hu, Ideal.logistic_coe, mul_c, act, sg]

/-- The residual stream after the feed-forward half: the three products add up to the whole one. -/
theorem h2 (i : Fin 256) (k : Fin 1024) : k0_pay25 x.hn x.h2a x.gt2 (w2 x.x5) (w2 x.x6) (ix2 i k) = (h2 p (H i) k : EReal) := by
  pointwise [k0_pay25, Ins.h2a, k0_pay19, k0_pay4]
  simp only [show k0_pay24 x.hn x.gt2 (w2 x.x5) = x.act2 from rfl, show k0_pay18 x.hn (w1 x.x4) (w1 x.x5) = x.act1 from rfl,
    show k0_pay13 (k0_pay9 x.x0 x.x2 (w0 x.x5)) (k0_pay12 x.x0 x.x2 (w0 x.x4)) = x.act0 from rfl, hx.act0, hx.act1, hx.act2, w0_apply,
    w1_apply, w2_apply, hx.x6, hx.x0, mul_c, sum_c, add_c, Ffn.h2, sum_pieces fun f => act p (H i) f * p.wd f k, add_assoc]

theorem r3 (i : Fin 256) : x.r3 (ix2 i 0) = (rs (Ffn.h2 p (H i)) : EReal) := by
  pointwise [Ins.r3, k0_pay26]
  simp only [hx.h2, rs_c]

theorem n3 (i : Fin 256) (k : Fin 1024) : x.n3 (ix2 i k) = (hat (Ffn.h2 p (H i)) k : EReal) := by
  pointwise [Ins.n3, k0_pay27]
  simp only [hx.h2, show k0_pay26 x.hn x.h2a x.gt2 (w2 x.x5) (w2 x.x6) = x.r3 from rfl, hx.r3, mul_c, hat]

theorem diff (i : Fin 256) (k : Fin 1024) : x.diff (ix2 i k) = (Ffn.diff p (H i) (T i) k : EReal) := by
  pointwise [Ins.diff, k0_pay29, k0_pay28]
  simp only [show k0_pay27 x.hn x.h2a x.gt2 (w2 x.x5) (w2 x.x6) = x.n3 from rfl, hx.n3, hx.x3, hx.x1, mul_c, sub_c, Ffn.diff]

theorem lossStep (a : Vec Ideal S1x128 .f32) (k : Fin 128) :
    x.lossStep a (ix2 0 k) = a (ix2 0 k) + ((∑ i, loss p (H i) (T i) : ℝ) : EReal) := by
  pointwise [Ins.lossStep, Ins.sq, k0_pay32, k0_pay30, k0_pay31]
  simp only [show k0_pay29 x.hn x.h2a x.gt2 (w2 x.x5) (w2 x.x6) x.x3 x.x1 = x.diff from rfl, hx.diff, mul_c, sum_c, cHalf, div1024, loss]

theorem dglStep (a : Vec Ideal S1x1024 .f32) (k : Fin 1024) :
    x.dglStep a (ix2 0 k) = a (ix2 0 k) + ((∑ i, dgl p (H i) (T i) k : ℝ) : EReal) := by
  pointwise [Ins.dglStep, k0_pay34, k0_pay33]
  simp only [hx.diff, hx.n3, mul_c, sum_c, div1024, dgl, dout]

theorem dh2 (i : Fin 256) (k : Fin 1024) : x.dh2 (ix2 i k) = (Ffn.dh2 p (H i) (T i) k : EReal) := by
  pointwise [Ins.dh2, k0_pay35, k0_pay33, k0_pay28]
  simp only [hx.diff, hx.n3, hx.r3, hx.x3, mul_c, sum_c, sub_c, div1024, Ffn.dh2, normGrad, dn, dout]

theorem dh2b (i : Fin 256) (k : Fin 1024) : x.dh2b (ix2 i k) = (Ffn.dh2 p (H i) (T i) k : EReal) := by
  have h := hx.dh2 i k
  pointwise [Ins.dh2] at h
  pointwise [Ins.dh2b, k0_pay36]
  exact h

theorem dact0 (i : Fin 256) (j : Fin 1024) : k0_pay39 x.dh2b (w0 x.x6) (ix2 i j) = (dact p (H i) (T i) (e0 j) : EReal) := by
  pointwise [k0_pay39]
  simp only [hx.dh2b, w0_apply, hx.x6, mul_c, sum_c, dact]

theorem dact1 (i : Fin 256) (j : Fin 1024) : k0_pay44 x.dh2b (w1 x.x6) (ix2 i j) = (dact p (H i) (T i) (e1 j) : EReal) := by
  pointwise [k0_pay44]
  simp only [hx.dh2b, w1_apply, hx.x6, mul_c, sum_c, dact]

theorem dact2 (i : Fin 256) (j : Fin 768) : k0_pay51 x.dh2b (w2 x.x6) (ix2 i j) = (dact p (H i) (T i) (e2 j) : EReal) := by
  pointwise [k0_pay51]
  simp only [hx.dh2b, w2_apply, hx.x6, mul_c, sum_c, dact]

theorem dgt0 (i : Fin 256) (j : Fin 1024) : x.dgt0 (ix2 i j) = (dgt p (H i) (T i) (e0 j) : EReal) := by
  pointwise [Ins.dgt0, k0_pay40, k0_pay38]
  simp only [hx.dact0, hx.g0, hx.u0, (EReal.coe_one.symm : (1 : EReal) = _), Ideal.logistic_coe, mul_c, add_c, sub_c, dgt, sg]

theorem dup0 (i : Fin 256) (j : Fin 1024) : x.dup0 (ix2 i j) = (dup p (H i) (T i) (e0 j) : EReal) := by
  pointwise [Ins.dup0, k0_pay41, k0_pay38]
  simp only [hx.dact0, hx.g0, Ideal.logistic_coe, mul_c, dup, sg]

theorem dgt1 (i : Fin 256) (j : Fin 1024) : x.dgt1 (ix2 i j) = (dgt p (H i) (T i) (e1 j) : EReal) := by
  pointwise [Ins.dgt1, k0_pay47, k0_pay43, k0_pay45, k0_pay46]
  simp only [hx.dact1, hx.g1, hx.u1, (EReal.coe_one.symm : (1 : EReal) = _), Ideal.logistic_coe, mul_c, add_c, sub_c, dgt, sg]

theorem dup1 (i : Fin 256) (j : Fin 1024) : x.dup1 (ix2 i j) = (dup p (H i) (T i) (e1 j) : EReal) := by
  pointwise [Ins.dup1, k0_pay48, k0_pay43]
  simp only [hx.dact1, hx.g1, Ideal.logistic_coe, mul_c, dup, sg]

theorem dgt2 (i : Fin 256) (j : Fin 768) : x.dgt2 (ix2 i j) = (dgt p (H i) (T i) (e2 j) : EReal) := by
  pointwise [Ins.dgt2, k0_pay52, k0_pay50]
  simp only [hx.dact2, hx.g2, hx.u2, (EReal.coe_one.symm : (1 : EReal) = _), Ideal.logistic_coe, mul_c, add_c, sub_c, dgt, sg]

theorem dup2 (i : Fin 256) (j : Fin 768) : x.dup2 (ix2 i j) = (dup p (H i) (T i) (e2 j) : EReal) := by
  pointwise [Ins.dup2, k0_pay53, k0_pay50]
  simp only [hx.dact2, hx.g2, Ideal.logistic_coe, mul_c, dup, sg]

/-- The gradient at the first norm's output: six products that add up to the two whole ones. -/
theorem dhn (i : Fin 256) (k : Fin 1024) :
    k0_pay54 x.dhna x.dgt2 x.dup2 (w2 x.x4) (w2 x.x5) (ix2 i k) = (dhn p (H i) (T i) k : EReal) := by
  pointwise [k0_pay54, Ins.dhna, k0_pay49, k0_pay42, k0_pay37]
  simp only [show k0_pay40 x.dh2b x.g0 x.u0 (w0 x.x6) = x.dgt0 from rfl, show k0_pay41 x.dh2b x.g0 (w0 x.x6) = x.dup0 from rfl,
    show k0_pay47 x.g1 (k0_pay43 x.g1) (k0_pay45 x.dh2b x.u1 (w1 x.x6)) k0_pay46 = x.dgt1 from rfl,
    show k0_pay48 x.g1 (k0_pay43 x.g1) (k0_pay44 x.dh2b (w1 x.x6)) = x.dup1 from rfl,
    hx.dgt0, hx.dgt1, hx.dgt2, hx.dup0, hx.dup1, hx.dup2, w0_apply, w1_apply, w2_apply, hx.x4, hx.x5, cZero, mul_c, sum_c, add_c]
  rw [Ffn.dhn, sum_pieces fun f => dgt p (H i) (T i) f * p.wg k f, sum_pieces fun f => dup p (H i) (T i) f * p.wu k f]
  congr 1
  ring

theorem dgfStep (a : Vec Ideal S1x1024 .f32) (k : Fin 1024) :
    x.dgfStep a (ix2 0 k) = a (ix2 0 k) + ((∑ i, dgf p (H i) (T i) k : ℝ) : EReal) := by
  pointwise [Ins.dgfStep, k0_pay55]
  simp only [hx.dhn, hx.hhat, mul_c, sum_c, dgf]

theorem dh1 (i : Fin 256) (k : Fin 1024) : x.dh1 (ix2 i k) = (Ffn.dh1 p (H i) (T i) k : EReal) := by
  pointwise [Ins.dh1, k0_pay56]
  simp only [hx.dhn, hx.hhat, hx.r2, hx.dh2, hx.x2, mul_c, sum_c, sub_c, add_c, div1024, Ffn.dh1, normGrad, dnn]

end Ins.Real

end Cert.Ffn

end
-- ==== Proof.Ffn.Inputs.lean ====
/- What the body's input blocks hold at every grid point: rows of the arguments, and the whole weights. -/
module

public import proofs.«01_k».proof.Proof.Ffn.BlockValue

@[expose] public section

set_option maxRecDepth 16384

noncomputable section

namespace Cert.Ffn

open Cert.KernelIdeal Cert.KernelIdeal.Gen Idealize.ShloMosaic Idealize.ShloMosaic.TcCoe Cert.Reals

/-- Row `i` of block `t`, in the array. -/
def row (t : Fin 16) (i : Fin 256) : Fin 4096 := ⟨256 * t.val + i.val, by omega⟩

/-- The seven arguments on a device hold real numbers: the rows `H` and `T` and the parameters `p`. -/
structure Given (m : (ℓ : Loc nD τ sig) → Buf (Elt Ideal) ℓ) (c : Dev nD) (p : Par) (H T : Fin 4096 → Row) : Prop where
  a0 : ∀ r k, (m ((c : Thread nD τ).loc main_arg0) : Vec Ideal S1x4096x1024 .f32) (ix3 0 r k) = (H r k : EReal)
  a1 : ∀ r k, (m ((c : Thread nD τ).loc main_arg1) : Vec Ideal S1x4096x1024 .f32) (ix3 0 r k) = (T r k : EReal)
  a2 : ∀ k, (m ((c : Thread nD τ).loc main_arg2) : Vec Ideal S1x1024 .f32) (ix2 0 k) = (p.gf k : EReal)
  a3 : ∀ k, (m ((c : Thread nD τ).loc main_arg3) : Vec Ideal S1024 .f32) (ix1 k) = (p.gl k : EReal)
  a4 : ∀ k f, (m ((c : Thread nD τ).loc main_arg4) : Vec Ideal S1x1024x2816 .f32) (ix3 0 k f) = (p.wg k f : EReal)
  a5 : ∀ k f, (m ((c : Thread nD τ).loc main_arg5) : Vec Ideal S1x1024x2816 .f32) (ix3 0 k f) = (p.wu k f : EReal)
  a6 : ∀ f k, (m ((c : Thread nD τ).loc main_arg6) : Vec Ideal S1x2816x1024 .f32) (ix3 0 f k) = (p.wd f k : EReal)

variable (m : (ℓ : Loc nD τ sig) → Buf (Elt Ideal) ℓ) (c : Dev nD)

/-- Block `t` of the two staged arrays starts at block row `t`; the other operands are whole at every point. -/
theorem index_rows : ∀ t : Fin cfg0.N, (win0_0.index t 0 = t.val ∧ win0_0.index t 1 = 0) ∧ (win0_1.index t 0 = t.val ∧ win0_1.index t 1 = 0) ∧
    (∀ a, win0_2.index t a = 0) ∧ (∀ a, win0_3.index t a = 0) ∧ (∀ a, win0_4.index t a = 0) ∧ (∀ a, win0_5.index t a = 0) ∧
    (∀ a, win0_6.index t a = 0) :=
  (by decide +kernel : ∀ t : Fin grid0.N, _)

theorem x0_apply (t : Fin cfg0.N) (i : Fin 256) (k : Fin 1024) :
    (iblk m c 0 t : Vec Ideal S256x1024 .f32) (ix2 i k) = (m ((c : Thread nD τ).loc main_arg0) : Vec Ideal S1x4096x1024 .f32) (ix3 0 (row t i) k) := by
  have e : (win0_0.blk t).view.emb (ix2 i k) = (ix2 (row t i) k : S4096x1024.Idx) := by blk_ext [index_rows t, row]
  unfold iblk
  entry_read
  rw [View.read_apply]
  erw [e]
  pointwise
  rfl
theorem x1_apply (t : Fin cfg0.N) (i : Fin 256) (k : Fin 1024) :
    (iblk m c 1 t : Vec Ideal S256x1024 .f32) (ix2 i k) = (m ((c : Thread nD τ).loc main_arg1) : Vec Ideal S1x4096x1024 .f32) (ix3 0 (row t i) k) := by
  have e : (win0_1.blk t).view.emb (ix2 i k) = (ix2 (row t i) k : S4096x1024.Idx) := by blk_ext [index_rows t, row]
  unfold iblk
  entry_read
  rw [View.read_apply]
  erw [e]
  pointwise
  rfl
theorem x2_apply (t : Fin cfg0.N) (k : Fin 1024) :
    (iblk m c 2 t : Vec Ideal S1x1024 .f32) (ix2 0 k) = (m ((c : Thread nD τ).loc main_arg2) : Vec Ideal S1x1024 .f32) (ix2 0 k) := by
  unfold iblk
  entry_read
  pointwise
  blk_ext [index_rows t]
theorem x3_apply (t : Fin cfg0.N) (k : Fin 1024) :
    (iblk m c 3 t : Vec Ideal S1x1024 .f32) (ix2 0 k) = (m ((c : Thread nD τ).loc main_arg3) : Vec Ideal S1024 .f32) (ix1 k) := by
  have e : (win0_3.blk t).view.emb (ix2 0 k) = (ix2 0 k : S1x1024.Idx) := by blk_ext [index_rows t, row]
  unfold iblk
  entry_read
  rw [View.read_apply]
  erw [e]
  pointwise
  rfl
theorem x4_apply (t : Fin cfg0.N) (f : Fin 2816) (k : Fin 1024) :
    (iblk m c 4 t : Vec Ideal S2816x1024 .bf16) (ix2 f k) = (m ((c : Thread nD τ).loc main_arg4) : Vec Ideal S1x1024x2816 .f32) (ix3 0 k f) := by
  have e : (win0_4.blk t).view.emb (ix2 f k) = (ix2 f k : S2816x1024.Idx) := by blk_ext [index_rows t, row]
  unfold iblk
  entry_read
  rw [View.read_apply]
  erw [e]
  pointwise
  rfl
theorem x5_apply (t : Fin cfg0.N) (f : Fin 2816) (k : Fin 1024) :
    (iblk m c 5 t : Vec Ideal S2816x1024 .bf16) (ix2 f k) = (m ((c : Thread nD τ).loc main_arg5) : Vec Ideal S1x1024x2816 .f32) (ix3 0 k f) := by
  have e : (win0_5.blk t).view.emb (ix2 f k) = (ix2 f k : S2816x1024.Idx) := by blk_ext [index_rows t, row]
  unfold iblk
  entry_read
  rw [View.read_apply]
  erw [e]
  pointwise
  rfl
theorem x6_apply (t : Fin cfg0.N) (f : Fin 2816) (k : Fin 1024) :
    (iblk m c 6 t : Vec Ideal S2816x1024 .bf16) (ix2 f k) = (m ((c : Thread nD τ).loc main_arg6) : Vec Ideal S1x2816x1024 .f32) (ix3 0 f k) := by
  have e : (win0_6.blk t).view.emb (ix2 f k) = (ix2 f k : S2816x1024.Idx) := by blk_ext [index_rows t, row]
  unfold iblk
  entry_read
  rw [View.read_apply]
  erw [e]
  pointwise
  rfl

variable {m c} {p : Par} {H T : Fin 4096 → Row}

/-- At real arguments the input blocks of point `t` are the rows of block `t` and the parameters. -/
theorem Given.ins (g : Given m c p H T) (t : Fin cfg0.N) :
    (insAt m c t).Real p (fun i => H (row t i)) (fun i => T (row t i)) where
  x0 i k := (x0_apply m c t i k).trans (g.a0 _ _)
  x1 i k := (x1_apply m c t i k).trans (g.a1 _ _)
  x2 k := (x2_apply m c t k).trans (g.a2 _)
  x3 k := (x3_apply m c t k).trans (g.a3 _)
  x4 f k := (x4_apply m c t f k).trans (g.a4 _ _)
  x5 f k := (x5_apply m c t f k).trans (g.a5 _ _)
  x6 f k := (x6_apply m c t f k).trans (g.a6 _ _)

end Cert.Ffn

end
-- ==== Proof.Ffn.Arrays.lean ====
/- The nine result arrays after the run, at real arguments: row functions of the argument's rows, and sums of them over all rows. -/
module

public import proofs.«01_k».proof.Proof.Ffn.Inputs
public import proofs.«01_k».proof.Proof.Gen.KernelIdeal.Value
public import Idealize.ShloMosaic.Lib.Pipeline.ReadBack

@[expose] public section

set_option maxRecDepth 16384

noncomputable section

namespace Cert.Ffn

open Cert.KernelIdeal Cert.KernelIdeal.Gen Idealize.ShloMosaic Idealize.ShloMosaic.TcCoe Cert.Reals

/-- Three column pieces put together hold `f` if each piece holds its columns of `f`. -/
theorem glue_apply {a b : Vec Ideal S256x1024 .bf16} {d : Vec Ideal S256x768 .bf16} {f : Fin 256 → Fin 2816 → EReal}
    (ha : ∀ i j, a (ix2 i j) = f i (e0 j)) (hb : ∀ i j, b (ix2 i j) = f i (e1 j)) (hd : ∀ i j, d (ix2 i j) = f i (e2 j))
    (i : Fin 256) (k : Fin 2816) : Ins.glue a b d (ix2 i k) = f i k := by
  refine View.canon_append_of_piecesOf (Val := Elt Ideal) (e := .bf16) (fun y : S256x2816.Idx => f (y 0) (y 1)) []
    [⟨Rect.unit ![0, 2048] ![256, 768] inb_S256x2816_S256x768_0_2048, d⟩, ⟨Rect.unit ![0, 1024] ![256, 1024] inb_S256x2816_S256x1024_0_1024, b⟩,
        ⟨Rect.unit ![0, 0] ![256, 1024] inb_S256x2816_S256x1024_0_0, a⟩] ⟨fun y => ?_, fun y => ?_, fun y => ?_, trivial⟩ (ix2 i k)
    (View.cover_of_tiledBy _ ![256, 256] (by sl_kernel_rfl) _)
  · refine (congrArg d (eq_ix2 y)).trans ((hd _ _).trans (congrArg₂ f (Fin.ext ?_) (Fin.ext ?_))) <;> simp [e2]
  · refine (congrArg b (eq_ix2 y)).trans ((hb _ _).trans (congrArg₂ f (Fin.ext ?_) (Fin.ext ?_))) <;> simp [e1]
  · refine (congrArg a (eq_ix2 y)).trans ((ha _ _).trans (congrArg₂ f (Fin.ext ?_) (Fin.ext ?_))) <;> simp [e0]

namespace Ins.Real

variable {x : Ins Ideal} {p : Par} {H T : Fin 256 → Row} (hx : x.Real p H T)
include hx

theorem act (i : Fin 256) (k : Fin 2816) : Ins.glue (F := Ideal) x.act0 x.act1 x.act2 (ix2 i k) = (Ffn.act p (H i) k : EReal) :=
  glue_apply (f := fun i k => (Ffn.act p (H i) k : EReal)) hx.act0 hx.act1 hx.act2 i k

theorem dgt (i : Fin 256) (k : Fin 2816) : Ins.glue (F := Ideal) x.dgt0 x.dgt1 x.dgt2 (ix2 i k) = (Ffn.dgt p (H i) (T i) k : EReal) :=
  glue_apply (f := fun i k => (Ffn.dgt p (H i) (T i) k : EReal)) hx.dgt0 hx.dgt1 hx.dgt2 i k

theorem dup (i : Fin 256) (k : Fin 2816) : Ins.glue (F := Ideal) x.dup0 x.dup1 x.dup2 (ix2 i k) = (Ffn.dup p (H i) (T i) k : EReal) :=
  glue_apply (f := fun i k => (Ffn.dup p (H i) (T i) k : EReal)) hx.dup0 hx.dup1 hx.dup2 i k

end Ins.Real

variable {m : (ℓ : Loc nD τ sig) → Buf (Elt Ideal) ℓ} {c : Dev nD} {p : Par} {H T : Fin 4096 → Row} (g : Given m c p H T)

/-- Block `t` of each row-blocked result starts at block row `t`. -/
theorem out_rows : ∀ t : Fin cfg0.N, (win0_7.index t 0 = t.val ∧ win0_7.index t 1 = 0) ∧ (win0_8.index t 0 = t.val ∧ win0_8.index t 1 = 0) ∧
    (win0_9.index t 0 = t.val ∧ win0_9.index t 1 = 0) ∧ (win0_10.index t 0 = t.val ∧ win0_10.index t 1 = 0) ∧
    (win0_11.index t 0 = t.val ∧ win0_11.index t 1 = 0) ∧ (win0_12.index t 0 = t.val ∧ win0_12.index t 1 = 0) :=
  (by decide +kernel : ∀ t : Fin grid0.N, _)

/-- The array whose row `r` is `f r`. -/
def rows (f : Fin 4096 → Row) : S4096x1024.Idx → EReal := fun i => (f (i 0) (i 1) : EReal)
/-- The same at the hidden width. -/
def hids (f : Fin 4096 → Hid) : S4096x2816.Idx → EReal := fun i => (f (i 0) (i 1) : EReal)

theorem rows_ix2 (f : Fin 4096 → Row) (r : Fin 4096) (k : Fin 1024) : rows f (ix2 r k) = (f r k : EReal) := rfl
theorem hids_ix2 (f : Fin 4096 → Hid) (r : Fin 4096) (k : Fin 2816) : hids f (ix2 r k) = (f r k : EReal) := rfl

section

include g

theorem arr_dh1 : (dats m 0 c).arrAt 7 cfg0.N = rows fun r => dh1 p (H r) (T r) := by
  refine (dats m 0 c).arrAt_eq_of_covers 7 _ (by decide +kernel) fun t hf y => ?_
  have e : (win0_7.blk t).view.emb y = (ix2 (row t (y 0)) (y 1) : S4096x1024.Idx) := by blk_ext [out_rows t, row]
  blk_simp
  rw [after0_7, dh1_eq]
  exact (congrArg (insAt m c t).dh1 (eq_ix2 y)).trans (((g.ins t).dh1 (y 0) (y 1)).trans
    ((rows_ix2 (fun r => dh1 p (H r) (T r)) (row t (y 0)) (y 1)).symm.trans (congrArg (rows fun r => dh1 p (H r) (T r)) e.symm)))

theorem arr_hn : (dats m 0 c).arrAt 8 cfg0.N = rows fun r => hn p (H r) := by
  refine (dats m 0 c).arrAt_eq_of_covers 8 _ (by decide +kernel) fun t hf y => ?_
  have e : (win0_8.blk t).view.emb y = (ix2 (row t (y 0)) (y 1) : S4096x1024.Idx) := by blk_ext [out_rows t, row]
  blk_simp
  rw [after0_8, hn_eq]
  exact (congrArg (insAt m c t).hn (eq_ix2 y)).trans (((g.ins t).hn (y 0) (y 1)).trans
    ((rows_ix2 (fun r => hn p (H r)) (row t (y 0)) (y 1)).symm.trans (congrArg (rows fun r => hn p (H r)) e.symm)))

theorem arr_act : (dats m 0 c).arrAt 9 cfg0.N = hids fun r => act p (H r) := by
  refine (dats m 0 c).arrAt_eq_of_covers 9 _ (by decide +kernel) fun t hf y => ?_
  have e : (win0_9.blk t).view.emb y = (ix2 (row t (y 0)) (y 1) : S4096x2816.Idx) := by blk_ext [out_rows t, row]
  blk_simp
  rw [after0_9, act_eq]
  exact (congrArg (Ins.glue (F := Ideal) (insAt m c t).act0 (insAt m c t).act1 (insAt m c t).act2) (eq_ix2 y)).trans (((g.ins t).act (y 0) (y 1)).trans
    ((hids_ix2 (fun r => act p (H r)) (row t (y 0)) (y 1)).symm.trans (congrArg (hids fun r => act p (H r)) e.symm)))

theorem arr_dgt : (dats m 0 c).arrAt 10 cfg0.N = hids fun r => dgt p (H r) (T r) := by
  refine (dats m 0 c).arrAt_eq_of_covers 10 _ (by decide +kernel) fun t hf y => ?_
  have e : (win0_10.blk t).view.emb y = (ix2 (row t (y 0)) (y 1) : S4096x2816.Idx) := by blk_ext [out_rows t, row]
  blk_simp
  rw [after0_10, dgt_eq]
  exact (congrArg (Ins.glue (F := Ideal) (insAt m c t).dgt0 (insAt m c t).dgt1 (insAt m c t).dgt2) (eq_ix2 y)).trans (((g.ins t).dgt (y 0) (y 1)).trans
    ((hids_ix2 (fun r => dgt p (H r) (T r)) (row t (y 0)) (y 1)).symm.trans (congrArg (hids fun r => dgt p (H r) (T r)) e.symm)))

theorem arr_dup : (dats m 0 c).arrAt 11 cfg0.N = hids fun r => dup p (H r) (T r) := by
  refine (dats m 0 c).arrAt_eq_of_covers 11 _ (by decide +kernel) fun t hf y => ?_
  have e : (win0_11.blk t).view.emb y = (ix2 (row t (y 0)) (y 1) : S4096x2816.Idx) := by blk_ext [out_rows t, row]
  blk_simp
  rw [after0_11, dup_eq]
  exact (congrArg (Ins.glue (F := Ideal) (insAt m c t).dup0 (insAt m c t).dup1 (insAt m c t).dup2) (eq_ix2 y)).trans (((g.ins t).dup (y 0) (y 1)).trans
    ((hids_ix2 (fun r => dup p (H r) (T r)) (row t (y 0)) (y 1)).symm.trans (congrArg (hids fun r => dup p (H r) (T r)) e.symm)))

theorem arr_dh2 : (dats m 0 c).arrAt 12 cfg0.N = rows fun r => dh2 p (H r) (T r) := by
  refine (dats m 0 c).arrAt_eq_of_covers 12 _ (by decide +kernel) fun t hf y => ?_
  have e : (win0_12.blk t).view.emb y = (ix2 (row t (y 0)) (y 1) : S4096x1024.Idx) := by blk_ext [out_rows t, row]
  blk_simp
  rw [after0_12, dh2b_eq]
  exact (congrArg (insAt m c t).dh2b (eq_ix2 y)).trans (((g.ins t).dh2b (y 0) (y 1)).trans
    ((rows_ix2 (fun r => dh2 p (H r) (T r)) (row t (y 0)) (y 1)).symm.trans (congrArg (rows fun r => dh2 p (H r) (T r)) e.symm)))

end

/-- A sum over the points of sums over a block's rows is the sum over all rows. -/
theorem sum_rows (f : Fin 4096 → ℝ) : ∑ t : Fin cfg0.N, ((∑ i, f (row t i) : ℝ) : EReal) = ((∑ r, f r : ℝ) : EReal) := by
  rw [sum_c, ← Fin.sum_mul_add_fin 16 256 f]
  refine congrArg _ (Finset.sum_congr rfl fun t _ => Finset.sum_congr rfl fun i _ => congrArg f (Fin.ext ?_))
  simp [row, mul_comm]

include g

theorem arr_loss : (dats m 0 c).arrAt 13 cfg0.N = fun i : S1x128.Idx => ((∑ r, loss p (H r) (T r) : ℝ) : EReal) := by
  refine (dats m 0 c).arrAt_eq_of_after_last 13 t0_15 (by decide +kernel) _ fun j => ?_
  have e (i : S1x128.Idx) : ∃ k, i = ix2 0 k := ⟨i 1, (eq_ix2 i).trans (congrArg (ix2 · (i 1)) (Subsingleton.elim _ _))⟩
  blk_simp
  rw [after0_13, Pipeline.eq_sum_fin_of_reset_step_apply_last (fun n h => (outsAt0 m c n h).2.2.2.2.2.2.1) 16 (fun _ => 0)
    (fun t i => ((∑ a, loss p (H (row t a)) (T (row t a)) : ℝ) : EReal)) ?_ ?_ (by decide) t0_15 (by decide)]
  · exact @Eq.trans EReal _ _ _ (zero_add _) (sum_rows fun r => loss p (H r) (T r))
  · intro t h i
    obtain ⟨k, rfl⟩ := e i
    rw [lossStep_A m c t h, (g.ins t).lossStep]
    congr 1
    pointwise [k0_pay1]
  · intro t h i
    obtain ⟨k, rfl⟩ := e i
    rw [lossStep_B m c t h, (g.ins t).lossStep]

theorem arr_dgl : (dats m 0 c).arrAt 14 cfg0.N = fun i : S1x1024.Idx => ((∑ r, dgl p (H r) (T r) (i 1) : ℝ) : EReal) := by
  refine (dats m 0 c).arrAt_eq_of_after_last 14 t0_15 (by decide +kernel) _ fun j => ?_
  have e (i : S1x1024.Idx) : ∃ k, i = ix2 0 k := ⟨i 1, (eq_ix2 i).trans (congrArg (ix2 · (i 1)) (Subsingleton.elim _ _))⟩
  blk_simp
  rw [after0_14, Pipeline.eq_sum_fin_of_reset_step_apply_last (fun n h => (outsAt0 m c n h).2.2.2.2.2.2.2.1) 16 (fun _ => 0)
    (fun t i => ((∑ a, dgl p (H (row t a)) (T (row t a)) (i 1) : ℝ) : EReal)) ?_ ?_ (by decide) t0_15 (by decide)]
  · exact @Eq.trans EReal _ _ _ (zero_add _) (sum_rows fun r => dgl p (H r) (T r) (j 1))
  · intro t h i
    obtain ⟨k, rfl⟩ := e i
    rw [dglStep_A m c t h, (g.ins t).dglStep]
    congr 1
    pointwise [k0_pay2]
  · intro t h i
    obtain ⟨k, rfl⟩ := e i
    rw [dglStep_B m c t h, (g.ins t).dglStep]
    rfl

theorem arr_dgf : (dats m 0 c).arrAt 15 cfg0.N = fun i : S1x1024.Idx => ((∑ r, dgf p (H r) (T r) (i 1) : ℝ) : EReal) := by
  refine (dats m 0 c).arrAt_eq_of_after_last 15 t0_15 (by decide +kernel) _ fun j => ?_
  have e (i : S1x1024.Idx) : ∃ k, i = ix2 0 k := ⟨i 1, (eq_ix2 i).trans (congrArg (ix2 · (i 1)) (Subsingleton.elim _ _))⟩
  blk_simp
  rw [after0_15, Pipeline.eq_sum_fin_of_reset_step_apply_last (fun n h => (outsAt0 m c n h).2.2.2.2.2.2.2.2) 16 (fun _ => 0)
    (fun t i => ((∑ a, dgf p (H (row t a)) (T (row t a)) (i 1) : ℝ) : EReal)) ?_ ?_ (by decide) t0_15 (by decide)]
  · exact @Eq.trans EReal _ _ _ (zero_add _) (sum_rows fun r => dgf p (H r) (T r) (j 1))
  · intro t h i
    obtain ⟨k, rfl⟩ := e i
    rw [dgfStep_A m c t h, (g.ins t).dgfStep]
    congr 1
    pointwise [k0_pay3]
  · intro t h i
    obtain ⟨k, rfl⟩ := e i
    rw [dgfStep_B m c t h, (g.ins t).dgfStep]
    rfl

end Cert.Ffn

end
-- ==== Proof.Ffn.Reference.lean ====
/- The plain reference's buffers at real arguments: each milestone at an index is a row function of Spec.lean. -/
module

public import proofs.«01_k».proof.Proof.Ffn.Spec
public import proofs.«01_k».proof.Proof.Gen.ReferenceIdeal.Read
public import Idealize.ShloMosaic.Lib.Pointwise
import Mathlib.Tactic.FieldSimp
import Mathlib.Tactic.Ring

@[expose] public section

set_option maxRecDepth 16384

noncomputable section

namespace Cert.Ffn

open Cert.ReferenceIdeal Cert.ReferenceIdeal.Read Idealize.ShloMosaic Cert.Reals

/-- The reference's arguments. -/
structure Refs where
  (x0 x1 : Vec Ideal S1x4096x1024 .f32) (x2 : Vec Ideal S1x1024 .f32) (x3 : Vec Ideal S1024 .f32)
  (x4 x5 : Vec Ideal S1x1024x2816 .f32) (x6 : Vec Ideal S1x2816x1024 .f32)

/-- The reference's arguments hold the rows `H`, `T` and the parameters `p`. -/
structure Refs.Real (x : Refs) (p : Par) (H T : Fin 4096 → Row) : Prop where
  x0 : ∀ r k, x.x0 (ix3 0 r k) = (H r k : EReal)
  x1 : ∀ r k, x.x1 (ix3 0 r k) = (T r k : EReal)
  x2 : ∀ k, x.x2 (ix2 0 k) = (p.gf k : EReal)
  x3 : ∀ k, x.x3 (ix1 k) = (p.gl k : EReal)
  x4 : ∀ k f, x.x4 (ix3 0 k f) = (p.wg k f : EReal)
  x5 : ∀ k f, x.x5 (ix3 0 k f) = (p.wu k f : EReal)
  x6 : ∀ f k, x.x6 (ix3 0 f k) = (p.wd f k : EReal)

namespace Refs.Real

variable {x : Refs} {p : Par} {H T : Fin 4096 → Row} (hx : x.Real p H T)
include hx

theorem v11 (r : Fin 4096) : val_main_v11 (F := Ideal) x.x0 (ix2 r 0) = ((rs (H r) : ℝ) : EReal) := by
  pointwise [val_main_v11, val_main_v10, val_main_v9, val_main_cst_3, val_main_v8, val_main_v7, val_main_cst_2, val_main_v6, val_main_v5, val_main_cst_1, val_main_v4, val_main_v1]
  simp only [hx.x0, cZero, EReal.coe_zero, zero_add, add_zero, rs_c]

theorem v14 (r : Fin 4096) : val_main_v14 (F := Ideal) x.x0 (ix2 r 0) = ((-(1 / 2) * (rs (H r) / ms (H r)) : ℝ) : EReal) := by
  pointwise [val_main_v14, val_main_v13, val_main_cst_4, val_main_v12, val_main_v11, val_main_v10, val_main_v9, val_main_cst_3, val_main_v8, val_main_v7, val_main_cst_2, val_main_v6, val_main_v5, val_main_cst_1, val_main_v4, val_main_v1]
  simp only [hx.x0, cZero, EReal.coe_zero, zero_add, add_zero, ms_c]
  simp only [rsqrt_c (ms_pos _), cNegHalf, div_c _ (ms_pos _).ne', mul_c, rs]
theorem v16 (r : Fin 4096) (k : Fin 1024) : val_main_v16 (F := Ideal) x.x0 (ix2 r k) = ((hat (H r) k : ℝ) : EReal) := by
  pointwise [val_main_v16, val_main_v15, val_main_v1]
  simp only [hx.x0, hx.v11, mul_c, hat]

theorem v19 (r : Fin 4096) (k : Fin 1024) : val_main_v19 (F := Ideal) x.x0 x.x2 (ix2 r k) = ((hn p (H r) k : ℝ) : EReal) := by
  pointwise [val_main_v19, val_main_v18, val_main_v17, val_main_v2]
  simp only [hx.v16, hx.x2, mul_c, hn]

theorem v22 (r : Fin 4096) (f : Fin 2816) : val_main_v22 (F := Ideal) x.x0 x.x2 x.x4 (ix2 r f) = ((gt p (H r) f : ℝ) : EReal) := by
  pointwise [val_main_v22, val_main_v21, val_main_v20, val_main_v0, val_main_cst]
  simp only [hx.v19, hx.x4, mul_c, sum_c, cZero, EReal.coe_zero, zero_add, add_zero, gt]

theorem v25 (r : Fin 4096) (f : Fin 2816) : val_main_v25 (F := Ideal) x.x0 x.x2 x.x5 (ix2 r f) = ((up p (H r) f : ℝ) : EReal) := by
  pointwise [val_main_v25, val_main_v24, val_main_v23, val_main_v0, val_main_cst]
  simp only [hx.v19, hx.x5, mul_c, sum_c, cZero, EReal.coe_zero, zero_add, add_zero, up]

theorem v26_2 (r : Fin 4096) (f : Fin 2816) : val_main_v26_2 (F := Ideal) x.x0 x.x2 x.x4 (ix2 r f) = ((sg p (H r) f : ℝ) : EReal) := by
  pointwise [val_main_v26_2, val_main_call0_v4, val_main_call0_cst_0, val_main_call0_v3, val_main_call0_v2, val_main_call0_cst, val_main_call0_v1, val_main_call0_v0]
  simp only [hx.v22]
  exact Ideal.logistic_coe _
theorem v26_1 (r : Fin 4096) (f : Fin 2816) : val_main_v26_1 (F := Ideal) x.x0 x.x2 x.x4 (ix2 r f) = ((sg p (H r) f * (1 - sg p (H r) f) : ℝ) : EReal) := by
  pointwise [val_main_v26_1, val_main_call0_v7, val_main_call0_v6, val_main_call0_cst_1]
  simp only [hx.v26_2, cOne, one_c, mul_c, sub_c]

theorem v26_0 (r : Fin 4096) (f : Fin 2816) : val_main_v26_0 (F := Ideal) x.x0 x.x2 x.x4 (ix2 r f) = ((gt p (H r) f * sg p (H r) f : ℝ) : EReal) := by
  pointwise [val_main_v26_0]
  simp only [hx.v22, hx.v26_2, mul_c]

theorem v27 (r : Fin 4096) (f : Fin 2816) : val_main_v27 (F := Ideal) x.x0 x.x2 x.x4 x.x5 (ix2 r f) = ((act p (H r) f : ℝ) : EReal) := by
  pointwise [val_main_v27]
  simp only [hx.v26_0, hx.v25, mul_c, act]

theorem v31 (r : Fin 4096) (k : Fin 1024) : val_main_v31 (F := Ideal) x.x0 x.x2 x.x4 x.x5 x.x6 (ix2 r k) = ((h2 p (H r) k : ℝ) : EReal) := by
  pointwise [val_main_v31, val_main_v30, val_main_v29, val_main_v28, val_main_v1, val_main_v3, val_main_cst_0]
  simp only [hx.v27, hx.x6, hx.x0, mul_c, sum_c, add_c, cZero, EReal.coe_zero, zero_add, add_zero, h2]

theorem v39 (r : Fin 4096) : val_main_v39 (F := Ideal) x.x0 x.x2 x.x4 x.x5 x.x6 (ix2 r 0) = ((rs (h2 p (H r)) : ℝ) : EReal) := by
  pointwise [val_main_v39, val_main_v38, val_main_v37, val_main_cst_7, val_main_v36, val_main_v35, val_main_cst_6, val_main_v34, val_main_v33, val_main_cst_5, val_main_v32]
  simp only [hx.v31, cZero, EReal.coe_zero, zero_add, add_zero, rs_c]

theorem v42 (r : Fin 4096) : val_main_v42 (F := Ideal) x.x0 x.x2 x.x4 x.x5 x.x6 (ix2 r 0) = ((-(1 / 2) * (rs (h2 p (H r)) / ms (h2 p (H r))) : ℝ) : EReal) := by
  pointwise [val_main_v42, val_main_v41, val_main_cst_8, val_main_v40, val_main_v39, val_main_v38, val_main_v37, val_main_cst_7, val_main_v36, val_main_v35, val_main_cst_6, val_main_v34, val_main_v33, val_main_cst_5, val_main_v32]
  simp only [hx.v31, cZero, EReal.coe_zero, zero_add, add_zero, ms_c]
  simp only [rsqrt_c (ms_pos _), cNegHalf, div_c _ (ms_pos _).ne', mul_c, rs]
theorem v44 (r : Fin 4096) (k : Fin 1024) : val_main_v44 (F := Ideal) x.x0 x.x2 x.x4 x.x5 x.x6 (ix2 r k) = ((hat (h2 p (H r)) k : ℝ) : EReal) := by
  pointwise [val_main_v44, val_main_v43]
  simp only [hx.v31, hx.v39, mul_c, hat]

theorem v49 (r : Fin 4096) (k : Fin 1024) : val_main_v49 (F := Ideal) x.x0 x.x1 x.x2 x.x3 x.x4 x.x5 x.x6 (ix2 r k) = ((diff p (H r) (T r) k : ℝ) : EReal) := by
  pointwise [val_main_v49, val_main_v48, val_main_v47, val_main_v46, val_main_v45]
  simp only [hx.v44, hx.x3, hx.x1, mul_c, sub_c, diff]

theorem v57  : val_main_v57 (F := Ideal) x.x0 x.x1 x.x2 x.x3 x.x4 x.x5 x.x6 ix0 = ((∑ r, loss p (H r) (T r) : ℝ) : EReal) := by
  pointwise [val_main_v57, val_main_cst_13, val_main_v56, val_main_cst_12, val_main_v55, val_main_v54, val_main_cst_11, val_main_v53, val_main_cst_10, val_main_v50]
  simp only [hx.v49, cZero, EReal.coe_zero, zero_add, add_zero, mul_c, sum_c, div1024, cHalf, loss]
  rw [Finset.mul_sum]
  exact congrArg _ (Finset.sum_congr rfl fun r _ => by ring)
theorem v63 (r : Fin 4096) (k : Fin 1024) : val_main_v63 (F := Ideal) x.x0 x.x1 x.x2 x.x3 x.x4 x.x5 x.x6 (ix2 r k) = ((dout p (H r) (T r) k : ℝ) : EReal) := by
  pointwise [val_main_v63, val_main_v62, val_main_v61, val_main_v60, val_main_cst_16, val_main_v59, val_main_v58, val_main_cst_14, val_main_cst_15, val_main_v52, val_main_v51, val_main_cst_9]
  simp only [hx.v49, cHalf, cOne, cTwo, mul_c, div1024, dout]
  congr 1
  ring
theorem v69 (k : Fin 1024) : val_main_v69 (F := Ideal) x.x0 x.x1 x.x2 x.x3 x.x4 x.x5 x.x6 (ix1 k) = ((∑ r, dgl p (H r) (T r) k : ℝ) : EReal) := by
  pointwise [val_main_v69, val_main_cst_18, val_main_v66, val_main_v65, val_main_cst_17, val_main_v64]
  simp only [hx.v44, hx.v63, cZero, EReal.coe_zero, zero_add, add_zero, Fin.sum_univ_one, mul_c, sum_c, dgl]
  exact congrArg _ (Finset.sum_congr rfl fun r _ => mul_comm _ _)
theorem v68 (r : Fin 4096) (k : Fin 1024) : val_main_v68 (F := Ideal) x.x0 x.x1 x.x2 x.x3 x.x4 x.x5 x.x6 (ix2 r k) = ((dn p (H r) (T r) k : ℝ) : EReal) := by
  pointwise [val_main_v68, val_main_v67, val_main_v45]
  simp only [hx.v63, hx.x3, mul_c, dn]

theorem v78 (r : Fin 4096) : val_main_v78 (F := Ideal) x.x0 x.x1 x.x2 x.x3 x.x4 x.x5 x.x6 (ix1 r) = (((∑ j, h2 p (H r) j * dn p (H r) (T r) j) * (-(1 / 2) * (rs (h2 p (H r)) / ms (h2 p (H r)))) / 1024 : ℝ) : EReal) := by
  pointwise [val_main_v78, val_main_cst_21, val_main_v77, val_main_v76, val_main_cst_20, val_main_v75, val_main_v72, val_main_v71, val_main_cst_19, val_main_v70]
  simp only [hx.v31, hx.v68, hx.v42, cZero, EReal.coe_zero, zero_add, add_zero, Fin.sum_univ_one, mul_c, sum_c, div1024]

theorem v83 (r : Fin 4096) (k : Fin 1024) : val_main_v83 (F := Ideal) x.x0 x.x1 x.x2 x.x3 x.x4 x.x5 x.x6 (ix2 r k) = ((dh2 p (H r) (T r) k : ℝ) : EReal) := by
  pointwise [val_main_v83, val_main_v82, val_main_v81, val_main_v80, val_main_v79, val_main_v74, val_main_v73]
  simp only [hx.v68, hx.v39, hx.v31, hx.v78, mul_c, add_c, normGrad_eq, dh2]

theorem v84 (r : Fin 4096) (f : Fin 2816) : val_main_v84 (F := Ideal) x.x0 x.x1 x.x2 x.x3 x.x4 x.x5 x.x6 (ix2 r f) = ((dact p (H r) (T r) f : ℝ) : EReal) := by
  pointwise [val_main_v84, val_main_v28]
  simp only [hx.v83, hx.x6, mul_c, sum_c, dact]

theorem v85 (r : Fin 4096) (f : Fin 2816) : val_main_v85 (F := Ideal) x.x0 x.x1 x.x2 x.x3 x.x4 x.x5 x.x6 (ix2 r f) = ((dup p (H r) (T r) f : ℝ) : EReal) := by
  pointwise [val_main_v85]
  simp only [hx.v26_0, hx.v84, mul_c, dup]
  congr 1
  ring
theorem v87 (r : Fin 4096) (f : Fin 2816) : val_main_v87 (F := Ideal) x.x0 x.x1 x.x2 x.x3 x.x4 x.x5 x.x6 (ix2 r f) = ((dgt p (H r) (T r) f : ℝ) : EReal) := by
  pointwise [val_main_v87, val_main_v86, val_main_call1_v0, val_main_call1_v1, val_main_call1_v2]
  simp only [hx.v84, hx.v25, hx.v22, hx.v26_1, hx.v26_2, mul_c, add_c, dgt]
  congr 1
  ring
theorem v90 (r : Fin 4096) (k : Fin 1024) : val_main_v90 (F := Ideal) x.x0 x.x1 x.x2 x.x3 x.x4 x.x5 x.x6 (ix2 r k) = ((dhn p (H r) (T r) k : ℝ) : EReal) := by
  pointwise [val_main_v90, val_main_v88, val_main_v89, val_main_v20, val_main_v23]
  simp only [hx.v85, hx.v87, hx.x4, hx.x5, mul_c, sum_c, add_c, dhn]
  rw [add_comm]
theorem v96 (k : Fin 1024) : val_main_v96 (F := Ideal) x.x0 x.x1 x.x2 x.x3 x.x4 x.x5 x.x6 (ix1 k) = ((∑ r, dgf p (H r) (T r) k : ℝ) : EReal) := by
  pointwise [val_main_v96, val_main_cst_23, val_main_v93, val_main_v92, val_main_cst_22, val_main_v91]
  simp only [hx.v16, hx.v90, cZero, EReal.coe_zero, zero_add, add_zero, Fin.sum_univ_one, mul_c, sum_c, dgf]
  exact congrArg _ (Finset.sum_congr rfl fun r _ => mul_comm _ _)
theorem v95 (r : Fin 4096) (k : Fin 1024) : val_main_v95 (F := Ideal) x.x0 x.x1 x.x2 x.x3 x.x4 x.x5 x.x6 (ix2 r k) = ((dnn p (H r) (T r) k : ℝ) : EReal) := by
  pointwise [val_main_v95, val_main_v94, val_main_v17, val_main_v2]
  simp only [hx.v90, hx.x2, mul_c, dnn]

theorem v106 (r : Fin 4096) : val_main_v106 (F := Ideal) x.x0 x.x1 x.x2 x.x3 x.x4 x.x5 x.x6 (ix1 r) = (((∑ j, H r j * dnn p (H r) (T r) j) * (-(1 / 2) * (rs (H r) / ms (H r))) / 1024 : ℝ) : EReal) := by
  pointwise [val_main_v106, val_main_cst_26, val_main_v105, val_main_v104, val_main_cst_25, val_main_v103, val_main_v99, val_main_v98, val_main_cst_24, val_main_v97, val_main_v1]
  simp only [hx.x0, hx.v95, hx.v14, cZero, EReal.coe_zero, zero_add, add_zero, Fin.sum_univ_one, mul_c, sum_c, div1024]

theorem v111 (r : Fin 4096) (k : Fin 1024) : val_main_v111 (F := Ideal) x.x0 x.x1 x.x2 x.x3 x.x4 x.x5 x.x6 (ix2 r k) = ((dh1 p (H r) (T r) k : ℝ) : EReal) := by
  pointwise [val_main_v111, val_main_v110, val_main_v109, val_main_v108, val_main_v107, val_main_v102, val_main_v101, val_main_v100, val_main_v1]
  simp only [hx.v83, hx.v95, hx.v11, hx.x0, hx.v106, mul_c, add_c, dh1, ← normGrad_eq]
  congr 1
  ring
end Refs.Real

end Cert.Ffn

end
-- ==== Proof.Ffn.Claim.lean ====
/- The call `_ffn` and its plain reference end with equal results, whatever finite arguments they start from. -/
module

public import proofs.«01_k».proof.Proof.Finite
public import proofs.«01_k».proof.Proof.Ffn.Arrays
public import proofs.«01_k».proof.Proof.Ffn.Reference
public import proofs.«01_k».proof.Proof.Gen.KernelIdeal.Value
public import proofs.«01_k».proof.Proof.Gen.ReferenceIdeal.Run
public import proofs.«01_k».proof.Proof.Gen.ReferenceIdeal.Read

@[expose] public section

set_option maxRecDepth 16384

noncomputable section

namespace Cert.Ffn

open Idealize.ShloMosaic Idealize.SL.Sem Cert.Reals

/-! ## The precondition gives real arguments -/

/-- The parameters a memory holds on a device. -/
def parOf (m : (ℓ : Loc KernelIdeal.nD KernelIdeal.τ KernelIdeal.sig) → Buf (Elt Ideal) ℓ) (c : Dev KernelIdeal.nD) : Par where
  gf := fun k => ((m (c.tc.loc KernelIdeal.main_arg2) : Vec Ideal KernelIdeal.S1x1024 .f32) (ix2 0 k) : EReal).toReal
  gl := fun k => ((m (c.tc.loc KernelIdeal.main_arg3) : Vec Ideal KernelIdeal.S1024 .f32) (ix1 k) : EReal).toReal
  wg := fun k f => ((m (c.tc.loc KernelIdeal.main_arg4) : Vec Ideal KernelIdeal.S1x1024x2816 .f32) (ix3 0 k f) : EReal).toReal
  wu := fun k f => ((m (c.tc.loc KernelIdeal.main_arg5) : Vec Ideal KernelIdeal.S1x1024x2816 .f32) (ix3 0 k f) : EReal).toReal
  wd := fun f k => ((m (c.tc.loc KernelIdeal.main_arg6) : Vec Ideal KernelIdeal.S1x2816x1024 .f32) (ix3 0 f k) : EReal).toReal

/-- The rows of the first argument. -/
def hOf (m : (ℓ : Loc KernelIdeal.nD KernelIdeal.τ KernelIdeal.sig) → Buf (Elt Ideal) ℓ) (c : Dev KernelIdeal.nD) (r : Fin 4096) : Row :=
  fun k => ((m (c.tc.loc KernelIdeal.main_arg0) : Vec Ideal KernelIdeal.S1x4096x1024 .f32) (ix3 0 r k) : EReal).toReal

/-- The rows of the target. -/
def tOf (m : (ℓ : Loc KernelIdeal.nD KernelIdeal.τ KernelIdeal.sig) → Buf (Elt Ideal) ℓ) (c : Dev KernelIdeal.nD) (r : Fin 4096) : Row :=
  fun k => ((m (c.tc.loc KernelIdeal.main_arg1) : Vec Ideal KernelIdeal.S1x4096x1024 .f32) (ix3 0 r k) : EReal).toReal

/-- Finite arguments hold real numbers. -/
theorem given_of_pre {m : (ℓ : Loc KernelIdeal.nD KernelIdeal.τ KernelIdeal.sig) → Buf (Elt Ideal) ℓ} (h : Cert.Pre_KernelIdeal_finite m)
    (c : Dev KernelIdeal.nD) : Given m c (parOf m c) (hOf m c) (tOf m c) where
  a0 r k := real_of_lt_inf _ _ (h c).1 _
  a1 r k := real_of_lt_inf _ _ (h c).2.1 _
  a2 k := real_of_lt_inf _ _ (h c).2.2.1 _
  a3 k := real_of_lt_inf _ _ (h c).2.2.2.1 _
  a4 k f := real_of_lt_inf _ _ (h c).2.2.2.2.1 _
  a5 k f := real_of_lt_inf _ _ (h c).2.2.2.2.2.1 _
  a6 f k := real_of_lt_inf _ _ (h c).2.2.2.2.2.2 _

/-! ## The reference's results as arrays -/

section
open Cert.ReferenceIdeal Cert.ReferenceIdeal.Read
variable {x : Refs} {p : Par} {H T : Fin 4096 → Row} (hx : x.Real p H T)
include hx

theorem ref_dh1 : val_main_v111 (F := Ideal) x.x0 x.x1 x.x2 x.x3 x.x4 x.x5 x.x6 = rows fun r => dh1 p (H r) (T r) := by
  funext i
  exact (congrArg _ (eq_ix2 i)).trans (hx.v111 (i 0) (i 1))

theorem ref_hn : val_main_v112 (F := Ideal) x.x0 x.x2 = rows fun r => hn p (H r) := by
  funext i
  exact (congrArg _ (eq_ix2 i)).trans (hx.v19 (i 0) (i 1))

theorem ref_act : val_main_v113 (F := Ideal) x.x0 x.x2 x.x4 x.x5 = hids fun r => act p (H r) := by
  funext i
  exact (congrArg _ (eq_ix2 i)).trans (hx.v27 (i 0) (i 1))

theorem ref_dgt : val_main_v114 (F := Ideal) x.x0 x.x1 x.x2 x.x3 x.x4 x.x5 x.x6 = hids fun r => dgt p (H r) (T r) := by
  funext i
  exact (congrArg _ (eq_ix2 i)).trans (hx.v87 (i 0) (i 1))

theorem ref_dup : val_main_v115 (F := Ideal) x.x0 x.x1 x.x2 x.x3 x.x4 x.x5 x.x6 = hids fun r => dup p (H r) (T r) := by
  funext i
  exact (congrArg _ (eq_ix2 i)).trans (hx.v85 (i 0) (i 1))

theorem ref_dh2 : val_main_v116 (F := Ideal) x.x0 x.x1 x.x2 x.x3 x.x4 x.x5 x.x6 = rows fun r => dh2 p (H r) (T r) := by
  funext i
  exact (congrArg _ (eq_ix2 i)).trans (hx.v83 (i 0) (i 1))

theorem ref_loss : val_main_v117 (F := Ideal) x.x0 x.x1 x.x2 x.x3 x.x4 x.x5 x.x6
    = fun _ : S1x128.Idx => ((∑ r, loss p (H r) (T r) : ℝ) : EReal) := by
  funext i
  rw [eq_ix2 i]
  generalize i 0 = r, i 1 = k
  pointwise [val_main_v117]
  exact hx.v57

theorem ref_dgl : val_main_v118 (F := Ideal) x.x0 x.x1 x.x2 x.x3 x.x4 x.x5 x.x6
    = fun i : S1x1024.Idx => ((∑ r, dgl p (H r) (T r) (i 1) : ℝ) : EReal) := by
  funext i
  rw [eq_ix2 i]
  generalize i 0 = r, i 1 = k
  pointwise [val_main_v118]
  exact hx.v69 k

theorem ref_dgf : val_main_v119 (F := Ideal) x.x0 x.x1 x.x2 x.x3 x.x4 x.x5 x.x6
    = fun i : S1x1024.Idx => ((∑ r, dgf p (H r) (T r) (i 1) : ℝ) : EReal) := by
  funext i
  rw [eq_ix2 i]
  generalize i 0 = r, i 1 = k
  pointwise [val_main_v119]
  exact hx.v96 k

end

/-! ## The two programs -/

/-- The reference's arguments in a memory. -/
def refsOf (m : (ℓ : Loc ReferenceIdeal.nD ReferenceIdeal.τ ReferenceIdeal.sig) → Buf (Elt Ideal) ℓ) (c : Dev ReferenceIdeal.nD) : Refs :=
  ⟨m (c.tc.loc ReferenceIdeal.main_arg0), m (c.tc.loc ReferenceIdeal.main_arg1), m (c.tc.loc ReferenceIdeal.main_arg2), m (c.tc.loc ReferenceIdeal.main_arg3), m (c.tc.loc ReferenceIdeal.main_arg4), m (c.tc.loc ReferenceIdeal.main_arg5), m (c.tc.loc ReferenceIdeal.main_arg6)⟩

/-- From agreeing memories of finite arguments the kernel and the reference end with the same nine results. -/
theorem algebraic : Cert.algebraic_KernelIdeal_ReferenceIdeal_pre_finite := by
  intro m ρ m' ρ' hpre hag
  have hr : ∀ c, (refsOf m' c).Real (parOf m c) (hOf m c) (tOf m c) := fun c =>
    have g := given_of_pre hpre c
    { x0 := fun r k => (congrFun ((hag c).1) _).trans (g.a0 r k)
      x1 := fun r k => (congrFun ((hag c).2.1) _).trans (g.a1 r k)
      x2 := fun k => (congrFun ((hag c).2.2.1) _).trans (g.a2 k)
      x3 := fun k => (congrFun ((hag c).2.2.2.1) _).trans (g.a3 k)
      x4 := fun k f => (congrFun ((hag c).2.2.2.2.1) _).trans (g.a4 k f)
      x5 := fun k f => (congrFun ((hag c).2.2.2.2.2.1) _).trans (g.a5 k f)
      x6 := fun f k => (congrFun ((hag c).2.2.2.2.2.2) _).trans (g.a6 f k) }
  refine ⟨fun c => (KernelIdeal.Gen.dats m 0 c).arrAt 7 KernelIdeal.cfg0.N, fun c => (KernelIdeal.Gen.dats m 0 c).arrAt 8 KernelIdeal.cfg0.N, fun c => (KernelIdeal.Gen.dats m 0 c).arrAt 9 KernelIdeal.cfg0.N, fun c => (KernelIdeal.Gen.dats m 0 c).arrAt 10 KernelIdeal.cfg0.N, fun c => (KernelIdeal.Gen.dats m 0 c).arrAt 11 KernelIdeal.cfg0.N, fun c => (KernelIdeal.Gen.dats m 0 c).arrAt 12 KernelIdeal.cfg0.N, fun c => (KernelIdeal.Gen.dats m 0 c).arrAt 13 KernelIdeal.cfg0.N, fun c => (KernelIdeal.Gen.dats m 0 c).arrAt 14 KernelIdeal.cfg0.N, fun c => (KernelIdeal.Gen.dats m 0 c).arrAt 15 KernelIdeal.cfg0.N, KernelIdeal.Value.run_blocks m ρ, ?_⟩
  refine (θ_run ReferenceIdeal.defs _ _).mono (fun r h c => ⟨((h c).1).trans ((ReferenceIdeal.Read.val_main_v111_eq _).trans ((ref_dh1 (hr c)).trans (arr_dh1 (given_of_pre hpre c)).symm)),
    ((h c).2.1).trans ((ReferenceIdeal.Read.val_main_v112_eq _).trans ((ref_hn (hr c)).trans (arr_hn (given_of_pre hpre c)).symm)),
    ((h c).2.2.1).trans ((ReferenceIdeal.Read.val_main_v113_eq _).trans ((ref_act (hr c)).trans (arr_act (given_of_pre hpre c)).symm)),
    ((h c).2.2.2.1).trans ((ReferenceIdeal.Read.val_main_v114_eq _).trans ((ref_dgt (hr c)).trans (arr_dgt (given_of_pre hpre c)).symm)),
    ((h c).2.2.2.2.1).trans ((ReferenceIdeal.Read.val_main_v115_eq _).trans ((ref_dup (hr c)).trans (arr_dup (given_of_pre hpre c)).symm)),
    ((h c).2.2.2.2.2.1).trans ((ReferenceIdeal.Read.val_main_v116_eq _).trans ((ref_dh2 (hr c)).trans (arr_dh2 (given_of_pre hpre c)).symm)),
    ((h c).2.2.2.2.2.2.1).trans ((ReferenceIdeal.Read.val_main_v117_eq _).trans ((ref_loss (hr c)).trans (arr_loss (given_of_pre hpre c)).symm)),
    ((h c).2.2.2.2.2.2.2.1).trans ((ReferenceIdeal.Read.val_main_v118_eq _).trans ((ref_dgl (hr c)).trans (arr_dgl (given_of_pre hpre c)).symm)),
    ((h c).2.2.2.2.2.2.2.2.1).trans ((ReferenceIdeal.Read.val_main_v119_eq _).trans ((ref_dgf (hr c)).trans (arr_dgf (given_of_pre hpre c)).symm)),
    (h c).2.2.2.2.2.2.2.2.2⟩) (ReferenceIdeal.Value.run m' ρ')

end Cert.Ffn

end
-- ==== Proof.Mix.Split.lean ====
module

public import proofs.«01_k».proof.Proof.Gen.Kernel2Ideal.Frame
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Whether the point is the first: the condition under which the body clears its sums and the rows it carries. -/
abbrev first (i : grid0.Coords) : Prop :=
  Scalar.cmpi .ne (Scalar.extui (Scalar.cmpi .eq (BitVec.ofNat 32 (i 0).val) 0#32)) 0#32 = 1#1

section
variable (i : grid0.Coords)
    (arg1 : Memref sig .tc .vmem S512x1024 .f32) (harg1 : arg1.IsWhole) (arg2 : Memref sig .tc .vmem S512x1024 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S1x1024 .f32) (harg7 : arg7.IsWhole) (arg8 : Memref sig .tc .vmem S1536x1024 .bf16) (harg8 : arg8.IsWhole)
    (arg9 : Memref sig .tc .vmem S32x512 .f32) (harg9 : arg9.IsWhole) (arg10 : Memref sig .tc .vmem S1x512 .f32) (harg10 : arg10.IsWhole)
    (arg11 : Memref sig .tc .vmem S1x512 .f32) (harg11 : arg11.IsWhole) (arg12 : Memref sig .tc .vmem S4x128x128 .bf16) (harg12 : arg12.IsWhole)
    (arg13 : Memref sig .tc .vmem S1x512 .f32) (harg13 : arg13.IsWhole) (arg14 : Memref sig .tc .vmem S1024x1024 .bf16) (harg14 : arg14.IsWhole)
    (arg15 : Memref sig .tc .vmem S512x1024 .f32) (harg15 : arg15.IsWhole) (arg16 : Memref sig .tc .vmem S512x1536 .bf16) (harg16 : arg16.IsWhole)
    (arg17 : Memref sig .tc .vmem S512x1024 .bf16) (harg17 : arg17.IsWhole) (arg18 : Memref sig .tc .vmem S1x1024 .f32) (harg18 : arg18.IsWhole)
    (arg19 : Memref sig .tc .vmem S1x1536 .f32) (harg19 : arg19.IsWhole) (arg20 : Memref sig .tc .vmem S32x512 .f32) (harg20 : arg20.IsWhole)
    (arg21 : Memref sig .tc .vmem S1x512 .f32) (harg21 : arg21.IsWhole) (arg22 : Memref sig .tc .vmem S1x512 .f32) (harg22 : arg22.IsWhole)
    (arg23 : Memref sig .tc .vmem S1x512 .f32) (harg23 : arg23.IsWhole) (arg24 : Memref sig .tc .vmem S4x128x128 .f32) (harg24 : arg24.IsWhole)
    (arg25 : Memref sig .tc .vmem S1x512 .f32) (harg25 : arg25.IsWhole) (arg26 : Memref sig .tc .vmem S8x544x512 .f32) (harg26 : arg26.IsWhole)
    (arg27 : Memref sig .tc .vmem S544x512 .f32) (harg27 : arg27.IsWhole) (arg28 : Memref sig .tc .vmem S544x512 .f32) (harg28 : arg28.IsWhole)
    (arg29 : Memref sig .tc .vmem S544x512 .f32) (harg29 : arg29.IsWhole) (arg30 : Memref sig .tc .vmem S512x512 .f32) (harg30 : arg30.IsWhole)
    (arg31 : Memref sig .tc .vmem S512x512 .f32) (harg31 : arg31.IsWhole)

/-- What the body does at the first point only: it clears the carried rows and the sums. -/
def clear : Prog (TpuEff nD τ sig (Elt F) Λ₀ .tc) PUnit := do
  k0_part1 i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
  let _ : Vec F S1x512 .f32 ← Prog.lift (.load arg25 (Rect.unit (s := S1x512) ![0, 0] S1x512.size
    inb_S1x512_S1x512_0_0).toLoadRect (View.loadsAt_vmem h_S1x512))
  Prog.lift (.store arg25 (Rect.unit (s := S1x512) ![0, 0] S1x512.size inb_S1x512_S1x512_0_0)
    (k0_pay25 (F := F)) Finset.univ (View.stores_vmem_bits_univ h_S1x512 rfl) (.inl rfl))
  pure ⟨⟩

/-- Sequencing is associative, at the shape in which the first point's clearing stands. -/
theorem assoc_first {α β δ ε : Type} (p : Prog (TpuEff nD τ sig (Elt F) Λ₀ .tc) PUnit)
    (l : Prog (TpuEff nD τ sig (Elt F) Λ₀ .tc) α) (s : Prog (TpuEff nD τ sig (Elt F) Λ₀ .tc) PUnit)
    (r : Prog (TpuEff nD τ sig (Elt F) Λ₀ .tc) β)
    (k2 : β → Prog (TpuEff nD τ sig (Elt F) Λ₀ .tc) δ) (k1 : δ → Prog (TpuEff nD τ sig (Elt F) Λ₀ .tc) ε) :
    ((p >>= fun _ => l >>= fun _ => s >>= fun _ => r) >>= k2) >>= k1
      = (p >>= fun _ => l >>= fun _ => s >>= fun _ => pure PUnit.unit) >>= fun _ =>
          (r >>= k2) >>= k1 := by
  simp only [bind_assoc, pure_bind]

/-- The rest of the body, which every point does; the first point clears and then does the same. -/
def split : Σ' (R : Prog (TpuEff nD τ sig (Elt F) Λ₀ .tc) PUnit),
    (¬ first i → cc0_mix_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31 = R) ∧
    (first i → cc0_mix_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
      = clear i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31 >>= fun _ => R) := by
  refine ⟨?_, fun h => ?_, fun h => ?_⟩
  rotate_left 1
  · simp only [cc0_mix_bwd_eq_skeleton]; unfold cc0_mix_bwd_skel
    simp only [k0_part31_eq_skeleton]; unfold k0_part31_skel
    simp only [k0_part9_eq_skeleton]; unfold k0_part9_skel
    extract_lets
    refine (congrArg (fun u => ((u >>= _) >>= _)) (dif_neg h)).trans ?_
    rfl
  · simp only [cc0_mix_bwd_eq_skeleton]; unfold cc0_mix_bwd_skel
    simp only [k0_part31_eq_skeleton]; unfold k0_part31_skel
    simp only [k0_part9_eq_skeleton]; unfold k0_part9_skel clear
    extract_lets
    refine (congrArg (fun u => ((u >>= _) >>= _)) (dif_pos h)).trans ?_
    exact assoc_first (F := F) _ _ _ _ _ _
end
end Cert.Mix
end
-- ==== Proof.Mix.Run.lean ====
module

public import proofs.«01_k».proof.Proof.Mix.Split
public import Idealize.ShloMosaic.Lib.Ring
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S1x1024 .f32) (harg7 : arg7.IsWhole) (arg8 : Memref sig .tc .vmem S1536x1024 .bf16) (harg8 : arg8.IsWhole)
    (arg9 : Memref sig .tc .vmem S32x512 .f32) (harg9 : arg9.IsWhole) (arg10 : Memref sig .tc .vmem S1x512 .f32) (harg10 : arg10.IsWhole)
    (arg11 : Memref sig .tc .vmem S1x512 .f32) (harg11 : arg11.IsWhole) (arg12 : Memref sig .tc .vmem S4x128x128 .bf16) (harg12 : arg12.IsWhole)
    (arg13 : Memref sig .tc .vmem S1x512 .f32) (harg13 : arg13.IsWhole) (arg14 : Memref sig .tc .vmem S1024x1024 .bf16) (harg14 : arg14.IsWhole)
    (arg15 : Memref sig .tc .vmem S512x1024 .f32) (harg15 : arg15.IsWhole) (arg16 : Memref sig .tc .vmem S512x1536 .bf16) (harg16 : arg16.IsWhole)
    (arg17 : Memref sig .tc .vmem S512x1024 .bf16) (harg17 : arg17.IsWhole) (arg18 : Memref sig .tc .vmem S1x1024 .f32) (harg18 : arg18.IsWhole)
    (arg19 : Memref sig .tc .vmem S1x1536 .f32) (harg19 : arg19.IsWhole) (arg20 : Memref sig .tc .vmem S32x512 .f32) (harg20 : arg20.IsWhole)
    (arg21 : Memref sig .tc .vmem S1x512 .f32) (harg21 : arg21.IsWhole) (arg22 : Memref sig .tc .vmem S1x512 .f32) (harg22 : arg22.IsWhole)
    (arg23 : Memref sig .tc .vmem S1x512 .f32) (harg23 : arg23.IsWhole) (arg24 : Memref sig .tc .vmem S4x128x128 .f32) (harg24 : arg24.IsWhole)
    (arg25 : Memref sig .tc .vmem S1x512 .f32) (harg25 : arg25.IsWhole) (arg26 : Memref sig .tc .vmem S8x544x512 .f32) (harg26 : arg26.IsWhole)
    (arg27 : Memref sig .tc .vmem S544x512 .f32) (harg27 : arg27.IsWhole) (arg28 : Memref sig .tc .vmem S544x512 .f32) (harg28 : arg28.IsWhole)
    (arg29 : Memref sig .tc .vmem S544x512 .f32) (harg29 : arg29.IsWhole) (arg30 : Memref sig .tc .vmem S512x512 .f32) (harg30 : arg30.IsWhole)
    (arg31 : Memref sig .tc .vmem S512x512 .f32) (harg31 : arg31.IsWhole)

/-- The eight passes of the convolution's loop write the whole of `arg30`: what is read of it afterwards is what they
    wrote. -/
theorem conv_covers (v100 : FVec F S536x512 .f32) (X9 : BufTy.Contents (Elt F) arg9.view.ty)
    (X26 : BufTy.Contents (Elt F) arg26.view.ty) (f : BufTy.Contents (Elt F) arg30.view.ty) (B : LoadRect S512x512)
    (𝒱 : Variants) (bd : Option 𝒱.V) :
    arg30.view.readAt (Elt F) B (arg30.view.writes (Elt F) f (pb_k0_t1 (F := F) 𝒱 c bd i
      arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
      v100 X9 X26 (Scf.trips k0_t1_loop.lb k0_t1_loop.ub k0_t1_loop.st)))
    = arg30.view.readCov (pb_k0_t1 (F := F) 𝒱 c bd i
      arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
      v100 X9 X26 (Scf.trips k0_t1_loop.lb k0_t1_loop.ub k0_t1_loop.st)) B :=
  View.readAt_writes_of_cover _ f _ B fun J => View.cover_of_tiledL (pb_k0_t1 (F := F) 𝒱 c bd i
      arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
      v100 X9 X26 (Scf.trips k0_t1_loop.lb k0_t1_loop.ub k0_t1_loop.st)) S64x512.size (by sl_kernel_rfl) (B.idx J)

set_option backward.proofsInPublic true in
set_option maxHeartbeats 2000000 in
/-- What the rest of the body, which every point does, leaves in each output and in the two buffers it carries, from
    any contents of them, and that it does. -/
noncomputable def rest
    (x0 : Vec F S512x1024 .f32) (x1 : Vec F S512x1024 .f32) (x2 : Vec F S512x512 .f32) (x3 : Vec F S512x512 .f32)
    (x4 : Vec F S512x512 .f32) (x5 : Vec F S512x512 .bf16) (x6 : Vec F S1x1024 .f32) (x7 : Vec F S1536x1024 .bf16)
    (x8 : Vec F S32x512 .f32) (x9 : Vec F S1x512 .f32) (x10 : Vec F S1x512 .f32) (x11 : Vec F S4x128x128 .bf16)
    (x12 : Vec F S1x512 .f32) (x13 : Vec F S1024x1024 .bf16)
    (xo14 : Vec F S512x1024 .f32) (xo15 : Vec F S512x1536 .bf16) (xo16 : Vec F S512x1024 .bf16) (xo17 : Vec F S1x1024 .f32)
    (xo18 : Vec F S1x1536 .f32) (xo19 : Vec F S32x512 .f32) (xo20 : Vec F S1x512 .f32) (xo21 : Vec F S1x512 .f32)
    (xo22 : Vec F S1x512 .f32) (xo23 : Vec F S4x128x128 .f32) (xo24 : Vec F S1x512 .f32)
    (xs0 : Vec F S8x544x512 .f32) (xs1 : Vec F S544x512 .f32) :
    Σ' (O14 : Vec F S512x1024 .f32),
    Σ' (O15 : Vec F S512x1536 .bf16),
    Σ' (O16 : Vec F S512x1024 .bf16),
    Σ' (O17 : Vec F S1x1024 .f32),
    Σ' (O18 : Vec F S1x1536 .f32),
    Σ' (O19 : Vec F S32x512 .f32),
    Σ' (O20 : Vec F S1x512 .f32),
    Σ' (O21 : Vec F S1x512 .f32),
    Σ' (O22 : Vec F S1x512 .f32),
    Σ' (O23 : Vec F S4x128x128 .f32),
    Σ' (O24 : Vec F S1x512 .f32),
    Σ' (OS0 : Vec F S8x544x512 .f32),
    Σ' (OS1 : Vec F S544x512 .f32),
      ∀ (E : Set ℕ) (K : PUnit → sProp 𝕄),
        iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare xo14
          ∗ owns (c : Thread nD τ) arg16 fullShare xo15
          ∗ owns (c : Thread nD τ) arg17 fullShare xo16
          ∗ owns (c : Thread nD τ) arg18 fullShare xo17
          ∗ owns (c : Thread nD τ) arg19 fullShare xo18
          ∗ owns (c : Thread nD τ) arg20 fullShare xo19
          ∗ owns (c : Thread nD τ) arg21 fullShare xo20
          ∗ owns (c : Thread nD τ) arg22 fullShare xo21
          ∗ owns (c : Thread nD τ) arg23 fullShare xo22
          ∗ owns (c : Thread nD τ) arg24 fullShare xo23
          ∗ owns (c : Thread nD τ) arg25 fullShare xo24
          ∗ owns (c : Thread nD τ) arg26 fullShare xs0
          ∗ owns (c : Thread nD τ) arg27 fullShare xs1
          ∗ (∃ d, owns (c : Thread nD τ) arg28 fullShare d)
          ∗ (∃ d, owns (c : Thread nD τ) arg29 fullShare d)
          ∗ (∃ d, owns (c : Thread nD τ) arg30 fullShare d)
          ∗ (∃ d, owns (c : Thread nD τ) arg31 fullShare d)
          ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg15 fullShare O14
            ∗ owns (c : Thread nD τ) arg16 fullShare O15
            ∗ owns (c : Thread nD τ) arg17 fullShare O16
            ∗ owns (c : Thread nD τ) arg18 fullShare O17
            ∗ owns (c : Thread nD τ) arg19 fullShare O18
            ∗ owns (c : Thread nD τ) arg20 fullShare O19
            ∗ owns (c : Thread nD τ) arg21 fullShare O20
            ∗ owns (c : Thread nD τ) arg22 fullShare O21
            ∗ owns (c : Thread nD τ) arg23 fullShare O22
            ∗ owns (c : Thread nD τ) arg24 fullShare O23
            ∗ owns (c : Thread nD τ) arg25 fullShare O24
            ∗ owns (c : Thread nD τ) arg26 fullShare OS0
            ∗ owns (c : Thread nD τ) arg27 fullShare OS1
            ∗ (∃ d, owns (c : Thread nD τ) arg28 fullShare d)
            ∗ (∃ d, owns (c : Thread nD τ) arg29 fullShare d)
            ∗ (∃ d, owns (c : Thread nD τ) arg30 fullShare d)
            ∗ (∃ d, owns (c : Thread nD τ) arg31 fullShare d))
              -∗ K ⟨⟩))
        ⊢ wp frame (wpE (defs₀ (F := F)) Variants.none c none) E (split (F := F) i
            arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31).1 K := by
  refine ⟨?_, ?_, ?_, ?_, ?_, ?_, ?_, ?_, ?_, ?_, ?_, ?_, ?_, fun E K => ?run⟩
  case run =>
    unfold split; dsimp only
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%fs0, %hfs0, HS0⟩, ⟨%fs1, %hfs1, HS1⟩,
      ⟨%ds2, %fs2, -, HS2⟩, ⟨%ds3, %fs3, -, HS3⟩, ⟨%ds4, %fs4, -, HS4⟩, ⟨%ds5, %fs5, -, HS5⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg16.eq_unread hf15
    obtain rfl := harg17.eq_unread hf16
    obtain rfl := harg18.eq_unread hf17
    obtain rfl := harg19.eq_unread hf18
    obtain rfl := harg20.eq_unread hf19
    obtain rfl := harg21.eq_unread hf20
    obtain rfl := harg22.eq_unread hf21
    obtain rfl := harg23.eq_unread hf22
    obtain rfl := harg24.eq_unread hf23
    obtain rfl := harg25.eq_unread hf24
    obtain rfl := harg26.eq_unread hfs0
    obtain rfl := harg27.eq_unread hfs1
    have hrd : ∀ (c : Dev nD) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S1x1024 .f32) (harg7 : arg7.IsWhole) (arg8 : Memref sig .tc .vmem S1536x1024 .bf16) (harg8 : arg8.IsWhole)
    (arg9 : Memref sig .tc .vmem S32x512 .f32) (harg9 : arg9.IsWhole) (arg10 : Memref sig .tc .vmem S1x512 .f32) (harg10 : arg10.IsWhole)
    (arg11 : Memref sig .tc .vmem S1x512 .f32) (harg11 : arg11.IsWhole) (arg12 : Memref sig .tc .vmem S4x128x128 .bf16) (harg12 : arg12.IsWhole)
    (arg13 : Memref sig .tc .vmem S1x512 .f32) (harg13 : arg13.IsWhole) (arg14 : Memref sig .tc .vmem S1024x1024 .bf16) (harg14 : arg14.IsWhole)
    (arg15 : Memref sig .tc .vmem S512x1024 .f32) (harg15 : arg15.IsWhole) (arg16 : Memref sig .tc .vmem S512x1536 .bf16) (harg16 : arg16.IsWhole)
    (arg17 : Memref sig .tc .vmem S512x1024 .bf16) (harg17 : arg17.IsWhole) (arg18 : Memref sig .tc .vmem S1x1024 .f32) (harg18 : arg18.IsWhole)
    (arg19 : Memref sig .tc .vmem S1x1536 .f32) (harg19 : arg19.IsWhole) (arg20 : Memref sig .tc .vmem S32x512 .f32) (harg20 : arg20.IsWhole)
    (arg21 : Memref sig .tc .vmem S1x512 .f32) (harg21 : arg21.IsWhole) (arg22 : Memref sig .tc .vmem S1x512 .f32) (harg22 : arg22.IsWhole)
    (arg23 : Memref sig .tc .vmem S1x512 .f32) (harg23 : arg23.IsWhole) (arg24 : Memref sig .tc .vmem S4x128x128 .f32) (harg24 : arg24.IsWhole)
    (arg25 : Memref sig .tc .vmem S1x512 .f32) (harg25 : arg25.IsWhole) (arg26 : Memref sig .tc .vmem S8x544x512 .f32) (harg26 : arg26.IsWhole)
    (arg27 : Memref sig .tc .vmem S544x512 .f32) (harg27 : arg27.IsWhole) (arg28 : Memref sig .tc .vmem S544x512 .f32) (harg28 : arg28.IsWhole)
    (arg29 : Memref sig .tc .vmem S544x512 .f32) (harg29 : arg29.IsWhole) (arg30 : Memref sig .tc .vmem S512x512 .f32) (harg30 : arg30.IsWhole)
    (arg31 : Memref sig .tc .vmem S512x512 .f32) (harg31 : arg31.IsWhole)
      (v100 : FVec F S536x512 .f32) (X9 : BufTy.Contents (Elt F) arg9.view.ty)
      (X26 : BufTy.Contents (Elt F) arg26.view.ty) (f : BufTy.Contents (Elt F) arg30.view.ty) (B : LoadRect S512x512)
      (𝒱 : Variants) (bd : Option 𝒱.V),
      arg30.view.readAt (Elt F) B (arg30.view.writes (Elt F) f (pb_k0_t1 (F := F) 𝒱 c bd i
        arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
        v100 X9 X26 (Scf.trips k0_t1_loop.lb k0_t1_loop.ub k0_t1_loop.st)))
      = arg30.view.readCov (pb_k0_t1 (F := F) 𝒱 c bd i
        arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
        v100 X9 X26 (Scf.trips k0_t1_loop.lb k0_t1_loop.ub k0_t1_loop.st)) B := conv_covers
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [HS0]
    · iexists _; isplitr; swap; · iexact HS0
      ipureintro; rfl
    isplitl [HS1]
    · iexists _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl
end
end Cert.Mix
end
-- ==== Proof.Mix.Clear.lean ====
module

public import proofs.«01_k».proof.Proof.Mix.Run
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S1x1024 .f32) (harg7 : arg7.IsWhole) (arg8 : Memref sig .tc .vmem S1536x1024 .bf16) (harg8 : arg8.IsWhole)
    (arg9 : Memref sig .tc .vmem S32x512 .f32) (harg9 : arg9.IsWhole) (arg10 : Memref sig .tc .vmem S1x512 .f32) (harg10 : arg10.IsWhole)
    (arg11 : Memref sig .tc .vmem S1x512 .f32) (harg11 : arg11.IsWhole) (arg12 : Memref sig .tc .vmem S4x128x128 .bf16) (harg12 : arg12.IsWhole)
    (arg13 : Memref sig .tc .vmem S1x512 .f32) (harg13 : arg13.IsWhole) (arg14 : Memref sig .tc .vmem S1024x1024 .bf16) (harg14 : arg14.IsWhole)
    (arg15 : Memref sig .tc .vmem S512x1024 .f32) (harg15 : arg15.IsWhole) (arg16 : Memref sig .tc .vmem S512x1536 .bf16) (harg16 : arg16.IsWhole)
    (arg17 : Memref sig .tc .vmem S512x1024 .bf16) (harg17 : arg17.IsWhole) (arg18 : Memref sig .tc .vmem S1x1024 .f32) (harg18 : arg18.IsWhole)
    (arg19 : Memref sig .tc .vmem S1x1536 .f32) (harg19 : arg19.IsWhole) (arg20 : Memref sig .tc .vmem S32x512 .f32) (harg20 : arg20.IsWhole)
    (arg21 : Memref sig .tc .vmem S1x512 .f32) (harg21 : arg21.IsWhole) (arg22 : Memref sig .tc .vmem S1x512 .f32) (harg22 : arg22.IsWhole)
    (arg23 : Memref sig .tc .vmem S1x512 .f32) (harg23 : arg23.IsWhole) (arg24 : Memref sig .tc .vmem S4x128x128 .f32) (harg24 : arg24.IsWhole)
    (arg25 : Memref sig .tc .vmem S1x512 .f32) (harg25 : arg25.IsWhole) (arg26 : Memref sig .tc .vmem S8x544x512 .f32) (harg26 : arg26.IsWhole)
    (arg27 : Memref sig .tc .vmem S544x512 .f32) (harg27 : arg27.IsWhole) (arg28 : Memref sig .tc .vmem S544x512 .f32) (harg28 : arg28.IsWhole)
    (arg29 : Memref sig .tc .vmem S544x512 .f32) (harg29 : arg29.IsWhole) (arg30 : Memref sig .tc .vmem S512x512 .f32) (harg30 : arg30.IsWhole)
    (arg31 : Memref sig .tc .vmem S512x512 .f32) (harg31 : arg31.IsWhole)

set_option backward.proofsInPublic true in
set_option maxHeartbeats 1000000 in
/-- What the first point's clearing leaves in the eight sums and in the two buffers it carries. -/
noncomputable def cleared
    (xo17 : Vec F S1x1024 .f32) (xo18 : Vec F S1x1536 .f32) (xo19 : Vec F S32x512 .f32) (xo20 : Vec F S1x512 .f32)
    (xo21 : Vec F S1x512 .f32) (xo22 : Vec F S1x512 .f32) (xo23 : Vec F S4x128x128 .f32) (xo24 : Vec F S1x512 .f32)
    (xs0 : Vec F S8x544x512 .f32) (xs1 : Vec F S544x512 .f32) :
    Σ' (O17 : Vec F S1x1024 .f32),
    Σ' (O18 : Vec F S1x1536 .f32),
    Σ' (O19 : Vec F S32x512 .f32),
    Σ' (O20 : Vec F S1x512 .f32),
    Σ' (O21 : Vec F S1x512 .f32),
    Σ' (O22 : Vec F S1x512 .f32),
    Σ' (O23 : Vec F S4x128x128 .f32),
    Σ' (O24 : Vec F S1x512 .f32),
    Σ' (OS0 : Vec F S8x544x512 .f32),
    Σ' (OS1 : Vec F S544x512 .f32),
      ∀ (E : Set ℕ) (K : PUnit → sProp 𝕄),
        iprop(owns (c : Thread nD τ) arg18 fullShare xo17
          ∗ owns (c : Thread nD τ) arg19 fullShare xo18
          ∗ owns (c : Thread nD τ) arg20 fullShare xo19
          ∗ owns (c : Thread nD τ) arg21 fullShare xo20
          ∗ owns (c : Thread nD τ) arg22 fullShare xo21
          ∗ owns (c : Thread nD τ) arg23 fullShare xo22
          ∗ owns (c : Thread nD τ) arg24 fullShare xo23
          ∗ owns (c : Thread nD τ) arg25 fullShare xo24
          ∗ owns (c : Thread nD τ) arg26 fullShare xs0
          ∗ owns (c : Thread nD τ) arg27 fullShare xs1
          ∗ (iprop(owns (c : Thread nD τ) arg18 fullShare O17
            ∗ owns (c : Thread nD τ) arg19 fullShare O18
            ∗ owns (c : Thread nD τ) arg20 fullShare O19
            ∗ owns (c : Thread nD τ) arg21 fullShare O20
            ∗ owns (c : Thread nD τ) arg22 fullShare O21
            ∗ owns (c : Thread nD τ) arg23 fullShare O22
            ∗ owns (c : Thread nD τ) arg24 fullShare O23
            ∗ owns (c : Thread nD τ) arg25 fullShare O24
            ∗ owns (c : Thread nD τ) arg26 fullShare OS0
            ∗ owns (c : Thread nD τ) arg27 fullShare OS1)
              -∗ K ⟨⟩))
        ⊢ wp frame (wpE (defs₀ (F := F)) Variants.none c none) E (clear (F := F) i
            arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31) K := by
  refine ⟨?_, ?_, ?_, ?_, ?_, ?_, ?_, ?_, ?_, ?_, fun E K => ?run⟩
  case run =>
    unfold clear
    simp only [k0_part1_eq_skeleton]; unfold k0_part1_skel
    unfold owns
    iintro ⟨⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%fS0, %hfS0, HS0⟩, ⟨%fS1, %hfS1, HS1⟩, Hk⟩
    obtain rfl := harg18.eq_unread hf17
    obtain rfl := harg19.eq_unread hf18
    obtain rfl := harg20.eq_unread hf19
    obtain rfl := harg21.eq_unread hf20
    obtain rfl := harg22.eq_unread hf21
    obtain rfl := harg23.eq_unread hf22
    obtain rfl := harg24.eq_unread hf23
    obtain rfl := harg25.eq_unread hf24
    obtain rfl := harg26.eq_unread hfS0
    obtain rfl := harg27.eq_unread hfS1
    sl_exec
    sl_step
    iapply Hk
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    isplitl [HS0]
    · iexists _; isplitr; swap; · iexact HS0
      ipureintro; rfl
    iexists _; isplitr; swap; · iexact HS1
    ipureintro; rfl
end
end Cert.Mix
end
-- ==== Proof.Mix.Body.lean ====
module

public import proofs.«01_k».proof.Proof.Mix.Clear
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section
variable (c : Dev nD) (i : grid0.Coords)
    (arg1 : Memref sig .tc .vmem S512x1024 .f32) (harg1 : arg1.IsWhole) (arg2 : Memref sig .tc .vmem S512x1024 .f32) (harg2 : arg2.IsWhole)
    (arg3 : Memref sig .tc .vmem S512x512 .f32) (harg3 : arg3.IsWhole) (arg4 : Memref sig .tc .vmem S512x512 .f32) (harg4 : arg4.IsWhole)
    (arg5 : Memref sig .tc .vmem S512x512 .f32) (harg5 : arg5.IsWhole) (arg6 : Memref sig .tc .vmem S512x512 .bf16) (harg6 : arg6.IsWhole)
    (arg7 : Memref sig .tc .vmem S1x1024 .f32) (harg7 : arg7.IsWhole) (arg8 : Memref sig .tc .vmem S1536x1024 .bf16) (harg8 : arg8.IsWhole)
    (arg9 : Memref sig .tc .vmem S32x512 .f32) (harg9 : arg9.IsWhole) (arg10 : Memref sig .tc .vmem S1x512 .f32) (harg10 : arg10.IsWhole)
    (arg11 : Memref sig .tc .vmem S1x512 .f32) (harg11 : arg11.IsWhole) (arg12 : Memref sig .tc .vmem S4x128x128 .bf16) (harg12 : arg12.IsWhole)
    (arg13 : Memref sig .tc .vmem S1x512 .f32) (harg13 : arg13.IsWhole) (arg14 : Memref sig .tc .vmem S1024x1024 .bf16) (harg14 : arg14.IsWhole)
    (arg15 : Memref sig .tc .vmem S512x1024 .f32) (harg15 : arg15.IsWhole) (arg16 : Memref sig .tc .vmem S512x1536 .bf16) (harg16 : arg16.IsWhole)
    (arg17 : Memref sig .tc .vmem S512x1024 .bf16) (harg17 : arg17.IsWhole) (arg18 : Memref sig .tc .vmem S1x1024 .f32) (harg18 : arg18.IsWhole)
    (arg19 : Memref sig .tc .vmem S1x1536 .f32) (harg19 : arg19.IsWhole) (arg20 : Memref sig .tc .vmem S32x512 .f32) (harg20 : arg20.IsWhole)
    (arg21 : Memref sig .tc .vmem S1x512 .f32) (harg21 : arg21.IsWhole) (arg22 : Memref sig .tc .vmem S1x512 .f32) (harg22 : arg22.IsWhole)
    (arg23 : Memref sig .tc .vmem S1x512 .f32) (harg23 : arg23.IsWhole) (arg24 : Memref sig .tc .vmem S4x128x128 .f32) (harg24 : arg24.IsWhole)
    (arg25 : Memref sig .tc .vmem S1x512 .f32) (harg25 : arg25.IsWhole) (arg26 : Memref sig .tc .vmem S8x544x512 .f32) (harg26 : arg26.IsWhole)
    (arg27 : Memref sig .tc .vmem S544x512 .f32) (harg27 : arg27.IsWhole) (arg28 : Memref sig .tc .vmem S544x512 .f32) (harg28 : arg28.IsWhole)
    (arg29 : Memref sig .tc .vmem S544x512 .f32) (harg29 : arg29.IsWhole) (arg30 : Memref sig .tc .vmem S512x512 .f32) (harg30 : arg30.IsWhole)
    (arg31 : Memref sig .tc .vmem S512x512 .f32) (harg31 : arg31.IsWhole)
    (x0 : Vec F S512x1024 .f32) (x1 : Vec F S512x1024 .f32) (x2 : Vec F S512x512 .f32) (x3 : Vec F S512x512 .f32)
    (x4 : Vec F S512x512 .f32) (x5 : Vec F S512x512 .bf16) (x6 : Vec F S1x1024 .f32) (x7 : Vec F S1536x1024 .bf16)
    (x8 : Vec F S32x512 .f32) (x9 : Vec F S1x512 .f32) (x10 : Vec F S1x512 .f32) (x11 : Vec F S4x128x128 .bf16)
    (x12 : Vec F S1x512 .f32) (x13 : Vec F S1024x1024 .bf16)
    (xo14 : Vec F S512x1024 .f32) (xo15 : Vec F S512x1536 .bf16) (xo16 : Vec F S512x1024 .bf16) (xo17 : Vec F S1x1024 .f32)
    (xo18 : Vec F S1x1536 .f32) (xo19 : Vec F S32x512 .f32) (xo20 : Vec F S1x512 .f32) (xo21 : Vec F S1x512 .f32)
    (xo22 : Vec F S1x512 .f32) (xo23 : Vec F S4x128x128 .f32) (xo24 : Vec F S1x512 .f32)
    (xs0 : Vec F S8x544x512 .f32) (xs1 : Vec F S544x512 .f32)

/-- What one point leaves, as the thirteen contents after it. -/
abbrev Outs (F : FTy → Type) : Type := Vec F S512x1024 .f32 × Vec F S512x1536 .bf16 × Vec F S512x1024 .bf16 × Vec F S1x1024 .f32 × Vec F S1x1536 .f32 × Vec F S32x512 .f32 × Vec F S1x512 .f32 × Vec F S1x512 .f32 × Vec F S1x512 .f32 × Vec F S4x128x128 .f32 × Vec F S1x512 .f32 × Vec F S8x544x512 .f32 × Vec F S544x512 .f32

/-- What the rest of the body leaves. -/
def restOuts : Outs F :=
  let R := rest c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16 xo17 xo18 xo19 xo20 xo21 xo22 xo23 xo24 xs0 xs1
  (R.1, R.2.1, R.2.2.1, R.2.2.2.1, R.2.2.2.2.1, R.2.2.2.2.2.1, R.2.2.2.2.2.2.1, R.2.2.2.2.2.2.2.1, R.2.2.2.2.2.2.2.2.1, R.2.2.2.2.2.2.2.2.2.1, R.2.2.2.2.2.2.2.2.2.2.1, R.2.2.2.2.2.2.2.2.2.2.2.1, R.2.2.2.2.2.2.2.2.2.2.2.2.1)

/-- What the body leaves at the first point: the rest, from what the clearing leaves. -/
def firstOuts : Outs F :=
  let C := cleared c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    xo17 xo18 xo19 xo20 xo21 xo22 xo23 xo24 xs0 xs1
  restOuts c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16
    C.1 C.2.1 C.2.2.1 C.2.2.2.1 C.2.2.2.2.1 C.2.2.2.2.2.1 C.2.2.2.2.2.2.1 C.2.2.2.2.2.2.2.1 C.2.2.2.2.2.2.2.2.1 C.2.2.2.2.2.2.2.2.2.1

/-- What is owned around a point: the inputs, the outputs and the two carried buffers at `o`, and the other scratch. -/
def held (o : Outs F) : sProp 𝕄 :=
  iprop(owns (c : Thread nD τ) arg1 fullShare x0
    ∗ owns (c : Thread nD τ) arg2 fullShare x1
    ∗ owns (c : Thread nD τ) arg3 fullShare x2
    ∗ owns (c : Thread nD τ) arg4 fullShare x3
    ∗ owns (c : Thread nD τ) arg5 fullShare x4
    ∗ owns (c : Thread nD τ) arg6 fullShare x5
    ∗ owns (c : Thread nD τ) arg7 fullShare x6
    ∗ owns (c : Thread nD τ) arg8 fullShare x7
    ∗ owns (c : Thread nD τ) arg9 fullShare x8
    ∗ owns (c : Thread nD τ) arg10 fullShare x9
    ∗ owns (c : Thread nD τ) arg11 fullShare x10
    ∗ owns (c : Thread nD τ) arg12 fullShare x11
    ∗ owns (c : Thread nD τ) arg13 fullShare x12
    ∗ owns (c : Thread nD τ) arg14 fullShare x13
    ∗ owns (c : Thread nD τ) arg15 fullShare o.1
    ∗ owns (c : Thread nD τ) arg16 fullShare o.2.1
    ∗ owns (c : Thread nD τ) arg17 fullShare o.2.2.1
    ∗ owns (c : Thread nD τ) arg18 fullShare o.2.2.2.1
    ∗ owns (c : Thread nD τ) arg19 fullShare o.2.2.2.2.1
    ∗ owns (c : Thread nD τ) arg20 fullShare o.2.2.2.2.2.1
    ∗ owns (c : Thread nD τ) arg21 fullShare o.2.2.2.2.2.2.1
    ∗ owns (c : Thread nD τ) arg22 fullShare o.2.2.2.2.2.2.2.1
    ∗ owns (c : Thread nD τ) arg23 fullShare o.2.2.2.2.2.2.2.2.1
    ∗ owns (c : Thread nD τ) arg24 fullShare o.2.2.2.2.2.2.2.2.2.1
    ∗ owns (c : Thread nD τ) arg25 fullShare o.2.2.2.2.2.2.2.2.2.2.1
    ∗ owns (c : Thread nD τ) arg26 fullShare o.2.2.2.2.2.2.2.2.2.2.2.1
    ∗ owns (c : Thread nD τ) arg27 fullShare o.2.2.2.2.2.2.2.2.2.2.2.2
    ∗ (∃ d, owns (c : Thread nD τ) arg28 fullShare d)
    ∗ (∃ d, owns (c : Thread nD τ) arg29 fullShare d)
    ∗ (∃ d, owns (c : Thread nD τ) arg30 fullShare d)
    ∗ (∃ d, owns (c : Thread nD τ) arg31 fullShare d))

theorem rest_run (E : Set ℕ) (K : PUnit → sProp 𝕄) :
    iprop(held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
        x0 x1 x2 x3 x4 x5 x6 x7 x8 x9 x10 x11 x12 x13 (xo14, xo15, xo16, xo17, xo18, xo19, xo20, xo21, xo22, xo23, xo24, xs0, xs1)
        ∗ (held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
            x0 x1 x2 x3 x4 x5 x6 x7 x8 x9 x10 x11 x12 x13 (restOuts c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
              x0 x1 x2 x3 x4 x5 x6 x7 x8 x9 x10 x11 x12 x13 xo14 xo15 xo16 xo17 xo18 xo19 xo20 xo21 xo22 xo23 xo24 xs0 xs1)
          -∗ K ⟨⟩))
      ⊢ wp frame (wpE (defs₀ (F := F)) Variants.none c none) E (split (F := F) i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31).1 K := by
  refine BI.BIBase.Entails.trans ?_ ((rest c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16 xo17 xo18 xo19 xo20 xo21 xo22 xo23 xo24 xs0 xs1).2.2.2.2.2.2.2.2.2.2.2.2.2 E K)
  unfold held restOuts
  dsimp only
  iintro ⟨⟨H0, H1, H2, H3, H4, H5, H6, H7, H8, H9, H10, H11, H12, H13, H14, H15, H16, H17, H18, H19, H20, H21, H22, H23, H24, HS0, HS1, HS2, HS3, HS4, HS5⟩, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, H21, H22, H23, H24, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HS0]; · iexact HS0
  isplitl [HS1]; · iexact HS1
  isplitl [HS2]; · iexact HS2
  isplitl [HS3]; · iexact HS3
  isplitl [HS4]; · iexact HS4
  iexact HS5

theorem body_rest (h : ¬ first i) (E : Set ℕ) (K : PUnit → sProp 𝕄) :
    iprop(held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
        x0 x1 x2 x3 x4 x5 x6 x7 x8 x9 x10 x11 x12 x13 (xo14, xo15, xo16, xo17, xo18, xo19, xo20, xo21, xo22, xo23, xo24, xs0, xs1)
        ∗ (held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
            x0 x1 x2 x3 x4 x5 x6 x7 x8 x9 x10 x11 x12 x13 (restOuts c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
              x0 x1 x2 x3 x4 x5 x6 x7 x8 x9 x10 x11 x12 x13 xo14 xo15 xo16 xo17 xo18 xo19 xo20 xo21 xo22 xo23 xo24 xs0 xs1)
          -∗ K ⟨⟩))
      ⊢ wp frame (wpE (defs₀ (F := F)) Variants.none c none) E (cc0_mix_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31) K := by
  rw [(split i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31).2.1 h]
  exact rest_run c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16 xo17 xo18 xo19 xo20 xo21 xo22 xo23 xo24 xs0 xs1 E K

theorem first_of (h : first i) (y17 : Vec F S1x1024 .f32) (y18 : Vec F S1x1536 .f32) (y19 : Vec F S32x512 .f32) (y20 : Vec F S1x512 .f32) (y21 : Vec F S1x512 .f32) (y22 : Vec F S1x512 .f32) (y23 : Vec F S4x128x128 .f32) (y24 : Vec F S1x512 .f32) (yS0 : Vec F S8x544x512 .f32) (yS1 : Vec F S544x512 .f32)
    (hC : ∀ (E : Set ℕ) (K : PUnit → sProp 𝕄),
        iprop(owns (c : Thread nD τ) arg18 fullShare xo17
          ∗ owns (c : Thread nD τ) arg19 fullShare xo18
          ∗ owns (c : Thread nD τ) arg20 fullShare xo19
          ∗ owns (c : Thread nD τ) arg21 fullShare xo20
          ∗ owns (c : Thread nD τ) arg22 fullShare xo21
          ∗ owns (c : Thread nD τ) arg23 fullShare xo22
          ∗ owns (c : Thread nD τ) arg24 fullShare xo23
          ∗ owns (c : Thread nD τ) arg25 fullShare xo24
          ∗ owns (c : Thread nD τ) arg26 fullShare xs0
          ∗ owns (c : Thread nD τ) arg27 fullShare xs1
          ∗ (iprop(owns (c : Thread nD τ) arg18 fullShare y17
            ∗ owns (c : Thread nD τ) arg19 fullShare y18
            ∗ owns (c : Thread nD τ) arg20 fullShare y19
            ∗ owns (c : Thread nD τ) arg21 fullShare y20
            ∗ owns (c : Thread nD τ) arg22 fullShare y21
            ∗ owns (c : Thread nD τ) arg23 fullShare y22
            ∗ owns (c : Thread nD τ) arg24 fullShare y23
            ∗ owns (c : Thread nD τ) arg25 fullShare y24
            ∗ owns (c : Thread nD τ) arg26 fullShare yS0
            ∗ owns (c : Thread nD τ) arg27 fullShare yS1)
              -∗ K ⟨⟩))
        ⊢ wp frame (wpE (defs₀ (F := F)) Variants.none c none) E (clear (F := F) i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31) K)
    (E : Set ℕ) (K : PUnit → sProp 𝕄) :
    iprop(held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
        x0 x1 x2 x3 x4 x5 x6 x7 x8 x9 x10 x11 x12 x13 (xo14, xo15, xo16, xo17, xo18, xo19, xo20, xo21, xo22, xo23, xo24, xs0, xs1)
        ∗ (held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
            x0 x1 x2 x3 x4 x5 x6 x7 x8 x9 x10 x11 x12 x13 (restOuts c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
              x0 x1 x2 x3 x4 x5 x6 x7 x8 x9 x10 x11 x12 x13 xo14 xo15 xo16 y17 y18 y19 y20 y21 y22 y23 y24 yS0 yS1)
          -∗ K ⟨⟩))
      ⊢ wp frame (wpE (defs₀ (F := F)) Variants.none c none) E (cc0_mix_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31) K := by
  rw [(split i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31).2.2 h, wp_bind]
  refine BI.BIBase.Entails.trans ?_ (hC E _)
  refine BI.BIBase.Entails.trans ?_ (sep_mono .rfl (sep_mono .rfl (sep_mono .rfl (sep_mono .rfl (sep_mono .rfl (sep_mono .rfl (sep_mono .rfl (sep_mono .rfl (sep_mono .rfl (sep_mono .rfl (wand_mono .rfl (rest_run c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16 y17 y18 y19 y20 y21 y22 y23 y24 yS0 yS1 E K))))))))))))
  generalize restOuts c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16 y17 y18 y19 y20 y21 y22 y23 y24 yS0 yS1 = o
  iintro ⟨H, Hk⟩
  unfold held
  dsimp only
  icases H with ⟨H0, H1, H2, H3, H4, H5, H6, H7, H8, H9, H10, H11, H12, H13, H14, H15, H16, H17, H18, H19, H20, H21, H22, H23, H24, HS0, HS1, HS2, HS3, HS4, HS5⟩
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [HS0]; · iexact HS0
  isplitl [HS1]; · iexact HS1
  iintro ⟨H17, H18, H19, H20, H21, H22, H23, H24, HS0, HS1⟩
  isplitr [Hk]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [HS0]; · iexact HS0
    isplitl [HS1]; · iexact HS1
    isplitl [HS2]; · iexact HS2
    isplitl [HS3]; · iexact HS3
    isplitl [HS4]; · iexact HS4
    iexact HS5
  iexact Hk

theorem body_first (h : first i) (E : Set ℕ) (K : PUnit → sProp 𝕄) :
    iprop(held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
        x0 x1 x2 x3 x4 x5 x6 x7 x8 x9 x10 x11 x12 x13 (xo14, xo15, xo16, xo17, xo18, xo19, xo20, xo21, xo22, xo23, xo24, xs0, xs1)
        ∗ (held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
            x0 x1 x2 x3 x4 x5 x6 x7 x8 x9 x10 x11 x12 x13 (firstOuts c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
              x0 x1 x2 x3 x4 x5 x6 x7 x8 x9 x10 x11 x12 x13 xo14 xo15 xo16 xo17 xo18 xo19 xo20 xo21 xo22 xo23 xo24 xs0 xs1)
          -∗ K ⟨⟩))
      ⊢ wp frame (wpE (defs₀ (F := F)) Variants.none c none) E (cc0_mix_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31) K := by
  unfold firstOuts
  exact first_of c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    x0 x1 x2 x3 x4 x5 x6 x7 x8 x9 x10 x11 x12 x13 xo14 xo15 xo16 xo17 xo18 xo19 xo20 xo21 xo22 xo23 xo24 xs0 xs1 h
    _ _ _ _ _ _ _ _ _ _ (cleared c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
    xo17 xo18 xo19 xo20 xo21 xo22 xo23 xo24 xs0 xs1).2.2.2.2.2.2.2.2.2.2 E K

/-- The body at any point and any contents: the inputs are left as they were. -/
theorem body_any (E : Set ℕ) (K : PUnit → sProp 𝕄) :
    iprop(held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
        x0 x1 x2 x3 x4 x5 x6 x7 x8 x9 x10 x11 x12 x13 (xo14, xo15, xo16, xo17, xo18, xo19, xo20, xo21, xo22, xo23, xo24, xs0, xs1)
        ∗ (∀ o, held c arg1 arg2 arg3 arg4 arg5 arg6 arg7 arg8 arg9 arg10 arg11 arg12 arg13 arg14 arg15 arg16
    arg17 arg18 arg19 arg20 arg21 arg22 arg23 arg24 arg25 arg26 arg27 arg28 arg29 arg30 arg31
            x0 x1 x2 x3 x4 x5 x6 x7 x8 x9 x10 x11 x12 x13 o
          -∗ K ⟨⟩))
      ⊢ wp frame (wpE (defs₀ (F := F)) Variants.none c none) E (cc0_mix_bwd i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31) K := by
  by_cases h : first i
  · refine BI.BIBase.Entails.trans (sep_mono .rfl (forall_elim _)) (body_first c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
      x0 x1 x2 x3 x4 x5 x6 x7 x8 x9 x10 x11 x12 x13 xo14 xo15 xo16 xo17 xo18 xo19 xo20 xo21 xo22 xo23 xo24 xs0 xs1 h E K)
  · refine BI.BIBase.Entails.trans (sep_mono .rfl (forall_elim _)) (body_rest c i arg1 harg1 arg2 harg2 arg3 harg3 arg4 harg4 arg5 harg5 arg6 harg6 arg7 harg7 arg8 harg8
    arg9 harg9 arg10 harg10 arg11 harg11 arg12 harg12 arg13 harg13 arg14 harg14 arg15 harg15 arg16 harg16
    arg17 harg17 arg18 harg18 arg19 harg19 arg20 harg20 arg21 harg21 arg22 harg22 arg23 harg23 arg24 harg24
    arg25 harg25 arg26 harg26 arg27 harg27 arg28 harg28 arg29 harg29 arg30 harg30 arg31 harg31
      x0 x1 x2 x3 x4 x5 x6 x7 x8 x9 x10 x11 x12 x13 xo14 xo15 xo16 xo17 xo18 xo19 xo20 xo21 xo22 xo23 xo24 xs0 xs1 h E K)
end
end Cert.Mix
end
-- ==== Proof.Mix.Frame.lean ====
module

public import proofs.«01_k».proof.Proof.Gen.Kernel2Ideal.Frame
public import proofs.«01_k».proof.Proof.Mix.Body
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

open Idealize.ShloMosaic.Pipeline (Dat Cfg Window BodyObligation cellOf)

/-! ## The memrefs of a point -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1536x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S32x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x128x128 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x512 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1024x1024 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S512x1024 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S512x1536 .bf16 := win0_15.stage (cfg0.slots t 15)
abbrev hs15 (t : Fin cfg0.N) : (ms15 t).IsWhole := hstage0_15 ((cfg0.slots t 15).cast nbuf0_15)
abbrev ms16 (t : Fin cfg0.N) : Memref sig .tc .vmem S512x1024 .bf16 := win0_16.stage (cfg0.slots t 16)
abbrev hs16 (t : Fin cfg0.N) : (ms16 t).IsWhole := hstage0_16 ((cfg0.slots t 16).cast nbuf0_16)
abbrev ms17 (t : Fin cfg0.N) : Memref sig .tc .vmem S1x1024 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S1x1536 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S32x512 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S1x512 .f32 := win0_20.stage (cfg0.slots t 20)
abbrev hs20 (t : Fin cfg0.N) : (ms20 t).IsWhole := hstage0_20 ((cfg0.slots t 20).cast nbuf0_20)
abbrev ms21 (t : Fin cfg0.N) : Memref sig .tc .vmem S1x512 .f32 := win0_21.stage (cfg0.slots t 21)
abbrev hs21 (t : Fin cfg0.N) : (ms21 t).IsWhole := hstage0_21 ((cfg0.slots t 21).cast nbuf0_21)
abbrev ms22 (t : Fin cfg0.N) : Memref sig .tc .vmem S1x512 .f32 := win0_22.stage (cfg0.slots t 22)
abbrev hs22 (t : Fin cfg0.N) : (ms22 t).IsWhole := hstage0_22 ((cfg0.slots t 22).cast nbuf0_22)
abbrev ms23 (t : Fin cfg0.N) : Memref sig .tc .vmem S4x128x128 .f32 := win0_23.stage (cfg0.slots t 23)
abbrev hs23 (t : Fin cfg0.N) : (ms23 t).IsWhole := hstage0_23 ((cfg0.slots t 23).cast nbuf0_23)
abbrev ms24 (t : Fin cfg0.N) : Memref sig .tc .vmem S1x512 .f32 := win0_24.stage (cfg0.slots t 24)
abbrev hs24 (t : Fin cfg0.N) : (ms24 t).IsWhole := hstage0_24 ((cfg0.slots t 24).cast nbuf0_24)
abbrev sc0 : Memref sig .tc .vmem S8x544x512 .f32 := Memref.whole cc0_scratch0
abbrev hsc0 : sc0.IsWhole := Memref.isWhole_whole _
abbrev sc1 : Memref sig .tc .vmem S544x512 .f32 := Memref.whole cc0_scratch1
abbrev hsc1 : sc1.IsWhole := Memref.isWhole_whole _
abbrev sc2 : Memref sig .tc .vmem S544x512 .f32 := Memref.whole cc0_scratch2
abbrev hsc2 : sc2.IsWhole := Memref.isWhole_whole _
abbrev sc3 : Memref sig .tc .vmem S544x512 .f32 := Memref.whole cc0_scratch3
abbrev hsc3 : sc3.IsWhole := Memref.isWhole_whole _
abbrev sc4 : Memref sig .tc .vmem S512x512 .f32 := Memref.whole cc0_scratch4
abbrev hsc4 : sc4.IsWhole := Memref.isWhole_whole _
abbrev sc5 : Memref sig .tc .vmem S512x512 .f32 := Memref.whole cc0_scratch5
abbrev hsc5 : sc5.IsWhole := Memref.isWhole_whole _

/-- The pipeline's invariant with the scratch buffers as memrefs owned at some contents. -/
theorem rest_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

section
variable (m : (ℓ : Loc nD τ sig) → Buf (Elt F) ℓ) (ρ : Dev nD → PrngReg)

/-- Which windows the frame says nothing of: the outputs. -/
def forgets : Fin cfg0.W → Bool := fun w => 14 ≤ w.val

/-- The proof data of the frame: the inputs stay as they are found; what the outputs hold is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => Dat.unnamed 14 t
    | ⟨15, _⟩ => Dat.unnamed 15 t
    | ⟨16, _⟩ => Dat.unnamed 16 t
    | ⟨17, _⟩ => Dat.unnamed 17 t
    | ⟨18, _⟩ => Dat.unnamed 18 t
    | ⟨19, _⟩ => Dat.unnamed 19 t
    | ⟨20, _⟩ => Dat.unnamed 20 t
    | ⟨21, _⟩ => Dat.unnamed 21 t
    | ⟨22, _⟩ => Dat.unnamed 22 t
    | ⟨23, _⟩ => Dat.unnamed 23 t
    | ⟨24, _⟩ => Dat.unnamed 24 t
    | ⟨_ + 25, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t :=
  before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t :=
  before0_7_of m (dats m 0 c) (A_eq m c 7) (after7 m c) t d
theorem after8 (c : Dev nD) (t : Fin cfg0.N) : (dats m 0 c).after 8 t = iblk m c 8 t := by dsimp only [dats]
theorem before8 (c : Dev nD) (t : Fin cfg0.N) (d) : (dats m 0 c).before 8 t d = iblk m c 8 t :=
  before0_8_of m (dats m 0 c) (A_eq m c 8) (after8 m c) t d
theorem after9 (c : Dev nD) (t : Fin cfg0.N) : (dats m 0 c).after 9 t = iblk m c 9 t := by dsimp only [dats]
theorem before9 (c : Dev nD) (t : Fin cfg0.N) (d) : (dats m 0 c).before 9 t d = iblk m c 9 t :=
  before0_9_of m (dats m 0 c) (A_eq m c 9) (after9 m c) t d
theorem after10 (c : Dev nD) (t : Fin cfg0.N) : (dats m 0 c).after 10 t = iblk m c 10 t := by dsimp only [dats]
theorem before10 (c : Dev nD) (t : Fin cfg0.N) (d) : (dats m 0 c).before 10 t d = iblk m c 10 t :=
  before0_10_of m (dats m 0 c) (A_eq m c 10) (after10 m c) t d
theorem after11 (c : Dev nD) (t : Fin cfg0.N) : (dats m 0 c).after 11 t = iblk m c 11 t := by dsimp only [dats]
theorem before11 (c : Dev nD) (t : Fin cfg0.N) (d) : (dats m 0 c).before 11 t d = iblk m c 11 t :=
  before0_11_of m (dats m 0 c) (A_eq m c 11) (after11 m c) t d
theorem after12 (c : Dev nD) (t : Fin cfg0.N) : (dats m 0 c).after 12 t = iblk m c 12 t := by dsimp only [dats]
theorem before12 (c : Dev nD) (t : Fin cfg0.N) (d) : (dats m 0 c).before 12 t d = iblk m c 12 t :=
  before0_12_of m (dats m 0 c) (A_eq m c 12) (after12 m c) t d
theorem after13 (c : Dev nD) (t : Fin cfg0.N) : (dats m 0 c).after 13 t = iblk m c 13 t := by dsimp only [dats]
theorem before13 (c : Dev nD) (t : Fin cfg0.N) (d) : (dats m 0 c).before 13 t d = iblk m c 13 t :=
  before0_13_of m (dats m 0 c) (A_eq m c 13) (after13 m c) t d

/-- The body at any point: the inputs' memrefs hold their blocks, the outputs' and the scratch anything, and so after. -/
theorem sound (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d))
        ∗ (∃ d, owns (c : Thread nD τ) (ms6 t) fullShare ((dats m 0 c).before 6 t d))
        ∗ (∃ d, owns (c : Thread nD τ) (ms7 t) fullShare ((dats m 0 c).before 7 t d))
        ∗ (∃ d, owns (c : Thread nD τ) (ms8 t) fullShare ((dats m 0 c).before 8 t d))
        ∗ (∃ d, owns (c : Thread nD τ) (ms9 t) fullShare ((dats m 0 c).before 9 t d))
        ∗ (∃ d, owns (c : Thread nD τ) (ms10 t) fullShare ((dats m 0 c).before 10 t d))
        ∗ (∃ d, owns (c : Thread nD τ) (ms11 t) fullShare ((dats m 0 c).before 11 t d))
        ∗ (∃ d, owns (c : Thread nD τ) (ms12 t) fullShare ((dats m 0 c).before 12 t d))
        ∗ (∃ d, owns (c : Thread nD τ) (ms13 t) fullShare ((dats m 0 c).before 13 t d))
        ∗ (∃ d, owns (c : Thread nD τ) (ms14 t) fullShare d)
        ∗ (∃ d, owns (c : Thread nD τ) (ms15 t) fullShare d)
        ∗ (∃ d, owns (c : Thread nD τ) (ms16 t) fullShare d)
        ∗ (∃ d, owns (c : Thread nD τ) (ms17 t) fullShare d)
        ∗ (∃ d, owns (c : Thread nD τ) (ms18 t) fullShare d)
        ∗ (∃ d, owns (c : Thread nD τ) (ms19 t) fullShare d)
        ∗ (∃ d, owns (c : Thread nD τ) (ms20 t) fullShare d)
        ∗ (∃ d, owns (c : Thread nD τ) (ms21 t) fullShare d)
        ∗ (∃ d, owns (c : Thread nD τ) (ms22 t) fullShare d)
        ∗ (∃ d, owns (c : Thread nD τ) (ms23 t) fullShare d)
        ∗ (∃ d, owns (c : Thread nD τ) (ms24 t) fullShare d))
      ⊢ wp frame (wpE (defs₀ (F := F)) Variants.none c none) Set.univ (bodyAt0 t) fun _ =>
        iprop((dats m 0 c).Φ t.succ ∗ (dats m 0 c).owesAt () t.succ
        ∗ owns (c : Thread nD τ) (ms0 t) fullShare ((dats m 0 c).after 0 t)
        ∗ owns (c : Thread nD τ) (ms1 t) fullShare ((dats m 0 c).after 1 t)
        ∗ owns (c : Thread nD τ) (ms2 t) fullShare ((dats m 0 c).after 2 t)
        ∗ owns (c : Thread nD τ) (ms3 t) fullShare ((dats m 0 c).after 3 t)
        ∗ owns (c : Thread nD τ) (ms4 t) fullShare ((dats m 0 c).after 4 t)
        ∗ owns (c : Thread nD τ) (ms5 t) fullShare ((dats m 0 c).after 5 t)
        ∗ owns (c : Thread nD τ) (ms6 t) fullShare ((dats m 0 c).after 6 t)
        ∗ owns (c : Thread nD τ) (ms7 t) fullShare ((dats m 0 c).after 7 t)
        ∗ owns (c : Thread nD τ) (ms8 t) fullShare ((dats m 0 c).after 8 t)
        ∗ owns (c : Thread nD τ) (ms9 t) fullShare ((dats m 0 c).after 9 t)
        ∗ owns (c : Thread nD τ) (ms10 t) fullShare ((dats m 0 c).after 10 t)
        ∗ owns (c : Thread nD τ) (ms11 t) fullShare ((dats m 0 c).after 11 t)
        ∗ owns (c : Thread nD τ) (ms12 t) fullShare ((dats m 0 c).after 12 t)
        ∗ owns (c : Thread nD τ) (ms13 t) fullShare ((dats m 0 c).after 13 t)
        ∗ (∃ d, owns (c : Thread nD τ) (ms14 t) fullShare d)
        ∗ (∃ d, owns (c : Thread nD τ) (ms15 t) fullShare d)
        ∗ (∃ d, owns (c : Thread nD τ) (ms16 t) fullShare d)
        ∗ (∃ d, owns (c : Thread nD τ) (ms17 t) fullShare d)
        ∗ (∃ d, owns (c : Thread nD τ) (ms18 t) fullShare d)
        ∗ (∃ d, owns (c : Thread nD τ) (ms19 t) fullShare d)
        ∗ (∃ d, owns (c : Thread nD τ) (ms20 t) fullShare d)
        ∗ (∃ d, owns (c : Thread nD τ) (ms21 t) fullShare d)
        ∗ (∃ d, owns (c : Thread nD τ) (ms22 t) fullShare d)
        ∗ (∃ d, owns (c : Thread nD τ) (ms23 t) fullShare d)
        ∗ (∃ d, owns (c : Thread nD τ) (ms24 t) fullShare d)) := by
  unfold bodyAt0
  simp only [before0, before1, before2, before3, before4, before5, before6, before7, before8, before9, before10, before11, before12, before13,
    after0, after1, after2, after3, after4, after5, after6, after7, after8, after9, after10, after11, after12, after13]
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, rest_eq]
  iintro ⟨⟨⟨⟨%s0, HS0⟩, ⟨%s1, HS1⟩, HS2, HS3, HS4, HS5⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body_any c (grid0.coords t)
    (ms0 t) (hs0 t) (ms1 t) (hs1 t) (ms2 t) (hs2 t) (ms3 t) (hs3 t) (ms4 t) (hs4 t) (ms5 t) (hs5 t) (ms6 t) (hs6
    t) (ms7 t) (hs7 t) (ms8 t) (hs8 t) (ms9 t) (hs9 t) (ms10 t) (hs10 t) (ms11 t) (hs11 t) (ms12 t) (hs12 t) (ms13
    t) (hs13 t) (ms14 t) (hs14 t) (ms15 t) (hs15 t) (ms16 t) (hs16 t) (ms17 t) (hs17 t) (ms18 t) (hs18 t) (ms19 t)
    (hs19 t) (ms20 t) (hs20 t) (ms21 t) (hs21 t) (ms22 t) (hs22 t) (ms23 t) (hs23 t) (ms24 t) (hs24 t) sc0 hsc0
    sc1 hsc1 sc2 hsc2 sc3 hsc3 sc4 hsc4 sc5 hsc5
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    d14 d15 d16 d17 d18 d19 d20 d21 d22 d23 d24 s0 s1 Set.univ _)
  isplitr [Ho Hg]
  · unfold held
    dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [HS0]; · iexact HS0
    isplitl [HS1]; · iexact HS1
    isplitl [HS2]; · iexact HS2
    isplitl [HS3]; · iexact HS3
    isplitl [HS4]; · iexact HS4
    iexact HS5
  iintro %o
  unfold held
  iintro ⟨H0, H1, H2, H3, H4, H5, H6, H7, H8, H9, H10, H11, H12, H13, H14, H15, H16, H17, H18, H19, H20, H21, H22, H23, H24, HS0, HS1, HS2, HS3, HS4, HS5⟩
  isplitl [HS0 HS1 HS2 HS3 HS4 HS5 Hg]
  · isplitr [Hg]
    · isplitl [HS0]; · iexists _; iexact HS0
      isplitl [HS1]; · iexists _; iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iexists _; iexact H24

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound m c t) rfl .rfl fun _ => .rfl

set_option backward.isDefEq.respectTransparency.types false in
set_option maxHeartbeats 1000000 in
/-- The run: from any memory with zero counters every weakly fair execution ends, every input array as the region found
    it, every other unscoped buffer too, and every counter at zero. -/
theorem run_main : θ_run defs (onTc (τ := τ) (main (F := F))) (s₀ m ρ) (fun r =>
    Pipeline.RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1000000 in
/-- **The frame**: the arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    (h.1.arr_in c 6 rfl).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (h.1.arr_in c 9 rfl).trans (V_main_arg7 m c),
    (h.1.arr_in c 10 rfl).trans (V_main_arg8 m c),
    ((h.1 c).2 main_arg9 (Pipeline.mem_restRefs_of main_arg9 (by decide) (by decide))).trans (V_main_arg9 m c),
    (h.1.arr_in c 12 rfl).trans (V_main_arg10 m c),
    ((h.1 c).2 main_arg11 (Pipeline.mem_restRefs_of main_arg11 (by decide) (by decide))).trans (V_main_arg11 m c)⟩, h.2⟩) (run_main m ρ)
end
end Cert.Mix
end
-- ==== Proof.Mix.Spec.lean ====
/- The gradients of the mixing half in the real numbers: rows are natural numbers, and a gradient that a row takes from
   later rows is zero beyond the last one. -/
module

public import proofs.«01_k».proof.Proof.Reals

@[expose] public section

noncomputable section

namespace Cert.Mix

open Idealize.ShloMosaic Cert.Reals

/-- The logistic function. -/
def sg (a : ℝ) : ℝ := (1 + Real.exp (-a))⁻¹

/-- The small constant under the root of the layer norm: the number its word stands for. -/
def lnEps : ℝ := 10995116 * (1 / 1099511627776)

theorem lnEps_pos : 0 < lnEps := by
  unfold lnEps
  norm_num

/-- The word of the layer norm's small constant. -/
theorem cLnEps : Ideal.ofBits .f32 0x3727C5AC#32 = (lnEps : EReal) := by
  unfold lnEps
  simp [Ideal.ofBits, Ideal.ieee, -EReal.coe_mul]
  norm_num

/-- The word of 512. -/
theorem c512 : Ideal.ofBits .f32 0x44000000#32 = ((512 : ℝ) : EReal) := by
  simp [Ideal.ofBits, Ideal.ieee, -EReal.coe_mul]
  norm_num

theorem div512 (a : ℝ) : Ideal.div (a : EReal) (Ideal.ofBits .f32 0x44000000#32) = ((a / 512 : ℝ) : EReal) := by
  rw [c512, div_c a (by norm_num)]

theorem div1024 (a : ℝ) : Ideal.div (a : EReal) (Ideal.ofBits .f32 0x44800000#32) = ((a / 1024 : ℝ) : EReal) := by
  rw [c1024, div_c a (by norm_num)]

/-- Lane `l` of pooling group `q`. -/
def lane (q : Fin 4) (l : Fin 128) : Fin 512 := ⟨128 * q.val + l.val, by omega⟩

theorem lane_onto (j : Fin 512) : ∃ q l, j = lane q l :=
  ⟨⟨j.val / 128, by omega⟩, ⟨j.val % 128, by omega⟩, Fin.ext (by simp [lane]; omega)⟩

/-- The columns of the gradient of the first projection: value, gate and pooled input. -/
def colA (j : Fin 512) : Fin 1536 := ⟨j.val, by omega⟩
def colG (j : Fin 512) : Fin 1536 := ⟨512 + j.val, by omega⟩
def colP (j : Fin 512) : Fin 1536 := ⟨1024 + j.val, by omega⟩

/-- The columns of the mixed output: convolution and pooling. -/
def outA (j : Fin 512) : Fin 1024 := ⟨j.val, by omega⟩
def outP (j : Fin 512) : Fin 1024 := ⟨512 + j.val, by omega⟩

/-- The window of a pooling group. -/
def wnd (q : Fin 4) : ℕ := 2 * 2 ^ q.val

/-- What the backward pass is given: the cotangent, the input, what the forward pass computed of it, and the weights. -/
structure Data where
  dh : ℕ → Fin 1024 → ℝ
  x : ℕ → Fin 1024 → ℝ
  a : ℕ → Fin 512 → ℝ
  gate : ℕ → Fin 512 → ℝ
  v : ℕ → Fin 512 → ℝ
  m : ℕ → Fin 512 → ℝ
  g : Fin 1024 → ℝ
  win : Fin 1536 → Fin 1024 → ℝ
  w : Fin 32 → Fin 512 → ℝ
  lg : Fin 512 → ℝ
  lb : Fin 512 → ℝ
  wp : Fin 4 → Fin 128 → Fin 128 → ℝ
  sp : Fin 512 → ℝ
  wo : Fin 1024 → Fin 1024 → ℝ

namespace Data

variable (D : Data) (n : ℕ)

/-- The gradient at the output projection's input. -/
def dy (j : Fin 1024) : ℝ := ∑ d, D.dh n d * D.wo j d

/-- The layer norm of the convolution's row, and the gradients through it and through the gated activation after it. -/
def xc (j : Fin 512) : ℝ := D.v n j - (∑ k, D.v n k) / 512
def rstd : ℝ := (√((∑ k, D.xc n k * D.xc n k) / 512 + lnEps))⁻¹
def vhat (j : Fin 512) : ℝ := D.xc n j * D.rstd n
def ln (j : Fin 512) : ℝ := D.vhat n j * D.lg j + D.lb j
def dln (j : Fin 512) : ℝ := D.dy n (outA j) * (sg (D.ln n j) * (1 + D.ln n j * (1 - sg (D.ln n j))))
def dvh (j : Fin 512) : ℝ := D.dln n j * D.lg j
def dvr (j : Fin 512) : ℝ :=
  D.rstd n * (D.dvh n j - (∑ k, D.dvh n k) / 512 - D.vhat n j * ((∑ k, D.dvh n k * D.vhat n k) / 512))
def dv (j : Fin 512) : ℝ := if n < 4096 then D.dvr n j else 0

/-- The convolution's gradients. -/
def u (j : Fin 512) : ℝ := D.a n j * sg (D.gate n j)
def du (j : Fin 512) : ℝ := ∑ k : Fin 31, D.w ⟨k.val, by omega⟩ j * D.dv (n + (30 - k.val)) j
def dwt (k : ℕ) (j : Fin 512) : ℝ := if k < 31 then D.u n j * D.dv (n + (30 - k)) j else 0
def da (j : Fin 512) : ℝ := D.du n j * sg (D.gate n j)
def dgate (j : Fin 512) : ℝ := D.du n j * D.a n j * sg (D.gate n j) * (1 - sg (D.gate n j))

/-- The pooling's gradients. -/
def dyp (q : Fin 4) (l : Fin 128) : ℝ := D.dy n (outP (lane q l))
def ypre (q : Fin 4) (l : Fin 128) : ℝ := ∑ k, D.m n (lane q k) * D.wp q k l
def dspt (q : Fin 4) (l : Fin 128) : ℝ := D.dyp n q l * D.ypre n q l
def dyi (q : Fin 4) (l : Fin 128) : ℝ := D.dyp n q l * D.sp (lane q l)
def dwpt (q : Fin 4) (k l : Fin 128) : ℝ := D.m n (lane q k) * D.dyi n q l
def dm (q : Fin 4) (l : Fin 128) : ℝ := ∑ k, D.dyi n q k * D.wp q l k
def dq (q : Fin 4) (l : Fin 128) : ℝ := if n < 4096 then D.dm n q l / ((min (n + 1) (wnd q) : ℕ) : ℝ) else 0
def dp (q : Fin 4) (l : Fin 128) : ℝ := (∑ j ∈ Finset.range (wnd q), D.dq (n + j) q l) - D.dm n q l

/-- The gradient at the first projection's output. -/
def dz (k : Fin 1536) : ℝ :=
  if h : k.val < 512 then D.da n ⟨k.val, h⟩ else if h : k.val < 1024 then D.dgate n ⟨k.val - 512, by omega⟩
  else D.dp n ⟨(k.val - 1024) / 128, by omega⟩ ⟨(k.val - 1024) % 128, by omega⟩

/-- The first norm and the gradients through it. -/
def dxn (d : Fin 1024) : ℝ := ∑ k, D.dz n k * D.win k d
def r1 : ℝ := (√((∑ d, D.x n d * D.x n d) / 1024 + eps))⁻¹
def xhat (d : Fin 1024) : ℝ := D.x n d * D.r1 n
def dgt (d : Fin 1024) : ℝ := D.dxn n d * D.xhat n d
def dnn (d : Fin 1024) : ℝ := D.dxn n d * D.g d
def dx (d : Fin 1024) : ℝ :=
  D.dh n d + D.r1 n * (D.dnn n d - D.xhat n d * ((∑ k, D.dnn n k * D.xhat n k) / 1024))

theorem dz_colA (j : Fin 512) : D.dz n (colA j) = D.da n j := by
  unfold dz
  rw [dif_pos (show (colA j).val < 512 from j.isLt)]
  rfl

theorem dz_colG (j : Fin 512) : D.dz n (colG j) = D.dgate n j := by
  have e : (colG j).val = 512 + j.val := rfl
  unfold dz
  rw [dif_neg (show ¬ (colG j).val < 512 by omega), dif_pos (show (colG j).val < 1024 by omega)]
  congr 1
  exact Fin.ext (by simp only [e]; omega)

theorem dz_colP (q : Fin 4) (l : Fin 128) : D.dz n (colP (lane q l)) = D.dp n q l := by
  have e : (colP (lane q l)).val = 1024 + (128 * q.val + l.val) := rfl
  unfold dz
  rw [dif_neg (show ¬ (colP (lane q l)).val < 512 by omega), dif_neg (show ¬ (colP (lane q l)).val < 1024 by omega)]
  congr 1 <;> exact Fin.ext (by simp only [e]; omega)

end Data

/-- The variance plus the small constant is positive. -/
theorem msq_pos {k : ℕ} (f : Fin k → ℝ) {c e : ℝ} (hc : 0 < c) (he : 0 < e) : 0 < (∑ i, f i * f i) / c + e :=
  add_pos_of_nonneg_of_pos (div_nonneg (Finset.sum_nonneg fun i _ => mul_self_nonneg (f i)) hc.le) he

/-- The reciprocal root of a mean square of 512 values plus the layer norm's constant. -/
theorem rsqrt512 (f : Fin 512 → ℝ) :
    Ideal.rsqrt (Ideal.div ((∑ i, f i * f i : ℝ) : EReal) (Ideal.ofBits .f32 0x44000000#32) + Ideal.ofBits .f32 0x3727C5AC#32)
      = (((√((∑ i, f i * f i) / 512 + lnEps))⁻¹ : ℝ) : EReal) := by
  rw [div512, cLnEps, add_c, rsqrt_c (msq_pos f (by norm_num) lnEps_pos)]

/-- The reciprocal root of a mean square of 1024 values plus the root-mean-square norm's constant. -/
theorem rsqrt1024 (f : Fin 1024 → ℝ) :
    Ideal.rsqrt (Ideal.div ((∑ i, f i * f i : ℝ) : EReal) (Ideal.ofBits .f32 0x44800000#32) + Ideal.ofBits .f32 0x358637BD#32)
      = (((√((∑ i, f i * f i) / 1024 + eps))⁻¹ : ℝ) : EReal) := by
  rw [div1024, cEps, add_c, rsqrt_c (msq_pos f (by norm_num) eps_pos)]

end Cert.Mix

end
-- ==== Proof.Mix.BlockValue.lean ====
/- The body's payloads at real arguments: every entry is the row function of Spec.lean at its row. `B` is the block's first
   row; an argument is real when each of its entries is a real number's. -/
module

public import proofs.«01_k».proof.Proof.Mix.Spec
public import proofs.«01_k».proof.Proof.Gen.Kernel2Ideal.Skeleton
public import Idealize.ShloMosaic.Lib.Pointwise

@[expose] public section

set_option maxRecDepth 16384

noncomputable section

namespace Cert.Mix

open Cert.Kernel2Ideal Cert.Kernel2Ideal.Gen Idealize.ShloMosaic Cert.Reals

variable {D : Data} {B : ℕ}

section Norm

variable {x0 : Vec Ideal S512x1024 .f32} {x13 : Vec Ideal S1024x1024 .bf16} {v : Vec Ideal S512x512 .f32}
  {lg lb : Vec Ideal S1x512 .f32}

theorem pay28 (h0 : ∀ i k, x0 (ix2 i k) = (D.dh (B + i.val) k : EReal)) (h13 : ∀ j k, x13 (ix2 j k) = (D.wo j k : EReal))
    (i : Fin 512) (j : Fin 1024) : k0_pay28 x0 x13 (ix2 i j) = (D.dy (B + i.val) j : EReal) := by
  pointwise [k0_pay28, k0_pay27, k0_pay26]
  simp only [h0, h13, mul_c, sum_c, Data.dy]

theorem pay29 (hv : ∀ i k, v (ix2 i k) = (D.v (B + i.val) k : EReal)) (i j : Fin 512) :
    k0_pay29 v (ix2 i j) = (D.xc (B + i.val) j : EReal) := by
  pointwise [k0_pay29]
  simp only [hv, sum_c, div512, sub_c, Data.xc]

theorem pay30 (hv : ∀ i k, v (ix2 i k) = (D.v (B + i.val) k : EReal)) (i : Fin 512) :
    k0_pay30 v (ix2 i 0) = (D.rstd (B + i.val) : EReal) := by
  pointwise [k0_pay30]
  simp only [pay29 hv, mul_c, sum_c, rsqrt512, Data.rstd]

theorem pay31 (hv : ∀ i k, v (ix2 i k) = (D.v (B + i.val) k : EReal)) (i j : Fin 512) :
    k0_pay31 v (ix2 i j) = (D.vhat (B + i.val) j : EReal) := by
  pointwise [k0_pay31]
  simp only [pay29 hv, pay30 hv, mul_c, Data.vhat]

theorem pay32 (hv : ∀ i k, v (ix2 i k) = (D.v (B + i.val) k : EReal)) (hg : ∀ k, lg (ix2 0 k) = (D.lg k : EReal))
    (hb : ∀ k, lb (ix2 0 k) = (D.lb k : EReal)) (i j : Fin 512) :
    k0_pay32 v lg lb (ix2 i j) = (D.ln (B + i.val) j : EReal) := by
  pointwise [k0_pay32]
  simp only [pay31 hv, hg, hb, mul_c, add_c, Data.ln]

theorem pay33 (hv : ∀ i k, v (ix2 i k) = (D.v (B + i.val) k : EReal)) (hg : ∀ k, lg (ix2 0 k) = (D.lg k : EReal))
    (hb : ∀ k, lb (ix2 0 k) = (D.lb k : EReal)) (i j : Fin 512) :
    k0_pay33 v lg lb (ix2 i j) = (sg (D.ln (B + i.val) j) : EReal) := by
  pointwise [k0_pay33]
  simp only [pay32 hv hg hb, Ideal.logistic_coe, sg]

variable {dy : FVec Ideal S512x1024 .f32} {rs : FVec Ideal S512x1 .f32} {vh ln sl : FVec Ideal S512x512 .f32}
  {old : Vec Ideal S1x512 .f32} {o : Fin 512 → ℝ}

theorem pay34 (hdy : ∀ i j, dy (ix2 i j) = (D.dy (B + i.val) j : EReal))
    (hln : ∀ i j, ln (ix2 i j) = (D.ln (B + i.val) j : EReal)) (hs : ∀ i j, sl (ix2 i j) = (sg (D.ln (B + i.val) j) : EReal))
    (i j : Fin 512) : k0_pay34 dy ln sl (ix2 i j) = (D.dln (B + i.val) j : EReal) := by
  have e : ∀ i j : Fin 512, k0_pay34 dy ln sl (ix2 i j) = dy (ix2 i (outA j)) * (sl (ix2 i j) *
      (1 + ln (ix2 i j) * (1 - sl (ix2 i j)))) := fun i j => by
    pointwise [k0_pay34]
    rfl
  rw [e]
  simp only [hdy, hln, hs, one_c, mul_c, sub_c, add_c, Data.dln]

theorem pay35 (hdy : ∀ i j, dy (ix2 i j) = (D.dy (B + i.val) j : EReal))
    (hln : ∀ i j, ln (ix2 i j) = (D.ln (B + i.val) j : EReal)) (hs : ∀ i j, sl (ix2 i j) = (sg (D.ln (B + i.val) j) : EReal))
    (hvh : ∀ i j, vh (ix2 i j) = (D.vhat (B + i.val) j : EReal)) (ho : ∀ j, old (ix2 0 j) = (o j : EReal)) (j : Fin 512) :
    k0_pay35 dy vh ln sl old (ix2 0 j)
      = ((o j + ∑ i : Fin 512, D.dln (B + i.val) j * D.vhat (B + i.val) j : ℝ) : EReal) := by
  pointwise [k0_pay35]
  simp only [pay34 hdy hln hs, hvh, ho, mul_c, sum_c, add_c]

theorem pay36 (hdy : ∀ i j, dy (ix2 i j) = (D.dy (B + i.val) j : EReal))
    (hln : ∀ i j, ln (ix2 i j) = (D.ln (B + i.val) j : EReal)) (hs : ∀ i j, sl (ix2 i j) = (sg (D.ln (B + i.val) j) : EReal))
    (ho : ∀ j, old (ix2 0 j) = (o j : EReal)) (j : Fin 512) :
    k0_pay36 dy ln sl old (ix2 0 j) = ((o j + ∑ i : Fin 512, D.dln (B + i.val) j : ℝ) : EReal) := by
  pointwise [k0_pay36]
  simp only [pay34 hdy hln hs, ho, sum_c, add_c]

theorem pay37 (hdy : ∀ i j, dy (ix2 i j) = (D.dy (B + i.val) j : EReal))
    (hln : ∀ i j, ln (ix2 i j) = (D.ln (B + i.val) j : EReal)) (hs : ∀ i j, sl (ix2 i j) = (sg (D.ln (B + i.val) j) : EReal))
    (hvh : ∀ i j, vh (ix2 i j) = (D.vhat (B + i.val) j : EReal)) (hr : ∀ i, rs (ix2 i 0) = (D.rstd (B + i.val) : EReal))
    (hg : ∀ k, lg (ix2 0 k) = (D.lg k : EReal)) (i j : Fin 512) :
    k0_pay37 dy rs vh lg ln sl (ix2 i j) = (D.dvr (B + i.val) j : EReal) := by
  pointwise [k0_pay37]
  simp only [pay34 hdy hln hs, hvh, hr, hg, mul_c, sum_c, div512, sub_c, Data.dvr, Data.dvh]

theorem pay38 {w : FVec Ideal S512x512 .f32} {f : Fin 512 → Fin 512 → ℝ} (hw : ∀ i j, w (ix2 i j) = (f i j : EReal))
    (ho : ∀ j, old (ix2 0 j) = (o j : EReal)) (j : Fin 512) :
    k0_pay38 w old (ix2 0 j) = ((o j + ∑ i, f i j : ℝ) : EReal) := by
  pointwise [k0_pay38]
  simp only [hw, ho, sum_c, add_c]

end Norm

section Conv

variable {a gt du : Vec Ideal S512x512 .f32} {u : FVec Ideal S512x512 .f32} {t : Vec Ideal S1x512x512 .f32}
  {old : Vec Ideal S1x512 .f32} {o : Fin 512 → ℝ}

theorem pay50 (hg : ∀ i j, gt (ix2 i j) = (D.gate (B + i.val) j : EReal)) (i j : Fin 512) :
    k0_pay50 gt (ix2 i j) = (sg (D.gate (B + i.val) j) : EReal) := by
  pointwise [k0_pay50]
  simp only [hg, Ideal.logistic_coe, sg]

theorem pay51 (ha : ∀ i j, a (ix2 i j) = (D.a (B + i.val) j : EReal))
    (hg : ∀ i j, gt (ix2 i j) = (D.gate (B + i.val) j : EReal)) (i j : Fin 512) :
    k0_pay51 a gt (ix2 i j) = (D.u (B + i.val) j : EReal) := by
  pointwise [k0_pay51, k0_pay49]
  simp only [ha, pay50 hg, mul_c, Data.u]

/-- A row of the convolution's gradient: what it was, plus this block's sum. -/
theorem pay52 (p : ℕ) (hu : ∀ i j, u (ix2 i j) = (D.u (B + i.val) j : EReal))
    (ht : ∀ i j, t (ix3 0 i j) = (D.dv (B + i.val + p) j : EReal)) (ho : ∀ j, old (ix2 0 j) = (o j : EReal)) (j : Fin 512) :
    k0_pay52 u t old (ix2 0 j)
      = ((o j + ∑ i : Fin 512, D.u (B + i.val) j * D.dv (B + i.val + p) j : ℝ) : EReal) := by
  pointwise [k0_pay52]
  simp only [hu, ht, ho, mul_c, sum_c, add_c]

variable {av sv : FVec Ideal S512x512 .f32}

theorem pay89 (hs : ∀ i j, sv (ix2 i j) = (sg (D.gate (B + i.val) j) : EReal))
    (hd : ∀ i j, du (ix2 i j) = (D.du (B + i.val) j : EReal)) (i j : Fin 512) :
    k0_pay89 sv du (ix2 i j) = (D.da (B + i.val) j : EReal) := by
  pointwise [k0_pay89]
  simp only [hs, hd, mul_c, Data.da]

theorem pay90 (ha : ∀ i j, av (ix2 i j) = (D.a (B + i.val) j : EReal))
    (hs : ∀ i j, sv (ix2 i j) = (sg (D.gate (B + i.val) j) : EReal))
    (hd : ∀ i j, du (ix2 i j) = (D.du (B + i.val) j : EReal)) (i j : Fin 512) :
    k0_pay90 av sv du (ix2 i j) = (D.dgate (B + i.val) j : EReal) := by
  pointwise [k0_pay90]
  simp only [ha, hs, hd, one_c, sub_c, mul_c, Data.dgate]

theorem pay91 (hs : ∀ i j, sv (ix2 i j) = (sg (D.gate (B + i.val) j) : EReal))
    (hd : ∀ i j, du (ix2 i j) = (D.du (B + i.val) j : EReal)) (i j : Fin 512) :
    k0_pay91 sv du (ix2 i j) = (D.da (B + i.val) j : EReal) := by
  pointwise [k0_pay91]
  exact pay89 hs hd i j

theorem pay92 (ha : ∀ i j, av (ix2 i j) = (D.a (B + i.val) j : EReal))
    (hs : ∀ i j, sv (ix2 i j) = (sg (D.gate (B + i.val) j) : EReal))
    (hd : ∀ i j, du (ix2 i j) = (D.du (B + i.val) j : EReal)) (i j : Fin 512) :
    k0_pay92 av sv du (ix2 i j) = (D.dgate (B + i.val) j : EReal) := by
  pointwise [k0_pay92]
  exact pay90 ha hs hd i j

theorem pay93 (hs : ∀ i j, sv (ix2 i j) = (sg (D.gate (B + i.val) j) : EReal))
    (hd : ∀ i j, du (ix2 i j) = (D.du (B + i.val) j : EReal)) (ho : ∀ j, old (ix2 0 j) = (o j : EReal)) (j : Fin 512) :
    k0_pay93 sv du old (ix2 0 j) = ((o j + ∑ i : Fin 512, D.da (B + i.val) j : ℝ) : EReal) := by
  pointwise [k0_pay93]
  simp only [pay89 hs hd, ho, sum_c, add_c]

theorem pay94 (ha : ∀ i j, av (ix2 i j) = (D.a (B + i.val) j : EReal))
    (hs : ∀ i j, sv (ix2 i j) = (sg (D.gate (B + i.val) j) : EReal))
    (hd : ∀ i j, du (ix2 i j) = (D.du (B + i.val) j : EReal)) (ho : ∀ j, old (ix2 0 j) = (o j : EReal)) (j : Fin 512) :
    k0_pay94 av sv du old (ix2 0 j) = ((o j + ∑ i : Fin 512, D.dgate (B + i.val) j : ℝ) : EReal) := by
  pointwise [k0_pay94]
  simp only [pay90 ha hs hd, ho, sum_c, add_c]

end Conv

end Cert.Mix

end
-- ==== Proof.Mix.Reads.lean ====
/- What the loads of a block read: an entry of what the memref holds, at the load's place. -/
module

public import proofs.«01_k».proof.Proof.Mix.BlockValue
public import proofs.«01_k».proof.Proof.Mix.Run
public import Idealize.ShloMosaic.Lib.WholeRead
public import Idealize.ShloMosaic.Lib.WritesUnit

@[expose] public section

set_option maxRecDepth 16384

noncomputable section

namespace Cert.Mix

open Cert.Kernel2Ideal Cert.Kernel2Ideal.Gen Idealize.ShloMosaic Idealize.ShloMosaic.TcCoe Cert.Reals

section
variable {sig' : RefSig} {κ : Kind} {sp : Space} {s : Shape} {e : EltTy}

/-- A load of a whole memref reads its contents at the load's place. -/
theorem read_at {m : Memref sig' κ sp s e} (h : m.IsWhole) (X : s.Idx → Elt Ideal e) {off size : Fin s.rank → ℕ}
    (inb : ∀ a, off a + size a ≤ s.size a) (x : (Rect.unit off size inb).shape.Idx) (y : s.Idx)
    (hy : ∀ a, (y a).val = off a + (x a).val) :
    View.readAt (Elt Ideal) m.view (Rect.unit off size inb).toLoadRect (h.unread X) x = X y :=
  (h.readAt_unread X _ x).trans (congrArg X (funext fun a => Fin.ext (by
    show off a + 1 * (x a).val = (y a).val
    rw [hy a, Nat.one_mul])))

/-- A load reads the memref's contents at the load's place. -/
theorem read_of (v : View sig' κ sp s e) (f : v.ty.Contents (Elt Ideal)) {off size : Fin s.rank → ℕ}
    (inb : ∀ a, off a + size a ≤ s.size a) (x : (Rect.unit off size inb).shape.Idx) (y : s.Idx)
    (hy : ∀ a, (y a).val = off a + (x a).val) :
    View.readAt (Elt Ideal) v (Rect.unit off size inb).toLoadRect f x = v.read (Elt Ideal) f y :=
  congrArg (v.read (Elt Ideal) f) (funext fun a => Fin.ext (by
    show off a + 1 * (x a).val = (y a).val
    rw [hy a, Nat.one_mul]))

/-- A store that covers an entry leaves its payload there. -/
theorem hit (v : View sig' κ sp s e) (f : v.ty.Contents (Elt Ideal)) {off size : Fin s.rank → ℕ}
    (inb : ∀ a, off a + size a ≤ s.size a) (w : (Rect.unit off size inb).shape.Idx → Elt Ideal e)
    (L : List (View.Piece (Elt Ideal) s e)) (y : s.Idx) (x : (Rect.unit off size inb).shape.Idx)
    (hx : ∀ a, (y a).val = off a + (x a).val) :
    v.read (Elt Ideal) (v.writes (Elt Ideal) f ((⟨Rect.unit off size inb, w⟩ : View.Piece (Elt Ideal) s e) :: L)) y = w x :=
  View.read_writes_cons_unit_of_mem v f inb w L y x rfl hx

/-- A store that misses an entry leaves what was there. -/
theorem miss (v : View sig' κ sp s e) (f : v.ty.Contents (Elt Ideal)) {off size : Fin s.rank → ℕ}
    (inb : ∀ a, off a + size a ≤ s.size a) (w : (Rect.unit off size inb).shape.Idx → Elt Ideal e)
    (L : List (View.Piece (Elt Ideal) s e)) (y : s.Idx) (a : Fin s.rank)
    (ha : (y a).val < off a ∨ off a + size a ≤ (y a).val) :
    v.read (Elt Ideal) (v.writes (Elt Ideal) f ((⟨Rect.unit off size inb, w⟩ : View.Piece (Elt Ideal) s e) :: L)) y
      = v.read (Elt Ideal) (v.writes (Elt Ideal) f L) y :=
  View.read_writes_cons_unit_of_not_mem v f inb w L y rfl a ha

end

/-- The places of a load in two or three axes, axis by axis. -/
theorem at2 {p : Fin 2 → Prop} (h0 : p 0) (h1 : p 1) : ∀ a, p a := fun a => by
  fin_cases a
  · exact h0
  · exact h1
theorem at3 {p : Fin 3 → Prop} (h0 : p 0) (h1 : p 1) (h2 : p 2) : ∀ a, p a := fun a => by
  fin_cases a
  · exact h0
  · exact h1
  · exact h2

/-- The block's inputs hold the rows from `B` on and the weights. -/
structure Blk (D : Data) (B : ℕ) (x0 : Vec Ideal S512x1024 .f32) (x1 : Vec Ideal S512x1024 .f32) (x2 : Vec Ideal S512x512 .f32) (x3 : Vec Ideal S512x512 .f32) (x4 : Vec Ideal S512x512 .f32) (x5 : Vec Ideal S512x512 .bf16) (x6 : Vec Ideal S1x1024 .f32) (x7 : Vec Ideal S1536x1024 .bf16) (x8 : Vec Ideal S32x512 .f32) (x9 : Vec Ideal S1x512 .f32) (x10 : Vec Ideal S1x512 .f32) (x11 : Vec Ideal S4x128x128 .bf16) (x12 : Vec Ideal S1x512 .f32) (x13 : Vec Ideal S1024x1024 .bf16) : Prop where
  hB : B ≤ 3584
  h0 : ∀ i k, x0 (ix2 i k) = (D.dh (B + i.val) k : EReal)
  h1 : ∀ i k, x1 (ix2 i k) = (D.x (B + i.val) k : EReal)
  h2 : ∀ i k, x2 (ix2 i k) = (D.a (B + i.val) k : EReal)
  h3 : ∀ i k, x3 (ix2 i k) = (D.gate (B + i.val) k : EReal)
  h4 : ∀ i k, x4 (ix2 i k) = (D.v (B + i.val) k : EReal)
  h6 : ∀ k, x6 (ix2 0 k) = (D.g k : EReal)
  h7 : ∀ k d, x7 (ix2 k d) = (D.win k d : EReal)
  h8 : ∀ p k, x8 (ix2 p k) = (D.w p k : EReal)
  h9 : ∀ k, x9 (ix2 0 k) = (D.lg k : EReal)
  h10 : ∀ k, x10 (ix2 0 k) = (D.lb k : EReal)
  h11 : ∀ q k l, x11 (ix3 q k l) = (D.wp q k l : EReal)
  h12 : ∀ k, x12 (ix2 0 k) = (D.sp k : EReal)
  h13 : ∀ i k, x13 (ix2 i k) = (D.wo i k : EReal)

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13)
include H

theorem l0 (inb : ∀ a, (![0, 0] : Fin 2 → ℕ) a + (![512, 1024] : Fin 2 → ℕ) a ≤ S512x1024.size a) (r : Fin 512) (k : Fin 1024) :
    View.readAt (Elt Ideal) arg1.view (Rect.unit (s := S512x1024) ![0, 0] ![512, 1024] inb).toLoadRect (harg1.unread x0) (ix2 (n0 := 512) (n1 := 1024) r k)
      = (D.dh (B + r.val) k : EReal) :=
  (read_at harg1 x0 inb (ix2 (n0 := 512) (n1 := 1024) r k) (ix2 r k) (at2 (Nat.zero_add _).symm (Nat.zero_add _).symm)).trans (H.h0 r k)
theorem l1 (inb : ∀ a, (![0, 0] : Fin 2 → ℕ) a + (![512, 1024] : Fin 2 → ℕ) a ≤ S512x1024.size a) (r : Fin 512) (k : Fin 1024) :
    View.readAt (Elt Ideal) arg2.view (Rect.unit (s := S512x1024) ![0, 0] ![512, 1024] inb).toLoadRect (harg2.unread x1) (ix2 (n0 := 512) (n1 := 1024) r k)
      = (D.x (B + r.val) k : EReal) :=
  (read_at harg2 x1 inb (ix2 (n0 := 512) (n1 := 1024) r k) (ix2 r k) (at2 (Nat.zero_add _).symm (Nat.zero_add _).symm)).trans (H.h1 r k)
theorem l6 (inb : ∀ a, (![0, 0] : Fin 2 → ℕ) a + (![1, 1024] : Fin 2 → ℕ) a ≤ S1x1024.size a) (k : Fin 1024) :
    View.readAt (Elt Ideal) arg7.view (Rect.unit (s := S1x1024) ![0, 0] ![1, 1024] inb).toLoadRect (harg7.unread x6) (ix2 (n0 := 1) (n1 := 1024) 0 k)
      = (D.g k : EReal) :=
  (read_at harg7 x6 inb (ix2 (n0 := 1) (n1 := 1024) 0 k) (ix2 0 k) (at2 rfl (Nat.zero_add _).symm)).trans (H.h6 k)
theorem l7 (inb : ∀ a, (![0, 0] : Fin 2 → ℕ) a + (![1536, 1024] : Fin 2 → ℕ) a ≤ S1536x1024.size a) (r : Fin 1536) (k : Fin 1024) :
    View.readAt (Elt Ideal) arg8.view (Rect.unit (s := S1536x1024) ![0, 0] ![1536, 1024] inb).toLoadRect (harg8.unread x7) (ix2 (n0 := 1536) (n1 := 1024) r k)
      = (D.win r k : EReal) :=
  (read_at harg8 x7 inb (ix2 (n0 := 1536) (n1 := 1024) r k) (ix2 r k) (at2 (Nat.zero_add _).symm (Nat.zero_add _).symm)).trans (H.h7 r k)
theorem l2 (inb : ∀ a, (![0, 0] : Fin 2 → ℕ) a + (![512, 512] : Fin 2 → ℕ) a ≤ S512x512.size a) (r : Fin 512) (k : Fin 512) :
    View.readAt (Elt Ideal) arg3.view (Rect.unit (s := S512x512) ![0, 0] ![512, 512] inb).toLoadRect (harg3.unread x2) (ix2 (n0 := 512) (n1 := 512) r k)
      = (D.a (B + r.val) k : EReal) :=
  (read_at harg3 x2 inb (ix2 (n0 := 512) (n1 := 512) r k) (ix2 r k) (at2 (Nat.zero_add _).symm (Nat.zero_add _).symm)).trans (H.h2 r k)
theorem l3 (inb : ∀ a, (![0, 0] : Fin 2 → ℕ) a + (![512, 512] : Fin 2 → ℕ) a ≤ S512x512.size a) (r : Fin 512) (k : Fin 512) :
    View.readAt (Elt Ideal) arg4.view (Rect.unit (s := S512x512) ![0, 0] ![512, 512] inb).toLoadRect (harg4.unread x3) (ix2 (n0 := 512) (n1 := 512) r k)
      = (D.gate (B + r.val) k : EReal) :=
  (read_at harg4 x3 inb (ix2 (n0 := 512) (n1 := 512) r k) (ix2 r k) (at2 (Nat.zero_add _).symm (Nat.zero_add _).symm)).trans (H.h3 r k)
theorem l4 (inb : ∀ a, (![0, 0] : Fin 2 → ℕ) a + (![512, 512] : Fin 2 → ℕ) a ≤ S512x512.size a) (r : Fin 512) (k : Fin 512) :
    View.readAt (Elt Ideal) arg5.view (Rect.unit (s := S512x512) ![0, 0] ![512, 512] inb).toLoadRect (harg5.unread x4) (ix2 (n0 := 512) (n1 := 512) r k)
      = (D.v (B + r.val) k : EReal) :=
  (read_at harg5 x4 inb (ix2 (n0 := 512) (n1 := 512) r k) (ix2 r k) (at2 (Nat.zero_add _).symm (Nat.zero_add _).symm)).trans (H.h4 r k)
theorem l9 (inb : ∀ a, (![0, 0] : Fin 2 → ℕ) a + (![1, 512] : Fin 2 → ℕ) a ≤ S1x512.size a) (k : Fin 512) :
    View.readAt (Elt Ideal) arg10.view (Rect.unit (s := S1x512) ![0, 0] ![1, 512] inb).toLoadRect (harg10.unread x9) (ix2 (n0 := 1) (n1 := 512) 0 k)
      = (D.lg k : EReal) :=
  (read_at harg10 x9 inb (ix2 (n0 := 1) (n1 := 512) 0 k) (ix2 0 k) (at2 rfl (Nat.zero_add _).symm)).trans (H.h9 k)
theorem l10 (inb : ∀ a, (![0, 0] : Fin 2 → ℕ) a + (![1, 512] : Fin 2 → ℕ) a ≤ S1x512.size a) (k : Fin 512) :
    View.readAt (Elt Ideal) arg11.view (Rect.unit (s := S1x512) ![0, 0] ![1, 512] inb).toLoadRect (harg11.unread x10) (ix2 (n0 := 1) (n1 := 512) 0 k)
      = (D.lb k : EReal) :=
  (read_at harg11 x10 inb (ix2 (n0 := 1) (n1 := 512) 0 k) (ix2 0 k) (at2 rfl (Nat.zero_add _).symm)).trans (H.h10 k)
theorem l13 (inb : ∀ a, (![0, 0] : Fin 2 → ℕ) a + (![1024, 1024] : Fin 2 → ℕ) a ≤ S1024x1024.size a) (r : Fin 1024) (k : Fin 1024) :
    View.readAt (Elt Ideal) arg14.view (Rect.unit (s := S1024x1024) ![0, 0] ![1024, 1024] inb).toLoadRect (harg14.unread x13) (ix2 (n0 := 1024) (n1 := 1024) r k)
      = (D.wo r k : EReal) :=
  (read_at harg14 x13 inb (ix2 (n0 := 1024) (n1 := 1024) r k) (ix2 r k) (at2 (Nat.zero_add _).symm (Nat.zero_add _).symm)).trans (H.h13 r k)
theorem l8 (p : Fin 32) (inb : ∀ a, (![p.val, 0] : Fin 2 → ℕ) a + (![1, 512] : Fin 2 → ℕ) a ≤ S32x512.size a) (k : Fin 512) :
    View.readAt (Elt Ideal) arg9.view (Rect.unit (s := S32x512) ![p.val, 0] ![1, 512] inb).toLoadRect (harg9.unread x8) (ix2 (n0 := 1) (n1 := 512) 0 k)
      = (D.w p k : EReal) :=
  (read_at harg9 x8 inb (ix2 (n0 := 1) (n1 := 512) 0 k) (ix2 p k) (at2 rfl (Nat.zero_add _).symm)).trans (H.h8 p k)
theorem l11 (q : Fin 4) (inb : ∀ a, (![q.val, 0, 0] : Fin 3 → ℕ) a + (![1, 128, 128] : Fin 3 → ℕ) a ≤ S4x128x128.size a) (k l : Fin 128) :
    View.readAt (Elt Ideal) arg12.view (Rect.unit (s := S4x128x128) ![q.val, 0, 0] ![1, 128, 128] inb).toLoadRect (harg12.unread x11) (ix3 (n0 := 1) (n1 := 128) (n2 := 128) 0 k l)
      = (D.wp q k l : EReal) :=
  (read_at harg12 x11 inb (ix3 (n0 := 1) (n1 := 128) (n2 := 128) 0 k l) (ix3 q k l) (at3 rfl (Nat.zero_add _).symm (Nat.zero_add _).symm)).trans (H.h11 q k l)
theorem l12 (q : Fin 4) (inb : ∀ a, (![0, 128 * q.val] : Fin 2 → ℕ) a + (![1, 128] : Fin 2 → ℕ) a ≤ S1x512.size a) (k : Fin 128) :
    View.readAt (Elt Ideal) arg13.view (Rect.unit (s := S1x512) ![0, 128 * q.val] ![1, 128] inb).toLoadRect (harg13.unread x12) (ix2 (n0 := 1) (n1 := 128) 0 k)
      = (D.sp (lane q k) : EReal) :=
  (read_at harg13 x12 inb (ix2 (n0 := 1) (n1 := 128) 0 k) (ix2 0 (lane q k)) (at2 rfl rfl)).trans (H.h12 _)

end Blk

end Cert.Mix

end
-- ==== Proof.Mix.Rest1.lean ====
/- The layer norm's gradients of a block, and the eight shifted copies of the convolution's gradient. -/
module

public import proofs.«01_k».proof.Proof.Mix.Reads

@[expose] public section

set_option maxRecDepth 16384
set_option maxHeartbeats 1000000
noncomputable section

namespace Cert.Mix

open Cert.Kernel2Ideal Cert.Kernel2Ideal.Gen Idealize.ShloMosaic Idealize.ShloMosaic.TcCoe Cert.Reals

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13)
include H

/-- The gradient at the convolution's output. -/
theorem dvr (r : Fin 512) (k : Fin 512) : (rest.sl.r c i arg1 harg1 arg5 harg5 arg10 harg10 arg11 harg11 arg14 harg14 x0 x4 x9 x10 x13) (ix2 r k) = (D.dvr (B + r.val) k : EReal) := by
  unfold rest.sl.r
  exact pay37 (pay28 (H.l0 _) (H.l13 _)) (pay32 (H.l4 _) (H.l9 _) (H.l10 _)) (pay33 (H.l4 _) (H.l9 _) (H.l10 _)) (pay31 (H.l4 _)) (pay30 (H.l4 _)) (H.l9 _) r k

/-- The same among all rows: it is inside the array. -/
theorem dvi (r : Fin 512) (k : Fin 512) : (rest.sl.r c i arg1 harg1 arg5 harg5 arg10 harg10 arg11 harg11 arg14 harg14 x0 x4 x9 x10 x13) (ix2 r k) = (D.dv (B + r.val) k : EReal) := by
  have := H.hB
  rw [H.dvr, Data.dv, if_pos (by omega)]

theorem H20_1 {o : Fin 512 → ℝ} (ho : ∀ k, xo20 (ix2 0 k) = (o k : EReal)) (f : arg21.view.ty.Contents (Elt Ideal)) (k : Fin 512) :
    arg21.view.read (Elt Ideal) (arg21.view.writes (Elt Ideal) f (rest.sl.H20_1 c i arg1 harg1 arg5 harg5 arg10 harg10 arg11 harg11 arg14 harg14 arg21 harg21 x0 x4 x9 x10 x13 xo20)) (ix2 0 k) = ((o k + ∑ r : Fin 512, D.dvr (B + r.val) k : ℝ) : EReal) := by
  unfold rest.sl.H20_1
  rw [hit arg21.view f inb_S1x512_S1x512_0_0 _ [] (ix2 0 k) (ix2 (n0 := 1) (n1 := 512) 0 k) (at2 rfl (Nat.zero_add _).symm)]
  refine pay38 H.dvr (fun k => ?_) k
  unfold rest.sl.r_1
  exact (read_at harg21 xo20 inb_S1x512_S1x512_0_0 (ix2 (n0 := 1) (n1 := 512) 0 k) (ix2 0 k) (at2 rfl (Nat.zero_add _).symm)).trans (ho k)

theorem H21_1 {o : Fin 512 → ℝ} (ho : ∀ k, xo21 (ix2 0 k) = (o k : EReal)) (f : arg22.view.ty.Contents (Elt Ideal)) (k : Fin 512) :
    arg22.view.read (Elt Ideal) (arg22.view.writes (Elt Ideal) f (rest.sl.H21_1 c i arg1 harg1 arg5 harg5 arg10 harg10 arg11 harg11 arg14 harg14 arg22 harg22 x0 x4 x9 x10 x13 xo21)) (ix2 0 k) = ((o k + ∑ r : Fin 512, D.dln (B + r.val) k * D.vhat (B + r.val) k : ℝ) : EReal) := by
  unfold rest.sl.H21_1
  rw [hit arg22.view f inb_S1x512_S1x512_0_0 _ [] (ix2 0 k) (ix2 (n0 := 1) (n1 := 512) 0 k) (at2 rfl (Nat.zero_add _).symm)]
  refine pay35 (pay28 (H.l0 _) (H.l13 _)) (pay32 (H.l4 _) (H.l9 _) (H.l10 _)) (pay33 (H.l4 _) (H.l9 _) (H.l10 _)) (pay31 (H.l4 _)) (fun k => ?_) k
  skip
  exact (read_at harg22 xo21 inb_S1x512_S1x512_0_0 (ix2 (n0 := 1) (n1 := 512) 0 k) (ix2 0 k) (at2 rfl (Nat.zero_add _).symm)).trans (ho k)

theorem H22_1 {o : Fin 512 → ℝ} (ho : ∀ k, xo22 (ix2 0 k) = (o k : EReal)) (f : arg23.view.ty.Contents (Elt Ideal)) (k : Fin 512) :
    arg23.view.read (Elt Ideal) (arg23.view.writes (Elt Ideal) f (rest.sl.H22_1 c i arg1 harg1 arg5 harg5 arg10 harg10 arg11 harg11 arg14 harg14 arg23 harg23 x0 x4 x9 x10 x13 xo22)) (ix2 0 k) = ((o k + ∑ r : Fin 512, D.dln (B + r.val) k : ℝ) : EReal) := by
  unfold rest.sl.H22_1
  rw [hit arg23.view f inb_S1x512_S1x512_0_0 _ [] (ix2 0 k) (ix2 (n0 := 1) (n1 := 512) 0 k) (at2 rfl (Nat.zero_add _).symm)]
  refine pay36 (pay28 (H.l0 _) (H.l13 _)) (pay32 (H.l4 _) (H.l9 _) (H.l10 _)) (pay33 (H.l4 _) (H.l9 _) (H.l10 _)) (fun k => ?_) k
  skip
  exact (read_at harg23 xo22 inb_S1x512_S1x512_0_0 (ix2 (n0 := 1) (n1 := 512) 0 k) (ix2 0 k) (at2 rfl (Nat.zero_add _).symm)).trans (ho k)

end Blk

end Cert.Mix

end
-- ==== Proof.Mix.Rest2.lean ====
/- The eight shifted copies of the convolution's gradient: copy `s` holds at row `r` the gradient of row `s + r` of the block. -/
module

public import proofs.«01_k».proof.Proof.Mix.Rest1

@[expose] public section

set_option maxRecDepth 16384
set_option maxHeartbeats 1000000
noncomputable section

namespace Cert.Mix

open Cert.Kernel2Ideal Cert.Kernel2Ideal.Gen Idealize.ShloMosaic Idealize.ShloMosaic.TcCoe Cert.Reals

/-- What the block before left behind the block's last row: the gradients of the next 32 rows. -/
structure Halo (D : Data) (B : ℕ) (xs0 : Vec Ideal S8x544x512 .f32) : Prop where
  conv : ∀ (p : Fin 32) (k : Fin 512), xs0 (ix3 0 ⟨512 + p.val, by omega⟩ k) = (D.dv (B + (512 + p.val)) k : EReal)

/-- The first `n` copies hold what they should: the first one on its first `b` rows, the others on 536. -/
def Planes (D : Data) (B : ℕ) {m : Memref sig .tc .vmem S8x544x512 .f32} (f : m.view.ty.Contents (Elt Ideal))
    (L : List (View.Piece (Elt Ideal) S8x544x512 .f32)) (n b : ℕ) : Prop :=
  ∀ s : Fin 8, s.val < n → ∀ (r : Fin 544) (k : Fin 512), (s.val ≠ 0 ∧ r.val < 536) ∨ (s.val = 0 ∧ r.val < b) →
    m.view.read (Elt Ideal) (m.view.writes (Elt Ideal) f L) (ix3 s r k) = (D.dv (B + (s.val + r.val)) k : EReal)

section
variable {D : Data} {B : ℕ} {m : Memref sig .tc .vmem S8x544x512 .f32} {f : m.view.ty.Contents (Elt Ideal)}
  {L : List (View.Piece (Elt Ideal) S8x544x512 .f32)} {n b : ℕ}

/-- One more copy. -/
theorem Planes.step (hL : Planes D B f L n b) (hn : 0 < n)
    (inb : ∀ a, (![n, 0, 0] : Fin 3 → ℕ) a + (![1, 536, 512] : Fin 3 → ℕ) a ≤ S8x544x512.size a)
    (w : Vec Ideal S1x536x512 .f32) (hw : ∀ (r : Fin 536) (k : Fin 512), w (ix3 0 r k) = (D.dv (B + (n + r.val)) k : EReal)) :
    Planes D B f ((⟨Rect.unit (s := S8x544x512) ![n, 0, 0] ![1, 536, 512] inb, w⟩ : View.Piece (Elt Ideal) S8x544x512 .f32) :: L) (n + 1) b := by
  intro s hs r k hr
  by_cases e : s.val = n
  · have h : r.val < 536 := by omega
    rw [hit m.view f inb w L (ix3 s r k) (ix3 (n0 := 1) (n1 := 536) (n2 := 512) 0 ⟨r.val, h⟩ k)
      (at3 e (Nat.zero_add _).symm (Nat.zero_add _).symm)]
    exact (hw ⟨r.val, h⟩ k).trans (by rw [e])
  · rw [miss m.view f inb w L (ix3 s r k) 0 (Or.inl (by show s.val < n; omega))]
    exact hL s (by omega) r k hr

/-- A load of the first copy's rows from `n` on is the next copy. -/
theorem Planes.shift (hL : Planes D B f L n 544) (hn : 0 < n) (o : ℕ) (ho : o ≤ 8)
    (inb : ∀ a, (![0, o, 0] : Fin 3 → ℕ) a + (![1, 536, 512] : Fin 3 → ℕ) a ≤ S8x544x512.size a) (r : Fin 536) (k : Fin 512) :
    View.readAt (Elt Ideal) m.view (Rect.unit (s := S8x544x512) ![0, o, 0] ![1, 536, 512] inb).toLoadRect
      (m.view.writes (Elt Ideal) f L) (ix3 (n0 := 1) (n1 := 536) (n2 := 512) 0 r k) = (D.dv (B + (o + r.val)) k : EReal) := by
  rw [read_of m.view _ inb (ix3 (n0 := 1) (n1 := 536) (n2 := 512) 0 r k) (ix3 0 ⟨o + r.val, by omega⟩ k)
    (at3 rfl rfl (Nat.zero_add _).symm), hL 0 hn ⟨o + r.val, by omega⟩ k (Or.inr ⟨rfl, by show o + r.val < 544; omega⟩)]
  show (D.dv (B + (0 + (o + r.val))) k : EReal) = _
  rw [Nat.zero_add]

/-- A load of 512 rows of copy `s` from row `o` on. -/
theorem Planes.tap (hL : Planes D B f L n b) (s : Fin 8) (hs : s.val < n) (o : ℕ) (ho : o ≤ 24) (hb : s.val ≠ 0 ∨ o + 512 ≤ b)
    (inb : ∀ a, (![s.val, o, 0] : Fin 3 → ℕ) a + (![1, 512, 512] : Fin 3 → ℕ) a ≤ S8x544x512.size a) (r : Fin 512) (k : Fin 512) :
    View.readAt (Elt Ideal) m.view (Rect.unit (s := S8x544x512) ![s.val, o, 0] ![1, 512, 512] inb).toLoadRect
      (m.view.writes (Elt Ideal) f L) (ix3 (n0 := 1) (n1 := 512) (n2 := 512) 0 r k) = (D.dv (B + r.val + (o + s.val)) k : EReal) := by
  rw [read_of m.view _ inb (ix3 (n0 := 1) (n1 := 512) (n2 := 512) 0 r k) (ix3 s ⟨o + r.val, by omega⟩ k)
    (at3 rfl rfl (Nat.zero_add _).symm), hL s hs ⟨o + r.val, by omega⟩ k (by show (s.val ≠ 0 ∧ o + r.val < 536) ∨ (s.val = 0 ∧ o + r.val < b); omega)]
  show (D.dv (B + (s.val + (o + r.val))) k : EReal) = _
  rw [show B + (s.val + (o + r.val)) = B + r.val + (o + s.val) by omega]
end

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13) (hh : Halo D B xs0)
include H hh

theorem planes_1 : Planes D B (m := arg26) (harg26.unread xs0) (rest.sl.HS0_1 c i arg1 harg1 arg5 harg5 arg10 harg10 arg11 harg11 arg14 harg14 x0 x4 x9 x10 x13) 1 544 := by
  intro s hs r k _
  obtain rfl : s = 0 := Fin.ext (by show s.val = 0; omega)
  show _ = (D.dv (B + (0 + r.val)) k : EReal)
  rw [Nat.zero_add]
  unfold rest.sl.HS0_1
  by_cases h : r.val < 512
  · rw [hit arg26.view _ inb_S8x544x512_S1x512x512_0_0_0 _ [] (ix3 0 r k) (ix3 (n0 := 1) (n1 := 512) (n2 := 512) 0 ⟨r.val, h⟩ k)
      (at3 rfl (Nat.zero_add _).symm (Nat.zero_add _).symm)]
    exact (by pointwise [k0_pay39] : k0_pay39 (rest.sl.r c i arg1 harg1 arg5 harg5 arg10 harg10 arg11 harg11 arg14 harg14 x0 x4 x9 x10 x13) (ix3 0 ⟨r.val, h⟩ k) = (rest.sl.r c i arg1 harg1 arg5 harg5 arg10 harg10 arg11 harg11 arg14 harg14 x0 x4 x9 x10 x13) (ix2 ⟨r.val, h⟩ k)).trans (H.dvi ⟨r.val, h⟩ k)
  · rw [miss arg26.view _ inb_S8x544x512_S1x512x512_0_0_0 _ [] (ix3 0 r k) 1 (Or.inr (by show 0 + 512 ≤ r.val; omega))]
    rw [View.writes_nil, harg26.read_unread]
    have e : r = ⟨512 + (r.val - 512), by omega⟩ := Fin.ext (by show r.val = 512 + (r.val - 512); omega)
    rw [e]
    exact hh.conv ⟨r.val - 512, by omega⟩ k

theorem planes_2 : Planes D B (m := arg26) (harg26.unread xs0) (rest.sl.HS0_2 c i arg1 harg1 arg5 harg5 arg10 harg10 arg11 harg11 arg14 harg14 arg26 harg26 x0 x4 x9 x10 x13 xs0) 2 544 := by
  unfold rest.sl.HS0_2
  refine Planes.step (H.planes_1 hh) (by decide) _ _ fun r k => ?_
  pointwise [k0_pay40]
  unfold rest.sl.v84
  exact (H.planes_1 hh).shift (by decide) 1 (by decide) _ r k

theorem planes_3 : Planes D B (m := arg26) (harg26.unread xs0) (rest.sl.HS0_3 c i arg1 harg1 arg5 harg5 arg10 harg10 arg11 harg11 arg14 harg14 arg26 harg26 x0 x4 x9 x10 x13 xs0) 3 544 := by
  unfold rest.sl.HS0_3
  refine Planes.step (H.planes_2 hh) (by decide) _ _ fun r k => ?_
  pointwise [k0_pay41]
  unfold rest.sl.v89
  exact (H.planes_2 hh).shift (by decide) 2 (by decide) _ r k

theorem planes_4 : Planes D B (m := arg26) (harg26.unread xs0) (rest.sl.HS0_4 c i arg1 harg1 arg5 harg5 arg10 harg10 arg11 harg11 arg14 harg14 arg26 harg26 x0 x4 x9 x10 x13 xs0) 4 544 := by
  unfold rest.sl.HS0_4
  refine Planes.step (H.planes_3 hh) (by decide) _ _ fun r k => ?_
  pointwise [k0_pay42]
  unfold rest.sl.v94
  exact (H.planes_3 hh).shift (by decide) 3 (by decide) _ r k

theorem planes_5 : Planes D B (m := arg26) (harg26.unread xs0) (rest.sl.HS0_5 c i arg1 harg1 arg5 harg5 arg10 harg10 arg11 harg11 arg14 harg14 arg26 harg26 x0 x4 x9 x10 x13 xs0) 5 544 := by
  unfold rest.sl.HS0_5
  refine Planes.step (H.planes_4 hh) (by decide) _ _ fun r k => ?_
  pointwise [k0_pay44, rest.sl.r_2, k0_pay43]
  unfold rest.sl.v99
  exact (H.planes_4 hh).shift (by decide) 4 (by decide) _ r k

theorem planes_6 : Planes D B (m := arg26) (harg26.unread xs0) (rest.sl.HS0_6 c i arg1 harg1 arg5 harg5 arg10 harg10 arg11 harg11 arg14 harg14 arg26 harg26 x0 x4 x9 x10 x13 xs0) 6 544 := by
  unfold rest.sl.HS0_6
  refine Planes.step (H.planes_5 hh) (by decide) _ _ fun r k => ?_
  pointwise [k0_pay45]
  unfold rest.sl.v104
  exact (H.planes_5 hh).shift (by decide) 5 (by decide) _ r k

theorem planes_7 : Planes D B (m := arg26) (harg26.unread xs0) (rest.sl.HS0_7 c i arg1 harg1 arg5 harg5 arg10 harg10 arg11 harg11 arg14 harg14 arg26 harg26 x0 x4 x9 x10 x13 xs0) 7 544 := by
  unfold rest.sl.HS0_7
  refine Planes.step (H.planes_6 hh) (by decide) _ _ fun r k => ?_
  pointwise [k0_pay46]
  unfold rest.sl.v109
  exact (H.planes_6 hh).shift (by decide) 6 (by decide) _ r k

theorem planes : Planes D B (m := arg26) (harg26.unread xs0) (⟨Rect.unit ![7, 0, 0] S1x536x512.size inb_S8x544x512_S1x536x512_7_0_0, k0_pay47 (rest.sl.v114 c i arg1 harg1 arg5 harg5 arg10 harg10 arg11 harg11 arg14 harg14 arg26 harg26 x0 x4 x9 x10 x13 xs0)⟩ :: (rest.sl.HS0_7 c i arg1 harg1 arg5 harg5 arg10 harg10 arg11 harg11 arg14 harg14 arg26 harg26 x0 x4 x9 x10 x13 xs0)) 8 544 := by
  refine Planes.step (H.planes_7 hh) (by decide) _ _ fun r k => ?_
  pointwise [k0_pay47]
  unfold rest.sl.v114
  exact (H.planes_7 hh).shift (by decide) 7 (by decide) _ r k

omit hh in
theorem cov_1 (f : arg26.view.ty.Contents (Elt Ideal)) : Planes D B (m := arg26) f (rest.sl.HS0_1 c i arg1 harg1 arg5 harg5 arg10 harg10 arg11 harg11 arg14 harg14 x0 x4 x9 x10 x13) 1 512 := by
  intro s hs r k hr
  obtain rfl : s = 0 := Fin.ext (by show s.val = 0; omega)
  have h : r.val < 512 := (hr.resolve_left fun h => h.1 rfl).2
  show _ = (D.dv (B + (0 + r.val)) k : EReal)
  rw [Nat.zero_add]
  unfold rest.sl.HS0_1
  rw [hit arg26.view _ inb_S8x544x512_S1x512x512_0_0_0 _ [] (ix3 0 r k) (ix3 (n0 := 1) (n1 := 512) (n2 := 512) 0 ⟨r.val, h⟩ k)
      (at3 rfl (Nat.zero_add _).symm (Nat.zero_add _).symm)]
  exact (by pointwise [k0_pay39] : k0_pay39 (rest.sl.r c i arg1 harg1 arg5 harg5 arg10 harg10 arg11 harg11 arg14 harg14 x0 x4 x9 x10 x13) (ix3 0 ⟨r.val, h⟩ k) = (rest.sl.r c i arg1 harg1 arg5 harg5 arg10 harg10 arg11 harg11 arg14 harg14 x0 x4 x9 x10 x13) (ix2 ⟨r.val, h⟩ k)).trans (H.dvi ⟨r.val, h⟩ k)

theorem cov_2 (f : arg26.view.ty.Contents (Elt Ideal)) : Planes D B (m := arg26) f (rest.sl.HS0_2 c i arg1 harg1 arg5 harg5 arg10 harg10 arg11 harg11 arg14 harg14 arg26 harg26 x0 x4 x9 x10 x13 xs0) 2 512 := by
  unfold rest.sl.HS0_2
  refine Planes.step (H.cov_1 f) (by decide) _ _ fun r k => ?_
  pointwise [k0_pay40]
  unfold rest.sl.v84
  exact (H.planes_1 hh).shift (by decide) 1 (by decide) _ r k

theorem cov_3 (f : arg26.view.ty.Contents (Elt Ideal)) : Planes D B (m := arg26) f (rest.sl.HS0_3 c i arg1 harg1 arg5 harg5 arg10 harg10 arg11 harg11 arg14 harg14 arg26 harg26 x0 x4 x9 x10 x13 xs0) 3 512 := by
  unfold rest.sl.HS0_3
  refine Planes.step (H.cov_2 hh f) (by decide) _ _ fun r k => ?_
  pointwise [k0_pay41]
  unfold rest.sl.v89
  exact (H.planes_2 hh).shift (by decide) 2 (by decide) _ r k

theorem cov_4 (f : arg26.view.ty.Contents (Elt Ideal)) : Planes D B (m := arg26) f (rest.sl.HS0_4 c i arg1 harg1 arg5 harg5 arg10 harg10 arg11 harg11 arg14 harg14 arg26 harg26 x0 x4 x9 x10 x13 xs0) 4 512 := by
  unfold rest.sl.HS0_4
  refine Planes.step (H.cov_3 hh f) (by decide) _ _ fun r k => ?_
  pointwise [k0_pay42]
  unfold rest.sl.v94
  exact (H.planes_3 hh).shift (by decide) 3 (by decide) _ r k

theorem cov_5 (f : arg26.view.ty.Contents (Elt Ideal)) : Planes D B (m := arg26) f (rest.sl.HS0_5 c i arg1 harg1 arg5 harg5 arg10 harg10 arg11 harg11 arg14 harg14 arg26 harg26 x0 x4 x9 x10 x13 xs0) 5 512 := by
  unfold rest.sl.HS0_5
  refine Planes.step (H.cov_4 hh f) (by decide) _ _ fun r k => ?_
  pointwise [k0_pay44, rest.sl.r_2, k0_pay43]
  unfold rest.sl.v99
  exact (H.planes_4 hh).shift (by decide) 4 (by decide) _ r k

theorem cov_6 (f : arg26.view.ty.Contents (Elt Ideal)) : Planes D B (m := arg26) f (rest.sl.HS0_6 c i arg1 harg1 arg5 harg5 arg10 harg10 arg11 harg11 arg14 harg14 arg26 harg26 x0 x4 x9 x10 x13 xs0) 6 512 := by
  unfold rest.sl.HS0_6
  refine Planes.step (H.cov_5 hh f) (by decide) _ _ fun r k => ?_
  pointwise [k0_pay45]
  unfold rest.sl.v104
  exact (H.planes_5 hh).shift (by decide) 5 (by decide) _ r k

theorem cov_7 (f : arg26.view.ty.Contents (Elt Ideal)) : Planes D B (m := arg26) f (rest.sl.HS0_7 c i arg1 harg1 arg5 harg5 arg10 harg10 arg11 harg11 arg14 harg14 arg26 harg26 x0 x4 x9 x10 x13 xs0) 7 512 := by
  unfold rest.sl.HS0_7
  refine Planes.step (H.cov_6 hh f) (by decide) _ _ fun r k => ?_
  pointwise [k0_pay46]
  unfold rest.sl.v109
  exact (H.planes_6 hh).shift (by decide) 6 (by decide) _ r k

theorem cov (f : arg26.view.ty.Contents (Elt Ideal)) : Planes D B (m := arg26) f (⟨Rect.unit ![7, 0, 0] S1x536x512.size inb_S8x544x512_S1x536x512_7_0_0, k0_pay47 (rest.sl.v114 c i arg1 harg1 arg5 harg5 arg10 harg10 arg11 harg11 arg14 harg14 arg26 harg26 x0 x4 x9 x10 x13 xs0)⟩ :: (rest.sl.HS0_7 c i arg1 harg1 arg5 harg5 arg10 harg10 arg11 harg11 arg14 harg14 arg26 harg26 x0 x4 x9 x10 x13 xs0)) 8 512 := by
  refine Planes.step (H.cov_7 hh f) (by decide) _ _ fun r k => ?_
  pointwise [k0_pay47]
  unfold rest.sl.v114
  exact (H.planes_7 hh).shift (by decide) 7 (by decide) _ r k

end Blk

end Cert.Mix

end
-- ==== Proof.Mix.Rest3.lean ====
/- The gradient of the convolution's weights: every row gains the block's sum of products with its shifted copy. -/
module

public import proofs.«01_k».proof.Proof.Mix.Rest2

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

/-- The first `n` rows hold what they should, and the others what they held. -/
def Rows {m : Memref sig .tc .vmem S32x512 .f32} (f : m.view.ty.Contents (Elt Ideal)) (old new : Fin 32 → Fin 512 → ℝ)
    (L : List (View.Piece (Elt Ideal) S32x512 .f32)) (n : ℕ) : Prop :=
  ∀ (p : Fin 32) (k : Fin 512),
    m.view.read (Elt Ideal) (m.view.writes (Elt Ideal) f L) (ix2 p k) = ((if p.val < n then new p k else old p k : ℝ) : EReal)

/-- One more row. -/
theorem Rows.step {m : Memref sig .tc .vmem S32x512 .f32} {f : m.view.ty.Contents (Elt Ideal)} {old new : Fin 32 → Fin 512 → ℝ}
    {L : List (View.Piece (Elt Ideal) S32x512 .f32)} (n : Fin 32) (hL : Rows f old new L n.val)
    (inb : ∀ a, (![n.val, 0] : Fin 2 → ℕ) a + (![1, 512] : Fin 2 → ℕ) a ≤ S32x512.size a) (w : Vec Ideal S1x512 .f32)
    (hw : ∀ k, w (ix2 0 k) = (new n k : EReal)) :
    Rows f old new ((⟨Rect.unit (s := S32x512) ![n.val, 0] ![1, 512] inb, w⟩ : View.Piece (Elt Ideal) S32x512 .f32) :: L) (n.val + 1) := by
  intro p k
  by_cases e : p = n
  · subst e
    rw [hit m.view f inb w L (ix2 p k) (ix2 (n0 := 1) (n1 := 512) 0 k) (at2 rfl (Nat.zero_add _).symm), hw k, if_pos (Nat.lt_succ_self _)]
  · have e' : p.val ≠ n.val := fun h => e (Fin.ext h)
    rw [miss m.view f inb w L (ix2 p k) 0 (by show p.val < n.val ∨ n.val + 1 ≤ p.val; omega), hL p k]
    congr 2
    exact propext (by omega)

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13) (hh : Halo D B xs0)
include H

theorem u (r k : Fin 512) : (rest.sl.r_5 c arg3 harg3 arg4 harg4 x2 x3) (ix2 r k) = (D.u (B + r.val) k : EReal) := by
  unfold rest.sl.r_5
  exact pay51 (H.l2 _) (H.l3 _) r k

theorem row0 {o : Fin 32 → Fin 512 → ℝ} (hh : Halo D B xs0) (ho : ∀ p k, xo19 (ix2 p k) = (o p k : EReal)) (k : Fin 512) :
    (k0_pay52 (rest.sl.r_5 c arg3 harg3 arg4 harg4 x2 x3) (rest.sl.v126 c i arg1 harg1 arg5 harg5 arg10 harg10 arg11 harg11 arg14 harg14 arg26 harg26 x0 x4 x9 x10 x13 xs0) (View.readAt (Elt Ideal) arg20.view (Rect.unit (s := S32x512) ![0, 0] S1x512.size inb_S32x512_S1x512_0_0).toLoadRect (harg20.unread xo19)) : FVec Ideal S1x512 .f32) (ix2 0 k)
      = ((o 0 k + ∑ r : Fin 512, D.u (B + r.val) k * D.dv (B + r.val + 30) k : ℝ) : EReal) := by
  unfold rest.sl.v126
  refine pay52 30 H.u (fun r k => ?_) (fun k => ?_) k
  · exact (H.cov hh arg26.view.junk).tap 6 (by decide) 24 (by decide) (by decide) _ r k
  · exact (read_at harg20 xo19 inb_S32x512_S1x512_0_0 (ix2 (n0 := 1) (n1 := 512) 0 k) (ix2 0 k) (at2 rfl (Nat.zero_add _).symm)).trans (ho 0 k)

theorem row1 {o : Fin 32 → Fin 512 → ℝ} (hh : Halo D B xs0) (ho : ∀ p k, xo19 (ix2 p k) = (o p k : EReal)) (k : Fin 512) :
    (k0_pay53 (rest.sl.r_5 c arg3 harg3 arg4 harg4 x2 x3) (rest.sl.v135 c i arg1 harg1 arg5 harg5 arg10 harg10 arg11 harg11 arg14 harg14 arg26 harg26 x0 x4 x9 x10 x13 xs0) (rest.sl.v138 c arg20 harg20 xo19) : FVec Ideal S1x512 .f32) (ix2 0 k)
      = ((o 1 k + ∑ r : Fin 512, D.u (B + r.val) k * D.dv (B + r.val + 29) k : ℝ) : EReal) := by
  unfold rest.sl.v135 rest.sl.v138
  refine pay52 29 H.u (fun r k => ?_) (fun k => ?_) k
  · exact (H.cov hh arg26.view.junk).tap 5 (by decide) 24 (by decide) (by decide) _ r k
  · exact (read_at harg20 xo19 inb_S32x512_S1x512_1_0 (ix2 (n0 := 1) (n1 := 512) 0 k) (ix2 1 k) (at2 rfl (Nat.zero_add _).symm)).trans (ho 1 k)

theorem row2 {o : Fin 32 → Fin 512 → ℝ} (hh : Halo D B xs0) (ho : ∀ p k, xo19 (ix2 p k) = (o p k : EReal)) (k : Fin 512) :
    (k0_pay54 (rest.sl.r_5 c arg3 harg3 arg4 harg4 x2 x3) (rest.sl.v144 c i arg1 harg1 arg5 harg5 arg10 harg10 arg11 harg11 arg14 harg14 arg26 harg26 x0 x4 x9 x10 x13 xs0) (rest.sl.v147 c arg20 harg20 xo19) : FVec Ideal S1x512 .f32) (ix2 0 k)
      = ((o 2 k + ∑ r : Fin 512, D.u (B + r.val) k * D.dv (B + r.val + 28) k : ℝ) : EReal) := by
  unfold rest.sl.v144 rest.sl.v147
  refine pay52 28 H.u (fun r k => ?_) (fun k => ?_) k
  · exact (H.cov hh arg26.view.junk).tap 4 (by decide) 24 (by decide) (by decide) _ r k
  · exact (read_at harg20 xo19 inb_S32x512_S1x512_2_0 (ix2 (n0 := 1) (n1 := 512) 0 k) (ix2 2 k) (at2 rfl (Nat.zero_add _).symm)).trans (ho 2 k)

theorem row3 {o : Fin 32 → Fin 512 → ℝ} (hh : Halo D B xs0) (ho : ∀ p k, xo19 (ix2 p k) = (o p k : EReal)) (k : Fin 512) :
    (k0_pay57 (rest.sl.r_6 c i arg1 harg1 arg3 harg3 arg4 harg4 arg5 harg5 arg10 harg10 arg11 harg11 arg14 harg14 arg26 harg26 x0 x2 x3 x4 x9 x10 x13 xs0) (rest.sl.r_7 c arg20 harg20 xo19) : FVec Ideal S1x512 .f32) (ix2 0 k)
      = ((o 3 k + ∑ r : Fin 512, D.u (B + r.val) k * D.dv (B + r.val + 27) k : ℝ) : EReal) := by
  unfold rest.sl.r_6 rest.sl.r_7 rest.sl.v153 rest.sl.v156
  refine pay52 27 H.u (fun r k => ?_) (fun k => ?_) k
  · exact (H.cov hh arg26.view.junk).tap 3 (by decide) 24 (by decide) (by decide) _ r k
  · exact (read_at harg20 xo19 inb_S32x512_S1x512_3_0 (ix2 (n0 := 1) (n1 := 512) 0 k) (ix2 3 k) (at2 rfl (Nat.zero_add _).symm)).trans (ho 3 k)

theorem row4 {o : Fin 32 → Fin 512 → ℝ} (hh : Halo D B xs0) (ho : ∀ p k, xo19 (ix2 p k) = (o p k : EReal)) (k : Fin 512) :
    (k0_pay58 (rest.sl.r_5 c arg3 harg3 arg4 harg4 x2 x3) (rest.sl.v162 c i arg1 harg1 arg5 harg5 arg10 harg10 arg11 harg11 arg14 harg14 arg26 harg26 x0 x4 x9 x10 x13 xs0) (rest.sl.v165 c arg20 harg20 xo19) : FVec Ideal S1x512 .f32) (ix2 0 k)
      = ((o 4 k + ∑ r : Fin 512, D.u (B + r.val) k * D.dv (B + r.val + 26) k : ℝ) : EReal) := by
  unfold rest.sl.v162 rest.sl.v165
  refine pay52 26 H.u (fun r k => ?_) (fun k => ?_) k
  · exact (H.cov hh arg26.view.junk).tap 2 (by decide) 24 (by decide) (by decide) _ r k
  · exact (read_at harg20 xo19 inb_S32x512_S1x512_4_0 (ix2 (n0 := 1) (n1 := 512) 0 k) (ix2 4 k) (at2 rfl (Nat.zero_add _).symm)).trans (ho 4 k)

theorem row5 {o : Fin 32 → Fin 512 → ℝ} (hh : Halo D B xs0) (ho : ∀ p k, xo19 (ix2 p k) = (o p k : EReal)) (k : Fin 512) :
    (k0_pay59 (rest.sl.r_5 c arg3 harg3 arg4 harg4 x2 x3) (rest.sl.v171 c i arg1 harg1 arg5 harg5 arg10 harg10 arg11 harg11 arg14 harg14 arg26 harg26 x0 x4 x9 x10 x13 xs0) (rest.sl.v174 c arg20 harg20 xo19) : FVec Ideal S1x512 .f32) (ix2 0 k)
      = ((o 5 k + ∑ r : Fin 512, D.u (B + r.val) k * D.dv (B + r.val + 25) k : ℝ) : EReal) := by
  unfold rest.sl.v171 rest.sl.v174
  refine pay52 25 H.u (fun r k => ?_) (fun k => ?_) k
  · exact (H.cov hh arg26.view.junk).tap 1 (by decide) 24 (by decide) (by decide) _ r k
  · exact (read_at harg20 xo19 inb_S32x512_S1x512_5_0 (ix2 (n0 := 1) (n1 := 512) 0 k) (ix2 5 k) (at2 rfl (Nat.zero_add _).symm)).trans (ho 5 k)

theorem row6 {o : Fin 32 → Fin 512 → ℝ} (hh : Halo D B xs0) (ho : ∀ p k, xo19 (ix2 p k) = (o p k : EReal)) (k : Fin 512) :
    ((rest.sl.r_8 c i arg1 harg1 arg3 harg3 arg4 harg4 arg5 harg5 arg10 harg10 arg11 harg11 arg14 harg14 arg20 harg20 arg26 harg26 x0 x2 x3 x4 x9 x10 x13 xo19 xs0) : FVec Ideal S1x512 .f32) (ix2 0 k)
      = ((o 6 k + ∑ r : Fin 512, D.u (B + r.val) k * D.dv (B + r.val + 24) k : ℝ) : EReal) := by
  unfold rest.sl.r_8 rest.sl.v180 rest.sl.v183
  refine pay52 24 H.u (fun r k => ?_) (fun k => ?_) k
  · exact (H.planes hh).tap 0 (by decide) 24 (by decide) (by decide) _ r k
  · exact (read_at harg20 xo19 inb_S32x512_S1x512_6_0 (ix2 (n0 := 1) (n1 := 512) 0 k) (ix2 6 k) (at2 rfl (Nat.zero_add _).symm)).trans (ho 6 k)

theorem row7 {o : Fin 32 → Fin 512 → ℝ} (hh : Halo D B xs0) (ho : ∀ p k, xo19 (ix2 p k) = (o p k : EReal)) (k : Fin 512) :
    (k0_pay61 (rest.sl.r_5 c arg3 harg3 arg4 harg4 x2 x3) (rest.sl.v189 c i arg1 harg1 arg5 harg5 arg10 harg10 arg11 harg11 arg14 harg14 arg26 harg26 x0 x4 x9 x10 x13 xs0) (rest.sl.v192 c arg20 harg20 xo19) : FVec Ideal S1x512 .f32) (ix2 0 k)
      = ((o 7 k + ∑ r : Fin 512, D.u (B + r.val) k * D.dv (B + r.val + 23) k : ℝ) : EReal) := by
  unfold rest.sl.v189 rest.sl.v192
  refine pay52 23 H.u (fun r k => ?_) (fun k => ?_) k
  · exact (H.cov hh arg26.view.junk).tap 7 (by decide) 16 (by decide) (by decide) _ r k
  · exact (read_at harg20 xo19 inb_S32x512_S1x512_7_0 (ix2 (n0 := 1) (n1 := 512) 0 k) (ix2 7 k) (at2 rfl (Nat.zero_add _).symm)).trans (ho 7 k)

theorem row8 {o : Fin 32 → Fin 512 → ℝ} (hh : Halo D B xs0) (ho : ∀ p k, xo19 (ix2 p k) = (o p k : EReal)) (k : Fin 512) :
    (k0_pay62 (rest.sl.r_5 c arg3 harg3 arg4 harg4 x2 x3) (rest.sl.v198 c i arg1 harg1 arg5 harg5 arg10 harg10 arg11 harg11 arg14 harg14 arg26 harg26 x0 x4 x9 x10 x13 xs0) (rest.sl.v201 c arg20 harg20 xo19) : FVec Ideal S1x512 .f32) (ix2 0 k)
      = ((o 8 k + ∑ r : Fin 512, D.u (B + r.val) k * D.dv (B + r.val + 22) k : ℝ) : EReal) := by
  unfold rest.sl.v198 rest.sl.v201
  refine pay52 22 H.u (fun r k => ?_) (fun k => ?_) k
  · exact (H.cov hh arg26.view.junk).tap 6 (by decide) 16 (by decide) (by decide) _ r k
  · exact (read_at harg20 xo19 inb_S32x512_S1x512_8_0 (ix2 (n0 := 1) (n1 := 512) 0 k) (ix2 8 k) (at2 rfl (Nat.zero_add _).symm)).trans (ho 8 k)

theorem row9 {o : Fin 32 → Fin 512 → ℝ} (hh : Halo D B xs0) (ho : ∀ p k, xo19 (ix2 p k) = (o p k : EReal)) (k : Fin 512) :
    (k0_pay63 (rest.sl.r_5 c arg3 harg3 arg4 harg4 x2 x3) (rest.sl.v207 c i arg1 harg1 arg5 harg5 arg10 harg10 arg11 harg11 arg14 harg14 arg26 harg26 x0 x4 x9 x10 x13 xs0) (rest.sl.v210 c arg20 harg20 xo19) : FVec Ideal S1x512 .f32) (ix2 0 k)
      = ((o 9 k + ∑ r : Fin 512, D.u (B + r.val) k * D.dv (B + r.val + 21) k : ℝ) : EReal) := by
  unfold rest.sl.v207 rest.sl.v210
  refine pay52 21 H.u (fun r k => ?_) (fun k => ?_) k
  · exact (H.cov hh arg26.view.junk).tap 5 (by decide) 16 (by decide) (by decide) _ r k
  · exact (read_at harg20 xo19 inb_S32x512_S1x512_9_0 (ix2 (n0 := 1) (n1 := 512) 0 k) (ix2 9 k) (at2 rfl (Nat.zero_add _).symm)).trans (ho 9 k)

theorem row10 {o : Fin 32 → Fin 512 → ℝ} (hh : Halo D B xs0) (ho : ∀ p k, xo19 (ix2 p k) = (o p k : EReal)) (k : Fin 512) :
    (k0_pay64 (rest.sl.r_5 c arg3 harg3 arg4 harg4 x2 x3) (rest.sl.v c i arg1 harg1 arg5 harg5 arg10 harg10 arg11 harg11 arg14 harg14 arg26 harg26 x0 x4 x9 x10 x13 xs0) (rest.sl.v219 c arg20 harg20 xo19) : FVec Ideal S1x512 .f32) (ix2 0 k)
      = ((o 10 k + ∑ r : Fin 512, D.u (B + r.val) k * D.dv (B + r.val + 20) k : ℝ) : EReal) := by
  unfold rest.sl.v rest.sl.v219
  refine pay52 20 H.u (fun r k => ?_) (fun k => ?_) k
  · exact (H.cov hh arg26.view.junk).tap 4 (by decide) 16 (by decide) (by decide) _ r k
  · exact (read_at harg20 xo19 inb_S32x512_S1x512_10_0 (ix2 (n0 := 1) (n1 := 512) 0 k) (ix2 10 k) (at2 rfl (Nat.zero_add _).symm)).trans (ho 10 k)

theorem row11 {o : Fin 32 → Fin 512 → ℝ} (hh : Halo D B xs0) (ho : ∀ p k, xo19 (ix2 p k) = (o p k : EReal)) (k : Fin 512) :
    (k0_pay65 (rest.sl.r_5 c arg3 harg3 arg4 harg4 x2 x3) (rest.sl.v225 c i arg1 harg1 arg5 harg5 arg10 harg10 arg11 harg11 arg14 harg14 arg26 harg26 x0 x4 x9 x10 x13 xs0) (rest.sl.v228 c arg20 harg20 xo19) : FVec Ideal S1x512 .f32) (ix2 0 k)
      = ((o 11 k + ∑ r : Fin 512, D.u (B + r.val) k * D.dv (B + r.val + 19) k : ℝ) : EReal) := by
  unfold rest.sl.v225 rest.sl.v228
  refine pay52 19 H.u (fun r k => ?_) (fun k => ?_) k
  · exact (H.cov hh arg26.view.junk).tap 3 (by decide) 16 (by decide) (by decide) _ r k
  · exact (read_at harg20 xo19 inb_S32x512_S1x512_11_0 (ix2 (n0 := 1) (n1 := 512) 0 k) (ix2 11 k) (at2 rfl (Nat.zero_add _).symm)).trans (ho 11 k)

theorem row12 {o : Fin 32 → Fin 512 → ℝ} (hh : Halo D B xs0) (ho : ∀ p k, xo19 (ix2 p k) = (o p k : EReal)) (k : Fin 512) :
    (k0_pay66 (rest.sl.r_5 c arg3 harg3 arg4 harg4 x2 x3) (rest.sl.v234 c i arg1 harg1 arg5 harg5 arg10 harg10 arg11 harg11 arg14 harg14 arg26 harg26 x0 x4 x9 x10 x13 xs0) (rest.sl.v237 c arg20 harg20 xo19) : FVec Ideal S1x512 .f32) (ix2 0 k)
      = ((o 12 k + ∑ r : Fin 512, D.u (B + r.val) k * D.dv (B + r.val + 18) k : ℝ) : EReal) := by
  unfold rest.sl.v234 rest.sl.v237
  refine pay52 18 H.u (fun r k => ?_) (fun k => ?_) k
  · exact (H.cov hh arg26.view.junk).tap 2 (by decide) 16 (by decide) (by decide) _ r k
  · exact (read_at harg20 xo19 inb_S32x512_S1x512_12_0 (ix2 (n0 := 1) (n1 := 512) 0 k) (ix2 12 k) (at2 rfl (Nat.zero_add _).symm)).trans (ho 12 k)

theorem row13 {o : Fin 32 → Fin 512 → ℝ} (hh : Halo D B xs0) (ho : ∀ p k, xo19 (ix2 p k) = (o p k : EReal)) (k : Fin 512) :
    (k0_pay69 (rest.sl.r_9 c i arg1 harg1 arg3 harg3 arg4 harg4 arg5 harg5 arg10 harg10 arg11 harg11 arg14 harg14 arg26 harg26 x0 x2 x3 x4 x9 x10 x13 xs0) (rest.sl.r_10 c arg20 harg20 xo19) : FVec Ideal S1x512 .f32) (ix2 0 k)
      = ((o 13 k + ∑ r : Fin 512, D.u (B + r.val) k * D.dv (B + r.val + 17) k : ℝ) : EReal) := by
  unfold rest.sl.r_9 rest.sl.r_10 rest.sl.v243 rest.sl.v246
  refine pay52 17 H.u (fun r k => ?_) (fun k => ?_) k
  · exact (H.cov hh arg26.view.junk).tap 1 (by decide) 16 (by decide) (by decide) _ r k
  · exact (read_at harg20 xo19 inb_S32x512_S1x512_13_0 (ix2 (n0 := 1) (n1 := 512) 0 k) (ix2 13 k) (at2 rfl (Nat.zero_add _).symm)).trans (ho 13 k)

theorem row14 {o : Fin 32 → Fin 512 → ℝ} (hh : Halo D B xs0) (ho : ∀ p k, xo19 (ix2 p k) = (o p k : EReal)) (k : Fin 512) :
    (k0_pay70 (rest.sl.r_5 c arg3 harg3 arg4 harg4 x2 x3) (rest.sl.v252 c i arg1 harg1 arg5 harg5 arg10 harg10 arg11 harg11 arg14 harg14 arg26 harg26 x0 x4 x9 x10 x13 xs0) (rest.sl.v255 c arg20 harg20 xo19) : FVec Ideal S1x512 .f32) (ix2 0 k)
      = ((o 14 k + ∑ r : Fin 512, D.u (B + r.val) k * D.dv (B + r.val + 16) k : ℝ) : EReal) := by
  unfold rest.sl.v252 rest.sl.v255
  refine pay52 16 H.u (fun r k => ?_) (fun k => ?_) k
  · exact (H.planes hh).tap 0 (by decide) 16 (by decide) (by decide) _ r k
  · exact (read_at harg20 xo19 inb_S32x512_S1x512_14_0 (ix2 (n0 := 1) (n1 := 512) 0 k) (ix2 14 k) (at2 rfl (Nat.zero_add _).symm)).trans (ho 14 k)

theorem row15 {o : Fin 32 → Fin 512 → ℝ} (hh : Halo D B xs0) (ho : ∀ p k, xo19 (ix2 p k) = (o p k : EReal)) (k : Fin 512) :
    (k0_pay71 (rest.sl.r_5 c arg3 harg3 arg4 harg4 x2 x3) (rest.sl.v261 c i arg1 harg1 arg5 harg5 arg10 harg10 arg11 harg11 arg14 harg14 arg26 harg26 x0 x4 x9 x10 x13 xs0) (rest.sl.v264 c arg20 harg20 xo19) : FVec Ideal S1x512 .f32) (ix2 0 k)
      = ((o 15 k + ∑ r : Fin 512, D.u (B + r.val) k * D.dv (B + r.val + 15) k : ℝ) : EReal) := by
  unfold rest.sl.v261 rest.sl.v264
  refine pay52 15 H.u (fun r k => ?_) (fun k => ?_) k
  · exact (H.cov hh arg26.view.junk).tap 7 (by decide) 8 (by decide) (by decide) _ r k
  · exact (read_at harg20 xo19 inb_S32x512_S1x512_15_0 (ix2 (n0 := 1) (n1 := 512) 0 k) (ix2 15 k) (at2 rfl (Nat.zero_add _).symm)).trans (ho 15 k)

theorem row16 {o : Fin 32 → Fin 512 → ℝ} (hh : Halo D B xs0) (ho : ∀ p k, xo19 (ix2 p k) = (o p k : EReal)) (k : Fin 512) :
    ((rest.sl.r_11 c i arg1 harg1 arg3 harg3 arg4 harg4 arg5 harg5 arg10 harg10 arg11 harg11 arg14 harg14 arg20 harg20 arg26 harg26 x0 x2 x3 x4 x9 x10 x13 xo19 xs0) : FVec Ideal S1x512 .f32) (ix2 0 k)
      = ((o 16 k + ∑ r : Fin 512, D.u (B + r.val) k * D.dv (B + r.val + 14) k : ℝ) : EReal) := by
  unfold rest.sl.r_11 rest.sl.v270 rest.sl.v273
  refine pay52 14 H.u (fun r k => ?_) (fun k => ?_) k
  · exact (H.cov hh arg26.view.junk).tap 6 (by decide) 8 (by decide) (by decide) _ r k
  · exact (read_at harg20 xo19 inb_S32x512_S1x512_16_0 (ix2 (n0 := 1) (n1 := 512) 0 k) (ix2 16 k) (at2 rfl (Nat.zero_add _).symm)).trans (ho 16 k)

theorem row17 {o : Fin 32 → Fin 512 → ℝ} (hh : Halo D B xs0) (ho : ∀ p k, xo19 (ix2 p k) = (o p k : EReal)) (k : Fin 512) :
    (k0_pay73 (rest.sl.r_5 c arg3 harg3 arg4 harg4 x2 x3) (rest.sl.v279 c i arg1 harg1 arg5 harg5 arg10 harg10 arg11 harg11 arg14 harg14 arg26 harg26 x0 x4 x9 x10 x13 xs0) (rest.sl.v282 c arg20 harg20 xo19) : FVec Ideal S1x512 .f32) (ix2 0 k)
      = ((o 17 k + ∑ r : Fin 512, D.u (B + r.val) k * D.dv (B + r.val + 13) k : ℝ) : EReal) := by
  unfold rest.sl.v279 rest.sl.v282
  refine pay52 13 H.u (fun r k => ?_) (fun k => ?_) k
  · exact (H.cov hh arg26.view.junk).tap 5 (by decide) 8 (by decide) (by decide) _ r k
  · exact (read_at harg20 xo19 inb_S32x512_S1x512_17_0 (ix2 (n0 := 1) (n1 := 512) 0 k) (ix2 17 k) (at2 rfl (Nat.zero_add _).symm)).trans (ho 17 k)

theorem row18 {o : Fin 32 → Fin 512 → ℝ} (hh : Halo D B xs0) (ho : ∀ p k, xo19 (ix2 p k) = (o p k : EReal)) (k : Fin 512) :
    (k0_pay74 (rest.sl.r_5 c arg3 harg3 arg4 harg4 x2 x3) (rest.sl.v288 c i arg1 harg1 arg5 harg5 arg10 harg10 arg11 harg11 arg14 harg14 arg26 harg26 x0 x4 x9 x10 x13 xs0) (rest.sl.v291 c arg20 harg20 xo19) : FVec Ideal S1x512 .f32) (ix2 0 k)
      = ((o 18 k + ∑ r : Fin 512, D.u (B + r.val) k * D.dv (B + r.val + 12) k : ℝ) : EReal) := by
  unfold rest.sl.v288 rest.sl.v291
  refine pay52 12 H.u (fun r k => ?_) (fun k => ?_) k
  · exact (H.cov hh arg26.view.junk).tap 4 (by decide) 8 (by decide) (by decide) _ r k
  · exact (read_at harg20 xo19 inb_S32x512_S1x512_18_0 (ix2 (n0 := 1) (n1 := 512) 0 k) (ix2 18 k) (at2 rfl (Nat.zero_add _).symm)).trans (ho 18 k)

theorem row19 {o : Fin 32 → Fin 512 → ℝ} (hh : Halo D B xs0) (ho : ∀ p k, xo19 (ix2 p k) = (o p k : EReal)) (k : Fin 512) :
    (k0_pay75 (rest.sl.r_5 c arg3 harg3 arg4 harg4 x2 x3) (rest.sl.v297 c i arg1 harg1 arg5 harg5 arg10 harg10 arg11 harg11 arg14 harg14 arg26 harg26 x0 x4 x9 x10 x13 xs0) (rest.sl.v300 c arg20 harg20 xo19) : FVec Ideal S1x512 .f32) (ix2 0 k)
      = ((o 19 k + ∑ r : Fin 512, D.u (B + r.val) k * D.dv (B + r.val + 11) k : ℝ) : EReal) := by
  unfold rest.sl.v297 rest.sl.v300
  refine pay52 11 H.u (fun r k => ?_) (fun k => ?_) k
  · exact (H.cov hh arg26.view.junk).tap 3 (by decide) 8 (by decide) (by decide) _ r k
  · exact (read_at harg20 xo19 inb_S32x512_S1x512_19_0 (ix2 (n0 := 1) (n1 := 512) 0 k) (ix2 19 k) (at2 rfl (Nat.zero_add _).symm)).trans (ho 19 k)

theorem row20 {o : Fin 32 → Fin 512 → ℝ} (hh : Halo D B xs0) (ho : ∀ p k, xo19 (ix2 p k) = (o p k : EReal)) (k : Fin 512) :
    (k0_pay76 (rest.sl.r_5 c arg3 harg3 arg4 harg4 x2 x3) (rest.sl.v_1 c i arg1 harg1 arg5 harg5 arg10 harg10 arg11 harg11 arg14 harg14 arg26 harg26 x0 x4 x9 x10 x13 xs0) (rest.sl.v309 c arg20 harg20 xo19) : FVec Ideal S1x512 .f32) (ix2 0 k)
      = ((o 20 k + ∑ r : Fin 512, D.u (B + r.val) k * D.dv (B + r.val + 10) k : ℝ) : EReal) := by
  unfold rest.sl.v_1 rest.sl.v309
  refine pay52 10 H.u (fun r k => ?_) (fun k => ?_) k
  · exact (H.cov hh arg26.view.junk).tap 2 (by decide) 8 (by decide) (by decide) _ r k
  · exact (read_at harg20 xo19 inb_S32x512_S1x512_20_0 (ix2 (n0 := 1) (n1 := 512) 0 k) (ix2 20 k) (at2 rfl (Nat.zero_add _).symm)).trans (ho 20 k)

theorem row21 {o : Fin 32 → Fin 512 → ℝ} (hh : Halo D B xs0) (ho : ∀ p k, xo19 (ix2 p k) = (o p k : EReal)) (k : Fin 512) :
    (k0_pay77 (rest.sl.r_5 c arg3 harg3 arg4 harg4 x2 x3) (rest.sl.v315 c i arg1 harg1 arg5 harg5 arg10 harg10 arg11 harg11 arg14 harg14 arg26 harg26 x0 x4 x9 x10 x13 xs0) (rest.sl.v318 c arg20 harg20 xo19) : FVec Ideal S1x512 .f32) (ix2 0 k)
      = ((o 21 k + ∑ r : Fin 512, D.u (B + r.val) k * D.dv (B + r.val + 9) k : ℝ) : EReal) := by
  unfold rest.sl.v315 rest.sl.v318
  refine pay52 9 H.u (fun r k => ?_) (fun k => ?_) k
  · exact (H.cov hh arg26.view.junk).tap 1 (by decide) 8 (by decide) (by decide) _ r k
  · exact (read_at harg20 xo19 inb_S32x512_S1x512_21_0 (ix2 (n0 := 1) (n1 := 512) 0 k) (ix2 21 k) (at2 rfl (Nat.zero_add _).symm)).trans (ho 21 k)

theorem row22 {o : Fin 32 → Fin 512 → ℝ} (hh : Halo D B xs0) (ho : ∀ p k, xo19 (ix2 p k) = (o p k : EReal)) (k : Fin 512) :
    (k0_pay78 (rest.sl.r_5 c arg3 harg3 arg4 harg4 x2 x3) (rest.sl.v324 c i arg1 harg1 arg5 harg5 arg10 harg10 arg11 harg11 arg14 harg14 arg26 harg26 x0 x4 x9 x10 x13 xs0) (rest.sl.v327 c arg20 harg20 xo19) : FVec Ideal S1x512 .f32) (ix2 0 k)
      = ((o 22 k + ∑ r : Fin 512, D.u (B + r.val) k * D.dv (B + r.val + 8) k : ℝ) : EReal) := by
  unfold rest.sl.v324 rest.sl.v327
  refine pay52 8 H.u (fun r k => ?_) (fun k => ?_) k
  · exact (H.planes hh).tap 0 (by decide) 8 (by decide) (by decide) _ r k
  · exact (read_at harg20 xo19 inb_S32x512_S1x512_22_0 (ix2 (n0 := 1) (n1 := 512) 0 k) (ix2 22 k) (at2 rfl (Nat.zero_add _).symm)).trans (ho 22 k)

theorem row23 {o : Fin 32 → Fin 512 → ℝ} (hh : Halo D B xs0) (ho : ∀ p k, xo19 (ix2 p k) = (o p k : EReal)) (k : Fin 512) :
    (k0_pay81 (rest.sl.r_12 c i arg1 harg1 arg3 harg3 arg4 harg4 arg5 harg5 arg10 harg10 arg11 harg11 arg14 harg14 arg26 harg26 x0 x2 x3 x4 x9 x10 x13 xs0) (rest.sl.r_13 c arg20 harg20 xo19) : FVec Ideal S1x512 .f32) (ix2 0 k)
      = ((o 23 k + ∑ r : Fin 512, D.u (B + r.val) k * D.dv (B + r.val + 7) k : ℝ) : EReal) := by
  unfold rest.sl.r_12 rest.sl.r_13 rest.sl.v333 rest.sl.v336
  refine pay52 7 H.u (fun r k => ?_) (fun k => ?_) k
  · exact (H.cov hh arg26.view.junk).tap 7 (by decide) 0 (by decide) (by decide) _ r k
  · exact (read_at harg20 xo19 inb_S32x512_S1x512_23_0 (ix2 (n0 := 1) (n1 := 512) 0 k) (ix2 23 k) (at2 rfl (Nat.zero_add _).symm)).trans (ho 23 k)

theorem row24 {o : Fin 32 → Fin 512 → ℝ} (hh : Halo D B xs0) (ho : ∀ p k, xo19 (ix2 p k) = (o p k : EReal)) (k : Fin 512) :
    (k0_pay82 (rest.sl.r_5 c arg3 harg3 arg4 harg4 x2 x3) (rest.sl.v342 c i arg1 harg1 arg5 harg5 arg10 harg10 arg11 harg11 arg14 harg14 arg26 harg26 x0 x4 x9 x10 x13 xs0) (rest.sl.v345 c arg20 harg20 xo19) : FVec Ideal S1x512 .f32) (ix2 0 k)
      = ((o 24 k + ∑ r : Fin 512, D.u (B + r.val) k * D.dv (B + r.val + 6) k : ℝ) : EReal) := by
  unfold rest.sl.v342 rest.sl.v345
  refine pay52 6 H.u (fun r k => ?_) (fun k => ?_) k
  · exact (H.cov hh arg26.view.junk).tap 6 (by decide) 0 (by decide) (by decide) _ r k
  · exact (read_at harg20 xo19 inb_S32x512_S1x512_24_0 (ix2 (n0 := 1) (n1 := 512) 0 k) (ix2 24 k) (at2 rfl (Nat.zero_add _).symm)).trans (ho 24 k)

theorem row25 {o : Fin 32 → Fin 512 → ℝ} (hh : Halo D B xs0) (ho : ∀ p k, xo19 (ix2 p k) = (o p k : EReal)) (k : Fin 512) :
    (k0_pay83 (rest.sl.r_5 c arg3 harg3 arg4 harg4 x2 x3) (rest.sl.v351 c i arg1 harg1 arg5 harg5 arg10 harg10 arg11 harg11 arg14 harg14 arg26 harg26 x0 x4 x9 x10 x13 xs0) (rest.sl.v354 c arg20 harg20 xo19) : FVec Ideal S1x512 .f32) (ix2 0 k)
      = ((o 25 k + ∑ r : Fin 512, D.u (B + r.val) k * D.dv (B + r.val + 5) k : ℝ) : EReal) := by
  unfold rest.sl.v351 rest.sl.v354
  refine pay52 5 H.u (fun r k => ?_) (fun k => ?_) k
  · exact (H.cov hh arg26.view.junk).tap 5 (by decide) 0 (by decide) (by decide) _ r k
  · exact (read_at harg20 xo19 inb_S32x512_S1x512_25_0 (ix2 (n0 := 1) (n1 := 512) 0 k) (ix2 25 k) (at2 rfl (Nat.zero_add _).symm)).trans (ho 25 k)

theorem row26 {o : Fin 32 → Fin 512 → ℝ} (hh : Halo D B xs0) (ho : ∀ p k, xo19 (ix2 p k) = (o p k : EReal)) (k : Fin 512) :
    ((rest.sl.r_14 c i arg1 harg1 arg3 harg3 arg4 harg4 arg5 harg5 arg10 harg10 arg11 harg11 arg14 harg14 arg20 harg20 arg26 harg26 x0 x2 x3 x4 x9 x10 x13 xo19 xs0) : FVec Ideal S1x512 .f32) (ix2 0 k)
      = ((o 26 k + ∑ r : Fin 512, D.u (B + r.val) k * D.dv (B + r.val + 4) k : ℝ) : EReal) := by
  unfold rest.sl.r_14 rest.sl.v360 rest.sl.v363
  refine pay52 4 H.u (fun r k => ?_) (fun k => ?_) k
  · exact (H.cov hh arg26.view.junk).tap 4 (by decide) 0 (by decide) (by decide) _ r k
  · exact (read_at harg20 xo19 inb_S32x512_S1x512_26_0 (ix2 (n0 := 1) (n1 := 512) 0 k) (ix2 26 k) (at2 rfl (Nat.zero_add _).symm)).trans (ho 26 k)

theorem row27 {o : Fin 32 → Fin 512 → ℝ} (hh : Halo D B xs0) (ho : ∀ p k, xo19 (ix2 p k) = (o p k : EReal)) (k : Fin 512) :
    (k0_pay85 (rest.sl.r_5 c arg3 harg3 arg4 harg4 x2 x3) (rest.sl.v369 c i arg1 harg1 arg5 harg5 arg10 harg10 arg11 harg11 arg14 harg14 arg26 harg26 x0 x4 x9 x10 x13 xs0) (rest.sl.v372 c arg20 harg20 xo19) : FVec Ideal S1x512 .f32) (ix2 0 k)
      = ((o 27 k + ∑ r : Fin 512, D.u (B + r.val) k * D.dv (B + r.val + 3) k : ℝ) : EReal) := by
  unfold rest.sl.v369 rest.sl.v372
  refine pay52 3 H.u (fun r k => ?_) (fun k => ?_) k
  · exact (H.cov hh arg26.view.junk).tap 3 (by decide) 0 (by decide) (by decide) _ r k
  · exact (read_at harg20 xo19 inb_S32x512_S1x512_27_0 (ix2 (n0 := 1) (n1 := 512) 0 k) (ix2 27 k) (at2 rfl (Nat.zero_add _).symm)).trans (ho 27 k)

theorem row28 {o : Fin 32 → Fin 512 → ℝ} (hh : Halo D B xs0) (ho : ∀ p k, xo19 (ix2 p k) = (o p k : EReal)) (k : Fin 512) :
    (k0_pay86 (rest.sl.r_5 c arg3 harg3 arg4 harg4 x2 x3) (rest.sl.v378 c i arg1 harg1 arg5 harg5 arg10 harg10 arg11 harg11 arg14 harg14 arg26 harg26 x0 x4 x9 x10 x13 xs0) (rest.sl.v381 c arg20 harg20 xo19) : FVec Ideal S1x512 .f32) (ix2 0 k)
      = ((o 28 k + ∑ r : Fin 512, D.u (B + r.val) k * D.dv (B + r.val + 2) k : ℝ) : EReal) := by
  unfold rest.sl.v378 rest.sl.v381
  refine pay52 2 H.u (fun r k => ?_) (fun k => ?_) k
  · exact (H.cov hh arg26.view.junk).tap 2 (by decide) 0 (by decide) (by decide) _ r k
  · exact (read_at harg20 xo19 inb_S32x512_S1x512_28_0 (ix2 (n0 := 1) (n1 := 512) 0 k) (ix2 28 k) (at2 rfl (Nat.zero_add _).symm)).trans (ho 28 k)

theorem row29 {o : Fin 32 → Fin 512 → ℝ} (hh : Halo D B xs0) (ho : ∀ p k, xo19 (ix2 p k) = (o p k : EReal)) (k : Fin 512) :
    (k0_pay87 (rest.sl.r_5 c arg3 harg3 arg4 harg4 x2 x3) (rest.sl.v387 c i arg1 harg1 arg5 harg5 arg10 harg10 arg11 harg11 arg14 harg14 arg26 harg26 x0 x4 x9 x10 x13 xs0) (rest.sl.v390 c arg20 harg20 xo19) : FVec Ideal S1x512 .f32) (ix2 0 k)
      = ((o 29 k + ∑ r : Fin 512, D.u (B + r.val) k * D.dv (B + r.val + 1) k : ℝ) : EReal) := by
  unfold rest.sl.v387 rest.sl.v390
  refine pay52 1 H.u (fun r k => ?_) (fun k => ?_) k
  · exact (H.cov hh arg26.view.junk).tap 1 (by decide) 0 (by decide) (by decide) _ r k
  · exact (read_at harg20 xo19 inb_S32x512_S1x512_29_0 (ix2 (n0 := 1) (n1 := 512) 0 k) (ix2 29 k) (at2 rfl (Nat.zero_add _).symm)).trans (ho 29 k)

theorem row30 {o : Fin 32 → Fin 512 → ℝ} (hh : Halo D B xs0) (ho : ∀ p k, xo19 (ix2 p k) = (o p k : EReal)) (k : Fin 512) :
    (k0_pay88 (rest.sl.r_5 c arg3 harg3 arg4 harg4 x2 x3) (rest.sl.v_2 c i arg1 harg1 arg5 harg5 arg10 harg10 arg11 harg11 arg14 harg14 arg26 harg26 x0 x4 x9 x10 x13 xs0) (rest.sl.v399 c arg20 harg20 xo19) : FVec Ideal S1x512 .f32) (ix2 0 k)
      = ((o 30 k + ∑ r : Fin 512, D.u (B + r.val) k * D.dv (B + r.val + 0) k : ℝ) : EReal) := by
  unfold rest.sl.v_2 rest.sl.v399
  refine pay52 0 H.u (fun r k => ?_) (fun k => ?_) k
  · exact (H.cov hh arg26.view.junk).tap 0 (by decide) 0 (by decide) (by decide) _ r k
  · exact (read_at harg20 xo19 inb_S32x512_S1x512_30_0 (ix2 (n0 := 1) (n1 := 512) 0 k) (ix2 30 k) (at2 rfl (Nat.zero_add _).symm)).trans (ho 30 k)

theorem rows {o : Fin 32 → Fin 512 → ℝ} (hh : Halo D B xs0) (ho : ∀ p k, xo19 (ix2 p k) = (o p k : EReal)) (p : Fin 32) (k : Fin 512) :
    View.read (Elt Ideal) arg20.view (arg20.view.writes (Elt Ideal) (harg20.unread xo19) [⟨Rect.unit (s := S32x512) ![30, 0] S1x512.size inb_S32x512_S1x512_30_0, k0_pay88 (rest.sl.r_5 c arg3 harg3 arg4 harg4 x2 x3) (rest.sl.v_2 c i arg1 harg1 arg5 harg5 arg10 harg10 arg11 harg11 arg14 harg14 arg26 harg26 x0 x4 x9 x10 x13 xs0) (rest.sl.v399 c arg20 harg20 xo19)⟩, ⟨Rect.unit (s := S32x512) ![29, 0] S1x512.size inb_S32x512_S1x512_29_0, k0_pay87 (rest.sl.r_5 c arg3 harg3 arg4 harg4 x2 x3) (rest.sl.v387 c i arg1 harg1 arg5 harg5 arg10 harg10 arg11 harg11 arg14 harg14 arg26 harg26 x0 x4 x9 x10 x13 xs0) (rest.sl.v390 c arg20 harg20 xo19)⟩, ⟨Rect.unit (s := S32x512) ![28, 0] S1x512.size inb_S32x512_S1x512_28_0, k0_pay86 (rest.sl.r_5 c arg3 harg3 arg4 harg4 x2 x3) (rest.sl.v378 c i arg1 harg1 arg5 harg5 arg10 harg10 arg11 harg11 arg14 harg14 arg26 harg26 x0 x4 x9 x10 x13 xs0) (rest.sl.v381 c arg20 harg20 xo19)⟩, ⟨Rect.unit (s := S32x512) ![27, 0] S1x512.size inb_S32x512_S1x512_27_0, k0_pay85 (rest.sl.r_5 c arg3 harg3 arg4 harg4 x2 x3) (rest.sl.v369 c i arg1 harg1 arg5 harg5 arg10 harg10 arg11 harg11 arg14 harg14 arg26 harg26 x0 x4 x9 x10 x13 xs0) (rest.sl.v372 c arg20 harg20 xo19)⟩, ⟨Rect.unit (s := S32x512) ![26, 0] S1x512.size inb_S32x512_S1x512_26_0, (rest.sl.r_14 c i arg1 harg1 arg3 harg3 arg4 harg4 arg5 harg5 arg10 harg10 arg11 harg11 arg14 harg14 arg20 harg20 arg26 harg26 x0 x2 x3 x4 x9 x10 x13 xo19 xs0)⟩, ⟨Rect.unit (s := S32x512) ![25, 0] S1x512.size inb_S32x512_S1x512_25_0, k0_pay83 (rest.sl.r_5 c arg3 harg3 arg4 harg4 x2 x3) (rest.sl.v351 c i arg1 harg1 arg5 harg5 arg10 harg10 arg11 harg11 arg14 harg14 arg26 harg26 x0 x4 x9 x10 x13 xs0) (rest.sl.v354 c arg20 harg20 xo19)⟩, ⟨Rect.unit (s := S32x512) ![24, 0] S1x512.size inb_S32x512_S1x512_24_0, k0_pay82 (rest.sl.r_5 c arg3 harg3 arg4 harg4 x2 x3) (rest.sl.v342 c i arg1 harg1 arg5 harg5 arg10 harg10 arg11 harg11 arg14 harg14 arg26 harg26 x0 x4 x9 x10 x13 xs0) (rest.sl.v345 c arg20 harg20 xo19)⟩, ⟨Rect.unit (s := S32x512) ![23, 0] S1x512.size inb_S32x512_S1x512_23_0, k0_pay81 (rest.sl.r_12 c i arg1 harg1 arg3 harg3 arg4 harg4 arg5 harg5 arg10 harg10 arg11 harg11 arg14 harg14 arg26 harg26 x0 x2 x3 x4 x9 x10 x13 xs0) (rest.sl.r_13 c arg20 harg20 xo19)⟩, ⟨Rect.unit (s := S32x512) ![22, 0] S1x512.size inb_S32x512_S1x512_22_0, k0_pay78 (rest.sl.r_5 c arg3 harg3 arg4 harg4 x2 x3) (rest.sl.v324 c i arg1 harg1 arg5 harg5 arg10 harg10 arg11 harg11 arg14 harg14 arg26 harg26 x0 x4 x9 x10 x13 xs0) (rest.sl.v327 c arg20 harg20 xo19)⟩, ⟨Rect.unit (s := S32x512) ![21, 0] S1x512.size inb_S32x512_S1x512_21_0, k0_pay77 (rest.sl.r_5 c arg3 harg3 arg4 harg4 x2 x3) (rest.sl.v315 c i arg1 harg1 arg5 harg5 arg10 harg10 arg11 harg11 arg14 harg14 arg26 harg26 x0 x4 x9 x10 x13 xs0) (rest.sl.v318 c arg20 harg20 xo19)⟩, ⟨Rect.unit (s := S32x512) ![20, 0] S1x512.size inb_S32x512_S1x512_20_0, k0_pay76 (rest.sl.r_5 c arg3 harg3 arg4 harg4 x2 x3) (rest.sl.v_1 c i arg1 harg1 arg5 harg5 arg10 harg10 arg11 harg11 arg14 harg14 arg26 harg26 x0 x4 x9 x10 x13 xs0) (rest.sl.v309 c arg20 harg20 xo19)⟩, ⟨Rect.unit (s := S32x512) ![19, 0] S1x512.size inb_S32x512_S1x512_19_0, k0_pay75 (rest.sl.r_5 c arg3 harg3 arg4 harg4 x2 x3) (rest.sl.v297 c i arg1 harg1 arg5 harg5 arg10 harg10 arg11 harg11 arg14 harg14 arg26 harg26 x0 x4 x9 x10 x13 xs0) (rest.sl.v300 c arg20 harg20 xo19)⟩, ⟨Rect.unit (s := S32x512) ![18, 0] S1x512.size inb_S32x512_S1x512_18_0, k0_pay74 (rest.sl.r_5 c arg3 harg3 arg4 harg4 x2 x3) (rest.sl.v288 c i arg1 harg1 arg5 harg5 arg10 harg10 arg11 harg11 arg14 harg14 arg26 harg26 x0 x4 x9 x10 x13 xs0) (rest.sl.v291 c arg20 harg20 xo19)⟩, ⟨Rect.unit (s := S32x512) ![17, 0] S1x512.size inb_S32x512_S1x512_17_0, k0_pay73 (rest.sl.r_5 c arg3 harg3 arg4 harg4 x2 x3) (rest.sl.v279 c i arg1 harg1 arg5 harg5 arg10 harg10 arg11 harg11 arg14 harg14 arg26 harg26 x0 x4 x9 x10 x13 xs0) (rest.sl.v282 c arg20 harg20 xo19)⟩, ⟨Rect.unit (s := S32x512) ![16, 0] S1x512.size inb_S32x512_S1x512_16_0, (rest.sl.r_11 c i arg1 harg1 arg3 harg3 arg4 harg4 arg5 harg5 arg10 harg10 arg11 harg11 arg14 harg14 arg20 harg20 arg26 harg26 x0 x2 x3 x4 x9 x10 x13 xo19 xs0)⟩, ⟨Rect.unit (s := S32x512) ![15, 0] S1x512.size inb_S32x512_S1x512_15_0, k0_pay71 (rest.sl.r_5 c arg3 harg3 arg4 harg4 x2 x3) (rest.sl.v261 c i arg1 harg1 arg5 harg5 arg10 harg10 arg11 harg11 arg14 harg14 arg26 harg26 x0 x4 x9 x10 x13 xs0) (rest.sl.v264 c arg20 harg20 xo19)⟩, ⟨Rect.unit (s := S32x512) ![14, 0] S1x512.size inb_S32x512_S1x512_14_0, k0_pay70 (rest.sl.r_5 c arg3 harg3 arg4 harg4 x2 x3) (rest.sl.v252 c i arg1 harg1 arg5 harg5 arg10 harg10 arg11 harg11 arg14 harg14 arg26 harg26 x0 x4 x9 x10 x13 xs0) (rest.sl.v255 c arg20 harg20 xo19)⟩, ⟨Rect.unit (s := S32x512) ![13, 0] S1x512.size inb_S32x512_S1x512_13_0, k0_pay69 (rest.sl.r_9 c i arg1 harg1 arg3 harg3 arg4 harg4 arg5 harg5 arg10 harg10 arg11 harg11 arg14 harg14 arg26 harg26 x0 x2 x3 x4 x9 x10 x13 xs0) (rest.sl.r_10 c arg20 harg20 xo19)⟩, ⟨Rect.unit (s := S32x512) ![12, 0] S1x512.size inb_S32x512_S1x512_12_0, k0_pay66 (rest.sl.r_5 c arg3 harg3 arg4 harg4 x2 x3) (rest.sl.v234 c i arg1 harg1 arg5 harg5 arg10 harg10 arg11 harg11 arg14 harg14 arg26 harg26 x0 x4 x9 x10 x13 xs0) (rest.sl.v237 c arg20 harg20 xo19)⟩, ⟨Rect.unit (s := S32x512) ![11, 0] S1x512.size inb_S32x512_S1x512_11_0, k0_pay65 (rest.sl.r_5 c arg3 harg3 arg4 harg4 x2 x3) (rest.sl.v225 c i arg1 harg1 arg5 harg5 arg10 harg10 arg11 harg11 arg14 harg14 arg26 harg26 x0 x4 x9 x10 x13 xs0) (rest.sl.v228 c arg20 harg20 xo19)⟩, ⟨Rect.unit (s := S32x512) ![10, 0] S1x512.size inb_S32x512_S1x512_10_0, k0_pay64 (rest.sl.r_5 c arg3 harg3 arg4 harg4 x2 x3) (rest.sl.v c i arg1 harg1 arg5 harg5 arg10 harg10 arg11 harg11 arg14 harg14 arg26 harg26 x0 x4 x9 x10 x13 xs0) (rest.sl.v219 c arg20 harg20 xo19)⟩, ⟨Rect.unit (s := S32x512) ![9, 0] S1x512.size inb_S32x512_S1x512_9_0, k0_pay63 (rest.sl.r_5 c arg3 harg3 arg4 harg4 x2 x3) (rest.sl.v207 c i arg1 harg1 arg5 harg5 arg10 harg10 arg11 harg11 arg14 harg14 arg26 harg26 x0 x4 x9 x10 x13 xs0) (rest.sl.v210 c arg20 harg20 xo19)⟩, ⟨Rect.unit (s := S32x512) ![8, 0] S1x512.size inb_S32x512_S1x512_8_0, k0_pay62 (rest.sl.r_5 c arg3 harg3 arg4 harg4 x2 x3) (rest.sl.v198 c i arg1 harg1 arg5 harg5 arg10 harg10 arg11 harg11 arg14 harg14 arg26 harg26 x0 x4 x9 x10 x13 xs0) (rest.sl.v201 c arg20 harg20 xo19)⟩, ⟨Rect.unit (s := S32x512) ![7, 0] S1x512.size inb_S32x512_S1x512_7_0, k0_pay61 (rest.sl.r_5 c arg3 harg3 arg4 harg4 x2 x3) (rest.sl.v189 c i arg1 harg1 arg5 harg5 arg10 harg10 arg11 harg11 arg14 harg14 arg26 harg26 x0 x4 x9 x10 x13 xs0) (rest.sl.v192 c arg20 harg20 xo19)⟩, ⟨Rect.unit (s := S32x512) ![6, 0] S1x512.size inb_S32x512_S1x512_6_0, (rest.sl.r_8 c i arg1 harg1 arg3 harg3 arg4 harg4 arg5 harg5 arg10 harg10 arg11 harg11 arg14 harg14 arg20 harg20 arg26 harg26 x0 x2 x3 x4 x9 x10 x13 xo19 xs0)⟩, ⟨Rect.unit (s := S32x512) ![5, 0] S1x512.size inb_S32x512_S1x512_5_0, k0_pay59 (rest.sl.r_5 c arg3 harg3 arg4 harg4 x2 x3) (rest.sl.v171 c i arg1 harg1 arg5 harg5 arg10 harg10 arg11 harg11 arg14 harg14 arg26 harg26 x0 x4 x9 x10 x13 xs0) (rest.sl.v174 c arg20 harg20 xo19)⟩, ⟨Rect.unit (s := S32x512) ![4, 0] S1x512.size inb_S32x512_S1x512_4_0, k0_pay58 (rest.sl.r_5 c arg3 harg3 arg4 harg4 x2 x3) (rest.sl.v162 c i arg1 harg1 arg5 harg5 arg10 harg10 arg11 harg11 arg14 harg14 arg26 harg26 x0 x4 x9 x10 x13 xs0) (rest.sl.v165 c arg20 harg20 xo19)⟩, ⟨Rect.unit (s := S32x512) ![3, 0] S1x512.size inb_S32x512_S1x512_3_0, k0_pay57 (rest.sl.r_6 c i arg1 harg1 arg3 harg3 arg4 harg4 arg5 harg5 arg10 harg10 arg11 harg11 arg14 harg14 arg26 harg26 x0 x2 x3 x4 x9 x10 x13 xs0) (rest.sl.r_7 c arg20 harg20 xo19)⟩, ⟨Rect.unit (s := S32x512) ![2, 0] S1x512.size inb_S32x512_S1x512_2_0, k0_pay54 (rest.sl.r_5 c arg3 harg3 arg4 harg4 x2 x3) (rest.sl.v144 c i arg1 harg1 arg5 harg5 arg10 harg10 arg11 harg11 arg14 harg14 arg26 harg26 x0 x4 x9 x10 x13 xs0) (rest.sl.v147 c arg20 harg20 xo19)⟩, ⟨Rect.unit (s := S32x512) ![1, 0] S1x512.size inb_S32x512_S1x512_1_0, k0_pay53 (rest.sl.r_5 c arg3 harg3 arg4 harg4 x2 x3) (rest.sl.v135 c i arg1 harg1 arg5 harg5 arg10 harg10 arg11 harg11 arg14 harg14 arg26 harg26 x0 x4 x9 x10 x13 xs0) (rest.sl.v138 c arg20 harg20 xo19)⟩, ⟨Rect.unit (s := S32x512) ![0, 0] S1x512.size inb_S32x512_S1x512_0_0, k0_pay52 (rest.sl.r_5 c arg3 harg3 arg4 harg4 x2 x3) (rest.sl.v126 c i arg1 harg1 arg5 harg5 arg10 harg10 arg11 harg11 arg14 harg14 arg26 harg26 x0 x4 x9 x10 x13 xs0) (View.readAt (Elt Ideal) arg20.view (Rect.unit (s := S32x512) ![0, 0] S1x512.size inb_S32x512_S1x512_0_0).toLoadRect (harg20.unread xo19))⟩]) (ix2 p k) = ((o p k + ∑ r : Fin 512, D.dwt (B + r.val) p.val k : ℝ) : EReal) := by
  have e : ∀ n : Fin 32, n.val < 31 → ∀ k, (o n k + ∑ r : Fin 512, D.u (B + r.val) k * D.dv (B + r.val + (30 - n.val)) k)
      = o n k + ∑ r : Fin 512, D.dwt (B + r.val) n.val k := fun n hn k => by simp only [Data.dwt, if_pos hn]
  have h0 : Rows (m := arg20) (harg20.unread xo19) o (fun p k => o p k + ∑ r : Fin 512, D.dwt (B + r.val) p.val k) [] 0 :=
    (fun p k => by rw [View.writes_nil, harg20.read_unread]; exact (ho p k).trans (by rw [if_neg (Nat.not_lt_zero _)]))
  have h1 := h0.step 0 inb_S32x512_S1x512_0_0 (k0_pay52 (rest.sl.r_5 c arg3 harg3 arg4 harg4 x2 x3) (rest.sl.v126 c i arg1 harg1 arg5 harg5 arg10 harg10 arg11 harg11 arg14 harg14 arg26 harg26 x0 x4 x9 x10 x13 xs0) (View.readAt (Elt Ideal) arg20.view (Rect.unit (s := S32x512) ![0, 0] S1x512.size inb_S32x512_S1x512_0_0).toLoadRect (harg20.unread xo19))) fun k => (H.row0 hh ho k).trans (congrArg _ (e 0 (by decide) k))
  have h2 := h1.step 1 inb_S32x512_S1x512_1_0 (k0_pay53 (rest.sl.r_5 c arg3 harg3 arg4 harg4 x2 x3) (rest.sl.v135 c i arg1 harg1 arg5 harg5 arg10 harg10 arg11 harg11 arg14 harg14 arg26 harg26 x0 x4 x9 x10 x13 xs0) (rest.sl.v138 c arg20 harg20 xo19)) fun k => (H.row1 hh ho k).trans (congrArg _ (e 1 (by decide) k))
  have h3 := h2.step 2 inb_S32x512_S1x512_2_0 (k0_pay54 (rest.sl.r_5 c arg3 harg3 arg4 harg4 x2 x3) (rest.sl.v144 c i arg1 harg1 arg5 harg5 arg10 harg10 arg11 harg11 arg14 harg14 arg26 harg26 x0 x4 x9 x10 x13 xs0) (rest.sl.v147 c arg20 harg20 xo19)) fun k => (H.row2 hh ho k).trans (congrArg _ (e 2 (by decide) k))
  have h4 := h3.step 3 inb_S32x512_S1x512_3_0 (k0_pay57 (rest.sl.r_6 c i arg1 harg1 arg3 harg3 arg4 harg4 arg5 harg5 arg10 harg10 arg11 harg11 arg14 harg14 arg26 harg26 x0 x2 x3 x4 x9 x10 x13 xs0) (rest.sl.r_7 c arg20 harg20 xo19)) fun k => (H.row3 hh ho k).trans (congrArg _ (e 3 (by decide) k))
  have h5 := h4.step 4 inb_S32x512_S1x512_4_0 (k0_pay58 (rest.sl.r_5 c arg3 harg3 arg4 harg4 x2 x3) (rest.sl.v162 c i arg1 harg1 arg5 harg5 arg10 harg10 arg11 harg11 arg14 harg14 arg26 harg26 x0 x4 x9 x10 x13 xs0) (rest.sl.v165 c arg20 harg20 xo19)) fun k => (H.row4 hh ho k).trans (congrArg _ (e 4 (by decide) k))
  have h6 := h5.step 5 inb_S32x512_S1x512_5_0 (k0_pay59 (rest.sl.r_5 c arg3 harg3 arg4 harg4 x2 x3) (rest.sl.v171 c i arg1 harg1 arg5 harg5 arg10 harg10 arg11 harg11 arg14 harg14 arg26 harg26 x0 x4 x9 x10 x13 xs0) (rest.sl.v174 c arg20 harg20 xo19)) fun k => (H.row5 hh ho k).trans (congrArg _ (e 5 (by decide) k))
  have h7 := h6.step 6 inb_S32x512_S1x512_6_0 ((rest.sl.r_8 c i arg1 harg1 arg3 harg3 arg4 harg4 arg5 harg5 arg10 harg10 arg11 harg11 arg14 harg14 arg20 harg20 arg26 harg26 x0 x2 x3 x4 x9 x10 x13 xo19 xs0)) fun k => (H.row6 hh ho k).trans (congrArg _ (e 6 (by decide) k))
  have h8 := h7.step 7 inb_S32x512_S1x512_7_0 (k0_pay61 (rest.sl.r_5 c arg3 harg3 arg4 harg4 x2 x3) (rest.sl.v189 c i arg1 harg1 arg5 harg5 arg10 harg10 arg11 harg11 arg14 harg14 arg26 harg26 x0 x4 x9 x10 x13 xs0) (rest.sl.v192 c arg20 harg20 xo19)) fun k => (H.row7 hh ho k).trans (congrArg _ (e 7 (by decide) k))
  have h9 := h8.step 8 inb_S32x512_S1x512_8_0 (k0_pay62 (rest.sl.r_5 c arg3 harg3 arg4 harg4 x2 x3) (rest.sl.v198 c i arg1 harg1 arg5 harg5 arg10 harg10 arg11 harg11 arg14 harg14 arg26 harg26 x0 x4 x9 x10 x13 xs0) (rest.sl.v201 c arg20 harg20 xo19)) fun k => (H.row8 hh ho k).trans (congrArg _ (e 8 (by decide) k))
  have h10 := h9.step 9 inb_S32x512_S1x512_9_0 (k0_pay63 (rest.sl.r_5 c arg3 harg3 arg4 harg4 x2 x3) (rest.sl.v207 c i arg1 harg1 arg5 harg5 arg10 harg10 arg11 harg11 arg14 harg14 arg26 harg26 x0 x4 x9 x10 x13 xs0) (rest.sl.v210 c arg20 harg20 xo19)) fun k => (H.row9 hh ho k).trans (congrArg _ (e 9 (by decide) k))
  have h11 := h10.step 10 inb_S32x512_S1x512_10_0 (k0_pay64 (rest.sl.r_5 c arg3 harg3 arg4 harg4 x2 x3) (rest.sl.v c i arg1 harg1 arg5 harg5 arg10 harg10 arg11 harg11 arg14 harg14 arg26 harg26 x0 x4 x9 x10 x13 xs0) (rest.sl.v219 c arg20 harg20 xo19)) fun k => (H.row10 hh ho k).trans (congrArg _ (e 10 (by decide) k))
  have h12 := h11.step 11 inb_S32x512_S1x512_11_0 (k0_pay65 (rest.sl.r_5 c arg3 harg3 arg4 harg4 x2 x3) (rest.sl.v225 c i arg1 harg1 arg5 harg5 arg10 harg10 arg11 harg11 arg14 harg14 arg26 harg26 x0 x4 x9 x10 x13 xs0) (rest.sl.v228 c arg20 harg20 xo19)) fun k => (H.row11 hh ho k).trans (congrArg _ (e 11 (by decide) k))
  have h13 := h12.step 12 inb_S32x512_S1x512_12_0 (k0_pay66 (rest.sl.r_5 c arg3 harg3 arg4 harg4 x2 x3) (rest.sl.v234 c i arg1 harg1 arg5 harg5 arg10 harg10 arg11 harg11 arg14 harg14 arg26 harg26 x0 x4 x9 x10 x13 xs0) (rest.sl.v237 c arg20 harg20 xo19)) fun k => (H.row12 hh ho k).trans (congrArg _ (e 12 (by decide) k))
  have h14 := h13.step 13 inb_S32x512_S1x512_13_0 (k0_pay69 (rest.sl.r_9 c i arg1 harg1 arg3 harg3 arg4 harg4 arg5 harg5 arg10 harg10 arg11 harg11 arg14 harg14 arg26 harg26 x0 x2 x3 x4 x9 x10 x13 xs0) (rest.sl.r_10 c arg20 harg20 xo19)) fun k => (H.row13 hh ho k).trans (congrArg _ (e 13 (by decide) k))
  have h15 := h14.step 14 inb_S32x512_S1x512_14_0 (k0_pay70 (rest.sl.r_5 c arg3 harg3 arg4 harg4 x2 x3) (rest.sl.v252 c i arg1 harg1 arg5 harg5 arg10 harg10 arg11 harg11 arg14 harg14 arg26 harg26 x0 x4 x9 x10 x13 xs0) (rest.sl.v255 c arg20 harg20 xo19)) fun k => (H.row14 hh ho k).trans (congrArg _ (e 14 (by decide) k))
  have h16 := h15.step 15 inb_S32x512_S1x512_15_0 (k0_pay71 (rest.sl.r_5 c arg3 harg3 arg4 harg4 x2 x3) (rest.sl.v261 c i arg1 harg1 arg5 harg5 arg10 harg10 arg11 harg11 arg14 harg14 arg26 harg26 x0 x4 x9 x10 x13 xs0) (rest.sl.v264 c arg20 harg20 xo19)) fun k => (H.row15 hh ho k).trans (congrArg _ (e 15 (by decide) k))
  have h17 := h16.step 16 inb_S32x512_S1x512_16_0 ((rest.sl.r_11 c i arg1 harg1 arg3 harg3 arg4 harg4 arg5 harg5 arg10 harg10 arg11 harg11 arg14 harg14 arg20 harg20 arg26 harg26 x0 x2 x3 x4 x9 x10 x13 xo19 xs0)) fun k => (H.row16 hh ho k).trans (congrArg _ (e 16 (by decide) k))
  have h18 := h17.step 17 inb_S32x512_S1x512_17_0 (k0_pay73 (rest.sl.r_5 c arg3 harg3 arg4 harg4 x2 x3) (rest.sl.v279 c i arg1 harg1 arg5 harg5 arg10 harg10 arg11 harg11 arg14 harg14 arg26 harg26 x0 x4 x9 x10 x13 xs0) (rest.sl.v282 c arg20 harg20 xo19)) fun k => (H.row17 hh ho k).trans (congrArg _ (e 17 (by decide) k))
  have h19 := h18.step 18 inb_S32x512_S1x512_18_0 (k0_pay74 (rest.sl.r_5 c arg3 harg3 arg4 harg4 x2 x3) (rest.sl.v288 c i arg1 harg1 arg5 harg5 arg10 harg10 arg11 harg11 arg14 harg14 arg26 harg26 x0 x4 x9 x10 x13 xs0) (rest.sl.v291 c arg20 harg20 xo19)) fun k => (H.row18 hh ho k).trans (congrArg _ (e 18 (by decide) k))
  have h20 := h19.step 19 inb_S32x512_S1x512_19_0 (k0_pay75 (rest.sl.r_5 c arg3 harg3 arg4 harg4 x2 x3) (rest.sl.v297 c i arg1 harg1 arg5 harg5 arg10 harg10 arg11 harg11 arg14 harg14 arg26 harg26 x0 x4 x9 x10 x13 xs0) (rest.sl.v300 c arg20 harg20 xo19)) fun k => (H.row19 hh ho k).trans (congrArg _ (e 19 (by decide) k))
  have h21 := h20.step 20 inb_S32x512_S1x512_20_0 (k0_pay76 (rest.sl.r_5 c arg3 harg3 arg4 harg4 x2 x3) (rest.sl.v_1 c i arg1 harg1 arg5 harg5 arg10 harg10 arg11 harg11 arg14 harg14 arg26 harg26 x0 x4 x9 x10 x13 xs0) (rest.sl.v309 c arg20 harg20 xo19)) fun k => (H.row20 hh ho k).trans (congrArg _ (e 20 (by decide) k))
  have h22 := h21.step 21 inb_S32x512_S1x512_21_0 (k0_pay77 (rest.sl.r_5 c arg3 harg3 arg4 harg4 x2 x3) (rest.sl.v315 c i arg1 harg1 arg5 harg5 arg10 harg10 arg11 harg11 arg14 harg14 arg26 harg26 x0 x4 x9 x10 x13 xs0) (rest.sl.v318 c arg20 harg20 xo19)) fun k => (H.row21 hh ho k).trans (congrArg _ (e 21 (by decide) k))
  have h23 := h22.step 22 inb_S32x512_S1x512_22_0 (k0_pay78 (rest.sl.r_5 c arg3 harg3 arg4 harg4 x2 x3) (rest.sl.v324 c i arg1 harg1 arg5 harg5 arg10 harg10 arg11 harg11 arg14 harg14 arg26 harg26 x0 x4 x9 x10 x13 xs0) (rest.sl.v327 c arg20 harg20 xo19)) fun k => (H.row22 hh ho k).trans (congrArg _ (e 22 (by decide) k))
  have h24 := h23.step 23 inb_S32x512_S1x512_23_0 (k0_pay81 (rest.sl.r_12 c i arg1 harg1 arg3 harg3 arg4 harg4 arg5 harg5 arg10 harg10 arg11 harg11 arg14 harg14 arg26 harg26 x0 x2 x3 x4 x9 x10 x13 xs0) (rest.sl.r_13 c arg20 harg20 xo19)) fun k => (H.row23 hh ho k).trans (congrArg _ (e 23 (by decide) k))
  have h25 := h24.step 24 inb_S32x512_S1x512_24_0 (k0_pay82 (rest.sl.r_5 c arg3 harg3 arg4 harg4 x2 x3) (rest.sl.v342 c i arg1 harg1 arg5 harg5 arg10 harg10 arg11 harg11 arg14 harg14 arg26 harg26 x0 x4 x9 x10 x13 xs0) (rest.sl.v345 c arg20 harg20 xo19)) fun k => (H.row24 hh ho k).trans (congrArg _ (e 24 (by decide) k))
  have h26 := h25.step 25 inb_S32x512_S1x512_25_0 (k0_pay83 (rest.sl.r_5 c arg3 harg3 arg4 harg4 x2 x3) (rest.sl.v351 c i arg1 harg1 arg5 harg5 arg10 harg10 arg11 harg11 arg14 harg14 arg26 harg26 x0 x4 x9 x10 x13 xs0) (rest.sl.v354 c arg20 harg20 xo19)) fun k => (H.row25 hh ho k).trans (congrArg _ (e 25 (by decide) k))
  have h27 := h26.step 26 inb_S32x512_S1x512_26_0 ((rest.sl.r_14 c i arg1 harg1 arg3 harg3 arg4 harg4 arg5 harg5 arg10 harg10 arg11 harg11 arg14 harg14 arg20 harg20 arg26 harg26 x0 x2 x3 x4 x9 x10 x13 xo19 xs0)) fun k => (H.row26 hh ho k).trans (congrArg _ (e 26 (by decide) k))
  have h28 := h27.step 27 inb_S32x512_S1x512_27_0 (k0_pay85 (rest.sl.r_5 c arg3 harg3 arg4 harg4 x2 x3) (rest.sl.v369 c i arg1 harg1 arg5 harg5 arg10 harg10 arg11 harg11 arg14 harg14 arg26 harg26 x0 x4 x9 x10 x13 xs0) (rest.sl.v372 c arg20 harg20 xo19)) fun k => (H.row27 hh ho k).trans (congrArg _ (e 27 (by decide) k))
  have h29 := h28.step 28 inb_S32x512_S1x512_28_0 (k0_pay86 (rest.sl.r_5 c arg3 harg3 arg4 harg4 x2 x3) (rest.sl.v378 c i arg1 harg1 arg5 harg5 arg10 harg10 arg11 harg11 arg14 harg14 arg26 harg26 x0 x4 x9 x10 x13 xs0) (rest.sl.v381 c arg20 harg20 xo19)) fun k => (H.row28 hh ho k).trans (congrArg _ (e 28 (by decide) k))
  have h30 := h29.step 29 inb_S32x512_S1x512_29_0 (k0_pay87 (rest.sl.r_5 c arg3 harg3 arg4 harg4 x2 x3) (rest.sl.v387 c i arg1 harg1 arg5 harg5 arg10 harg10 arg11 harg11 arg14 harg14 arg26 harg26 x0 x4 x9 x10 x13 xs0) (rest.sl.v390 c arg20 harg20 xo19)) fun k => (H.row29 hh ho k).trans (congrArg _ (e 29 (by decide) k))
  have h31 := h30.step 30 inb_S32x512_S1x512_30_0 (k0_pay88 (rest.sl.r_5 c arg3 harg3 arg4 harg4 x2 x3) (rest.sl.v_2 c i arg1 harg1 arg5 harg5 arg10 harg10 arg11 harg11 arg14 harg14 arg26 harg26 x0 x4 x9 x10 x13 xs0) (rest.sl.v399 c arg20 harg20 xo19)) fun k => (H.row30 hh ho k).trans (congrArg _ (e 30 (by decide) k))
  refine (h31 p k).trans ?_
  by_cases h : p.val < 31
  · rw [if_pos (show p.val < (30 : Fin 32).val + 1 from h)]
  · rw [if_neg (show ¬ p.val < (30 : Fin 32).val + 1 from h)]
    simp only [Data.dwt, if_neg h, Finset.sum_const_zero, add_zero]

end Blk

end Cert.Mix

end
-- ==== Proof.Mix.Rest4.lean ====
/- What a point leaves: its rows of the rounded gradient, the gradients of the convolution's weights and of the norm's parameters, and the rows the next block needs. -/
module

public import proofs.«01_k».proof.Proof.Mix.Rest3
public import proofs.«01_k».proof.Proof.Mix.Body

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13) (hh : Halo D B xs0)
include H

/-- The first rows of the block's gradient, put behind its last row. -/
theorem behind (hh : Halo D B xs0) (p : Fin 32) (k : Fin 512) :
    View.read (Elt Ideal) arg26.view (arg26.view.writes (Elt Ideal) (harg26.unread xs0) (⟨Rect.unit (s := S8x544x512) ![0, 512, 0] ![1, 32, 512] inb_S8x544x512_S1x32x512_0_512_0, k0_pay1 (k0_pay156 (rest.sl.v699 c i arg1 harg1 arg5 harg5 arg10 harg10 arg11 harg11 arg14 harg14 arg26 harg26 x0 x4 x9 x10 x13 xs0))⟩ :: ⟨Rect.unit (s := S8x544x512) ![7, 0, 0] S1x536x512.size inb_S8x544x512_S1x536x512_7_0_0, k0_pay47 (rest.sl.v114 c i arg1 harg1 arg5 harg5 arg10 harg10 arg11 harg11 arg14 harg14 arg26 harg26 x0 x4 x9 x10 x13 xs0)⟩ :: (rest.sl.HS0_7 c i arg1 harg1 arg5 harg5 arg10 harg10 arg11 harg11 arg14 harg14 arg26 harg26 x0 x4 x9 x10 x13 xs0))) (ix3 0 ⟨512 + p.val, by omega⟩ k) = (D.dv (B + p.val) k : EReal) := by
  rw [hit arg26.view _ inb_S8x544x512_S1x32x512_0_512_0 _ _ (ix3 0 ⟨512 + p.val, by omega⟩ k) (ix3 (n0 := 1) (n1 := 32) (n2 := 512) 0 p k)
    (at3 rfl rfl (Nat.zero_add _).symm)]
  pointwise [k0_pay1, k0_pay156]
  unfold rest.sl.v699
  refine (read_of arg26.view _ inb_S8x544x512_S1x32x512_0_0_0 (ix3 (n0 := 1) (n1 := 32) (n2 := 512) 0 p k) (ix3 0 ⟨p.val, by omega⟩ k)
    (at3 rfl (Nat.zero_add _).symm (Nat.zero_add _).symm)).trans ?_
  refine (H.cov hh arg26.view.junk 0 (by decide) ⟨p.val, by omega⟩ k (Or.inr ⟨rfl, by show p.val < 512; omega⟩)).trans ?_
  show (D.dv (B + (0 + p.val)) k : EReal) = _
  rw [Nat.zero_add]

theorem rounded (f : arg17.view.ty.Contents (Elt Ideal)) (r : Fin 512) (k : Fin 1024) :
    arg17.view.read (Elt Ideal) (arg17.view.writes (Elt Ideal) f (rest.sl.H16_1 c arg1 harg1 x0)) (ix2 r k) = (D.dh (B + r.val) k : EReal) := by
  unfold rest.sl.H16_1
  rw [hit arg17.view f inb_S512x1024_S512x1024_0_0 _ [] (ix2 r k) (ix2 (n0 := 512) (n1 := 1024) r k) (at2 (Nat.zero_add _).symm (Nat.zero_add _).symm)]
  pointwise [k0_pay27, k0_pay26]
  exact H.l0 _ r k

theorem out16 (r : Fin 512) (k : Fin 1024) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.1 (ix2 r k) = (D.dh (B + r.val) k : EReal) := by
  unfold restOuts rest
  exact H.rounded _ r k

theorem out19 {o : Fin 32 → Fin 512 → ℝ} (hh : Halo D B xs0) (ho : ∀ p k, xo19 (ix2 p k) = (o p k : EReal)) (p : Fin 32) (k : Fin 512) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.2.1 (ix2 p k) = ((o p k + ∑ r : Fin 512, D.dwt (B + r.val) p.val k : ℝ) : EReal) := by
  unfold restOuts rest
  exact H.rows hh ho p k

theorem out20 {o : Fin 512 → ℝ} (ho : ∀ k, xo20 (ix2 0 k) = (o k : EReal)) (k : Fin 512) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.2.2.1 (ix2 0 k) = ((o k + ∑ r : Fin 512, D.dvr (B + r.val) k : ℝ) : EReal) := by
  unfold restOuts rest
  exact H.H20_1 ho _ k

theorem out21 {o : Fin 512 → ℝ} (ho : ∀ k, xo21 (ix2 0 k) = (o k : EReal)) (k : Fin 512) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.2.2.2.1 (ix2 0 k) = ((o k + ∑ r : Fin 512, D.dln (B + r.val) k * D.vhat (B + r.val) k : ℝ) : EReal) := by
  unfold restOuts rest
  exact H.H21_1 ho _ k

theorem out22 {o : Fin 512 → ℝ} (ho : ∀ k, xo22 (ix2 0 k) = (o k : EReal)) (k : Fin 512) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.2.2.2.2.1 (ix2 0 k) = ((o k + ∑ r : Fin 512, D.dln (B + r.val) k : ℝ) : EReal) := by
  unfold restOuts rest
  exact H.H22_1 ho _ k

theorem outS0 (hh : Halo D B xs0) (p : Fin 32) (k : Fin 512) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.2.2.2.2.2.2.2.1 (ix3 0 ⟨512 + p.val, by omega⟩ k) = (D.dv (B + p.val) k : EReal) := by
  unfold restOuts rest
  exact H.behind hh p k

end Blk

end Cert.Mix

end
-- ==== Proof.Mix.Conv.lean ====
/- The convolution's input gradient: 31 taps over the shifted copies, added up 64 rows a pass. -/
module

public import proofs.«01_k».proof.Proof.Mix.Rest2

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

/-- The share of tap `t` in the gradient at row `n`. -/
def Data.tap (D : Data) (n : ℕ) (j : Fin 512) (t : ℕ) : ℝ := D.w (Fin.ofNat 32 t) j * D.dv (n + (30 - t)) j

/-- The first `m` taps. -/
def Data.taps (D : Data) (n : ℕ) (j : Fin 512) (m : ℕ) : ℝ := ∑ t ∈ Finset.range m, D.tap n j t

theorem Data.taps_succ (D : Data) (n : ℕ) (j : Fin 512) (m : ℕ) : D.taps n j (m + 1) = D.taps n j m + D.tap n j m :=
  Finset.sum_range_succ _ _

theorem Data.taps_all (D : Data) (n : ℕ) (j : Fin 512) : D.taps n j 31 = D.du n j := by
  rw [Data.taps, ← Fin.sum_univ_eq_sum_range (fun t => D.tap n j t) 31]
  refine Finset.sum_congr rfl fun k _ => ?_
  rw [Data.tap]
  congr 2
  exact Fin.ext (Nat.mod_eq_of_lt (by omega))

section Taps

variable {r : Fin 64} {k : Fin 512} {b : ℝ}

theorem pay12 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) :
    k0_pay12 w0 p0 w1 p1 w2 p2 (ix2 r k) = ((0 + c0 * d0 + c1 * d1 + c2 * d2 : ℝ) : EReal) := by
  pointwise [k0_pay12, k0_pay13, k0_pay14, k0_pay17, k0_pay19, k0_pay22, k0_pay24]
  simp only [hw0, hp0, hw1, hp1, hw2, hp2, mul_c, add_c]

theorem pay15 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} {w3 : Vec Ideal S1x512 .f32} {p3 : Vec Ideal S1x64x512 .f32} {c3 d3 : ℝ} {w4 : Vec Ideal S1x512 .f32} {p4 : Vec Ideal S1x64x512 .f32} {c4 d4 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) (hw3 : w3 (ix2 0 k) = (c3 : EReal)) (hp3 : p3 (ix3 0 r k) = (d3 : EReal)) (hw4 : w4 (ix2 0 k) = (c4 : EReal)) (hp4 : p4 (ix3 0 r k) = (d4 : EReal)) :
    k0_pay15 bv (k0_pay13 p0) (k0_pay14 w0) w1 p1 w2 p2 w3 p3 w4 p4 (ix2 r k) = ((b + c0 * d0 + c1 * d1 + c2 * d2 + c3 * d3 + c4 * d4 : ℝ) : EReal) := by
  pointwise [k0_pay15, k0_pay13, k0_pay14, k0_pay17, k0_pay19, k0_pay22, k0_pay24]
  simp only [hb, hw0, hp0, hw1, hp1, hw2, hp2, hw3, hp3, hw4, hp4, mul_c, add_c]

theorem pay16 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} {w3 : Vec Ideal S1x512 .f32} {p3 : Vec Ideal S1x64x512 .f32} {c3 d3 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) (hw3 : w3 (ix2 0 k) = (c3 : EReal)) (hp3 : p3 (ix3 0 r k) = (d3 : EReal)) :
    k0_pay16 bv w0 p0 w1 p1 w2 p2 w3 p3 (ix2 r k) = ((b + c0 * d0 + c1 * d1 + c2 * d2 + c3 * d3 : ℝ) : EReal) := by
  pointwise [k0_pay16, k0_pay13, k0_pay14, k0_pay17, k0_pay19, k0_pay22, k0_pay24]
  simp only [hb, hw0, hp0, hw1, hp1, hw2, hp2, hw3, hp3, mul_c, add_c]

theorem pay18 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} {w3 : Vec Ideal S1x512 .f32} {p3 : Vec Ideal S1x64x512 .f32} {c3 d3 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) (hw3 : w3 (ix2 0 k) = (c3 : EReal)) (hp3 : p3 (ix3 0 r k) = (d3 : EReal)) :
    k0_pay18 bv (k0_pay17 w0) p0 w1 p1 w2 p2 w3 p3 (ix2 r k) = ((b + c0 * d0 + c1 * d1 + c2 * d2 + c3 * d3 : ℝ) : EReal) := by
  pointwise [k0_pay18, k0_pay13, k0_pay14, k0_pay17, k0_pay19, k0_pay22, k0_pay24]
  simp only [hb, hw0, hp0, hw1, hp1, hw2, hp2, hw3, hp3, mul_c, add_c]

theorem pay20 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} {w3 : Vec Ideal S1x512 .f32} {p3 : Vec Ideal S1x64x512 .f32} {c3 d3 : ℝ} {w4 : Vec Ideal S1x512 .f32} {p4 : Vec Ideal S1x64x512 .f32} {c4 d4 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) (hw3 : w3 (ix2 0 k) = (c3 : EReal)) (hp3 : p3 (ix3 0 r k) = (d3 : EReal)) (hw4 : w4 (ix2 0 k) = (c4 : EReal)) (hp4 : p4 (ix3 0 r k) = (d4 : EReal)) :
    k0_pay20 bv (k0_pay19 w0) p0 w1 p1 w2 p2 w3 p3 w4 p4 (ix2 r k) = ((b + c0 * d0 + c1 * d1 + c2 * d2 + c3 * d3 + c4 * d4 : ℝ) : EReal) := by
  pointwise [k0_pay20, k0_pay13, k0_pay14, k0_pay17, k0_pay19, k0_pay22, k0_pay24]
  simp only [hb, hw0, hp0, hw1, hp1, hw2, hp2, hw3, hp3, hw4, hp4, mul_c, add_c]

theorem pay21 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} {w3 : Vec Ideal S1x512 .f32} {p3 : Vec Ideal S1x64x512 .f32} {c3 d3 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) (hw3 : w3 (ix2 0 k) = (c3 : EReal)) (hp3 : p3 (ix3 0 r k) = (d3 : EReal)) :
    k0_pay21 bv w0 p0 w1 p1 w2 p2 w3 p3 (ix2 r k) = ((b + c0 * d0 + c1 * d1 + c2 * d2 + c3 * d3 : ℝ) : EReal) := by
  pointwise [k0_pay21, k0_pay13, k0_pay14, k0_pay17, k0_pay19, k0_pay22, k0_pay24]
  simp only [hb, hw0, hp0, hw1, hp1, hw2, hp2, hw3, hp3, mul_c, add_c]

theorem pay23 {w0 : Vec Ideal S1x512 .f32} {p0 : Vec Ideal S1x64x512 .f32} {c0 d0 : ℝ} {w1 : Vec Ideal S1x512 .f32} {p1 : Vec Ideal S1x64x512 .f32} {c1 d1 : ℝ} {w2 : Vec Ideal S1x512 .f32} {p2 : Vec Ideal S1x64x512 .f32} {c2 d2 : ℝ} {w3 : Vec Ideal S1x512 .f32} {p3 : Vec Ideal S1x64x512 .f32} {c3 d3 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) (hw2 : w2 (ix2 0 k) = (c2 : EReal)) (hp2 : p2 (ix3 0 r k) = (d2 : EReal)) (hw3 : w3 (ix2 0 k) = (c3 : EReal)) (hp3 : p3 (ix3 0 r k) = (d3 : EReal)) :
    k0_pay23 bv (k0_pay22 w0) p0 w1 p1 w2 p2 w3 p3 (ix2 r k) = ((b + c0 * d0 + c1 * d1 + c2 * d2 + c3 * d3 : ℝ) : EReal) := by
  pointwise [k0_pay23, k0_pay13, k0_pay14, k0_pay17, k0_pay19, k0_pay22, k0_pay24]
  simp only [hb, hw0, hp0, hw1, hp1, hw2, hp2, hw3, hp3, mul_c, add_c]

theorem pay48 {w0 : Vec Ideal S1x512 .f32} {p0 : Vec Ideal S1x64x512 .f32} {c0 d0 : ℝ} {w1 : Vec Ideal S1x512 .f32} {p1 : Vec Ideal S1x64x512 .f32} {c1 d1 : ℝ} {bv : FVec Ideal S64x512 .f32} (hb : bv (ix2 r k) = (b : EReal)) (hw0 : w0 (ix2 0 k) = (c0 : EReal)) (hp0 : p0 (ix3 0 r k) = (d0 : EReal)) (hw1 : w1 (ix2 0 k) = (c1 : EReal)) (hp1 : p1 (ix3 0 r k) = (d1 : EReal)) :
    k0_pay48 bv (k0_pay24 w0) p0 w1 p1 (ix2 r k) = ((b + c0 * d0 + c1 * d1 : ℝ) : EReal) := by
  pointwise [k0_pay48, k0_pay13, k0_pay14, k0_pay17, k0_pay19, k0_pay22, k0_pay24]
  simp only [hb, hw0, hp0, hw1, hp1, mul_c, add_c]

end Taps

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

variable {X26 : arg26.view.ty.Contents (Elt Ideal)} {𝒱 : Variants} {bd : Option 𝒱.V} {v100 : FVec Ideal S536x512 .f32}

/-- Every copy holds what it should. -/
def Copies (D : Data) (B : ℕ) {m : Memref sig .tc .vmem S8x544x512 .f32} (X : m.view.ty.Contents (Elt Ideal)) : Prop :=
  ∀ (s : Fin 8) (r : Fin 544) (k : Fin 512), (s.val ≠ 0 ∧ r.val < 536) ∨ s.val = 0 →
    m.view.read (Elt Ideal) X (ix3 s r k) = (D.dv (B + (s.val + r.val)) k : EReal)

/-- A pass's load of 64 rows of a copy. -/
theorem Copies.rows (hX : Copies D B X26) (t : ℕ) (s o : ℕ) (hs : s < 8) (ho : o ≤ 472) (n : ℕ) (hn : o + s = n + (30 - t))
    {off : Fin 3 → ℕ} (e : off = ![s, o, 0]) (inb : ∀ a, off a + (![1, 64, 512] : Fin 3 → ℕ) a ≤ S8x544x512.size a) (r : Fin 64) (k : Fin 512) :
    View.readAt (Elt Ideal) arg26.view (Rect.unit (s := S8x544x512) off ![1, 64, 512] inb).toLoadRect X26 (ix3 (n0 := 1) (n1 := 64) (n2 := 512) 0 r k)
      = (D.dv (B + n + r.val + (30 - t)) k : EReal) := by
  subst e
  rw [read_of arg26.view _ inb (ix3 (n0 := 1) (n1 := 64) (n2 := 512) 0 r k) (ix3 ⟨s, hs⟩ ⟨o + r.val, by omega⟩ k)
    (at3 rfl rfl (Nat.zero_add _).symm), hX ⟨s, hs⟩ ⟨o + r.val, by omega⟩ k (by show (s ≠ 0 ∧ o + r.val < 536) ∨ s = 0; omega)]
  show (D.dv (B + (s + (o + r.val))) k : EReal) = _
  rw [show B + (s + (o + r.val)) = B + n + r.val + (30 - t) by omega]

namespace Blk

variable (H : Blk D B x0 x1 x2 x3 x4 x5 x6 x7 x8 x9 x10 x11 x12 x13) (hX : Copies D B X26)
include H

theorem weight (t : ℕ) (ht : t < 32) (inb : ∀ a, (![t, 0] : Fin 2 → ℕ) a + (![1, 512] : Fin 2 → ℕ) a ≤ S32x512.size a) (k : Fin 512) :
    View.readAt (Elt Ideal) arg9.view (Rect.unit (s := S32x512) ![t, 0] ![1, 512] inb).toLoadRect (harg9.unread x8) (ix2 (n0 := 1) (n1 := 512) 0 k)
      = (D.w (Fin.ofNat 32 t) k : EReal) :=
  (H.l8 ⟨t, ht⟩ inb k).trans (by rw [show (⟨t, ht⟩ : Fin 32) = Fin.ofNat 32 t from Fin.ext (Nat.mod_eq_of_lt ht).symm])

include hX

theorem taps3 (j : Fin k0_t1_loop.trips) (r : Fin 64) (k : Fin 512) :
    trip_k0_t1.sl.r arg9 arg26 (harg9.unread x8) X26 j (ix2 r k) = (D.taps (B + 64 * j.val + r.val) k 3 : EReal) := by
  have hj : j.val < 8 := Nat.lt_of_lt_of_le j.isLt k0_t1_abs.2.1
  unfold trip_k0_t1.sl.r
  refine (pay12 (H.weight 0 (by decide) _ k) (hX.rows 0 6 (64 * j.val + 24) (by decide) (by omega) (64 * j.val) (by omega) (k0_off1_eq j ⟨3, by decide⟩) _ r k) (H.weight 1 (by decide) _ k) (hX.rows 1 5 (64 * j.val + 24) (by decide) (by omega) (64 * j.val) (by omega) (k0_off2_eq j ⟨3, by decide⟩) _ r k) (H.weight 2 (by decide) _ k) (hX.rows 2 4 (64 * j.val + 24) (by decide) (by omega) (64 * j.val) (by omega) (k0_off3_eq j ⟨3, by decide⟩) _ r k)).trans (congrArg _ ?_)
  simp only [Data.taps_succ]
  rw [Data.taps, Finset.range_zero, Finset.sum_empty]
  rfl

theorem taps8 (j : Fin k0_t1_loop.trips) (r : Fin 64) (k : Fin 512) :
    trip_k0_t1.sl.r_3 arg9 arg26 (harg9.unread x8) X26 j (ix2 r k) = (D.taps (B + 64 * j.val + r.val) k 8 : EReal) := by
  have hj : j.val < 8 := Nat.lt_of_lt_of_le j.isLt k0_t1_abs.2.1
  unfold trip_k0_t1.sl.r_3 trip_k0_t1.sl.r_1 trip_k0_t1.sl.r_2
  refine (pay15 (H.taps3 hX j r k) (H.weight 3 (by decide) _ k) (hX.rows 3 3 (64 * j.val + 24) (by decide) (by omega) (64 * j.val) (by omega) (k0_off4_eq j ⟨3, by decide⟩) _ r k) (H.weight 4 (by decide) _ k) (hX.rows 4 2 (64 * j.val + 24) (by decide) (by omega) (64 * j.val) (by omega) (k0_off5_eq j ⟨3, by decide⟩) _ r k) (H.weight 5 (by decide) _ k) (hX.rows 5 1 (64 * j.val + 24) (by decide) (by omega) (64 * j.val) (by omega) (k0_off6_eq j ⟨3, by decide⟩) _ r k) (H.weight 6 (by decide) _ k) (hX.rows 6 0 (64 * j.val + 24) (by decide) (by omega) (64 * j.val) (by omega) (k0_off7_eq j ⟨3, by decide⟩) _ r k) (H.weight 7 (by decide) _ k) (hX.rows 7 7 (64 * j.val + 16) (by decide) (by omega) (64 * j.val) (by omega) (k0_off8_eq j ⟨2, by decide⟩) _ r k)).trans (congrArg _ ?_)
  simp only [Data.taps_succ]

  rfl

theorem taps12 (j : Fin k0_t1_loop.trips) (r : Fin 64) (k : Fin 512) :
    trip_k0_t1.sl.r_4 arg9 arg26 (harg9.unread x8) X26 j (ix2 r k) = (D.taps (B + 64 * j.val + r.val) k 12 : EReal) := by
  have hj : j.val < 8 := Nat.lt_of_lt_of_le j.isLt k0_t1_abs.2.1
  unfold trip_k0_t1.sl.r_4
  refine (pay16 (H.taps8 hX j r k) (H.weight 8 (by decide) _ k) (hX.rows 8 6 (64 * j.val + 16) (by decide) (by omega) (64 * j.val) (by omega) (k0_off1_eq j ⟨2, by decide⟩) _ r k) (H.weight 9 (by decide) _ k) (hX.rows 9 5 (64 * j.val + 16) (by decide) (by omega) (64 * j.val) (by omega) (k0_off2_eq j ⟨2, by decide⟩) _ r k) (H.weight 10 (by decide) _ k) (hX.rows 10 4 (64 * j.val + 16) (by decide) (by omega) (64 * j.val) (by omega) (k0_off3_eq j ⟨2, by decide⟩) _ r k) (H.weight 11 (by decide) _ k) (hX.rows 11 3 (64 * j.val + 16) (by decide) (by omega) (64 * j.val) (by omega) (k0_off4_eq j ⟨2, by decide⟩) _ r k)).trans (congrArg _ ?_)
  simp only [Data.taps_succ]

  rfl

theorem taps16 (j : Fin k0_t1_loop.trips) (r : Fin 64) (k : Fin 512) :
    trip_k0_t1.sl.r_6 arg9 arg26 (harg9.unread x8) X26 j (ix2 r k) = (D.taps (B + 64 * j.val + r.val) k 16 : EReal) := by
  have hj : j.val < 8 := Nat.lt_of_lt_of_le j.isLt k0_t1_abs.2.1
  unfold trip_k0_t1.sl.r_6 trip_k0_t1.sl.r_5
  refine (pay18 (H.taps12 hX j r k) (H.weight 12 (by decide) _ k) (hX.rows 12 2 (64 * j.val + 16) (by decide) (by omega) (64 * j.val) (by omega) (k0_off5_eq j ⟨2, by decide⟩) _ r k) (H.weight 13 (by decide) _ k) (hX.rows 13 1 (64 * j.val + 16) (by decide) (by omega) (64 * j.val) (by omega) (k0_off6_eq j ⟨2, by decide⟩) _ r k) (H.weight 14 (by decide) _ k) (hX.rows 14 0 (64 * j.val + 16) (by decide) (by omega) (64 * j.val) (by omega) (k0_off7_eq j ⟨2, by decide⟩) _ r k) (H.weight 15 (by decide) _ k) (hX.rows 15 7 (64 * j.val + 8) (by decide) (by omega) (64 * j.val) (by omega) (k0_off8_eq j ⟨1, by decide⟩) _ r k)).trans (congrArg _ ?_)
  simp only [Data.taps_succ]

  rfl

theorem taps21 (j : Fin k0_t1_loop.trips) (r : Fin 64) (k : Fin 512) :
    trip_k0_t1.sl.r_9 arg9 arg26 (harg9.unread x8) X26 j (ix2 r k) = (D.taps (B + 64 * j.val + r.val) k 21 : EReal) := by
  have hj : j.val < 8 := Nat.lt_of_lt_of_le j.isLt k0_t1_abs.2.1
  unfold trip_k0_t1.sl.r_9 trip_k0_t1.sl.r_7 trip_k0_t1.sl.r_8
  refine (pay20 (H.taps16 hX j r k) (H.weight 16 (by decide) _ k) (hX.rows 16 6 (64 * j.val + 8) (by decide) (by omega) (64 * j.val) (by omega) (k0_off1_eq j ⟨1, by decide⟩) _ r k) (H.weight 17 (by decide) _ k) (hX.rows 17 5 (64 * j.val + 8) (by decide) (by omega) (64 * j.val) (by omega) (k0_off2_eq j ⟨1, by decide⟩) _ r k) (H.weight 18 (by decide) _ k) (hX.rows 18 4 (64 * j.val + 8) (by decide) (by omega) (64 * j.val) (by omega) (k0_off3_eq j ⟨1, by decide⟩) _ r k) (H.weight 19 (by decide) _ k) (hX.rows 19 3 (64 * j.val + 8) (by decide) (by omega) (64 * j.val) (by omega) (k0_off4_eq j ⟨1, by decide⟩) _ r k) (H.weight 20 (by decide) _ k) (hX.rows 20 2 (64 * j.val + 8) (by decide) (by omega) (64 * j.val) (by omega) (k0_off5_eq j ⟨1, by decide⟩) _ r k)).trans (congrArg _ ?_)
  simp only [Data.taps_succ]

  rfl

theorem taps25 (j : Fin k0_t1_loop.trips) (r : Fin 64) (k : Fin 512) :
    trip_k0_t1.sl.r_10 arg9 arg26 (harg9.unread x8) X26 j (ix2 r k) = (D.taps (B + 64 * j.val + r.val) k 25 : EReal) := by
  have hj : j.val < 8 := Nat.lt_of_lt_of_le j.isLt k0_t1_abs.2.1
  unfold trip_k0_t1.sl.r_10
  refine (pay21 (H.taps21 hX j r k) (H.weight 21 (by decide) _ k) (hX.rows 21 1 (64 * j.val + 8) (by decide) (by omega) (64 * j.val) (by omega) (k0_off6_eq j ⟨1, by decide⟩) _ r k) (H.weight 22 (by decide) _ k) (hX.rows 22 0 (64 * j.val + 8) (by decide) (by omega) (64 * j.val) (by omega) (k0_off7_eq j ⟨1, by decide⟩) _ r k) (H.weight 23 (by decide) _ k) (hX.rows 23 7 (64 * j.val + 0) (by decide) (by omega) (64 * j.val) (by omega) (k0_off8_eq j ⟨0, by decide⟩) _ r k) (H.weight 24 (by decide) _ k) (hX.rows 24 6 (64 * j.val + 0) (by decide) (by omega) (64 * j.val) (by omega) (k0_off1_eq j ⟨0, by decide⟩) _ r k)).trans (congrArg _ ?_)
  simp only [Data.taps_succ]

  rfl

theorem taps29 (j : Fin k0_t1_loop.trips) (r : Fin 64) (k : Fin 512) :
    trip_k0_t1.sl.r_12 arg9 arg26 (harg9.unread x8) X26 j (ix2 r k) = (D.taps (B + 64 * j.val + r.val) k 29 : EReal) := by
  have hj : j.val < 8 := Nat.lt_of_lt_of_le j.isLt k0_t1_abs.2.1
  unfold trip_k0_t1.sl.r_12 trip_k0_t1.sl.r_11
  refine (pay23 (H.taps25 hX j r k) (H.weight 25 (by decide) _ k) (hX.rows 25 5 (64 * j.val + 0) (by decide) (by omega) (64 * j.val) (by omega) (k0_off2_eq j ⟨0, by decide⟩) _ r k) (H.weight 26 (by decide) _ k) (hX.rows 26 4 (64 * j.val + 0) (by decide) (by omega) (64 * j.val) (by omega) (k0_off3_eq j ⟨0, by decide⟩) _ r k) (H.weight 27 (by decide) _ k) (hX.rows 27 3 (64 * j.val + 0) (by decide) (by omega) (64 * j.val) (by omega) (k0_off4_eq j ⟨0, by decide⟩) _ r k) (H.weight 28 (by decide) _ k) (hX.rows 28 2 (64 * j.val + 0) (by decide) (by omega) (64 * j.val) (by omega) (k0_off5_eq j ⟨0, by decide⟩) _ r k)).trans (congrArg _ ?_)
  simp only [Data.taps_succ]

  rfl

/-- After `n` passes the first `64 n` rows are there. -/
theorem passes (f : arg30.view.ty.Contents (Elt Ideal)) (n : ℕ) (hn : n ≤ 8) (p : Fin 512) (hp : p.val < 64 * n) (k : Fin 512) :
    arg30.view.read (Elt Ideal) (arg30.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v100 (harg9.unread x8) X26 n)) (ix2 p k) = (D.du (B + p.val) k : EReal) := by
  induction n with
  | zero => omega
  | succ n ih =>
    have h8 : k0_t1_loop.trips = 8 := by decide
    obtain ⟨j, rfl⟩ : ∃ j : Fin k0_t1_loop.trips, j.val = n := ⟨⟨n, by omega⟩, rfl⟩
    have hj : j.val < 8 := by omega
    rw [pb_k0_t1_succ]
    unfold tripL_k0_t1 trip_k0_t1
    have o0 : k0_off9 j 0 = 64 * j.val := congrFun (k0_off9_eq j) 0
    have o1 : k0_off9 j 1 = 0 := congrFun (k0_off9_eq j) 1
    simp only [List.cons_append, List.nil_append]
    by_cases h : p.val < 64 * j.val
    · rw [miss arg30.view f (k0_off9_inb j) _ _ (ix2 p k) 0 (Or.inl (show p.val < k0_off9 j 0 by rw [o0]; exact h))]
      exact ih (by omega) h
    · rw [hit arg30.view f (k0_off9_inb j) _ _ (ix2 p k) (ix2 (n0 := 64) (n1 := 512) ⟨p.val - 64 * j.val, by omega⟩ k)
        (at2 (show p.val = k0_off9 j 0 + (p.val - 64 * j.val) by rw [o0]; omega) (show k.val = k0_off9 j 1 + k.val by rw [o1, Nat.zero_add]))]
      obtain ⟨r, hr⟩ : ∃ r : Fin 64, r = ⟨p.val - 64 * j.val, by omega⟩ := ⟨_, rfl⟩
      rw [← hr]
      unfold trip_k0_t1.sl.r_13
      refine (pay48 (H.taps29 hX j r k) (H.weight 29 (by decide) _ k) (hX.rows 29 1 (64 * j.val + 0) (by decide) (by omega) (64 * j.val) (by omega) (k0_off6_eq j ⟨0, by decide⟩) _ r k) (H.weight 30 (by decide) _ k) (hX.rows 30 0 (64 * j.val + 0) (by decide) (by omega) (64 * j.val) (by omega) (k0_off7_eq j ⟨0, by decide⟩) _ r k)).trans (congrArg _ ?_)
      rw [← Data.taps_all, show B + p.val = B + 64 * j.val + r.val by rw [hr]; show _ = B + 64 * j.val + (p.val - 64 * j.val); omega]
      simp only [Data.taps_succ]
      rfl

/-- What is read of the eight passes. -/
theorem conv (inb : ∀ a, (![0, 0] : Fin 2 → ℕ) a + (![512, 512] : Fin 2 → ℕ) a ≤ S512x512.size a) (r k : Fin 512) :
    arg30.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v100 (harg9.unread x8) X26 (Scf.trips k0_t1_loop.lb k0_t1_loop.ub k0_t1_loop.st)) (Rect.unit (s := S512x512) ![0, 0] ![512, 512] inb).toLoadRect
      (ix2 (n0 := 512) (n1 := 512) r k) = (D.du (B + r.val) k : EReal) :=
  (read_of arg30.view _ inb (ix2 (n0 := 512) (n1 := 512) r k) (ix2 r k) (at2 (Nat.zero_add _).symm (Nat.zero_add _).symm)).trans
    (H.passes hX arg30.view.junk _ (by decide) r (show r.val < 64 * (Scf.trips k0_t1_loop.lb k0_t1_loop.ub k0_t1_loop.st) from
      lt_of_lt_of_eq r.isLt (by decide)) k)

end Blk

end Cert.Mix

end
-- ==== Proof.Mix.PoolValue.lean ====
/- The pooling payloads at real arguments. -/
module

public import proofs.«01_k».proof.Proof.Mix.BlockValue

@[expose] public section

set_option maxRecDepth 16384

noncomputable section

namespace Cert.Mix

open Cert.Kernel2Ideal Cert.Kernel2Ideal.Gen Idealize.ShloMosaic Cert.Reals

variable {D : Data} {B : ℕ}

/-- The number of rows a window has seen, as the word arithmetic gives it. -/
theorem count_word (n w : ℕ) (hn : n < 4096) (hw : w ≤ 16) :
    (FloatOps.sitofp (F := Ideal) .f32 (IntOp.minsi (IntOp.addi (BitVec.ofNat 32 n) 1#32) (BitVec.ofNat 32 w)) : EReal)
      = (((min (n + 1) w : ℕ) : ℝ) : EReal) := by
  have e : IntOp.minsi (IntOp.addi (BitVec.ofNat 32 n) 1#32) (BitVec.ofNat 32 w) = BitVec.ofNat 32 (min (n + 1) w) := by
    rw [show IntOp.addi (BitVec.ofNat 32 n) 1#32 = BitVec.ofNat 32 (n + 1) from (BitVec.ofNat_add n 1).symm]
    unfold IntOp.minsi
    have hs : (BitVec.ofNat 32 (n + 1)).slt (BitVec.ofNat 32 w) = decide (n + 1 < w) := by
      simp only [BitVec.slt, BitVec.toInt_eq_toNat_cond, BitVec.toNat_ofNat]
      rw [Nat.mod_eq_of_lt (by omega), Nat.mod_eq_of_lt (by omega), if_pos (by omega), if_pos (by omega)]
      congr 1
      exact propext Nat.cast_lt
    rw [hs]
    by_cases h : n + 1 < w
    · rw [decide_eq_true h, if_pos rfl, min_eq_left h.le]
    · rw [decide_eq_false h, if_neg (by decide), min_eq_right (not_lt.mp h)]
  rw [e]
  show (((BitVec.ofNat 32 (min (n + 1) w)).toInt : ℝ) : EReal) = _
  congr 1
  have : (BitVec.ofNat 32 (min (n + 1) w)).toInt = ((min (n + 1) w : ℕ) : ℤ) := by
    simp only [BitVec.toInt_eq_toNat_cond, BitVec.toNat_ofNat]
    have := min_le_right (n + 1) w
    rw [Nat.mod_eq_of_lt (by omega), if_pos (by omega)]
  rw [this]
  norm_cast

section Pool

variable {dy : FVec Ideal S512x1024 .f32} {mv : Vec Ideal S512x128 .bf16} {wv : Vec Ideal S1x128x128 .bf16}
  {old sv : Vec Ideal S1x128 .f32} {old3 : Vec Ideal S1x128x128 .f32} {o : Fin 128 → ℝ} {o3 : Fin 128 → Fin 128 → ℝ}
  {rows : IVec S512x1 32}

/-- A gradient of the pooled rows over the rows seen. -/
theorem quot_c {n : ℕ} {q : Fin 4} {l : Fin 128} (hn : n < 4096) :
    Ideal.div ((D.dm n q l : ℝ) : EReal) (((min (n + 1) (wnd q) : ℕ) : ℝ) : EReal) = (D.dq n q l : EReal) := by
  have h : ((min (n + 1) (wnd q) : ℕ) : ℝ) ≠ 0 := by
    have : 0 < min (n + 1) (wnd q) := Nat.lt_min.mpr ⟨n.succ_pos, by unfold wnd; positivity⟩
    exact_mod_cast this.ne'
  rw [div_c _ h, Data.dq, if_pos hn]

theorem pay96 (hdy : ∀ i j, dy (ix2 i j) = (D.dy (B + i.val) j : EReal)) (i : Fin 512) (l : Fin 128) :
    k0_pay96 dy (ix2 i l) = (D.dyp (B + i.val) 0 l : EReal) := by
  pointwise [k0_pay96]
  have e : (⟨512 + l.val, by omega⟩ : Fin 1024) = outP (lane 0 l) := Fin.ext (by simp [outP, lane] <;> omega)
  exact (congrArg (fun k => dy (ix2 i k)) e).trans (hdy i _)

theorem pay98 (hdy : ∀ i j, dy (ix2 i j) = (D.dy (B + i.val) j : EReal)) (hm : ∀ i k, mv (ix2 i k) = (D.m (B + i.val) (lane 0 k) : EReal)) (hw : ∀ k l, wv (ix3 0 k l) = (D.wp 0 k l : EReal)) (ho : ∀ l, old (ix2 0 l) = (o l : EReal)) (l : Fin 128) :
    k0_pay98 dy mv wv old (ix2 0 l) = ((o l + ∑ i : Fin 512, D.dspt (B + i.val) 0 l : ℝ) : EReal) := by
  pointwise [k0_pay98, k0_pay97]
  simp only [pay96 hdy, hm, hw, ho, mul_c, sum_c, add_c, Data.dspt, Data.ypre]

theorem pay99 (hdy : ∀ i j, dy (ix2 i j) = (D.dy (B + i.val) j : EReal)) (hs : ∀ l, sv (ix2 0 l) = (D.sp (lane 0 l) : EReal)) (i : Fin 512) (l : Fin 128) :
    k0_pay99 dy sv (ix2 i l) = (D.dyi (B + i.val) 0 l : EReal) := by
  pointwise [k0_pay99]
  simp only [pay96 hdy, hs, mul_c, Data.dyi]

theorem pay100 (hdy : ∀ i j, dy (ix2 i j) = (D.dy (B + i.val) j : EReal)) (hm : ∀ i k, mv (ix2 i k) = (D.m (B + i.val) (lane 0 k) : EReal)) (hs : ∀ l, sv (ix2 0 l) = (D.sp (lane 0 l) : EReal)) (ho3 : ∀ k l, old3 (ix3 0 k l) = (o3 k l : EReal)) (k l : Fin 128) :
    k0_pay100 dy mv sv old3 (ix3 0 k l) = ((o3 k l + ∑ i : Fin 512, D.dwpt (B + i.val) 0 k l : ℝ) : EReal) := by
  pointwise [k0_pay100, k0_pay97]
  simp only [pay99 hdy hs, hm, ho3, mul_c, sum_c, add_c, Data.dwpt]

theorem pay101 (hdy : ∀ i j, dy (ix2 i j) = (D.dy (B + i.val) j : EReal)) (hs : ∀ l, sv (ix2 0 l) = (D.sp (lane 0 l) : EReal)) (hw : ∀ k l, wv (ix3 0 k l) = (D.wp 0 k l : EReal)) (i : Fin 512) (l : Fin 128) :
    k0_pay101 dy sv wv (ix2 i l) = (D.dm (B + i.val) 0 l : EReal) := by
  pointwise [k0_pay101]
  simp only [pay99 hdy hs, hw, mul_c, sum_c, Data.dm]

theorem pay105 (hdy : ∀ i j, dy (ix2 i j) = (D.dy (B + i.val) j : EReal)) (i : Fin 512) (l : Fin 128) :
    k0_pay105 dy (ix2 i l) = (D.dyp (B + i.val) 1 l : EReal) := by
  pointwise [k0_pay105]
  have e : (⟨640 + l.val, by omega⟩ : Fin 1024) = outP (lane 1 l) := Fin.ext (by simp [outP, lane] <;> omega)
  exact (congrArg (fun k => dy (ix2 i k)) e).trans (hdy i _)

theorem pay107 (hdy : ∀ i j, dy (ix2 i j) = (D.dy (B + i.val) j : EReal)) (hm : ∀ i k, mv (ix2 i k) = (D.m (B + i.val) (lane 1 k) : EReal)) (hw : ∀ k l, wv (ix3 0 k l) = (D.wp 1 k l : EReal)) (ho : ∀ l, old (ix2 0 l) = (o l : EReal)) (l : Fin 128) :
    k0_pay107 dy mv wv old (ix2 0 l) = ((o l + ∑ i : Fin 512, D.dspt (B + i.val) 1 l : ℝ) : EReal) := by
  pointwise [k0_pay107, k0_pay106]
  simp only [pay105 hdy, hm, hw, ho, mul_c, sum_c, add_c, Data.dspt, Data.ypre]

theorem pay108 (hdy : ∀ i j, dy (ix2 i j) = (D.dy (B + i.val) j : EReal)) (hs : ∀ l, sv (ix2 0 l) = (D.sp (lane 1 l) : EReal)) (i : Fin 512) (l : Fin 128) :
    k0_pay108 dy sv (ix2 i l) = (D.dyi (B + i.val) 1 l : EReal) := by
  pointwise [k0_pay108]
  simp only [pay105 hdy, hs, mul_c, Data.dyi]

theorem pay109 (hdy : ∀ i j, dy (ix2 i j) = (D.dy (B + i.val) j : EReal)) (hm : ∀ i k, mv (ix2 i k) = (D.m (B + i.val) (lane 1 k) : EReal)) (hs : ∀ l, sv (ix2 0 l) = (D.sp (lane 1 l) : EReal)) (ho3 : ∀ k l, old3 (ix3 0 k l) = (o3 k l : EReal)) (k l : Fin 128) :
    k0_pay109 dy mv sv old3 (ix2 k l) = ((o3 k l + ∑ i : Fin 512, D.dwpt (B + i.val) 1 k l : ℝ) : EReal) := by
  pointwise [k0_pay109, k0_pay106]
  simp only [pay108 hdy hs, hm, ho3, mul_c, sum_c, add_c, Data.dwpt]

theorem pay111 {di : FVec Ideal S512x128 .bf16} (hdi : ∀ i l, di (ix2 i l) = (D.dyi (B + i.val) 1 l : EReal)) (hw : ∀ k l, wv (ix3 0 k l) = (D.wp 1 k l : EReal)) (i : Fin 512) (l : Fin 128) :
    k0_pay111 di wv (ix2 i l) = (D.dm (B + i.val) 1 l : EReal) := by
  pointwise [k0_pay111]
  simp only [hdi, hw, mul_c, sum_c, Data.dm]

theorem pay114 (hdy : ∀ i j, dy (ix2 i j) = (D.dy (B + i.val) j : EReal)) (i : Fin 512) (l : Fin 128) :
    k0_pay114 dy (ix2 i l) = (D.dyp (B + i.val) 2 l : EReal) := by
  pointwise [k0_pay114]
  have e : (⟨768 + l.val, by omega⟩ : Fin 1024) = outP (lane 2 l) := Fin.ext (by simp [outP, lane] <;> omega)
  exact (congrArg (fun k => dy (ix2 i k)) e).trans (hdy i _)

theorem pay116 (hdy : ∀ i j, dy (ix2 i j) = (D.dy (B + i.val) j : EReal)) (hm : ∀ i k, mv (ix2 i k) = (D.m (B + i.val) (lane 2 k) : EReal)) (hw : ∀ k l, wv (ix3 0 k l) = (D.wp 2 k l : EReal)) (ho : ∀ l, old (ix2 0 l) = (o l : EReal)) (l : Fin 128) :
    k0_pay116 dy mv wv old (ix2 0 l) = ((o l + ∑ i : Fin 512, D.dspt (B + i.val) 2 l : ℝ) : EReal) := by
  pointwise [k0_pay116, k0_pay115]
  simp only [pay114 hdy, hm, hw, ho, mul_c, sum_c, add_c, Data.dspt, Data.ypre]

theorem pay118 {dp : FVec Ideal S512x128 .f32} (hdp : ∀ i l, dp (ix2 i l) = (D.dyp (B + i.val) 2 l : EReal)) {sb : FVec Ideal S512x128 .f32} (hs : ∀ i l, sb (ix2 i l) = (D.sp (lane 2 l) : EReal)) (i : Fin 512) (l : Fin 128) :
    k0_pay118 dp sb (ix2 i l) = (D.dyi (B + i.val) 2 l : EReal) := by
  pointwise [k0_pay118]
  simp only [hdp, hs, mul_c, Data.dyi]

theorem pay119 {dp : FVec Ideal S512x128 .f32} (hdp : ∀ i l, dp (ix2 i l) = (D.dyp (B + i.val) 2 l : EReal)) {mb : FVec Ideal S512x128 .bf16} (hm : ∀ i k, mb (ix2 i k) = (D.m (B + i.val) (lane 2 k) : EReal)) {sb : FVec Ideal S512x128 .f32} (hs : ∀ i l, sb (ix2 i l) = (D.sp (lane 2 l) : EReal)) (ho3 : ∀ k l, old3 (ix3 0 k l) = (o3 k l : EReal)) (k l : Fin 128) :
    k0_pay119 dp mb sb old3 (ix3 0 k l) = ((o3 k l + ∑ i : Fin 512, D.dwpt (B + i.val) 2 k l : ℝ) : EReal) := by
  pointwise [k0_pay119, k0_pay115]
  simp only [pay118 hdp hs, hm, ho3, mul_c, sum_c, add_c, Data.dwpt]

theorem pay120 {dp : FVec Ideal S512x128 .f32} (hdp : ∀ i l, dp (ix2 i l) = (D.dyp (B + i.val) 2 l : EReal)) {sb : FVec Ideal S512x128 .f32} (hs : ∀ i l, sb (ix2 i l) = (D.sp (lane 2 l) : EReal)) (hw : ∀ k l, wv (ix3 0 k l) = (D.wp 2 k l : EReal)) (i : Fin 512) (l : Fin 128) :
    k0_pay120 dp sb wv (ix2 i l) = (D.dm (B + i.val) 2 l : EReal) := by
  pointwise [k0_pay120]
  simp only [pay118 hdp hs, hw, mul_c, sum_c, Data.dm]

theorem pay123 (hdy : ∀ i j, dy (ix2 i j) = (D.dy (B + i.val) j : EReal)) (i : Fin 512) (l : Fin 128) :
    k0_pay123 dy (ix2 i l) = (D.dyp (B + i.val) 3 l : EReal) := by
  pointwise [k0_pay123]
  have e : (⟨896 + l.val, by omega⟩ : Fin 1024) = outP (lane 3 l) := Fin.ext (by simp [outP, lane] <;> omega)
  exact (congrArg (fun k => dy (ix2 i k)) e).trans (hdy i _)

theorem pay125 (hm : ∀ i k, mv (ix2 i k) = (D.m (B + i.val) (lane 3 k) : EReal)) (hw : ∀ k l, wv (ix3 0 k l) = (D.wp 3 k l : EReal)) (i : Fin 512) (l : Fin 128) :
    k0_pay125 mv wv (ix2 i l) = (D.ypre (B + i.val) 3 l : EReal) := by
  pointwise [k0_pay125, k0_pay124]
  simp only [hm, hw, mul_c, sum_c, Data.ypre]

theorem pay126 {dp : FVec Ideal S512x128 .f32} (hdp : ∀ i l, dp (ix2 i l) = (D.dyp (B + i.val) 3 l : EReal)) {yp : FVec Ideal S512x128 .f32} (hy : ∀ i l, yp (ix2 i l) = (D.ypre (B + i.val) 3 l : EReal)) (ho : ∀ l, old (ix2 0 l) = (o l : EReal)) (l : Fin 128) :
    k0_pay126 dp yp old (ix2 0 l) = ((o l + ∑ i : Fin 512, D.dspt (B + i.val) 3 l : ℝ) : EReal) := by
  pointwise [k0_pay126]
  simp only [hdp, hy, ho, mul_c, sum_c, add_c, Data.dspt]

theorem pay127 {dp : FVec Ideal S512x128 .f32} (hdp : ∀ i l, dp (ix2 i l) = (D.dyp (B + i.val) 3 l : EReal)) (hs : ∀ l, sv (ix2 0 l) = (D.sp (lane 3 l) : EReal)) (i : Fin 512) (l : Fin 128) :
    k0_pay127 dp sv (ix2 i l) = (D.dyi (B + i.val) 3 l : EReal) := by
  pointwise [k0_pay127]
  simp only [hdp, hs, mul_c, Data.dyi]

theorem pay128 {dp : FVec Ideal S512x128 .f32} (hdp : ∀ i l, dp (ix2 i l) = (D.dyp (B + i.val) 3 l : EReal)) {mb : FVec Ideal S512x128 .bf16} (hm : ∀ i k, mb (ix2 i k) = (D.m (B + i.val) (lane 3 k) : EReal)) (hs : ∀ l, sv (ix2 0 l) = (D.sp (lane 3 l) : EReal)) (ho3 : ∀ k l, old3 (ix3 0 k l) = (o3 k l : EReal)) (k l : Fin 128) :
    k0_pay128 dp mb sv old3 (ix3 0 k l) = ((o3 k l + ∑ i : Fin 512, D.dwpt (B + i.val) 3 k l : ℝ) : EReal) := by
  pointwise [k0_pay128, k0_pay124]
  simp only [pay127 hdp hs, hm, ho3, mul_c, sum_c, add_c, Data.dwpt]

theorem pay129 {dp : FVec Ideal S512x128 .f32} (hdp : ∀ i l, dp (ix2 i l) = (D.dyp (B + i.val) 3 l : EReal)) (hs : ∀ l, sv (ix2 0 l) = (D.sp (lane 3 l) : EReal)) (hw : ∀ k l, wv (ix3 0 k l) = (D.wp 3 k l : EReal)) (i : Fin 512) (l : Fin 128) :
    k0_pay129 dp sv wv (ix2 i l) = (D.dm (B + i.val) 3 l : EReal) := by
  pointwise [k0_pay129]
  simp only [pay127 hdp hs, hw, mul_c, sum_c, Data.dm]

theorem pay103 {d : FVec Ideal S512x128 .f32} (hd : ∀ i l, d (ix2 i l) = (D.dm (B + i.val) 0 l : EReal)) {next : IVec S512x1 32}
    (hr : ∀ i : Fin 512, next (ix2 i 0) = IntOp.addi (BitVec.ofNat 32 (B + i.val)) 1#32) (hB : B ≤ 3584) (i : Fin 512) (l : Fin 128) :
    k0_pay103 d next 2#32 (ix2 i l) = (D.dq (B + i.val) 0 l : EReal) := by
  pointwise [k0_pay103]
  rw [hd, hr, count_word (B + i.val) 2 (by omega) (by norm_num)]
  exact quot_c (by omega)

theorem pay104 {d : FVec Ideal S512x128 .f32} (hd : ∀ i l, d (ix2 i l) = (D.dm (B + i.val) 0 l : EReal)) (i : Fin 512) (l : Fin 128) :
    k0_pay104 d (ix2 i l) = (D.dm (B + i.val) 0 l : EReal) := by
  pointwise [k0_pay104]
  exact hd i l

theorem pay112 {di : FVec Ideal S512x128 .bf16} (hdi : ∀ i l, di (ix2 i l) = (D.dyi (B + i.val) 1 l : EReal)) (hw : ∀ k l, wv (ix3 0 k l) = (D.wp 1 k l : EReal)) (hr : ∀ i : Fin 512, rows (ix2 i 0) = BitVec.ofNat 32 (B + i.val)) (hB : B ≤ 3584) (i : Fin 512) (l : Fin 128) :
    k0_pay112 rows di wv (ix2 i l) = (D.dq (B + i.val) 1 l : EReal) := by
  pointwise [k0_pay112]
  rw [pay111 hdi hw, hr, count_word (B + i.val) 4 (by omega) (by norm_num)]
  exact quot_c (by omega)

theorem pay113 {di : FVec Ideal S512x128 .bf16} (hdi : ∀ i l, di (ix2 i l) = (D.dyi (B + i.val) 1 l : EReal)) (hw : ∀ k l, wv (ix3 0 k l) = (D.wp 1 k l : EReal)) (i : Fin 512) (l : Fin 128) :
    k0_pay113 di wv (ix2 i l) = (D.dm (B + i.val) 1 l : EReal) := by
  pointwise [k0_pay113]
  exact pay111 hdi hw i l

theorem pay121 {dp : FVec Ideal S512x128 .f32} (hdp : ∀ i l, dp (ix2 i l) = (D.dyp (B + i.val) 2 l : EReal)) {sb : FVec Ideal S512x128 .f32} (hs : ∀ i l, sb (ix2 i l) = (D.sp (lane 2 l) : EReal)) (hw : ∀ k l, wv (ix3 0 k l) = (D.wp 2 k l : EReal)) (hr : ∀ i : Fin 512, rows (ix2 i 0) = BitVec.ofNat 32 (B + i.val)) (hB : B ≤ 3584) (i : Fin 512) (l : Fin 128) :
    k0_pay121 rows dp sb wv (ix2 i l) = (D.dq (B + i.val) 2 l : EReal) := by
  pointwise [k0_pay121]
  rw [pay120 hdp hs hw, hr, count_word (B + i.val) 8 (by omega) (by norm_num)]
  exact quot_c (by omega)

theorem pay122 {dp : FVec Ideal S512x128 .f32} (hdp : ∀ i l, dp (ix2 i l) = (D.dyp (B + i.val) 2 l : EReal)) {sb : FVec Ideal S512x128 .f32} (hs : ∀ i l, sb (ix2 i l) = (D.sp (lane 2 l) : EReal)) (hw : ∀ k l, wv (ix3 0 k l) = (D.wp 2 k l : EReal)) (i : Fin 512) (l : Fin 128) :
    k0_pay122 dp sb wv (ix2 i l) = (D.dm (B + i.val) 2 l : EReal) := by
  pointwise [k0_pay122]
  exact pay120 hdp hs hw i l

theorem pay130 {dp : FVec Ideal S512x128 .f32} (hdp : ∀ i l, dp (ix2 i l) = (D.dyp (B + i.val) 3 l : EReal)) (hs : ∀ l, sv (ix2 0 l) = (D.sp (lane 3 l) : EReal)) (hw : ∀ k l, wv (ix3 0 k l) = (D.wp 3 k l : EReal)) (hr : ∀ i : Fin 512, rows (ix2 i 0) = BitVec.ofNat 32 (B + i.val)) (hB : B ≤ 3584) (i : Fin 512) (l : Fin 128) :
    k0_pay130 rows dp sv wv (ix2 i l) = (D.dq (B + i.val) 3 l : EReal) := by
  pointwise [k0_pay130]
  rw [pay129 hdp hs hw, hr, count_word (B + i.val) 16 (by omega) (by norm_num)]
  exact quot_c (by omega)

theorem pay131 {dp : FVec Ideal S512x128 .f32} (hdp : ∀ i l, dp (ix2 i l) = (D.dyp (B + i.val) 3 l : EReal)) (hs : ∀ l, sv (ix2 0 l) = (D.sp (lane 3 l) : EReal)) (hw : ∀ k l, wv (ix3 0 k l) = (D.wp 3 k l : EReal)) (i : Fin 512) (l : Fin 128) :
    k0_pay131 dp sv wv (ix2 i l) = (D.dm (B + i.val) 3 l : EReal) := by
  pointwise [k0_pay131]
  exact pay129 hdp hs hw i l

theorem pay136 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay136 sm d (ix2 i l) = (D.dp (B + i.val) q l : EReal) := by
  pointwise [k0_pay136]
  simp only [hs, hd, sub_c, Data.dp]

theorem pay137 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay137 sm d (ix2 i l) = (D.dp (B + i.val) q l : EReal) := by
  pointwise [k0_pay137]
  exact pay136 hs hd i l

theorem pay138 {q : Fin 4} {p : FVec Ideal S512x128 .f32} (hp : ∀ i l, p (ix2 i l) = (D.dp (B + i.val) q l : EReal))
    (ho : ∀ l, old (ix2 0 l) = (o l : EReal)) (l : Fin 128) :
    k0_pay138 p old (ix2 0 l) = ((o l + ∑ i : Fin 512, D.dp (B + i.val) q l : ℝ) : EReal) := by
  pointwise [k0_pay138]
  simp only [hp, ho, sum_c, add_c]

theorem pay139 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay139 sm d (ix2 i l) = (D.dp (B + i.val) q l : EReal) := by
  pointwise [k0_pay139]
  simp only [hs, hd, sub_c, Data.dp]

theorem pay140 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay140 sm d (ix2 i l) = (D.dp (B + i.val) q l : EReal) := by
  pointwise [k0_pay140]
  exact pay139 hs hd i l

theorem pay141 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (ho : ∀ l, old (ix2 0 l) = (o l : EReal)) (l : Fin 128) :
    k0_pay141 sm d old (ix2 0 l) = ((o l + ∑ i : Fin 512, D.dp (B + i.val) q l : ℝ) : EReal) := by
  pointwise [k0_pay141]
  simp only [pay139 hs hd, ho, sum_c, add_c]

theorem pay142 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay142 sm d (ix2 i l) = (D.dp (B + i.val) q l : EReal) := by
  pointwise [k0_pay142]
  simp only [hs, hd, sub_c, Data.dp]

theorem pay143 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay143 sm d (ix2 i l) = (D.dp (B + i.val) q l : EReal) := by
  pointwise [k0_pay143]
  exact pay142 hs hd i l

theorem pay144 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (ho : ∀ l, old (ix2 0 l) = (o l : EReal)) (l : Fin 128) :
    k0_pay144 sm d old (ix2 0 l) = ((o l + ∑ i : Fin 512, D.dp (B + i.val) q l : ℝ) : EReal) := by
  pointwise [k0_pay144]
  simp only [pay142 hs hd, ho, sum_c, add_c]

theorem pay145 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay145 sm d (ix2 i l) = (D.dp (B + i.val) q l : EReal) := by
  pointwise [k0_pay145]
  simp only [hs, hd, sub_c, Data.dp]

theorem pay146 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (i : Fin 512) (l : Fin 128) :
    k0_pay146 sm d (ix2 i l) = (D.dp (B + i.val) q l : EReal) := by
  pointwise [k0_pay146]
  exact pay145 hs hd i l

theorem pay147 {q : Fin 4} {sm d : Vec Ideal S512x128 .f32}
    (hs : ∀ i l, sm (ix2 i l) = ((∑ j ∈ Finset.range (wnd q), D.dq (B + i.val + j) q l : ℝ) : EReal)) (hd : ∀ i l, d (ix2 i l) = (D.dm (B + i.val) q l : EReal)) (ho : ∀ l, old (ix2 0 l) = (o l : EReal)) (l : Fin 128) :
    k0_pay147 sm d old (ix2 0 l) = ((o l + ∑ i : Fin 512, D.dp (B + i.val) q l : ℝ) : EReal) := by
  pointwise [k0_pay147]
  simp only [pay145 hs hd, ho, sum_c, add_c]

end Pool

section Out

variable {dz : Vec Ideal S512x1536 .bf16} {wi : Vec Ideal S1536x1024 .bf16} {x : Vec Ideal S512x1024 .f32}
  {g old : Vec Ideal S1x1024 .f32} {o : Fin 1024 → ℝ}

theorem pay148 (hz : ∀ i k, dz (ix2 i k) = (D.dz (B + i.val) k : EReal)) (hw : ∀ k d, wi (ix2 k d) = (D.win k d : EReal))
    (i : Fin 512) (d : Fin 1024) : k0_pay148 dz wi (ix2 i d) = (D.dxn (B + i.val) d : EReal) := by
  pointwise [k0_pay148]
  simp only [hz, hw, mul_c, sum_c, Data.dxn]

theorem pay150 (hx : ∀ i k, x (ix2 i k) = (D.x (B + i.val) k : EReal)) (i : Fin 512) :
    k0_pay150 x (ix2 i 0) = (D.r1 (B + i.val) : EReal) := by
  pointwise [k0_pay150, k0_pay149]
  simp only [hx, mul_c, sum_c, rsqrt1024, Data.r1]

theorem pay151 (hx : ∀ i k, x (ix2 i k) = (D.x (B + i.val) k : EReal)) (i : Fin 512) (d : Fin 1024) :
    k0_pay151 x (ix2 i d) = (D.xhat (B + i.val) d : EReal) := by
  pointwise [k0_pay151, k0_pay149]
  simp only [hx, pay150 hx, mul_c, Data.xhat]

theorem pay153 (hz : ∀ i k, dz (ix2 i k) = (D.dz (B + i.val) k : EReal)) (hw : ∀ k d, wi (ix2 k d) = (D.win k d : EReal))
    (hx : ∀ i k, x (ix2 i k) = (D.x (B + i.val) k : EReal)) (i : Fin 512) (d : Fin 1024) :
    k0_pay153 dz wi x (ix2 i d) = (D.dgt (B + i.val) d : EReal) := by
  pointwise [k0_pay153]
  simp only [pay148 hz hw, pay151 hx, mul_c, Data.dgt]

theorem pay154 {p : FVec Ideal S512x1024 .f32} {od : FVec Ideal S1x1024 .f32}
    (hp : ∀ i d, p (ix2 i d) = (D.dgt (B + i.val) d : EReal)) (ho : ∀ d, od (ix2 0 d) = (o d : EReal)) (d : Fin 1024) :
    k0_pay154 od p (ix2 0 d) = ((o d + ∑ i : Fin 512, D.dgt (B + i.val) d : ℝ) : EReal) := by
  pointwise [k0_pay154]
  simp only [hp, ho, sum_c, add_c]

theorem pay155 {dh dn xh : FVec Ideal S512x1024 .f32} {r : FVec Ideal S512x1 .f32}
    (hh : ∀ i d, dh (ix2 i d) = (D.dh (B + i.val) d : EReal)) (hd : ∀ i d, dn (ix2 i d) = (D.dxn (B + i.val) d : EReal))
    (hr : ∀ i, r (ix2 i 0) = (D.r1 (B + i.val) : EReal)) (hx : ∀ i d, xh (ix2 i d) = (D.xhat (B + i.val) d : EReal))
    (hg : ∀ d, g (ix2 0 d) = (D.g d : EReal)) (i : Fin 512) (d : Fin 1024) :
    k0_pay155 dh dn r xh g (ix2 i d) = (D.dx (B + i.val) d : EReal) := by
  pointwise [k0_pay155]
  simp only [hh, hd, hr, hx, hg, mul_c, sum_c, div1024, sub_c, add_c, Data.dx, Data.dnn]

end Out

end Cert.Mix

end
-- ==== Proof.Mix.Pool.lean ====
/- The pooling half of a block: the gradients over the rows seen, their window sums, and the gradients of the pooled rows. -/
module

public import proofs.«01_k».proof.Proof.Mix.Rest1
public import proofs.«01_k».proof.Proof.Mix.PoolValue

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

/-- The gradient over the rows seen, by column. -/
def Data.dql (D : Data) (n : ℕ) (k : Fin 512) : ℝ := D.dq n ⟨k.val / 128, by omega⟩ ⟨k.val % 128, by omega⟩

/-- Its sum over `w` rows. -/
def Data.span (D : Data) (w n : ℕ) (k : Fin 512) : ℝ := ∑ j ∈ Finset.range w, D.dql (n + j) k

theorem Data.dql_lane (D : Data) (n : ℕ) (q : Fin 4) (l : Fin 128) : D.dql n (lane q l) = D.dq n q l := by
  have e : (lane q l).val = 128 * q.val + l.val := rfl
  unfold Data.dql
  congr 1 <;> exact Fin.ext (by simp only [e]; omega)

theorem Data.span_double (D : Data) (w n : ℕ) (k : Fin 512) : D.span w n k + D.span w (n + w) k = D.span (w + w) n k := by
  unfold Data.span
  rw [Finset.sum_range_add]
  simp only [Nat.add_assoc]

theorem Data.span_one (D : Data) (n : ℕ) (k : Fin 512) : D.dql n k + D.dql (n + 1) k = D.span 2 n k := by
  unfold Data.span
  rw [Finset.sum_range_succ, Finset.sum_range_one]
  rfl

theorem Data.span_lane (D : Data) (n : ℕ) (q : Fin 4) (l : Fin 128) :
    D.span (wnd q) n (lane q l) = ∑ j ∈ Finset.range (wnd q), D.dq (n + j) q l :=
  Finset.sum_congr rfl fun j _ => D.dql_lane _ q l

section Four

variable {w0 w1 w2 w3 : Vec Ideal S512x128 .f32}

/-- Four stores of 512 rows, one for each group of columns: what they leave there. -/
theorem groups544 {m : Memref sig .tc .vmem S544x512 .f32} (f : m.view.ty.Contents (Elt Ideal)) (h0 : ∀ a, (![0, 0] : Fin 2 → ℕ) a + S512x128.size a ≤ S544x512.size a) (h1 : ∀ a, (![0, 128] : Fin 2 → ℕ) a + S512x128.size a ≤ S544x512.size a) (h2 : ∀ a, (![0, 256] : Fin 2 → ℕ) a + S512x128.size a ≤ S544x512.size a) (h3 : ∀ a, (![0, 384] : Fin 2 → ℕ) a + S512x128.size a ≤ S544x512.size a) (p : Fin 512) (q : Fin 4) (l : Fin 128) :
    m.view.read (Elt Ideal) (m.view.writes (Elt Ideal) f [⟨Rect.unit (s := S544x512) ![0, 384] S512x128.size h3, w3⟩, ⟨Rect.unit (s := S544x512) ![0, 256] S512x128.size h2, w2⟩, ⟨Rect.unit (s := S544x512) ![0, 128] S512x128.size h1, w1⟩, ⟨Rect.unit (s := S544x512) ![0, 0] S512x128.size h0, w0⟩]) (ix2 ⟨p.val, by omega⟩ (lane q l)) = (![w0, w1, w2, w3] q) (ix2 p l) := by
  have e : (lane q l).val = 128 * q.val + l.val := rfl
  fin_cases q
  · rw [miss m.view f h3 _ _ _ 1 (Or.inl (by show 128 * 0 + l.val < 384; omega))]
    rw [miss m.view f h2 _ _ _ 1 (Or.inl (by show 128 * 0 + l.val < 256; omega))]
    rw [miss m.view f h1 _ _ _ 1 (Or.inl (by show 128 * 0 + l.val < 128; omega))]
    exact hit m.view f h0 _ _ _ (ix2 (n0 := 512) (n1 := 128) p l) (at2 (Nat.zero_add _).symm rfl)
  · rw [miss m.view f h3 _ _ _ 1 (Or.inl (by show 128 * 1 + l.val < 384; omega))]
    rw [miss m.view f h2 _ _ _ 1 (Or.inl (by show 128 * 1 + l.val < 256; omega))]
    exact hit m.view f h1 _ _ _ (ix2 (n0 := 512) (n1 := 128) p l) (at2 (Nat.zero_add _).symm rfl)
  · rw [miss m.view f h3 _ _ _ 1 (Or.inl (by show 128 * 2 + l.val < 384; omega))]
    exact hit m.view f h2 _ _ _ (ix2 (n0 := 512) (n1 := 128) p l) (at2 (Nat.zero_add _).symm rfl)
  · exact hit m.view f h3 _ _ _ (ix2 (n0 := 512) (n1 := 128) p l) (at2 (Nat.zero_add _).symm rfl)

/-- Four stores of 512 rows, one for each group of columns: what they leave there. -/
theorem groups512 {m : Memref sig .tc .vmem S512x512 .f32} (f : m.view.ty.Contents (Elt Ideal)) (h0 : ∀ a, (![0, 0] : Fin 2 → ℕ) a + S512x128.size a ≤ S512x512.size a) (h1 : ∀ a, (![0, 128] : Fin 2 → ℕ) a + S512x128.size a ≤ S512x512.size a) (h2 : ∀ a, (![0, 256] : Fin 2 → ℕ) a + S512x128.size a ≤ S512x512.size a) (h3 : ∀ a, (![0, 384] : Fin 2 → ℕ) a + S512x128.size a ≤ S512x512.size a) (p : Fin 512) (q : Fin 4) (l : Fin 128) :
    m.view.read (Elt Ideal) (m.view.writes (Elt Ideal) f [⟨Rect.unit (s := S512x512) ![0, 384] S512x128.size h3, w3⟩, ⟨Rect.unit (s := S512x512) ![0, 256] S512x128.size h2, w2⟩, ⟨Rect.unit (s := S512x512) ![0, 128] S512x128.size h1, w1⟩, ⟨Rect.unit (s := S512x512) ![0, 0] S512x128.size h0, w0⟩]) (ix2 ⟨p.val, by omega⟩ (lane q l)) = (![w0, w1, w2, w3] q) (ix2 p l) := by
  have e : (lane q l).val = 128 * q.val + l.val := rfl
  fin_cases q
  · rw [miss m.view f h3 _ _ _ 1 (Or.inl (by show 128 * 0 + l.val < 384; omega))]
    rw [miss m.view f h2 _ _ _ 1 (Or.inl (by show 128 * 0 + l.val < 256; omega))]
    rw [miss m.view f h1 _ _ _ 1 (Or.inl (by show 128 * 0 + l.val < 128; omega))]
    exact hit m.view f h0 _ _ _ (ix2 (n0 := 512) (n1 := 128) p l) (at2 (Nat.zero_add _).symm rfl)
  · rw [miss m.view f h3 _ _ _ 1 (Or.inl (by show 128 * 1 + l.val < 384; omega))]
    rw [miss m.view f h2 _ _ _ 1 (Or.inl (by show 128 * 1 + l.val < 256; omega))]
    exact hit m.view f h1 _ _ _ (ix2 (n0 := 512) (n1 := 128) p l) (at2 (Nat.zero_add _).symm rfl)
  · rw [miss m.view f h3 _ _ _ 1 (Or.inl (by show 128 * 2 + l.val < 384; omega))]
    exact hit m.view f h2 _ _ _ (ix2 (n0 := 512) (n1 := 128) p l) (at2 (Nat.zero_add _).symm rfl)
  · exact hit m.view f h3 _ _ _ (ix2 (n0 := 512) (n1 := 128) p l) (at2 (Nat.zero_add _).symm rfl)

/-- Under their last row they leave what was there. -/
theorem under544 {m : Memref sig .tc .vmem S544x512 .f32} (f : m.view.ty.Contents (Elt Ideal)) (h0 : ∀ a, (![0, 0] : Fin 2 → ℕ) a + S512x128.size a ≤ S544x512.size a) (h1 : ∀ a, (![0, 128] : Fin 2 → ℕ) a + S512x128.size a ≤ S544x512.size a) (h2 : ∀ a, (![0, 256] : Fin 2 → ℕ) a + S512x128.size a ≤ S544x512.size a) (h3 : ∀ a, (![0, 384] : Fin 2 → ℕ) a + S512x128.size a ≤ S544x512.size a) (p : Fin 32) (k : Fin 512) :
    m.view.read (Elt Ideal) (m.view.writes (Elt Ideal) f [⟨Rect.unit (s := S544x512) ![0, 384] S512x128.size h3, w3⟩, ⟨Rect.unit (s := S544x512) ![0, 256] S512x128.size h2, w2⟩, ⟨Rect.unit (s := S544x512) ![0, 128] S512x128.size h1, w1⟩, ⟨Rect.unit (s := S544x512) ![0, 0] S512x128.size h0, w0⟩]) (ix2 ⟨512 + p.val, by omega⟩ k)
      = m.view.read (Elt Ideal) f (ix2 ⟨512 + p.val, by omega⟩ k) := by
  rw [miss m.view f h3 _ _ _ 0 (Or.inr (by show 0 + 512 ≤ 512 + p.val; omega))]
  rw [miss m.view f h2 _ _ _ 0 (Or.inr (by show 0 + 512 ≤ 512 + p.val; omega))]
  rw [miss m.view f h1 _ _ _ 0 (Or.inr (by show 0 + 512 ≤ 512 + p.val; omega))]
  rw [miss m.view f h0 _ _ _ 0 (Or.inr (by show 0 + 512 ≤ 512 + p.val; omega))]
  rw [View.writes_nil]

end Four

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

/-- What the block before left behind the block's last row: the next 32 rows' gradients over the rows seen. -/
structure Behind (D : Data) (B : ℕ) (xs1 : Vec Ideal S544x512 .f32) : Prop where
  pool : ∀ (p : Fin 32) (k : Fin 512), xs1 (ix2 ⟨512 + p.val, by omega⟩ k) = (D.dql (B + (512 + p.val)) k : EReal)

/-- The rows' numbers. -/
theorem row_word (n : ℕ) (hn : n < 8) : Scalar.muli (Scalar.subi 7#32 (BitVec.ofNat 32 n)) 512#32 = BitVec.ofNat 32 (512 * (7 - n)) := by
  interval_cases n <;> rfl

theorem row_numbers (i : grid0.Coords) (hi : B = 512 * (7 - (i 0).val)) (r : Fin 512) :
    (rest.sl.r_15 i) (ix2 r 0) = BitVec.ofNat 32 (B + r.val) := by
  unfold rest.sl.r_15 rest.sl.v428
  pointwise [k0_pay95]
  rw [row_word _ (i 0).isLt, hi]
  show BitVec.ofNat 32 r.val + BitVec.ofNat 32 _ = _
  rw [← BitVec.ofNat_add, Nat.add_comm]

theorem row_next (i : grid0.Coords) (hi : B = 512 * (7 - (i 0).val)) (r : Fin 512) :
    (rest.sl.r_17 i) (ix2 r 0) = IntOp.addi (BitVec.ofNat 32 (B + r.val)) 1#32 := by
  rw [← row_numbers i hi r]
  rfl

namespace Blk

variable (H : Blk D B x0 x1 x2 x3 x4 x5 x6 x7 x8 x9 x10 x11 x12 x13) (hi : B = 512 * (7 - (i 0).val)) (hh : Behind D B xs1)
include H

theorem dm0 (r : Fin 512) (l : Fin 128) : (rest.sl.r_16 c arg1 harg1 arg12 harg12 arg13 harg13 arg14 harg14 x0 x11 x12 x13) (ix2 r l) = (D.dm (B + r.val) 0 l : EReal) := by
  unfold rest.sl.r_16
  exact pay101 (pay28 (H.l0 _) (H.l13 _)) (H.l12 0 _) (H.l11 0 _) r l

theorem dyi1 (r : Fin 512) (l : Fin 128) : (rest.sl.r_18 c arg1 harg1 arg13 harg13 arg14 harg14 x0 x12 x13) (ix2 r l) = (D.dyi (B + r.val) 1 l : EReal) := by
  unfold rest.sl.r_18
  exact pay108 (pay28 (H.l0 _) (H.l13 _)) (H.l12 1 _) r l

theorem dyp2 (r : Fin 512) (l : Fin 128) : (rest.sl.r_20 c arg1 harg1 arg14 harg14 x0 x13) (ix2 r l) = (D.dyp (B + r.val) 2 l : EReal) := by
  unfold rest.sl.r_20
  exact pay114 (pay28 (H.l0 _) (H.l13 _)) r l

theorem sp2 (r : Fin 512) (l : Fin 128) : (rest.sl.r_22 c arg13 harg13 x12) (ix2 r l) = (D.sp (lane 2 l) : EReal) := by
  unfold rest.sl.r_22
  pointwise [k0_pay117]
  exact H.l12 2 _ l

theorem dyp3 (r : Fin 512) (l : Fin 128) : (rest.sl.r_23 c arg1 harg1 arg14 harg14 x0 x13) (ix2 r l) = (D.dyp (B + r.val) 3 l : EReal) := by
  unfold rest.sl.r_23
  exact pay123 (pay28 (H.l0 _) (H.l13 _)) r l

/-- The gradients of the pooled rows. -/
theorem pooled (f : arg31.view.ty.Contents (Elt Ideal)) (p : Fin 512) (q : Fin 4) (l : Fin 128) :
    arg31.view.read (Elt Ideal) (arg31.view.writes (Elt Ideal) f (rest.sl.HS5_4 c arg1 harg1 arg12 harg12 arg13 harg13 arg14 harg14 x0 x11 x12 x13)) (ix2 p (lane q l)) = (D.dm (B + p.val) q l : EReal) := by
  unfold rest.sl.HS5_4
  refine (groups512 f _ _ _ _ p q l).trans ?_
  fin_cases q
  · exact pay104 H.dm0 p l
  · exact pay113 H.dyi1 (H.l11 1 _) p l
  · exact pay122 H.dyp2 H.sp2 (H.l11 2 _) p l
  · exact pay131 H.dyp3 (H.l12 3 _) (H.l11 3 _) p l

include hi

/-- The block's gradients over the rows seen. -/
theorem seen_row (f : arg27.view.ty.Contents (Elt Ideal)) (p : Fin 512) (k : Fin 512) :
    arg27.view.read (Elt Ideal) (arg27.view.writes (Elt Ideal) f (rest.sl.HS1_4 c i arg1 harg1 arg12 harg12 arg13 harg13 arg14 harg14 x0 x11 x12 x13)) (ix2 ⟨p.val, by omega⟩ k) = (D.dql (B + p.val) k : EReal) := by
  obtain ⟨q, l, rfl⟩ := lane_onto k
  rw [Data.dql_lane]
  unfold rest.sl.HS1_4
  refine (groups544 f _ _ _ _ p q l).trans ?_
  fin_cases q
  · exact pay103 H.dm0 (row_next i hi) H.hB p l
  · exact pay112 H.dyi1 (H.l11 1 _) (row_numbers i hi) H.hB p l
  · exact pay121 H.dyp2 H.sp2 (H.l11 2 _) (row_numbers i hi) H.hB p l
  · exact pay130 H.dyp3 (H.l12 3 _) (H.l11 3 _) (row_numbers i hi) H.hB p l

include hh

theorem seen (p : Fin 544) (k : Fin 512) :
    arg27.view.read (Elt Ideal) (arg27.view.writes (Elt Ideal) (harg27.unread xs1) (rest.sl.HS1_4 c i arg1 harg1 arg12 harg12 arg13 harg13 arg14 harg14 x0 x11 x12 x13)) (ix2 p k) = (D.dql (B + p.val) k : EReal) := by
  by_cases h : p.val < 512
  · exact H.seen_row hi (harg27.unread xs1) ⟨p.val, h⟩ k
  · obtain ⟨d, rfl⟩ : ∃ d : Fin 32, p = (⟨512 + d.val, Nat.add_lt_add_left d.isLt 512⟩ : Fin 544) := ⟨⟨p.val - 512, by omega⟩, Fin.ext (by show p.val = 512 + (p.val - 512); omega)⟩
    unfold rest.sl.HS1_4
    rw [under544, harg27.read_unread]
    exact hh.pool d k

theorem sums2 (f : arg28.view.ty.Contents (Elt Ideal)) (p : Fin 544) (hp : p.val < 536) (k : Fin 512) :
    arg28.view.read (Elt Ideal) (arg28.view.writes (Elt Ideal) f (rest.sl.HS2_1 c i arg1 harg1 arg12 harg12 arg13 harg13 arg14 harg14 arg27 harg27 x0 x11 x12 x13 xs1)) (ix2 p k) = (D.span 2 (B + p.val) k : EReal) := by
  unfold rest.sl.HS2_1
  rw [hit arg28.view f inb_S544x512_S536x512_0_0 _ [] (ix2 p k) (ix2 (n0 := 536) (n1 := 512) ⟨p.val, hp⟩ k) (at2 (Nat.zero_add _).symm (Nat.zero_add _).symm)]
  pointwise [k0_pay132]
  unfold rest.sl.v592 rest.sl.v593
  refine (congrArg₂ (· + ·)
    ((read_of arg27.view _ inb_S544x512_S536x512_0_0 (ix2 (n0 := 536) (n1 := 512) ⟨p.val, hp⟩ k) (ix2 p k) (at2 (Nat.zero_add _).symm (Nat.zero_add _).symm)).trans (H.seen hi hh p k))
    ((read_of arg27.view _ inb_S544x512_S536x512_1_0 (ix2 (n0 := 536) (n1 := 512) ⟨p.val, hp⟩ k) (ix2 ⟨1 + p.val, by omega⟩ k) (at2 rfl (Nat.zero_add _).symm)).trans (H.seen hi hh _ k))).trans ?_
  show (D.dql (B + p.val) k : EReal) + (D.dql (B + (1 + p.val)) k : EReal) = _
  rw [add_c, show B + (1 + p.val) = B + p.val + 1 by omega, Data.span_one]

theorem sums4 (f : arg29.view.ty.Contents (Elt Ideal)) (p : Fin 544) (hp : p.val < 528) (k : Fin 512) (hk : 128 ≤ k.val) :
    arg29.view.read (Elt Ideal) (arg29.view.writes (Elt Ideal) f (rest.sl.HS3_1 c i arg1 harg1 arg12 harg12 arg13 harg13 arg14 harg14 arg27 harg27 arg28 x0 x11 x12 x13 xs1)) (ix2 p k) = (D.span 4 (B + p.val) k : EReal) := by
  unfold rest.sl.HS3_1
  rw [hit arg29.view f inb_S544x512_S528x384_0_128 _ [] (ix2 p k) (ix2 (n0 := 528) (n1 := 384) ⟨p.val, hp⟩ ⟨k.val - 128, by omega⟩)
    (at2 (Nat.zero_add _).symm (by show k.val = 128 + (k.val - 128); omega))]
  pointwise [k0_pay133]
  unfold rest.sl.v598 rest.sl.v599
  refine (congrArg₂ (· + ·)
    ((read_of arg28.view _ inb_S544x512_S528x384_0_128 (ix2 (n0 := 528) (n1 := 384) ⟨p.val, hp⟩ ⟨k.val - 128, by omega⟩) (ix2 p k)
      (at2 (Nat.zero_add _).symm (by show k.val = 128 + (k.val - 128); omega))).trans (H.sums2 hi hh _ p (by omega) k))
    ((read_of arg28.view _ inb_S544x512_S528x384_2_128 (ix2 (n0 := 528) (n1 := 384) ⟨p.val, hp⟩ ⟨k.val - 128, by omega⟩) (ix2 ⟨2 + p.val, by omega⟩ k)
      (at2 rfl (by show k.val = 128 + (k.val - 128); omega))).trans (H.sums2 hi hh _ ⟨2 + p.val, by omega⟩ (by show 2 + p.val < _; omega) k))).trans ?_
  show (D.span 2 (B + p.val) k : EReal) + (D.span 2 (B + (2 + p.val)) k : EReal) = _
  rw [add_c, show B + (2 + p.val) = B + p.val + 2 by omega, Data.span_double]

theorem sums8 (f : arg28.view.ty.Contents (Elt Ideal)) (p : Fin 544) (hp : p.val < 520) (k : Fin 512) (hk : 256 ≤ k.val) :
    arg28.view.read (Elt Ideal) (arg28.view.writes (Elt Ideal) f (rest.sl.HS2_2 c i arg1 harg1 arg12 harg12 arg13 harg13 arg14 harg14 arg27 harg27 arg28 arg29 x0 x11 x12 x13 xs1)) (ix2 p k) = (D.span 8 (B + p.val) k : EReal) := by
  unfold rest.sl.HS2_2
  rw [hit arg28.view f inb_S544x512_S520x256_0_256 _ _ (ix2 p k) (ix2 (n0 := 520) (n1 := 256) ⟨p.val, hp⟩ ⟨k.val - 256, by omega⟩)
    (at2 (Nat.zero_add _).symm (by show k.val = 256 + (k.val - 256); omega))]
  pointwise [k0_pay134]
  unfold rest.sl.v604 rest.sl.v605
  refine (congrArg₂ (· + ·)
    ((read_of arg29.view _ inb_S544x512_S520x256_0_256 (ix2 (n0 := 520) (n1 := 256) ⟨p.val, hp⟩ ⟨k.val - 256, by omega⟩) (ix2 p k)
      (at2 (Nat.zero_add _).symm (by show k.val = 256 + (k.val - 256); omega))).trans (H.sums4 hi hh _ p (by omega) k (by omega)))
    ((read_of arg29.view _ inb_S544x512_S520x256_4_256 (ix2 (n0 := 520) (n1 := 256) ⟨p.val, hp⟩ ⟨k.val - 256, by omega⟩) (ix2 ⟨4 + p.val, by omega⟩ k)
      (at2 rfl (by show k.val = 256 + (k.val - 256); omega))).trans (H.sums4 hi hh _ ⟨4 + p.val, by omega⟩ (by show 4 + p.val < _; omega) k (by omega)))).trans ?_
  show (D.span 4 (B + p.val) k : EReal) + (D.span 4 (B + (4 + p.val)) k : EReal) = _
  rw [add_c, show B + (4 + p.val) = B + p.val + 4 by omega, Data.span_double]

theorem sums2k (f : arg28.view.ty.Contents (Elt Ideal)) (p : Fin 544) (hp : p.val < 536) (k : Fin 512) (hk : k.val < 256) :
    arg28.view.read (Elt Ideal) (arg28.view.writes (Elt Ideal) f (rest.sl.HS2_2 c i arg1 harg1 arg12 harg12 arg13 harg13 arg14 harg14 arg27 harg27 arg28 arg29 x0 x11 x12 x13 xs1)) (ix2 p k) = (D.span 2 (B + p.val) k : EReal) := by
  unfold rest.sl.HS2_2
  rw [miss arg28.view f inb_S544x512_S520x256_0_256 _ _ (ix2 p k) 1 (Or.inl (by show k.val < 256; omega))]
  exact H.sums2 hi hh f p hp k

theorem sums16 (f : arg29.view.ty.Contents (Elt Ideal)) (p : Fin 544) (hp : p.val < 512) (k : Fin 512) (hk : 384 ≤ k.val) :
    arg29.view.read (Elt Ideal) (arg29.view.writes (Elt Ideal) f (rest.sl.HS3_2 c i arg1 harg1 arg12 harg12 arg13 harg13 arg14 harg14 arg27 harg27 arg28 arg29 x0 x11 x12 x13 xs1)) (ix2 p k) = (D.span 16 (B + p.val) k : EReal) := by
  unfold rest.sl.HS3_2
  rw [hit arg29.view f inb_S544x512_S512x128_0_384 _ _ (ix2 p k) (ix2 (n0 := 512) (n1 := 128) ⟨p.val, hp⟩ ⟨k.val - 384, by omega⟩)
    (at2 (Nat.zero_add _).symm (by show k.val = 384 + (k.val - 384); omega))]
  pointwise [k0_pay135]
  unfold rest.sl.v610 rest.sl.v611
  refine (congrArg₂ (· + ·)
    ((read_of arg28.view _ inb_S544x512_S512x128_0_384 (ix2 (n0 := 512) (n1 := 128) ⟨p.val, hp⟩ ⟨k.val - 384, by omega⟩) (ix2 p k)
      (at2 (Nat.zero_add _).symm (by show k.val = 384 + (k.val - 384); omega))).trans (H.sums8 hi hh _ p (by omega) k (by omega)))
    ((read_of arg28.view _ inb_S544x512_S512x128_8_384 (ix2 (n0 := 512) (n1 := 128) ⟨p.val, hp⟩ ⟨k.val - 384, by omega⟩) (ix2 ⟨8 + p.val, by omega⟩ k)
      (at2 rfl (by show k.val = 384 + (k.val - 384); omega))).trans (H.sums8 hi hh _ ⟨8 + p.val, by omega⟩ (by show 8 + p.val < _; omega) k (by omega)))).trans ?_
  show (D.span 8 (B + p.val) k : EReal) + (D.span 8 (B + (8 + p.val)) k : EReal) = _
  rw [add_c, show B + (8 + p.val) = B + p.val + 8 by omega, Data.span_double]

theorem sums4k (f : arg29.view.ty.Contents (Elt Ideal)) (p : Fin 544) (hp : p.val < 528) (k : Fin 512) (hl : 128 ≤ k.val) (hk : k.val < 384) :
    arg29.view.read (Elt Ideal) (arg29.view.writes (Elt Ideal) f (rest.sl.HS3_2 c i arg1 harg1 arg12 harg12 arg13 harg13 arg14 harg14 arg27 harg27 arg28 arg29 x0 x11 x12 x13 xs1)) (ix2 p k) = (D.span 4 (B + p.val) k : EReal) := by
  unfold rest.sl.HS3_2
  rw [miss arg29.view f inb_S544x512_S512x128_0_384 _ _ (ix2 p k) 1 (Or.inl (by show k.val < 384; omega))]
  exact H.sums4 hi hh f p hp k hl

theorem window0 (r : Fin 512) (l : Fin 128) :
    (rest.sl.v616 c i arg1 harg1 arg12 harg12 arg13 harg13 arg14 harg14 arg27 harg27 arg28 arg29 x0 x11 x12 x13 xs1) (ix2 r l) = ((∑ j ∈ Finset.range (wnd 0), D.dq (B + r.val + j) 0 l : ℝ) : EReal) := by
  unfold rest.sl.v616
  refine ((read_of arg28.view _ inb_S544x512_S512x128_0_0 (ix2 (n0 := 512) (n1 := 128) r l) (ix2 ⟨r.val, by omega⟩ (lane 0 l)) (at2 (Nat.zero_add _).symm rfl)).trans
    (H.sums2k hi hh _ ⟨r.val, by omega⟩ (by show r.val < _; omega) (lane 0 l) (by show 128 * 0 + l.val < 256; omega))).trans ?_
  rw [← Data.span_lane]
  rfl

theorem window1 (r : Fin 512) (l : Fin 128) :
    (rest.sl.v627 c i arg1 harg1 arg12 harg12 arg13 harg13 arg14 harg14 arg27 harg27 arg28 arg29 x0 x11 x12 x13 xs1) (ix2 r l) = ((∑ j ∈ Finset.range (wnd 1), D.dq (B + r.val + j) 1 l : ℝ) : EReal) := by
  unfold rest.sl.v627
  refine ((read_of arg29.view _ inb_S544x512_S512x128_0_128 (ix2 (n0 := 512) (n1 := 128) r l) (ix2 ⟨r.val, by omega⟩ (lane 1 l)) (at2 (Nat.zero_add _).symm rfl)).trans
    (H.sums4k hi hh _ ⟨r.val, by omega⟩ (by show r.val < _; omega) (lane 1 l) (by show 128 ≤ 128 * 1 + l.val; omega) (by show 128 * 1 + l.val < 384; omega))).trans ?_
  rw [← Data.span_lane]
  rfl

theorem window2 (r : Fin 512) (l : Fin 128) :
    (rest.sl.v638 c i arg1 harg1 arg12 harg12 arg13 harg13 arg14 harg14 arg27 harg27 arg28 arg29 x0 x11 x12 x13 xs1) (ix2 r l) = ((∑ j ∈ Finset.range (wnd 2), D.dq (B + r.val + j) 2 l : ℝ) : EReal) := by
  unfold rest.sl.v638
  refine ((read_of arg28.view _ inb_S544x512_S512x128_0_256 (ix2 (n0 := 512) (n1 := 128) r l) (ix2 ⟨r.val, by omega⟩ (lane 2 l)) (at2 (Nat.zero_add _).symm rfl)).trans
    (H.sums8 hi hh _ ⟨r.val, by omega⟩ (by show r.val < _; omega) (lane 2 l) (by show 256 ≤ 128 * 2 + l.val; omega))).trans ?_
  rw [← Data.span_lane]
  rfl

theorem window3 (r : Fin 512) (l : Fin 128) :
    (rest.sl.v649 c i arg1 harg1 arg12 harg12 arg13 harg13 arg14 harg14 arg27 harg27 arg28 arg29 x0 x11 x12 x13 xs1) (ix2 r l) = ((∑ j ∈ Finset.range (wnd 3), D.dq (B + r.val + j) 3 l : ℝ) : EReal) := by
  unfold rest.sl.v649
  refine ((read_of arg29.view _ inb_S544x512_S512x128_0_384 (ix2 (n0 := 512) (n1 := 128) r l) (ix2 ⟨r.val, by omega⟩ (lane 3 l)) (at2 (Nat.zero_add _).symm rfl)).trans
    (H.sums16 hi hh _ ⟨r.val, by omega⟩ (by show r.val < _; omega) (lane 3 l) (by show 384 ≤ 128 * 3 + l.val; omega))).trans ?_
  rw [← Data.span_lane]
  rfl

omit hi hh

theorem minus0 (r : Fin 512) (l : Fin 128) : (rest.sl.v617 c arg1 harg1 arg12 harg12 arg13 harg13 arg14 harg14 arg31 x0 x11 x12 x13) (ix2 r l) = (D.dm (B + r.val) 0 l : EReal) := by
  unfold rest.sl.v617
  exact (read_of arg31.view _ inb_S512x512_S512x128_0_0 (ix2 (n0 := 512) (n1 := 128) r l) (ix2 r (lane 0 l)) (at2 (Nat.zero_add _).symm rfl)).trans
    (H.pooled _ r 0 l)

theorem minus1 (r : Fin 512) (l : Fin 128) : (rest.sl.v628 c arg1 harg1 arg12 harg12 arg13 harg13 arg14 harg14 arg31 x0 x11 x12 x13) (ix2 r l) = (D.dm (B + r.val) 1 l : EReal) := by
  unfold rest.sl.v628
  exact (read_of arg31.view _ inb_S512x512_S512x128_0_128 (ix2 (n0 := 512) (n1 := 128) r l) (ix2 r (lane 1 l)) (at2 (Nat.zero_add _).symm rfl)).trans
    (H.pooled _ r 1 l)

theorem minus2 (r : Fin 512) (l : Fin 128) : (rest.sl.v639 c arg1 harg1 arg12 harg12 arg13 harg13 arg14 harg14 arg31 x0 x11 x12 x13) (ix2 r l) = (D.dm (B + r.val) 2 l : EReal) := by
  unfold rest.sl.v639
  exact (read_of arg31.view _ inb_S512x512_S512x128_0_256 (ix2 (n0 := 512) (n1 := 128) r l) (ix2 r (lane 2 l)) (at2 (Nat.zero_add _).symm rfl)).trans
    (H.pooled _ r 2 l)

theorem minus3 (r : Fin 512) (l : Fin 128) : (rest.sl.v650 c arg1 harg1 arg12 harg12 arg13 harg13 arg14 harg14 arg31 x0 x11 x12 x13) (ix2 r l) = (D.dm (B + r.val) 3 l : EReal) := by
  unfold rest.sl.v650
  exact (read_of arg31.view _ inb_S512x512_S512x128_0_384 (ix2 (n0 := 512) (n1 := 128) r l) (ix2 r (lane 3 l)) (at2 (Nat.zero_add _).symm rfl)).trans
    (H.pooled _ r 3 l)

end Blk

end Cert.Mix

end
-- ==== Proof.Mix.Rest5.lean ====
/- What a point leaves of the first projection's gradient: its rows, their sums, and the pooled rows the next block needs. -/
module

public import proofs.«01_k».proof.Proof.Mix.Rest4
public import proofs.«01_k».proof.Proof.Mix.Conv
public import proofs.«01_k».proof.Proof.Mix.Pool

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

/-- A column is one of the value, of the gate or of a pooling group. -/
theorem columns (k : Fin 1536) : (∃ j, k = colA j) ∨ (∃ j, k = colG j) ∨ ∃ q l, k = colP (lane q l) := by
  by_cases h : k.val < 512
  · exact Or.inl ⟨⟨k.val, h⟩, rfl⟩
  · by_cases h' : k.val < 1024
    · exact Or.inr (Or.inl ⟨⟨k.val - 512, by omega⟩, Fin.ext (by show k.val = 512 + (k.val - 512); omega)⟩)
    · obtain ⟨q, l, e⟩ := lane_onto ⟨k.val - 1024, by omega⟩
      exact Or.inr (Or.inr ⟨q, l, by rw [← e]; exact Fin.ext (by show k.val = 1024 + (k.val - 1024); omega)⟩)

section Six

/-- Six stores side by side fill a row: what they leave in each column. -/
theorem six512 {m : Memref sig .tc .vmem S512x1536 .bf16} {w3 : Vec Ideal S512x128 .bf16} {w2 : Vec Ideal S512x128 .bf16} {w1 : Vec Ideal S512x128 .bf16} {w0 : Vec Ideal S512x128 .bf16} {wG : Vec Ideal S512x512 .bf16} {wA : Vec Ideal S512x512 .bf16} (f : m.view.ty.Contents (Elt Ideal))
    (h3 : ∀ a, (![0, 1408] : Fin 2 → ℕ) a + S512x128.size a ≤ S512x1536.size a) (h2 : ∀ a, (![0, 1280] : Fin 2 → ℕ) a + S512x128.size a ≤ S512x1536.size a) (h1 : ∀ a, (![0, 1152] : Fin 2 → ℕ) a + S512x128.size a ≤ S512x1536.size a) (h0 : ∀ a, (![0, 1024] : Fin 2 → ℕ) a + S512x128.size a ≤ S512x1536.size a) (hG : ∀ a, (![0, 512] : Fin 2 → ℕ) a + S512x512.size a ≤ S512x1536.size a) (hA : ∀ a, (![0, 0] : Fin 2 → ℕ) a + S512x512.size a ≤ S512x1536.size a) (r : Fin 512) :
    (∀ j, m.view.read (Elt Ideal) (m.view.writes (Elt Ideal) f [⟨Rect.unit (s := S512x1536) ![0, 1408] S512x128.size h3, w3⟩, ⟨Rect.unit (s := S512x1536) ![0, 1280] S512x128.size h2, w2⟩, ⟨Rect.unit (s := S512x1536) ![0, 1152] S512x128.size h1, w1⟩, ⟨Rect.unit (s := S512x1536) ![0, 1024] S512x128.size h0, w0⟩, ⟨Rect.unit (s := S512x1536) ![0, 512] S512x512.size hG, wG⟩, ⟨Rect.unit (s := S512x1536) ![0, 0] S512x512.size hA, wA⟩]) (ix2 r (colA j)) = wA (ix2 r j))
    ∧ (∀ j, m.view.read (Elt Ideal) (m.view.writes (Elt Ideal) f [⟨Rect.unit (s := S512x1536) ![0, 1408] S512x128.size h3, w3⟩, ⟨Rect.unit (s := S512x1536) ![0, 1280] S512x128.size h2, w2⟩, ⟨Rect.unit (s := S512x1536) ![0, 1152] S512x128.size h1, w1⟩, ⟨Rect.unit (s := S512x1536) ![0, 1024] S512x128.size h0, w0⟩, ⟨Rect.unit (s := S512x1536) ![0, 512] S512x512.size hG, wG⟩, ⟨Rect.unit (s := S512x1536) ![0, 0] S512x512.size hA, wA⟩]) (ix2 r (colG j)) = wG (ix2 r j))
    ∧ ∀ q l, m.view.read (Elt Ideal) (m.view.writes (Elt Ideal) f [⟨Rect.unit (s := S512x1536) ![0, 1408] S512x128.size h3, w3⟩, ⟨Rect.unit (s := S512x1536) ![0, 1280] S512x128.size h2, w2⟩, ⟨Rect.unit (s := S512x1536) ![0, 1152] S512x128.size h1, w1⟩, ⟨Rect.unit (s := S512x1536) ![0, 1024] S512x128.size h0, w0⟩, ⟨Rect.unit (s := S512x1536) ![0, 512] S512x512.size hG, wG⟩, ⟨Rect.unit (s := S512x1536) ![0, 0] S512x512.size hA, wA⟩]) (ix2 r (colP (lane q l))) = (![w0, w1, w2, w3] q) (ix2 r l) := by
  refine ⟨fun j => ?_, fun j => ?_, fun q l => ?_⟩
  · rw [miss m.view f h3 _ _ _ 1 (Or.inl (by show j.val < 1408; omega))]
    rw [miss m.view f h2 _ _ _ 1 (Or.inl (by show j.val < 1280; omega))]
    rw [miss m.view f h1 _ _ _ 1 (Or.inl (by show j.val < 1152; omega))]
    rw [miss m.view f h0 _ _ _ 1 (Or.inl (by show j.val < 1024; omega))]
    rw [miss m.view f hG _ _ _ 1 (Or.inl (by show j.val < 512; omega))]
    exact hit m.view f hA _ _ _ (ix2 (n0 := 512) (n1 := 512) r j) (at2 (Nat.zero_add _).symm (by show j.val = 0 + j.val; omega))
  · rw [miss m.view f h3 _ _ _ 1 (Or.inl (by show 512 + j.val < 1408; omega))]
    rw [miss m.view f h2 _ _ _ 1 (Or.inl (by show 512 + j.val < 1280; omega))]
    rw [miss m.view f h1 _ _ _ 1 (Or.inl (by show 512 + j.val < 1152; omega))]
    rw [miss m.view f h0 _ _ _ 1 (Or.inl (by show 512 + j.val < 1024; omega))]
    exact hit m.view f hG _ _ _ (ix2 (n0 := 512) (n1 := 512) r j) (at2 (Nat.zero_add _).symm (by show 512 + j.val = 512 + j.val; omega))
  · fin_cases q
    · rw [miss m.view f h3 _ _ _ 1 (Or.inl (by show 1024 + (128 * 0 + l.val) < 1408; omega))]
      rw [miss m.view f h2 _ _ _ 1 (Or.inl (by show 1024 + (128 * 0 + l.val) < 1280; omega))]
      rw [miss m.view f h1 _ _ _ 1 (Or.inl (by show 1024 + (128 * 0 + l.val) < 1152; omega))]
      exact hit m.view f h0 _ _ _ (ix2 (n0 := 512) (n1 := 128) r l) (at2 (Nat.zero_add _).symm (by show 1024 + (128 * 0 + l.val) = 1024 + l.val; omega))
    · rw [miss m.view f h3 _ _ _ 1 (Or.inl (by show 1024 + (128 * 1 + l.val) < 1408; omega))]
      rw [miss m.view f h2 _ _ _ 1 (Or.inl (by show 1024 + (128 * 1 + l.val) < 1280; omega))]
      exact hit m.view f h1 _ _ _ (ix2 (n0 := 512) (n1 := 128) r l) (at2 (Nat.zero_add _).symm (by show 1024 + (128 * 1 + l.val) = 1152 + l.val; omega))
    · rw [miss m.view f h3 _ _ _ 1 (Or.inl (by show 1024 + (128 * 2 + l.val) < 1408; omega))]
      exact hit m.view f h2 _ _ _ (ix2 (n0 := 512) (n1 := 128) r l) (at2 (Nat.zero_add _).symm (by show 1024 + (128 * 2 + l.val) = 1280 + l.val; omega))
    · exact hit m.view f h3 _ _ _ (ix2 (n0 := 512) (n1 := 128) r l) (at2 (Nat.zero_add _).symm (by show 1024 + (128 * 3 + l.val) = 1408 + l.val; omega))

/-- Six stores side by side fill a row: what they leave in each column. -/
theorem six1 {m : Memref sig .tc .vmem S1x1536 .f32} {w3 : Vec Ideal S1x128 .f32} {w2 : Vec Ideal S1x128 .f32} {w1 : Vec Ideal S1x128 .f32} {w0 : Vec Ideal S1x128 .f32} {wG : Vec Ideal S1x512 .f32} {wA : Vec Ideal S1x512 .f32} (f : m.view.ty.Contents (Elt Ideal))
    (h3 : ∀ a, (![0, 1408] : Fin 2 → ℕ) a + S1x128.size a ≤ S1x1536.size a) (h2 : ∀ a, (![0, 1280] : Fin 2 → ℕ) a + S1x128.size a ≤ S1x1536.size a) (h1 : ∀ a, (![0, 1152] : Fin 2 → ℕ) a + S1x128.size a ≤ S1x1536.size a) (h0 : ∀ a, (![0, 1024] : Fin 2 → ℕ) a + S1x128.size a ≤ S1x1536.size a) (hG : ∀ a, (![0, 512] : Fin 2 → ℕ) a + S1x512.size a ≤ S1x1536.size a) (hA : ∀ a, (![0, 0] : Fin 2 → ℕ) a + S1x512.size a ≤ S1x1536.size a) (r : Fin 1) :
    (∀ j, m.view.read (Elt Ideal) (m.view.writes (Elt Ideal) f [⟨Rect.unit (s := S1x1536) ![0, 1408] S1x128.size h3, w3⟩, ⟨Rect.unit (s := S1x1536) ![0, 1280] S1x128.size h2, w2⟩, ⟨Rect.unit (s := S1x1536) ![0, 1152] S1x128.size h1, w1⟩, ⟨Rect.unit (s := S1x1536) ![0, 1024] S1x128.size h0, w0⟩, ⟨Rect.unit (s := S1x1536) ![0, 512] S1x512.size hG, wG⟩, ⟨Rect.unit (s := S1x1536) ![0, 0] S1x512.size hA, wA⟩]) (ix2 r (colA j)) = wA (ix2 r j))
    ∧ (∀ j, m.view.read (Elt Ideal) (m.view.writes (Elt Ideal) f [⟨Rect.unit (s := S1x1536) ![0, 1408] S1x128.size h3, w3⟩, ⟨Rect.unit (s := S1x1536) ![0, 1280] S1x128.size h2, w2⟩, ⟨Rect.unit (s := S1x1536) ![0, 1152] S1x128.size h1, w1⟩, ⟨Rect.unit (s := S1x1536) ![0, 1024] S1x128.size h0, w0⟩, ⟨Rect.unit (s := S1x1536) ![0, 512] S1x512.size hG, wG⟩, ⟨Rect.unit (s := S1x1536) ![0, 0] S1x512.size hA, wA⟩]) (ix2 r (colG j)) = wG (ix2 r j))
    ∧ ∀ q l, m.view.read (Elt Ideal) (m.view.writes (Elt Ideal) f [⟨Rect.unit (s := S1x1536) ![0, 1408] S1x128.size h3, w3⟩, ⟨Rect.unit (s := S1x1536) ![0, 1280] S1x128.size h2, w2⟩, ⟨Rect.unit (s := S1x1536) ![0, 1152] S1x128.size h1, w1⟩, ⟨Rect.unit (s := S1x1536) ![0, 1024] S1x128.size h0, w0⟩, ⟨Rect.unit (s := S1x1536) ![0, 512] S1x512.size hG, wG⟩, ⟨Rect.unit (s := S1x1536) ![0, 0] S1x512.size hA, wA⟩]) (ix2 r (colP (lane q l))) = (![w0, w1, w2, w3] q) (ix2 r l) := by
  refine ⟨fun j => ?_, fun j => ?_, fun q l => ?_⟩
  · rw [miss m.view f h3 _ _ _ 1 (Or.inl (by show j.val < 1408; omega))]
    rw [miss m.view f h2 _ _ _ 1 (Or.inl (by show j.val < 1280; omega))]
    rw [miss m.view f h1 _ _ _ 1 (Or.inl (by show j.val < 1152; omega))]
    rw [miss m.view f h0 _ _ _ 1 (Or.inl (by show j.val < 1024; omega))]
    rw [miss m.view f hG _ _ _ 1 (Or.inl (by show j.val < 512; omega))]
    exact hit m.view f hA _ _ _ (ix2 (n0 := 1) (n1 := 512) r j) (at2 (Nat.zero_add _).symm (by show j.val = 0 + j.val; omega))
  · rw [miss m.view f h3 _ _ _ 1 (Or.inl (by show 512 + j.val < 1408; omega))]
    rw [miss m.view f h2 _ _ _ 1 (Or.inl (by show 512 + j.val < 1280; omega))]
    rw [miss m.view f h1 _ _ _ 1 (Or.inl (by show 512 + j.val < 1152; omega))]
    rw [miss m.view f h0 _ _ _ 1 (Or.inl (by show 512 + j.val < 1024; omega))]
    exact hit m.view f hG _ _ _ (ix2 (n0 := 1) (n1 := 512) r j) (at2 (Nat.zero_add _).symm (by show 512 + j.val = 512 + j.val; omega))
  · fin_cases q
    · rw [miss m.view f h3 _ _ _ 1 (Or.inl (by show 1024 + (128 * 0 + l.val) < 1408; omega))]
      rw [miss m.view f h2 _ _ _ 1 (Or.inl (by show 1024 + (128 * 0 + l.val) < 1280; omega))]
      rw [miss m.view f h1 _ _ _ 1 (Or.inl (by show 1024 + (128 * 0 + l.val) < 1152; omega))]
      exact hit m.view f h0 _ _ _ (ix2 (n0 := 1) (n1 := 128) r l) (at2 (Nat.zero_add _).symm (by show 1024 + (128 * 0 + l.val) = 1024 + l.val; omega))
    · rw [miss m.view f h3 _ _ _ 1 (Or.inl (by show 1024 + (128 * 1 + l.val) < 1408; omega))]
      rw [miss m.view f h2 _ _ _ 1 (Or.inl (by show 1024 + (128 * 1 + l.val) < 1280; omega))]
      exact hit m.view f h1 _ _ _ (ix2 (n0 := 1) (n1 := 128) r l) (at2 (Nat.zero_add _).symm (by show 1024 + (128 * 1 + l.val) = 1152 + l.val; omega))
    · rw [miss m.view f h3 _ _ _ 1 (Or.inl (by show 1024 + (128 * 2 + l.val) < 1408; omega))]
      exact hit m.view f h2 _ _ _ (ix2 (n0 := 1) (n1 := 128) r l) (at2 (Nat.zero_add _).symm (by show 1024 + (128 * 2 + l.val) = 1280 + l.val; omega))
    · exact hit m.view f h3 _ _ _ (ix2 (n0 := 1) (n1 := 128) r l) (at2 (Nat.zero_add _).symm (by show 1024 + (128 * 3 + l.val) = 1408 + l.val; omega))

end Six

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13) (hh : Halo D B xs0) (hi : B = 512 * (7 - (i 0).val)) (hp : Behind D B xs1)
include H

theorem gateval (r k : Fin 512) : (rest.sl.r_4 c arg4 harg4 x3) (ix2 r k) = (sg (D.gate (B + r.val) k) : EReal) := by
  unfold rest.sl.r_4
  exact pay50 (H.l3 _) r k

theorem value (r k : Fin 512) : (rest.sl.r_3 c arg3 harg3 x2) (ix2 r k) = (D.a (B + r.val) k : EReal) := by
  unfold rest.sl.r_3
  pointwise [k0_pay49]
  exact H.l2 _ r k

theorem convolved (hh : Halo D B xs0) (r k : Fin 512) :
    (arg30.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (rest.sl.r_2 c i arg1 harg1 arg5 harg5 arg10 harg10 arg11 harg11 arg14 harg14 arg26 harg26 x0 x4 x9 x10 x13 xs0) (harg9.unread x8) (arg26.view.writes (Elt Ideal) (harg26.unread xs0) (⟨Rect.unit (s := S8x544x512) ![7, 0, 0] S1x536x512.size inb_S8x544x512_S1x536x512_7_0_0, k0_pay47 (rest.sl.v114 c i arg1 harg1 arg5 harg5 arg10 harg10 arg11 harg11 arg14 harg14 arg26 harg26 x0 x4 x9 x10 x13 xs0)⟩ :: (rest.sl.HS0_7 c i arg1 harg1 arg5 harg5 arg10 harg10 arg11 harg11 arg14 harg14 arg26 harg26 x0 x4 x9 x10 x13 xs0))) (Scf.trips k0_t1_loop.lb k0_t1_loop.ub k0_t1_loop.st)) (Rect.unit (s := S512x512) ![0, 0] S512x512.size inb_S512x512_S512x512_0_0).toLoadRect) (ix2 (n0 := 512) (n1 := 512) r k) = (D.du (B + r.val) k : EReal) :=
  H.conv (fun s r k h => H.planes hh s s.isLt r k (h.imp id fun e => ⟨e, r.isLt⟩)) _ r k

include hi hp

theorem pool0 (r : Fin 512) (l : Fin 128) : (rest.sl.r_26 c i arg1 harg1 arg12 harg12 arg13 harg13 arg14 harg14 arg27 harg27 arg28 arg29 arg31 x0 x11 x12 x13 xs1) (ix2 r l) = (D.dp (B + r.val) 0 l : EReal) := by
  unfold rest.sl.r_26
  exact pay136 (H.window0 hi hp) H.minus0 r l

theorem pool0' (r : Fin 512) (l : Fin 128) : (rest.sl.r_27 c i arg1 harg1 arg12 harg12 arg13 harg13 arg14 harg14 arg27 harg27 arg28 arg29 arg31 x0 x11 x12 x13 xs1) (ix2 r l) = (D.dp (B + r.val) 0 l : EReal) := by
  unfold rest.sl.r_27
  exact pay137 (H.window0 hi hp) H.minus0 r l

theorem rows15 (hh : Halo D B xs0) (f : arg16.view.ty.Contents (Elt Ideal)) (r : Fin 512) (k : Fin 1536) :
    arg16.view.read (Elt Ideal) (arg16.view.writes (Elt Ideal) f (rest.sl.H15_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x2 x3 x4 x8 x9 x10 x11 x12 x13 xs0 xs1)) (ix2 r k) = (D.dz (B + r.val) k : EReal) := by
  unfold rest.sl.H15_6
  obtain ⟨j, rfl⟩ | ⟨j, rfl⟩ | ⟨q, l, rfl⟩ := columns k
  · rw [Data.dz_colA]
    exact ((six512 f _ _ _ _ _ _ r).1 j).trans (pay91 H.gateval (H.convolved hh) r j)
  · rw [Data.dz_colG]
    exact ((six512 f _ _ _ _ _ _ r).2.1 j).trans (pay92 H.value H.gateval (H.convolved hh) r j)
  · rw [Data.dz_colP]
    refine ((six512 f _ _ _ _ _ _ r).2.2 q l).trans ?_
    fin_cases q
    · exact H.pool0' hi hp r l
    · exact pay140 (H.window1 hi hp) H.minus1 r l
    · exact pay143 (H.window2 hi hp) H.minus2 r l
    · exact pay146 (H.window3 hi hp) H.minus3 r l

theorem out15 (hh : Halo D B xs0) (r : Fin 512) (k : Fin 1536) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.1 (ix2 r k) = (D.dz (B + r.val) k : EReal) := by
  unfold restOuts rest
  exact H.rows15 hi hp hh _ r k

theorem sums18 {o : Fin 1536 → ℝ} (hh : Halo D B xs0) (ho : ∀ k, xo18 (ix2 0 k) = (o k : EReal)) (k : Fin 1536) :
    View.read (Elt Ideal) arg19.view (arg19.view.writes (Elt Ideal) (harg19.unread xo18) [⟨Rect.unit (s := S1x1536) ![0, 1408] S1x128.size inb_S1x1536_S1x128_0_1408, k0_pay147 (rest.sl.v649 c i arg1 harg1 arg12 harg12 arg13 harg13 arg14 harg14 arg27 harg27 arg28 arg29 x0 x11 x12 x13 xs1) (rest.sl.v650 c arg1 harg1 arg12 harg12 arg13 harg13 arg14 harg14 arg31 x0 x11 x12 x13) (rest.sl.v654 c arg19 harg19 xo18)⟩, ⟨Rect.unit (s := S1x1536) ![0, 1280] S1x128.size inb_S1x1536_S1x128_0_1280, (rest.sl.r_28 c i arg1 harg1 arg12 harg12 arg13 harg13 arg14 harg14 arg19 harg19 arg27 harg27 arg28 arg29 arg31 x0 x11 x12 x13 xo18 xs1)⟩, ⟨Rect.unit (s := S1x1536) ![0, 1152] S1x128.size inb_S1x1536_S1x128_0_1152, k0_pay141 (rest.sl.v627 c i arg1 harg1 arg12 harg12 arg13 harg13 arg14 harg14 arg27 harg27 arg28 arg29 x0 x11 x12 x13 xs1) (rest.sl.v628 c arg1 harg1 arg12 harg12 arg13 harg13 arg14 harg14 arg31 x0 x11 x12 x13) (rest.sl.v632 c arg19 harg19 xo18)⟩, ⟨Rect.unit (s := S1x1536) ![0, 1024] S1x128.size inb_S1x1536_S1x128_0_1024, k0_pay138 (rest.sl.r_26 c i arg1 harg1 arg12 harg12 arg13 harg13 arg14 harg14 arg27 harg27 arg28 arg29 arg31 x0 x11 x12 x13 xs1) (rest.sl.v621 c arg19 harg19 xo18)⟩, ⟨Rect.unit (s := S1x1536) ![0, 512] S1x512.size inb_S1x1536_S1x512_0_512, k0_pay94 (rest.sl.r_3 c arg3 harg3 x2) (rest.sl.r_4 c arg4 harg4 x3) (arg30.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (rest.sl.r_2 c i arg1 harg1 arg5 harg5 arg10 harg10 arg11 harg11 arg14 harg14 arg26 harg26 x0 x4 x9 x10 x13 xs0) (harg9.unread x8) (arg26.view.writes (Elt Ideal) (harg26.unread xs0) (⟨Rect.unit (s := S8x544x512) ![7, 0, 0] S1x536x512.size inb_S8x544x512_S1x536x512_7_0_0, k0_pay47 (rest.sl.v114 c i arg1 harg1 arg5 harg5 arg10 harg10 arg11 harg11 arg14 harg14 arg26 harg26 x0 x4 x9 x10 x13 xs0)⟩ :: (rest.sl.HS0_7 c i arg1 harg1 arg5 harg5 arg10 harg10 arg11 harg11 arg14 harg14 arg26 harg26 x0 x4 x9 x10 x13 xs0))) (Scf.trips k0_t1_loop.lb k0_t1_loop.ub k0_t1_loop.st)) (Rect.unit (s := S512x512) ![0, 0] S512x512.size inb_S512x512_S512x512_0_0).toLoadRect) (rest.sl.v422 c arg19 harg19 xo18)⟩, ⟨Rect.unit (s := S1x1536) ![0, 0] S1x512.size inb_S1x1536_S1x512_0_0, k0_pay93 (rest.sl.r_4 c arg4 harg4 x3) (arg30.view.readCov (pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 (rest.sl.r_2 c i arg1 harg1 arg5 harg5 arg10 harg10 arg11 harg11 arg14 harg14 arg26 harg26 x0 x4 x9 x10 x13 xs0) (harg9.unread x8) (arg26.view.writes (Elt Ideal) (harg26.unread xs0) (⟨Rect.unit (s := S8x544x512) ![7, 0, 0] S1x536x512.size inb_S8x544x512_S1x536x512_7_0_0, k0_pay47 (rest.sl.v114 c i arg1 harg1 arg5 harg5 arg10 harg10 arg11 harg11 arg14 harg14 arg26 harg26 x0 x4 x9 x10 x13 xs0)⟩ :: (rest.sl.HS0_7 c i arg1 harg1 arg5 harg5 arg10 harg10 arg11 harg11 arg14 harg14 arg26 harg26 x0 x4 x9 x10 x13 xs0))) (Scf.trips k0_t1_loop.lb k0_t1_loop.ub k0_t1_loop.st)) (Rect.unit (s := S512x512) ![0, 0] S512x512.size inb_S512x512_S512x512_0_0).toLoadRect) (View.readAt (Elt Ideal) arg19.view (Rect.unit (s := S1x1536) ![0, 0] S1x512.size inb_S1x1536_S1x512_0_0).toLoadRect (harg19.unread xo18))⟩]) (ix2 0 k) = ((o k + ∑ r : Fin 512, D.dz (B + r.val) k : ℝ) : EReal) := by
  obtain ⟨j, rfl⟩ | ⟨j, rfl⟩ | ⟨q, l, rfl⟩ := columns k
  · simp only [Data.dz_colA]
    refine ((six1 (m := arg19) (harg19.unread xo18) _ _ _ _ _ _ 0).1 j).trans ?_
    exact pay93 (o := fun j => o (colA j)) H.gateval (H.convolved hh) (fun l => (read_at harg19 xo18 inb_S1x1536_S1x512_0_0 (ix2 (n0 := 1) (n1 := 512) 0 l) (ix2 0 (colA l)) (at2 rfl (Nat.zero_add _).symm)).trans (ho (colA l))) j
  · simp only [Data.dz_colG]
    refine ((six1 (m := arg19) (harg19.unread xo18) _ _ _ _ _ _ 0).2.1 j).trans ?_
    unfold rest.sl.v422
    exact pay94 (o := fun j => o (colG j)) H.value H.gateval (H.convolved hh) (fun l => (read_at harg19 xo18 inb_S1x1536_S1x512_0_512 (ix2 (n0 := 1) (n1 := 512) 0 l) (ix2 0 (colG l)) (at2 rfl rfl)).trans (ho (colG l))) j
  · simp only [Data.dz_colP]
    refine ((six1 (m := arg19) (harg19.unread xo18) _ _ _ _ _ _ 0).2.2 q l).trans ?_
    fin_cases q
    · unfold rest.sl.v621
      exact pay138 (o := fun l => o (colP (lane 0 l))) (H.pool0 hi hp) (fun l => (read_at harg19 xo18 inb_S1x1536_S1x128_0_1024 (ix2 (n0 := 1) (n1 := 128) 0 l) (ix2 0 (colP (lane 0 l))) (at2 rfl (show 1024 + (128 * 0 + l.val) = 1024 + l.val by omega))).trans (ho (colP (lane 0 l)))) l
    · unfold rest.sl.v632
      exact pay141 (o := fun l => o (colP (lane 1 l))) (H.window1 hi hp) H.minus1 (fun l => (read_at harg19 xo18 inb_S1x1536_S1x128_0_1152 (ix2 (n0 := 1) (n1 := 128) 0 l) (ix2 0 (colP (lane 1 l))) (at2 rfl (show 1024 + (128 * 1 + l.val) = 1152 + l.val by omega))).trans (ho (colP (lane 1 l)))) l
    · unfold rest.sl.r_28 rest.sl.v643
      exact pay144 (o := fun l => o (colP (lane 2 l))) (H.window2 hi hp) H.minus2 (fun l => (read_at harg19 xo18 inb_S1x1536_S1x128_0_1280 (ix2 (n0 := 1) (n1 := 128) 0 l) (ix2 0 (colP (lane 2 l))) (at2 rfl (show 1024 + (128 * 2 + l.val) = 1280 + l.val by omega))).trans (ho (colP (lane 2 l)))) l
    · unfold rest.sl.v654
      exact pay147 (o := fun l => o (colP (lane 3 l))) (H.window3 hi hp) H.minus3 (fun l => (read_at harg19 xo18 inb_S1x1536_S1x128_0_1408 (ix2 (n0 := 1) (n1 := 128) 0 l) (ix2 0 (colP (lane 3 l))) (at2 rfl (show 1024 + (128 * 3 + l.val) = 1408 + l.val by omega))).trans (ho (colP (lane 3 l)))) l

theorem out18 {o : Fin 1536 → ℝ} (hh : Halo D B xs0) (ho : ∀ k, xo18 (ix2 0 k) = (o k : EReal)) (k : Fin 1536) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.1 (ix2 0 k) = ((o k + ∑ r : Fin 512, D.dz (B + r.val) k : ℝ) : EReal) := by
  unfold restOuts rest
  exact H.sums18 hi hp hh ho k

omit hp in
theorem behind27 (p : Fin 32) (k : Fin 512) :
    View.read (Elt Ideal) arg27.view (arg27.view.writes (Elt Ideal) (harg27.unread xs1) (⟨Rect.unit (s := S544x512) ![512, 0] ![32, 512] inb_S544x512_S32x512_512_0, k0_pay2 (rest.sl.v704 c i arg1 harg1 arg12 harg12 arg13 harg13 arg14 harg14 arg27 x0 x11 x12 x13)⟩ :: (rest.sl.HS1_4 c i arg1 harg1 arg12 harg12 arg13 harg13 arg14 harg14 x0 x11 x12 x13))) (ix2 ⟨512 + p.val, by omega⟩ k) = (D.dql (B + p.val) k : EReal) := by
  rw [hit arg27.view (harg27.unread xs1) inb_S544x512_S32x512_512_0 _ _ (ix2 ⟨512 + p.val, by omega⟩ k) (ix2 (n0 := 32) (n1 := 512) p k) (at2 rfl (Nat.zero_add _).symm)]
  pointwise [k0_pay2]
  unfold rest.sl.v704
  exact (read_of arg27.view _ inb_S544x512_S32x512_0_0 (ix2 (n0 := 32) (n1 := 512) p k) (ix2 ⟨p.val, by omega⟩ k)
    (at2 (Nat.zero_add _).symm (Nat.zero_add _).symm)).trans (H.seen_row hi arg27.view.junk ⟨p.val, by omega⟩ k)

omit hp in
theorem outS1 (p : Fin 32) (k : Fin 512) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.2.2.2.2.2.2.2.2.2 (ix2 ⟨512 + p.val, by omega⟩ k) = (D.dql (B + p.val) k : EReal) := by
  unfold restOuts rest
  exact H.behind27 hi p k

end Blk

end Cert.Mix

end
-- ==== Proof.Mix.Rest6.lean ====
/- What a point leaves of the input's gradient and of the first norm's weight: the gradient through the first projection and the norm. -/
module

public import proofs.«01_k».proof.Proof.Mix.Rest5

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

/-- What is held at a value's own element type is the value. -/
theorem held26 {v : Vec Ideal S512x1024 .f32} {r : Fin 512} {d : Fin 1024} : k0_pay26 v (ix2 r d) = v (ix2 r d) := by
  pointwise [k0_pay26]

theorem held152 {v : Vec Ideal S1x1024 .f32} {d : Fin 1024} : k0_pay152 v (ix2 0 d) = v (ix2 0 d) := by
  pointwise [k0_pay152]

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

namespace Blk

variable (H : Blk D B x0 x1 x2 x3 x4 x5 x6 x7 x8 x9 x10 x11 x12 x13) (hh : Halo D B xs0) (hi : B = 512 * (7 - (i 0).val)) (hp : Behind D B xs1)
include H hh hi hp

/-- The first projection's gradient, as the body loads it again. -/
theorem loaded15 (r : Fin 512) (k : Fin 1536) : (rest.sl.v660 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x2 x3 x4 x8 x9 x10 x11 x12 x13 xs0 xs1) (ix2 r k) = (D.dz (B + r.val) k : EReal) := by
  unfold rest.sl.v660
  exact (read_of arg16.view _ inb_S512x1536_S512x1536_0_0 (ix2 (n0 := 512) (n1 := 1536) r k) (ix2 r k)
    (at2 (Nat.zero_add _).symm (Nat.zero_add _).symm)).trans (H.rows15 hi hp hh arg16.view.junk r k)

theorem rows14 (r : Fin 512) (d : Fin 1024) :
    View.read (Elt Ideal) arg15.view (arg15.view.writes (Elt Ideal) (harg15.unread xo14) [⟨Rect.unit (s := S512x1024) ![0, 0] ![512, 1024] inb_S512x1024_S512x1024_0_0, k0_pay155 (k0_pay26 (View.readAt (Elt Ideal) arg1.view (Rect.unit (s := S512x1024) ![0, 0] ![512, 1024] inb_S512x1024_S512x1024_0_0).toLoadRect (harg1.unread x0))) (rest.sl.r_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x2 x3 x4 x7 x8 x9 x10 x11 x12 x13 xs0 xs1) (rest.sl.r_30 c arg2 harg2 x1) (rest.sl.r_31 c arg2 harg2 x1) (View.readAt (Elt Ideal) arg7.view (Rect.unit (s := S1x1024) ![0, 0] ![1, 1024] inb_S1x1024_S1x1024_0_0).toLoadRect (harg7.unread x6))⟩]) (ix2 r d) = (D.dx (B + r.val) d : EReal) := by
  unfold rest.sl.r_29 rest.sl.r_30 rest.sl.r_31
  rw [hit arg15.view (harg15.unread xo14) inb_S512x1024_S512x1024_0_0 _ _ (ix2 r d) (ix2 (n0 := 512) (n1 := 1024) r d) (at2 (Nat.zero_add _).symm (Nat.zero_add _).symm)]
  exact pay155 (fun r d => held26.trans (H.l0 inb_S512x1024_S512x1024_0_0 r d)) (pay148 (H.loaded15 hh hi hp) (fun k d => H.l7 inb_S1536x1024_S1536x1024_0_0 k d))
    (pay150 (fun r d => H.l1 inb_S512x1024_S512x1024_0_0 r d)) (pay151 (fun r d => H.l1 inb_S512x1024_S512x1024_0_0 r d)) (fun d => H.l6 inb_S1x1024_S1x1024_0_0 d) r d

theorem sums17 {o : Fin 1024 → ℝ} (ho : ∀ d, xo17 (ix2 0 d) = (o d : EReal)) (d : Fin 1024) :
    View.read (Elt Ideal) arg18.view (arg18.view.writes (Elt Ideal) (harg18.unread xo17) [⟨Rect.unit (s := S1x1024) ![0, 0] ![1, 1024] inb_S1x1024_S1x1024_0_0, k0_pay154 (rest.sl.r_32 c arg18 harg18 xo17) (rest.sl.r_33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x7 x8 x9 x10 x11 x12 x13 xs0 xs1)⟩]) (ix2 0 d) = ((o d + ∑ r : Fin 512, D.dgt (B + r.val) d : ℝ) : EReal) := by
  unfold rest.sl.r_32 rest.sl.r_33
  rw [hit arg18.view (harg18.unread xo17) inb_S1x1024_S1x1024_0_0 _ _ (ix2 0 d) (ix2 (n0 := 1) (n1 := 1024) 0 d) (at2 rfl (Nat.zero_add _).symm)]
  exact pay154 (pay153 (H.loaded15 hh hi hp) (fun k d => H.l7 inb_S1536x1024_S1536x1024_0_0 k d) (fun r d => H.l1 inb_S512x1024_S512x1024_0_0 r d))
    (fun d => held152.trans <| (read_at harg18 xo17 inb_S1x1024_S1x1024_0_0 (ix2 (n0 := 1) (n1 := 1024) 0 d) (ix2 0 d) (at2 rfl (Nat.zero_add _).symm)).trans (ho d)) d

theorem out14 (r : Fin 512) (d : Fin 1024) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).1 (ix2 r d) = (D.dx (B + r.val) d : EReal) := by
  unfold restOuts rest
  exact H.rows14 hh hi hp r d

theorem out17 {o : Fin 1024 → ℝ} (ho : ∀ d, xo17 (ix2 0 d) = (o d : EReal)) (d : Fin 1024) :
    (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1).2.2.2.1 (ix2 0 d) = ((o d + ∑ r : Fin 512, D.dgt (B + r.val) d : ℝ) : EReal) := by
  unfold restOuts rest
  exact H.sums17 hh hi hp ho d

end Blk

end Cert.Mix

end
-- ==== Proof.Mix.Start.lean ====
/- What a point leaves of the claimed results: the point's rows, and the sums over the rows so far; at the first point from the clearing's zeros. -/
module

public import proofs.«01_k».proof.Proof.Mix.Rest6

@[expose] public section

set_option maxRecDepth 16384
set_option maxHeartbeats 2000000
noncomputable section

namespace Cert.Mix

open Cert.Kernel2Ideal Cert.Kernel2Ideal.Gen Idealize.ShloMosaic Idealize.ShloMosaic.TcCoe Cert.Reals

/-- The sum over the rows of the blocks up to point `t`: the points take the blocks from the last to the first. -/
def upto (t : ℕ) (f : ℕ → ℝ) : ℝ := ∑ s ∈ Finset.range (t + 1), ∑ r : Fin 512, f (512 * (7 - s) + r.val)

theorem upto_zero (f : ℕ → ℝ) : upto 0 f = 0 + ∑ r : Fin 512, f (512 * (7 - 0) + r.val) := by
  unfold upto
  rw [Finset.sum_range_one, zero_add]

theorem upto_succ (t : ℕ) (f : ℕ → ℝ) : upto (t + 1) f = upto t f + ∑ r : Fin 512, f (512 * (7 - (t + 1)) + r.val) := by
  unfold upto
  rw [Finset.sum_range_succ]

/-- What the windows of the claimed results hold after point `t`. -/
def at14 (D : Data) (t : ℕ) : S512x1024.Idx → EReal := fun y => (D.dx (512 * (7 - t) + (y 0).val) (y 1) : EReal)
def at17 (D : Data) (t : ℕ) : S1x1024.Idx → EReal := fun y => (upto t (fun n => D.dgt n (y 1)) : EReal)
def at16 (D : Data) (t : ℕ) : S512x1024.Idx → EReal := fun y => (D.dh (512 * (7 - t) + (y 0).val) (y 1) : EReal)
def at15 (D : Data) (t : ℕ) : S512x1536.Idx → EReal := fun y => (D.dz (512 * (7 - t) + (y 0).val) (y 1) : EReal)
def at18 (D : Data) (t : ℕ) : S1x1536.Idx → EReal := fun y => (upto t (fun n => D.dz n (y 1)) : EReal)
def at19 (D : Data) (t : ℕ) : S32x512.Idx → EReal := fun y => (upto t (fun n => D.dwt n (y 0).val (y 1)) : EReal)
def at20 (D : Data) (t : ℕ) : S1x512.Idx → EReal := fun y => (upto t (fun n => D.dvr n (y 1)) : EReal)
def at21 (D : Data) (t : ℕ) : S1x512.Idx → EReal := fun y => (upto t (fun n => D.dln n (y 1) * D.vhat n (y 1)) : EReal)
def at22 (D : Data) (t : ℕ) : S1x512.Idx → EReal := fun y => (upto t (fun n => D.dln n (y 1)) : EReal)

/-- A function of two indices is known from its values at pairs; where the first has one value, from the second. -/
theorem ext_pair {n0 n1 : ℕ} {f g : (⟨2, ![n0, n1]⟩ : Shape).Idx → EReal} (h : ∀ p k, f (ix2 p k) = g (ix2 p k)) : f = g :=
  funext fun y => by rw [eq_ix2 y]; exact h _ _
theorem ext_row {n1 : ℕ} {f g : (⟨2, ![1, n1]⟩ : Shape).Idx → EReal} (h : ∀ k, f (ix2 0 k) = g (ix2 0 k)) : f = g :=
  ext_pair fun p k => by rw [Subsingleton.elim p 0]; exact h k

/-- What the body leaves at point `t`: the claimed results, and the rows the next block needs. -/
structure Good (D : Data) (t : ℕ) (o : Outs Ideal) : Prop where
  o14 : o.1 = at14 D t
  o15 : o.2.1 = at15 D t
  o16 : o.2.2.1 = at16 D t
  o17 : o.2.2.2.1 = at17 D t
  o18 : o.2.2.2.2.1 = at18 D t
  o19 : o.2.2.2.2.2.1 = at19 D t
  o20 : o.2.2.2.2.2.2.1 = at20 D t
  o21 : o.2.2.2.2.2.2.2.1 = at21 D t
  o22 : o.2.2.2.2.2.2.2.2.1 = at22 D t
  s0 : ∀ (p : Fin 32) (k : Fin 512), o.2.2.2.2.2.2.2.2.2.2.2.1 (ix3 0 ⟨512 + p.val, by omega⟩ k) = (D.dv (512 * (7 - t) + p.val) k : EReal)
  s1 : ∀ (p : Fin 32) (k : Fin 512), o.2.2.2.2.2.2.2.2.2.2.2.2 (ix2 ⟨512 + p.val, by omega⟩ k) = (D.dql (512 * (7 - t) + p.val) k : EReal)

variable {D : Data} {B : ℕ} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

theorem cleared17 (p : Fin 1) (k : Fin 1024) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).1 (ix2 p k) = ((0 : ℝ) : EReal) := by
  unfold cleared
  refine (hit arg18.view _ inb_S1x1024_S1x1024_0_0 (k0_pay5 (F := Ideal)) [] (ix2 p k) (ix2 (n0 := 1) (n1 := 1024) p k) (at2 (Nat.zero_add _).symm (Nat.zero_add _).symm)).trans ?_
  pointwise [k0_pay5]
  exact EReal.coe_zero.symm

theorem cleared18 (p : Fin 1) (k : Fin 1536) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.1 (ix2 p k) = ((0 : ℝ) : EReal) := by
  unfold cleared
  refine (hit arg19.view _ inb_S1x1536_S1x1536_0_0 (k0_pay6 (F := Ideal)) [] (ix2 p k) (ix2 (n0 := 1) (n1 := 1536) p k) (at2 (Nat.zero_add _).symm (Nat.zero_add _).symm)).trans ?_
  pointwise [k0_pay6]
  exact EReal.coe_zero.symm

theorem cleared19 (p : Fin 32) (k : Fin 512) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.1 (ix2 p k) = ((0 : ℝ) : EReal) := by
  unfold cleared
  refine (hit arg20.view _ inb_S32x512_S32x512_0_0 (k0_pay7 (F := Ideal)) [] (ix2 p k) (ix2 (n0 := 32) (n1 := 512) p k) (at2 (Nat.zero_add _).symm (Nat.zero_add _).symm)).trans ?_
  pointwise [k0_pay7]
  exact EReal.coe_zero.symm

theorem cleared20 (p : Fin 1) (k : Fin 512) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.1 (ix2 p k) = ((0 : ℝ) : EReal) := by
  unfold cleared
  refine (hit arg21.view _ inb_S1x512_S1x512_0_0 (k0_pay8 (F := Ideal)) [] (ix2 p k) (ix2 (n0 := 1) (n1 := 512) p k) (at2 (Nat.zero_add _).symm (Nat.zero_add _).symm)).trans ?_
  pointwise [k0_pay8]
  exact EReal.coe_zero.symm

theorem cleared21 (p : Fin 1) (k : Fin 512) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.2.1 (ix2 p k) = ((0 : ℝ) : EReal) := by
  unfold cleared
  refine (hit arg22.view _ inb_S1x512_S1x512_0_0 (k0_pay9 (F := Ideal)) [] (ix2 p k) (ix2 (n0 := 1) (n1 := 512) p k) (at2 (Nat.zero_add _).symm (Nat.zero_add _).symm)).trans ?_
  pointwise [k0_pay9]
  exact EReal.coe_zero.symm

theorem cleared22 (p : Fin 1) (k : Fin 512) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.2.2.1 (ix2 p k) = ((0 : ℝ) : EReal) := by
  unfold cleared
  refine (hit arg23.view _ inb_S1x512_S1x512_0_0 (k0_pay10 (F := Ideal)) [] (ix2 p k) (ix2 (n0 := 1) (n1 := 512) p k) (at2 (Nat.zero_add _).symm (Nat.zero_add _).symm)).trans ?_
  pointwise [k0_pay10]
  exact EReal.coe_zero.symm

theorem clearedS0 (p : Fin 32) (k : Fin 512) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.2.2.2.2.2.1 (ix3 0 ⟨512 + p.val, by omega⟩ k) = ((0 : ℝ) : EReal) := by
  unfold cleared
  refine (hit arg26.view _ inb_S8x544x512_S1x32x512_0_512_0 (k0_pay3 (F := Ideal)) [] (ix3 0 ⟨512 + p.val, by omega⟩ k)
    (ix3 (n0 := 1) (n1 := 32) (n2 := 512) 0 p k) (at3 rfl rfl (Nat.zero_add _).symm)).trans ?_
  pointwise [k0_pay3]
  exact EReal.coe_zero.symm

theorem clearedS1 (p : Fin 32) (k : Fin 512) :
    (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.2.2.2.2.2.2.1 (ix2 ⟨512 + p.val, by omega⟩ k) = ((0 : ℝ) : EReal) := by
  unfold cleared
  refine (hit arg27.view _ inb_S544x512_S32x512_512_0 (k0_pay4 (F := Ideal)) [] (ix2 ⟨512 + p.val, by omega⟩ k)
    (ix2 (n0 := 32) (n1 := 512) p k) (at2 rfl (Nat.zero_add _).symm)).trans ?_
  pointwise [k0_pay4]
  exact EReal.coe_zero.symm

theorem good_rest {t : ℕ} (ht : t + 1 ≤ 7) (hc : (i 0).val = t + 1) (H : Blk D (512 * (7 - (t + 1))) x0 x1 x2 x3 x4 x5 x6 x7 x8 x9 x10 x11 x12 x13)
    (h17 : xo17 = at17 D t) (h18 : xo18 = at18 D t) (h19 : xo19 = at19 D t) (h20 : xo20 = at20 D t) (h21 : xo21 = at21 D t) (h22 : xo22 = at22 D t)
    (hs : ∀ (p : Fin 32) (k : Fin 512), xs0 (ix3 0 ⟨512 + p.val, by omega⟩ k) = (D.dv (512 * (7 - t) + p.val) k : EReal))
    (hs1 : ∀ (p : Fin 32) (k : Fin 512), xs1 (ix2 ⟨512 + p.val, by omega⟩ k) = (D.dql (512 * (7 - t) + p.val) k : EReal)) :
    Good D (t + 1) (restOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1) := by
  have hh : Halo D (512 * (7 - (t + 1))) xs0 := ⟨fun p k => by
    rw [hs p k, show 512 * (7 - t) + p.val = 512 * (7 - (t + 1)) + (512 + p.val) by omega]⟩
  have hp : Behind D (512 * (7 - (t + 1))) xs1 := ⟨fun p k => by
    rw [hs1 p k, show 512 * (7 - t) + p.val = 512 * (7 - (t + 1)) + (512 + p.val) by omega]⟩
  have hi : 512 * (7 - (t + 1)) = 512 * (7 - (i 0).val) := by rw [hc]
  subst h17 h18 h19 h20 h21 h22
  refine ⟨ext_pair fun r k => H.out14 hh hi hp r k, ext_pair fun r k => H.out15 hi hp hh r k, ext_pair fun r k => H.out16 r k, ext_row fun k => (H.out17 hh hi hp (fun k => rfl) k).trans ?_,
    ext_row fun k => (H.out18 hi hp hh (fun k => rfl) k).trans ?_, ext_pair fun p k => (H.out19 hh (fun p k => rfl) p k).trans ?_, ext_row fun k => (H.out20 (fun k => rfl) k).trans ?_,
    ext_row fun k => (H.out21 (fun k => rfl) k).trans ?_, ext_row fun k => (H.out22 (fun k => rfl) k).trans ?_, fun p k => H.outS0 hh p k, fun p k => H.outS1 hi p k⟩
  all_goals exact congrArg _ (upto_succ t _).symm

theorem good_first (hc : (i 0).val = 0) (H : Blk D (512 * (7 - 0)) x0 x1 x2 x3 x4 x5 x6 x7 x8 x9 x10 x11 x12 x13) :
    Good D 0 (firstOuts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 xo14 xo15 xo16 xo17 xo18 xo19 xo20 xo21 xo22 xo23 xo24 xs0 xs1) := by
  have hh : Halo D (512 * (7 - 0)) (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.2.2.2.2.2.1 := ⟨fun p k => by
    rw [clearedS0 p k, Data.dv, if_neg (by omega)]⟩
  have hp : Behind D (512 * (7 - 0)) (cleared (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 xo17 xo18 xo19 xo20 xo21 xo22 xo23 xo24 xs0 xs1).2.2.2.2.2.2.2.2.2.1 := ⟨fun p k => by
    rw [clearedS1 p k, Data.dql, Data.dq, if_neg (by omega)]⟩
  have hi : 512 * (7 - 0) = 512 * (7 - (i 0).val) := by rw [hc]
  unfold firstOuts
  refine ⟨ext_pair fun r k => H.out14 hh hi hp r k, ext_pair fun r k => H.out15 hi hp hh r k, ext_pair fun r k => H.out16 r k, ext_row fun k => (H.out17 hh hi hp (o := fun _ => 0) (fun k => cleared17 0 k) k).trans ?_,
    ext_row fun k => (H.out18 hi hp hh (o := fun _ => 0) (fun k => cleared18 0 k) k).trans ?_, ext_pair fun p k => (H.out19 hh (o := fun _ _ => 0) (fun p k => cleared19 p k) p k).trans ?_,
    ext_row fun k => (H.out20 (o := fun _ => 0) (fun k => cleared20 0 k) k).trans ?_,
    ext_row fun k => (H.out21 (o := fun _ => 0) (fun k => cleared21 0 k) k).trans ?_,
    ext_row fun k => (H.out22 (o := fun _ => 0) (fun k => cleared22 0 k) k).trans ?_, fun p k => H.outS0 hh p k, fun p k => H.outS1 hi p k⟩
  · exact congrArg Real.toEReal (upto_zero fun n => D.dgt n k).symm
  · exact congrArg Real.toEReal (upto_zero fun n => D.dz n k).symm
  · exact congrArg Real.toEReal (upto_zero fun n => D.dwt n p.val k).symm
  · exact congrArg Real.toEReal (upto_zero fun n => D.dvr n k).symm
  · exact congrArg Real.toEReal (upto_zero fun n => D.dln n k * D.vhat n k).symm
  · exact congrArg Real.toEReal (upto_zero fun n => D.dln n k).symm

end Cert.Mix

end
-- ==== Proof.Mix.Good.lean ====
/- The body's triple, stated with what the claimed results are: from the sums so far and the carried rows it leaves the
   sums with this block added. -/
module

public import proofs.«01_k».proof.Proof.Mix.Body
public import proofs.«01_k».proof.Proof.Mix.Start

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable {D : Data} {c : Dev nD} {i : grid0.Coords}
    {arg1 : Memref sig .tc .vmem S512x1024 .f32} {harg1 : arg1.IsWhole} {arg2 : Memref sig .tc .vmem S512x1024 .f32} {harg2 : arg2.IsWhole}
    {arg3 : Memref sig .tc .vmem S512x512 .f32} {harg3 : arg3.IsWhole} {arg4 : Memref sig .tc .vmem S512x512 .f32} {harg4 : arg4.IsWhole}
    {arg5 : Memref sig .tc .vmem S512x512 .f32} {harg5 : arg5.IsWhole} {arg6 : Memref sig .tc .vmem S512x512 .bf16} {harg6 : arg6.IsWhole}
    {arg7 : Memref sig .tc .vmem S1x1024 .f32} {harg7 : arg7.IsWhole} {arg8 : Memref sig .tc .vmem S1536x1024 .bf16} {harg8 : arg8.IsWhole}
    {arg9 : Memref sig .tc .vmem S32x512 .f32} {harg9 : arg9.IsWhole} {arg10 : Memref sig .tc .vmem S1x512 .f32} {harg10 : arg10.IsWhole}
    {arg11 : Memref sig .tc .vmem S1x512 .f32} {harg11 : arg11.IsWhole} {arg12 : Memref sig .tc .vmem S4x128x128 .bf16} {harg12 : arg12.IsWhole}
    {arg13 : Memref sig .tc .vmem S1x512 .f32} {harg13 : arg13.IsWhole} {arg14 : Memref sig .tc .vmem S1024x1024 .bf16} {harg14 : arg14.IsWhole}
    {arg15 : Memref sig .tc .vmem S512x1024 .f32} {harg15 : arg15.IsWhole} {arg16 : Memref sig .tc .vmem S512x1536 .bf16} {harg16 : arg16.IsWhole}
    {arg17 : Memref sig .tc .vmem S512x1024 .bf16} {harg17 : arg17.IsWhole} {arg18 : Memref sig .tc .vmem S1x1024 .f32} {harg18 : arg18.IsWhole}
    {arg19 : Memref sig .tc .vmem S1x1536 .f32} {harg19 : arg19.IsWhole} {arg20 : Memref sig .tc .vmem S32x512 .f32} {harg20 : arg20.IsWhole}
    {arg21 : Memref sig .tc .vmem S1x512 .f32} {harg21 : arg21.IsWhole} {arg22 : Memref sig .tc .vmem S1x512 .f32} {harg22 : arg22.IsWhole}
    {arg23 : Memref sig .tc .vmem S1x512 .f32} {harg23 : arg23.IsWhole} {arg24 : Memref sig .tc .vmem S4x128x128 .f32} {harg24 : arg24.IsWhole}
    {arg25 : Memref sig .tc .vmem S1x512 .f32} {harg25 : arg25.IsWhole} {arg26 : Memref sig .tc .vmem S8x544x512 .f32} {harg26 : arg26.IsWhole}
    {arg27 : Memref sig .tc .vmem S544x512 .f32} {harg27 : arg27.IsWhole} {arg28 : Memref sig .tc .vmem S544x512 .f32} {harg28 : arg28.IsWhole}
    {arg29 : Memref sig .tc .vmem S544x512 .f32} {harg29 : arg29.IsWhole} {arg30 : Memref sig .tc .vmem S512x512 .f32} {harg30 : arg30.IsWhole}
    {arg31 : Memref sig .tc .vmem S512x512 .f32} {harg31 : arg31.IsWhole}
    {x0 : Vec Ideal S512x1024 .f32} {x1 : Vec Ideal S512x1024 .f32} {x2 : Vec Ideal S512x512 .f32} {x3 : Vec Ideal S512x512 .f32}
    {x4 : Vec Ideal S512x512 .f32} {x5 : Vec Ideal S512x512 .bf16} {x6 : Vec Ideal S1x1024 .f32} {x7 : Vec Ideal S1536x1024 .bf16}
    {x8 : Vec Ideal S32x512 .f32} {x9 : Vec Ideal S1x512 .f32} {x10 : Vec Ideal S1x512 .f32} {x11 : Vec Ideal S4x128x128 .bf16}
    {x12 : Vec Ideal S1x512 .f32} {x13 : Vec Ideal S1024x1024 .bf16}
    {xo14 : Vec Ideal S512x1024 .f32} {xo15 : Vec Ideal S512x1536 .bf16} {xo16 : Vec Ideal S512x1024 .bf16} {xo17 : Vec Ideal S1x1024 .f32}
    {xo18 : Vec Ideal S1x1536 .f32} {xo19 : Vec Ideal S32x512 .f32} {xo20 : Vec Ideal S1x512 .f32} {xo21 : Vec Ideal S1x512 .f32}
    {xo22 : Vec Ideal S1x512 .f32} {xo23 : Vec Ideal S4x128x128 .f32} {xo24 : Vec Ideal S1x512 .f32}
    {xs0 : Vec Ideal S8x544x512 .f32} {xs1 : Vec Ideal S544x512 .f32}

/-- Whoever can take every content that is as it should be can take one of them. -/
theorem of_good {t : ℕ} {o : Outs Ideal} {R W k : sProp 𝕄} (P : Outs Ideal → sProp 𝕄) (g : Good D t o) (hb : iprop(R ∗ (P o -∗ k)) ⊢ W) :
    iprop(R ∗ (∀ o : {o : Outs Ideal // Good D t o}, P o.1 -∗ k)) ⊢ W :=
  BI.BIBase.Entails.trans (sep_mono .rfl (forall_elim (⟨o, g⟩ : {o : Outs Ideal // Good D t o}))) hb

/-- At the first point, whatever the outputs and the carried rows hold. -/
theorem good_at_first {t : ℕ} (ht : t = 0) (hc : (i 0).val = 0) (hf : first i) (H : Blk D (512 * (7 - t)) x0 x1 x2 x3 x4 x5 x6 x7 x8 x9 x10 x11 x12 x13) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31
      x0 x1 x2 x3 x4 x5 x6 x7 x8 x9 x10 x11 x12 x13 (xo14, xo15, xo16, xo17, xo18, xo19, xo20, xo21, xo22, xo23, xo24, xs0, xs1)
      ∗ (∀ o : {o : Outs Ideal // Good D t o}, held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31
      x0 x1 x2 x3 x4 x5 x6 x7 x8 x9 x10 x11 x12 x13 o.1 -∗ K ⟨⟩))
      ⊢ wp Idealize.ShloMosaic.frame (wpE (defs₀ (F := Ideal)) Variants.none c none) Set.univ (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  subst ht
  exact of_good (fun o => held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31
      x0 x1 x2 x3 x4 x5 x6 x7 x8 x9 x10 x11 x12 x13 o) (good_first hc H)
    (body_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31
      x0 x1 x2 x3 x4 x5 x6 x7 x8 x9 x10 x11 x12 x13 xo14 xo15 xo16 xo17 xo18 xo19 xo20 xo21 xo22 xo23 xo24 xs0 xs1 hf Set.univ K)

/-- At a later point, from the sums over the points before it and the rows the one before it carried. -/
theorem good_at_rest {t : ℕ} (ht : t ≠ 0) (hlt : t < 8) (hc : (i 0).val = t) (hf : ¬ first i) (H : Blk D (512 * (7 - t)) x0 x1 x2 x3 x4 x5 x6 x7 x8 x9 x10 x11 x12 x13)
    (h17 : xo17 = at17 D (t - 1)) (h18 : xo18 = at18 D (t - 1)) (h19 : xo19 = at19 D (t - 1)) (h20 : xo20 = at20 D (t - 1)) (h21 : xo21 = at21 D (t - 1)) (h22 : xo22 = at22 D (t - 1))
    (hs : ∀ (p : Fin 32) (k : Fin 512), xs0 (ix3 0 ⟨512 + p.val, by omega⟩ k) = (D.dv (512 * (8 - t) + p.val) k : EReal))
    (hs1 : ∀ (p : Fin 32) (k : Fin 512), xs1 (ix2 ⟨512 + p.val, by omega⟩ k) = (D.dql (512 * (8 - t) + p.val) k : EReal)) (K : PUnit → sProp 𝕄) :
    iprop(held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31
      x0 x1 x2 x3 x4 x5 x6 x7 x8 x9 x10 x11 x12 x13 (xo14, xo15, xo16, xo17, xo18, xo19, xo20, xo21, xo22, xo23, xo24, xs0, xs1)
      ∗ (∀ o : {o : Outs Ideal // Good D t o}, held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31
      x0 x1 x2 x3 x4 x5 x6 x7 x8 x9 x10 x11 x12 x13 o.1 -∗ K ⟨⟩))
      ⊢ wp Idealize.ShloMosaic.frame (wpE (defs₀ (F := Ideal)) Variants.none c none) Set.univ (cc0_mix_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  obtain ⟨u, rfl⟩ : ∃ u, t = u + 1 := ⟨t - 1, by omega⟩
  exact of_good (fun o => held c arg1 arg2 arg3 arg4 arg5 arg6 arg7 arg8 arg9 arg10 arg11 arg12 arg13 arg14 arg15 arg16 arg17 arg18 arg19 arg20 arg21 arg22 arg23 arg24 arg25 arg26 arg27 arg28 arg29 arg30 arg31
      x0 x1 x2 x3 x4 x5 x6 x7 x8 x9 x10 x11 x12 x13 o)
    (good_rest (by omega) hc H h17 h18 h19 h20 h21 h22 (fun p k => (hs p k).trans (by rw [show 8 - (u + 1) = 7 - u by omega]))
      fun p k => (hs1 p k).trans (by rw [show 8 - (u + 1) = 7 - u by omega]))
    (body_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31
      x0 x1 x2 x3 x4 x5 x6 x7 x8 x9 x10 x11 x12 x13 xo14 xo15 xo16 xo17 xo18 xo19 xo20 xo21 xo22 xo23 xo24 xs0 xs1 hf Set.univ K)

end Cert.Mix

end
-- ==== Proof.Mix.Track.lean ====
module

public import proofs.«01_k».proof.Proof.Mix.Frame
public import proofs.«01_k».proof.Proof.Mix.Good
public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Tactic
public import Idealize.ShloMosaic.Lib.WordCmp

@[expose] public section

set_option maxRecDepth 16384

noncomputable section

namespace Cert.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

open Idealize.ShloMosaic.Pipeline (Dat Cfg Window BodyObligation cellOf)

variable (D : Data) (m : (ℓ : Loc nD τ sig) → Buf (Elt Ideal) ℓ) (ρ : Dev nD → PrngReg)

/-- The first point is the one at which the body clears. -/
theorem first_iff (t : Fin cfg0.N) : first (grid0.coords t) ↔ t.val = 0 := by
  have e0 : (grid0.coords t 0).val = t.val / 1 % 8 := Pipeline.Grid.coords_val t 0 (by decide) rfl
  have hN : cfg0.N = 8 := by decide
  have hlt : t.val < 8 := lt_of_lt_of_eq t.isLt hN
  have h : first (grid0.coords t) ↔ t.val % 8 = 0 := by
    simp only [first, e0]
    word_cmp
  rw [h, Nat.mod_eq_of_lt hlt]

/-- Which windows the run says nothing of. -/
def unsaid : Fin cfg0.W → Bool := fun w => w.val = 23 || w.val = 24

/-- What is carried from point to point: behind the block's rows of the convolution's gradient, and of the pooling's, stand the
    first rows of the block before, once there is one. -/
def carried (c : Dev nD) (n : ℕ) : sProp 𝕄 :=
  iprop(iprop((∃ d, ⌜n ≠ 0 → ∀ (p : Fin 32) (k : Fin 512), d (ix3 0 ⟨512 + p.val, by omega⟩ k) = (D.dv (512 * (8 - n) + p.val) k : EReal)⌝
      ∗ owns (c : Thread nD τ) sc0 fullShare d)
    ∗ (∃ d, ⌜n ≠ 0 → ∀ (p : Fin 32) (k : Fin 512), d (ix2 ⟨512 + p.val, by omega⟩ k) = (D.dql (512 * (8 - n) + p.val) k : EReal)⌝
      ∗ owns (c : Thread nD τ) sc1 fullShare d)
    ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r))

/-- The proof data: the inputs stay as they are found, and of the outputs those of the claimed results are named. -/
def tdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => at14 D t.val
    | ⟨15, _⟩ => at15 D t.val
    | ⟨16, _⟩ => at16 D t.val
    | ⟨17, _⟩ => at17 D t.val
    | ⟨18, _⟩ => at18 D t.val
    | ⟨19, _⟩ => at19 D t.val
    | ⟨20, _⟩ => at20 D t.val
    | ⟨21, _⟩ => at21 D t.val
    | ⟨22, _⟩ => at22 D t.val
    | ⟨23, _⟩ => Dat.unnamed 23 t
    | ⟨24, _⟩ => Dat.unnamed 24 t
    | ⟨_ + 25, h⟩ => absurd h (Nat.not_lt.2 (Nat.le_add_left _ _))
  Φ n := carried D c n.val
  q _ := fullShare
  owed _ := 0

theorem tA_eq (c : Dev nD) (w : Fin cfg0.W) : (tdats D m 0 c).A w = V m c (Pipeline.arrRef spec0 w) := by
  dsimp only [tdats]

theorem tafter0 (c : Dev nD) (t : Fin cfg0.N) : (tdats D m 0 c).after 0 t = iblk m c 0 t := by dsimp only [tdats]
theorem tbefore0 (c : Dev nD) (t : Fin cfg0.N) (d) : (tdats D m 0 c).before 0 t d = iblk m c 0 t :=
  before0_0_of m (tdats D m 0 c) (tA_eq D m c 0) (tafter0 D m c) t d
theorem tafter1 (c : Dev nD) (t : Fin cfg0.N) : (tdats D m 0 c).after 1 t = iblk m c 1 t := by dsimp only [tdats]
theorem tbefore1 (c : Dev nD) (t : Fin cfg0.N) (d) : (tdats D m 0 c).before 1 t d = iblk m c 1 t :=
  before0_1_of m (tdats D m 0 c) (tA_eq D m c 1) (tafter1 D m c) t d
theorem tafter2 (c : Dev nD) (t : Fin cfg0.N) : (tdats D m 0 c).after 2 t = iblk m c 2 t := by dsimp only [tdats]
theorem tbefore2 (c : Dev nD) (t : Fin cfg0.N) (d) : (tdats D m 0 c).before 2 t d = iblk m c 2 t :=
  before0_2_of m (tdats D m 0 c) (tA_eq D m c 2) (tafter2 D m c) t d
theorem tafter3 (c : Dev nD) (t : Fin cfg0.N) : (tdats D m 0 c).after 3 t = iblk m c 3 t := by dsimp only [tdats]
theorem tbefore3 (c : Dev nD) (t : Fin cfg0.N) (d) : (tdats D m 0 c).before 3 t d = iblk m c 3 t :=
  before0_3_of m (tdats D m 0 c) (tA_eq D m c 3) (tafter3 D m c) t d
theorem tafter4 (c : Dev nD) (t : Fin cfg0.N) : (tdats D m 0 c).after 4 t = iblk m c 4 t := by dsimp only [tdats]
theorem tbefore4 (c : Dev nD) (t : Fin cfg0.N) (d) : (tdats D m 0 c).before 4 t d = iblk m c 4 t :=
  before0_4_of m (tdats D m 0 c) (tA_eq D m c 4) (tafter4 D m c) t d
theorem tafter5 (c : Dev nD) (t : Fin cfg0.N) : (tdats D m 0 c).after 5 t = iblk m c 5 t := by dsimp only [tdats]
theorem tbefore5 (c : Dev nD) (t : Fin cfg0.N) (d) : (tdats D m 0 c).before 5 t d = iblk m c 5 t :=
  before0_5_of m (tdats D m 0 c) (tA_eq D m c 5) (tafter5 D m c) t d
theorem tafter6 (c : Dev nD) (t : Fin cfg0.N) : (tdats D m 0 c).after 6 t = iblk m c 6 t := by dsimp only [tdats]
theorem tbefore6 (c : Dev nD) (t : Fin cfg0.N) (d) : (tdats D m 0 c).before 6 t d = iblk m c 6 t :=
  before0_6_of m (tdats D m 0 c) (tA_eq D m c 6) (tafter6 D m c) t d
theorem tafter7 (c : Dev nD) (t : Fin cfg0.N) : (tdats D m 0 c).after 7 t = iblk m c 7 t := by dsimp only [tdats]
theorem tbefore7 (c : Dev nD) (t : Fin cfg0.N) (d) : (tdats D m 0 c).before 7 t d = iblk m c 7 t :=
  before0_7_of m (tdats D m 0 c) (tA_eq D m c 7) (tafter7 D m c) t d
theorem tafter8 (c : Dev nD) (t : Fin cfg0.N) : (tdats D m 0 c).after 8 t = iblk m c 8 t := by dsimp only [tdats]
theorem tbefore8 (c : Dev nD) (t : Fin cfg0.N) (d) : (tdats D m 0 c).before 8 t d = iblk m c 8 t :=
  before0_8_of m (tdats D m 0 c) (tA_eq D m c 8) (tafter8 D m c) t d
theorem tafter9 (c : Dev nD) (t : Fin cfg0.N) : (tdats D m 0 c).after 9 t = iblk m c 9 t := by dsimp only [tdats]
theorem tbefore9 (c : Dev nD) (t : Fin cfg0.N) (d) : (tdats D m 0 c).before 9 t d = iblk m c 9 t :=
  before0_9_of m (tdats D m 0 c) (tA_eq D m c 9) (tafter9 D m c) t d
theorem tafter10 (c : Dev nD) (t : Fin cfg0.N) : (tdats D m 0 c).after 10 t = iblk m c 10 t := by dsimp only [tdats]
theorem tbefore10 (c : Dev nD) (t : Fin cfg0.N) (d) : (tdats D m 0 c).before 10 t d = iblk m c 10 t :=
  before0_10_of m (tdats D m 0 c) (tA_eq D m c 10) (tafter10 D m c) t d
theorem tafter11 (c : Dev nD) (t : Fin cfg0.N) : (tdats D m 0 c).after 11 t = iblk m c 11 t := by dsimp only [tdats]
theorem tbefore11 (c : Dev nD) (t : Fin cfg0.N) (d) : (tdats D m 0 c).before 11 t d = iblk m c 11 t :=
  before0_11_of m (tdats D m 0 c) (tA_eq D m c 11) (tafter11 D m c) t d
theorem tafter12 (c : Dev nD) (t : Fin cfg0.N) : (tdats D m 0 c).after 12 t = iblk m c 12 t := by dsimp only [tdats]
theorem tbefore12 (c : Dev nD) (t : Fin cfg0.N) (d) : (tdats D m 0 c).before 12 t d = iblk m c 12 t :=
  before0_12_of m (tdats D m 0 c) (tA_eq D m c 12) (tafter12 D m c) t d
theorem tafter13 (c : Dev nD) (t : Fin cfg0.N) : (tdats D m 0 c).after 13 t = iblk m c 13 t := by dsimp only [tdats]
theorem tbefore13 (c : Dev nD) (t : Fin cfg0.N) (d) : (tdats D m 0 c).before 13 t d = iblk m c 13 t :=
  before0_13_of m (tdats D m 0 c) (tA_eq D m c 13) (tafter13 D m c) t d
theorem tafter14 (c : Dev nD) (t : Fin cfg0.N) : (tdats D m 0 c).after 14 t = at14 D t.val := by dsimp only [tdats]
theorem tafter15 (c : Dev nD) (t : Fin cfg0.N) : (tdats D m 0 c).after 15 t = at15 D t.val := by dsimp only [tdats]
theorem tafter16 (c : Dev nD) (t : Fin cfg0.N) : (tdats D m 0 c).after 16 t = at16 D t.val := by dsimp only [tdats]
theorem tafter17 (c : Dev nD) (t : Fin cfg0.N) : (tdats D m 0 c).after 17 t = at17 D t.val := by dsimp only [tdats]
theorem tafter18 (c : Dev nD) (t : Fin cfg0.N) : (tdats D m 0 c).after 18 t = at18 D t.val := by dsimp only [tdats]
theorem tafter19 (c : Dev nD) (t : Fin cfg0.N) : (tdats D m 0 c).after 19 t = at19 D t.val := by dsimp only [tdats]
theorem tafter20 (c : Dev nD) (t : Fin cfg0.N) : (tdats D m 0 c).after 20 t = at20 D t.val := by dsimp only [tdats]
theorem tafter21 (c : Dev nD) (t : Fin cfg0.N) : (tdats D m 0 c).after 21 t = at21 D t.val := by dsimp only [tdats]
theorem tafter22 (c : Dev nD) (t : Fin cfg0.N) : (tdats D m 0 c).after 22 t = at22 D t.val := by dsimp only [tdats]
theorem tbefore17 (c : Dev nD) (t : Fin cfg0.N) (ht : t.val ≠ 0) (d) : (tdats D m 0 c).before 17 t d = at17 D (t.val - 1) :=
  (Dat.before_out_kept _ 17 rfl t ht (Bool.eq_false_iff.mpr fun h => by
    have := (flush0_17 _).mp h
    have hN : cfg0.N = 8 := by decide
    have hlt : t.val < 8 := lt_of_lt_of_eq t.isLt hN
    dsimp only at *
    omega) (fun _ => rfl) (fun _ _ => rfl) d).trans (tafter17 D m c _)
theorem tbefore18 (c : Dev nD) (t : Fin cfg0.N) (ht : t.val ≠ 0) (d) : (tdats D m 0 c).before 18 t d = at18 D (t.val - 1) :=
  (Dat.before_out_kept _ 18 rfl t ht (Bool.eq_false_iff.mpr fun h => by
    have := (flush0_18 _).mp h
    have hN : cfg0.N = 8 := by decide
    have hlt : t.val < 8 := lt_of_lt_of_eq t.isLt hN
    dsimp only at *
    omega) (fun _ => rfl) (fun _ _ => rfl) d).trans (tafter18 D m c _)
theorem tbefore19 (c : Dev nD) (t : Fin cfg0.N) (ht : t.val ≠ 0) (d) : (tdats D m 0 c).before 19 t d = at19 D (t.val - 1) :=
  (Dat.before_out_kept _ 19 rfl t ht (Bool.eq_false_iff.mpr fun h => by
    have := (flush0_19 _).mp h
    have hN : cfg0.N = 8 := by decide
    have hlt : t.val < 8 := lt_of_lt_of_eq t.isLt hN
    dsimp only at *
    omega) (fun _ => rfl) (fun _ _ => rfl) d).trans (tafter19 D m c _)
theorem tbefore20 (c : Dev nD) (t : Fin cfg0.N) (ht : t.val ≠ 0) (d) : (tdats D m 0 c).before 20 t d = at20 D (t.val - 1) :=
  (Dat.before_out_kept _ 20 rfl t ht (Bool.eq_false_iff.mpr fun h => by
    have := (flush0_20 _).mp h
    have hN : cfg0.N = 8 := by decide
    have hlt : t.val < 8 := lt_of_lt_of_eq t.isLt hN
    dsimp only at *
    omega) (fun _ => rfl) (fun _ _ => rfl) d).trans (tafter20 D m c _)
theorem tbefore21 (c : Dev nD) (t : Fin cfg0.N) (ht : t.val ≠ 0) (d) : (tdats D m 0 c).before 21 t d = at21 D (t.val - 1) :=
  (Dat.before_out_kept _ 21 rfl t ht (Bool.eq_false_iff.mpr fun h => by
    have := (flush0_21 _).mp h
    have hN : cfg0.N = 8 := by decide
    have hlt : t.val < 8 := lt_of_lt_of_eq t.isLt hN
    dsimp only at *
    omega) (fun _ => rfl) (fun _ _ => rfl) d).trans (tafter21 D m c _)
theorem tbefore22 (c : Dev nD) (t : Fin cfg0.N) (ht : t.val ≠ 0) (d) : (tdats D m 0 c).before 22 t d = at22 D (t.val - 1) :=
  (Dat.before_out_kept _ 22 rfl t ht (Bool.eq_false_iff.mpr fun h => by
    have := (flush0_22 _).mp h
    have hN : cfg0.N = 8 := by decide
    have hlt : t.val < 8 := lt_of_lt_of_eq t.isLt hN
    dsimp only at *
    omega) (fun _ => rfl) (fun _ _ => rfl) d).trans (tafter22 D m c _)

set_option maxHeartbeats 1000000 in
/-- The body at point `t`: from the sums so far and the carried rows it leaves the claimed results. -/
theorem body_good (c : Dev nD) (t : Fin cfg0.N) (H : Blk D (512 * (7 - t.val)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
    (d14 : Vec Ideal S512x1024 .f32) (d15 : Vec Ideal S512x1536 .bf16) (d16 : Vec Ideal S512x1024 .bf16) (d17 : Vec Ideal S1x1024 .f32)
    (d18 : Vec Ideal S1x1536 .f32) (d19 : Vec Ideal S32x512 .f32) (d20 : Vec Ideal S1x512 .f32) (d21 : Vec Ideal S1x512 .f32)
    (d22 : Vec Ideal S1x512 .f32) (d23 : Vec Ideal S4x128x128 .f32) (d24 : Vec Ideal S1x512 .f32)
    (s0 : Vec Ideal S8x544x512 .f32) (s1 : Vec Ideal S544x512 .f32)
    (h17 : t.val ≠ 0 → d17 = at17 D (t.val - 1)) (h18 : t.val ≠ 0 → d18 = at18 D (t.val - 1))
    (h19 : t.val ≠ 0 → d19 = at19 D (t.val - 1)) (h20 : t.val ≠ 0 → d20 = at20 D (t.val - 1))
    (h21 : t.val ≠ 0 → d21 = at21 D (t.val - 1)) (h22 : t.val ≠ 0 → d22 = at22 D (t.val - 1))
    (hs : t.val ≠ 0 → ∀ (p : Fin 32) (k : Fin 512), s0 (ix3 0 ⟨512 + p.val, by omega⟩ k) = (D.dv (512 * (8 - t.val) + p.val) k : EReal))
    (hs1 : t.val ≠ 0 → ∀ (p : Fin 32) (k : Fin 512), s1 (ix2 ⟨512 + p.val, by omega⟩ k) = (D.dql (512 * (8 - t.val) + p.val) k : EReal))
    (K : PUnit → sProp 𝕄) :
    iprop(held c (ms0 t) (ms1 t) (ms2 t) (ms3 t) (ms4 t) (ms5 t) (ms6 t) (ms7 t) (ms8 t) (ms9 t) (ms10 t) (ms11 t) (ms12 t)
    (ms13 t) (ms14 t) (ms15 t) (ms16 t) (ms17 t) (ms18 t) (ms19 t) (ms20 t) (ms21 t) (ms22 t) (ms23 t) (ms24 t)
    sc0 sc1 sc2 sc3 sc4 sc5
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (d14, d15, d16, d17, d18, d19, d20, d21, d22, d23, d24, s0, s1)
      ∗ (∀ o : {o : Outs Ideal // Good D t.val o}, held c (ms0 t) (ms1 t) (ms2 t) (ms3 t) (ms4 t) (ms5 t) (ms6 t) (ms7 t) (ms8 t) (ms9 t) (ms10 t) (ms11 t) (ms12 t)
    (ms13 t) (ms14 t) (ms15 t) (ms16 t) (ms17 t) (ms18 t) (ms19 t) (ms20 t) (ms21 t) (ms22 t) (ms23 t) (ms24 t)
    sc0 sc1 sc2 sc3 sc4 sc5
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) o.1 -∗ K ⟨⟩))
      ⊢ wp Idealize.ShloMosaic.frame (wpE (defs₀ (F := Ideal)) Variants.none c none) Set.univ (bodyAt0 t) K := by
  have hc : (grid0.coords t 0).val = t.val := by
    have hN : cfg0.N = 8 := by decide
    have hlt : t.val < 8 := lt_of_lt_of_eq t.isLt hN
    rw [(Pipeline.Grid.coords_val t 0 (by decide) rfl : (grid0.coords t 0).val = t.val / 1 % 8)]
    omega
  by_cases h : t.val = 0
  · exact good_at_first (i := grid0.coords t) h (hc.trans h) ((first_iff t).mpr h) H K
  · have hN : cfg0.N = 8 := by decide
    exact good_at_rest (i := grid0.coords t) h (lt_of_lt_of_eq t.isLt hN) hc (fun hf => h ((first_iff t).mp hf)) H (h17 h) (h18 h) (h19 h) (h20 h) (h21 h) (h22 h) (hs h) (hs1 h) K

theorem carried_castSucc (c : Dev nD) (t : Fin cfg0.N) : (tdats D m 0 c).Φ t.castSucc = carried D c t.val := by dsimp only [tdats, Fin.val_castSucc]
theorem carried_succ (c : Dev nD) (t : Fin cfg0.N) : (tdats D m 0 c).Φ t.succ = carried D c (t.val + 1) := by dsimp only [tdats, Fin.val_succ]

set_option maxHeartbeats 2000000 in
/-- The body's triple, at the proof data. -/
theorem tsound (c : Dev nD) (t : Fin cfg0.N) (H : Blk D (512 * (7 - t.val)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) :
    iprop((tdats D m 0 c).Φ t.castSucc ∗ (tdats D m 0 c).owesAt () t.castSucc
        ∗ (∃ d, owns (c : Thread nD τ) (ms0 t) fullShare ((tdats D m 0 c).before 0 t d))
        ∗ (∃ d, owns (c : Thread nD τ) (ms1 t) fullShare ((tdats D m 0 c).before 1 t d))
        ∗ (∃ d, owns (c : Thread nD τ) (ms2 t) fullShare ((tdats D m 0 c).before 2 t d))
        ∗ (∃ d, owns (c : Thread nD τ) (ms3 t) fullShare ((tdats D m 0 c).before 3 t d))
        ∗ (∃ d, owns (c : Thread nD τ) (ms4 t) fullShare ((tdats D m 0 c).before 4 t d))
        ∗ (∃ d, owns (c : Thread nD τ) (ms5 t) fullShare ((tdats D m 0 c).before 5 t d))
        ∗ (∃ d, owns (c : Thread nD τ) (ms6 t) fullShare ((tdats D m 0 c).before 6 t d))
        ∗ (∃ d, owns (c : Thread nD τ) (ms7 t) fullShare ((tdats D m 0 c).before 7 t d))
        ∗ (∃ d, owns (c : Thread nD τ) (ms8 t) fullShare ((tdats D m 0 c).before 8 t d))
        ∗ (∃ d, owns (c : Thread nD τ) (ms9 t) fullShare ((tdats D m 0 c).before 9 t d))
        ∗ (∃ d, owns (c : Thread nD τ) (ms10 t) fullShare ((tdats D m 0 c).before 10 t d))
        ∗ (∃ d, owns (c : Thread nD τ) (ms11 t) fullShare ((tdats D m 0 c).before 11 t d))
        ∗ (∃ d, owns (c : Thread nD τ) (ms12 t) fullShare ((tdats D m 0 c).before 12 t d))
        ∗ (∃ d, owns (c : Thread nD τ) (ms13 t) fullShare ((tdats D m 0 c).before 13 t d))
        ∗ (∃ d, owns (c : Thread nD τ) (ms14 t) fullShare ((tdats D m 0 c).before 14 t d))
        ∗ (∃ d, owns (c : Thread nD τ) (ms15 t) fullShare ((tdats D m 0 c).before 15 t d))
        ∗ (∃ d, owns (c : Thread nD τ) (ms16 t) fullShare ((tdats D m 0 c).before 16 t d))
        ∗ (∃ d, owns (c : Thread nD τ) (ms17 t) fullShare ((tdats D m 0 c).before 17 t d))
        ∗ (∃ d, owns (c : Thread nD τ) (ms18 t) fullShare ((tdats D m 0 c).before 18 t d))
        ∗ (∃ d, owns (c : Thread nD τ) (ms19 t) fullShare ((tdats D m 0 c).before 19 t d))
        ∗ (∃ d, owns (c : Thread nD τ) (ms20 t) fullShare ((tdats D m 0 c).before 20 t d))
        ∗ (∃ d, owns (c : Thread nD τ) (ms21 t) fullShare ((tdats D m 0 c).before 21 t d))
        ∗ (∃ d, owns (c : Thread nD τ) (ms22 t) fullShare ((tdats D m 0 c).before 22 t d))
        ∗ (∃ d, owns (c : Thread nD τ) (ms23 t) fullShare d)
        ∗ (∃ d, owns (c : Thread nD τ) (ms24 t) fullShare d))
      ⊢ wp Idealize.ShloMosaic.frame (wpE (defs₀ (F := Ideal)) Variants.none c none) Set.univ (bodyAt0 t) fun _ =>
        iprop((tdats D m 0 c).Φ t.succ ∗ (tdats D m 0 c).owesAt () t.succ
        ∗ owns (c : Thread nD τ) (ms0 t) fullShare ((tdats D m 0 c).after 0 t)
        ∗ owns (c : Thread nD τ) (ms1 t) fullShare ((tdats D m 0 c).after 1 t)
        ∗ owns (c : Thread nD τ) (ms2 t) fullShare ((tdats D m 0 c).after 2 t)
        ∗ owns (c : Thread nD τ) (ms3 t) fullShare ((tdats D m 0 c).after 3 t)
        ∗ owns (c : Thread nD τ) (ms4 t) fullShare ((tdats D m 0 c).after 4 t)
        ∗ owns (c : Thread nD τ) (ms5 t) fullShare ((tdats D m 0 c).after 5 t)
        ∗ owns (c : Thread nD τ) (ms6 t) fullShare ((tdats D m 0 c).after 6 t)
        ∗ owns (c : Thread nD τ) (ms7 t) fullShare ((tdats D m 0 c).after 7 t)
        ∗ owns (c : Thread nD τ) (ms8 t) fullShare ((tdats D m 0 c).after 8 t)
        ∗ owns (c : Thread nD τ) (ms9 t) fullShare ((tdats D m 0 c).after 9 t)
        ∗ owns (c : Thread nD τ) (ms10 t) fullShare ((tdats D m 0 c).after 10 t)
        ∗ owns (c : Thread nD τ) (ms11 t) fullShare ((tdats D m 0 c).after 11 t)
        ∗ owns (c : Thread nD τ) (ms12 t) fullShare ((tdats D m 0 c).after 12 t)
        ∗ owns (c : Thread nD τ) (ms13 t) fullShare ((tdats D m 0 c).after 13 t)
        ∗ owns (c : Thread nD τ) (ms14 t) fullShare ((tdats D m 0 c).after 14 t)
        ∗ owns (c : Thread nD τ) (ms15 t) fullShare ((tdats D m 0 c).after 15 t)
        ∗ owns (c : Thread nD τ) (ms16 t) fullShare ((tdats D m 0 c).after 16 t)
        ∗ owns (c : Thread nD τ) (ms17 t) fullShare ((tdats D m 0 c).after 17 t)
        ∗ owns (c : Thread nD τ) (ms18 t) fullShare ((tdats D m 0 c).after 18 t)
        ∗ owns (c : Thread nD τ) (ms19 t) fullShare ((tdats D m 0 c).after 19 t)
        ∗ owns (c : Thread nD τ) (ms20 t) fullShare ((tdats D m 0 c).after 20 t)
        ∗ owns (c : Thread nD τ) (ms21 t) fullShare ((tdats D m 0 c).after 21 t)
        ∗ owns (c : Thread nD τ) (ms22 t) fullShare ((tdats D m 0 c).after 22 t)
        ∗ (∃ d, owns (c : Thread nD τ) (ms23 t) fullShare d)
        ∗ (∃ d, owns (c : Thread nD τ) (ms24 t) fullShare d)) := by
  simp only [tbefore0, tbefore1, tbefore2, tbefore3, tbefore4, tbefore5, tbefore6, tbefore7, tbefore8, tbefore9, tbefore10, tbefore11, tbefore12, tbefore13,
    tafter0, tafter1, tafter2, tafter3, tafter4, tafter5, tafter6, tafter7, tafter8, tafter9, tafter10, tafter11, tafter12, tafter13, tafter14, tafter15, tafter16, tafter17, tafter18, tafter19, tafter20, tafter21, tafter22]
  rw [show (tdats D m 0 c).owesAt () t.succ = (tdats D m 0 c).owesAt () t.castSucc from rfl, carried_castSucc, carried_succ]
  unfold carried
  iintro ⟨⟨⟨⟨%s0, %hs, HS0⟩, ⟨%s1, %hs1, HS1⟩, HS2, HS3, HS4, HS5⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (body_good D m c t H _ _ _ _ _ _ _ _ _ d23 d24 s0 s1
    (fun ht => tbefore17 D m c t ht d17) (fun ht => tbefore18 D m c t ht d18) (fun ht => tbefore19 D m c t ht d19) (fun ht => tbefore20 D m c t ht d20)
    (fun ht => tbefore21 D m c t ht d21) (fun ht => tbefore22 D m c t ht d22) hs hs1 _)
  isplitr [Ho Hg]
  · unfold held
    dsimp only
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [HS0]; · iexact HS0
    isplitl [HS1]; · iexact HS1
    isplitl [HS2]; · iexact HS2
    isplitl [HS3]; · iexact HS3
    isplitl [HS4]; · iexact HS4
    iexact HS5
  iintro %o
  obtain ⟨o, G⟩ := o
  unfold held
  dsimp only
  rw [G.o14, G.o15, G.o16, G.o17, G.o18, G.o19, G.o20, G.o21, G.o22]
  iintro ⟨H0, H1, H2, H3, H4, H5, H6, H7, H8, H9, H10, H11, H12, H13, H14, H15, H16, H17, H18, H19, H20, H21, H22, H23, H24, HS0, HS1, HS2, HS3, HS4, HS5⟩
  isplitl [HS0 HS1 HS2 HS3 HS4 HS5 Hg]
  · isplitr [Hg]
    · isplitl [HS0]
      · iexists _; isplitr; swap; · iexact HS0
        ipureintro
        intro _ p k
        rw [G.s0 p k, show 8 - (t.val + 1) = 7 - t.val by omega]
      isplitl [HS1]
      · iexists _; isplitr; swap; · iexact HS1
        ipureintro
        intro _ p k
        rw [G.s1 p k, show 8 - (t.val + 1) = 7 - t.val by omega]
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iexists _; iexact H24

variable (H : ∀ (c : Dev nD) (t : Fin cfg0.N), Blk D (512 * (7 - t.val)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t))
include H

theorem tbody_obligation (c : Dev nD) :
    BodyObligation (tdats D m 0 c) (defs₀ (F := Ideal)) Variants.none () Set.univ unsaid := fun t => by
  rw [bigSep_W0, bigSep_W0, defs₀_row]
  exact triple_restated (tsound D m c t (H c t)) rfl .rfl fun _ => .rfl

omit H in
theorem tin (c : Dev nD) : (Pipeline.ΦA spec0 c : sProp 𝕄) ⊢ (tdats D m 0 c).Φ 0 := by
  rw [rest_eq]
  show _ ⊢ carried D c 0
  unfold carried
  iintro ⟨⟨⟨%d, HS0⟩, ⟨%d1, HS1⟩, HS2⟩, Hg⟩
  isplitr [Hg]
  · isplitl [HS0]
    · iexists _; isplitr; swap; · iexact HS0
      ipureintro
      exact fun h => absurd rfl h
    isplitl [HS1]
    · iexists _; isplitr; swap; · iexact HS1
      ipureintro
      exact fun h => absurd rfl h
    iexact HS2
  iexact Hg

omit H in
theorem tout (c : Dev nD) : (tdats D m 0 c).Φ (Fin.last cfg0.N) ⊢ (Pipeline.ΦA spec0 c : sProp 𝕄) := by
  rw [rest_eq]
  show carried D c _ ⊢ _
  unfold carried
  iintro ⟨⟨⟨%d, %_h, HS0⟩, ⟨%d1, %_h1, HS1⟩, HS2⟩, Hg⟩
  isplitr [Hg]
  · isplitl [HS0]
    · iexists _; iexact HS0
    isplitl [HS1]
    · iexists _; iexact HS1
    iexact HS2
  iexact Hg

set_option backward.isDefEq.respectTransparency.types false in
set_option maxHeartbeats 1000000 in
/-- The run: every weakly fair execution ends, with the claimed results as the proof data name them. -/
theorem trun : θ_run defs (onTc (τ := τ) (main (F := Ideal))) (s₀ m ρ) (fun r =>
    Pipeline.RDat.FramePost cfg0 (fun c => (tdats D m 0 c).toRForget unsaid) (V m) r ∧ r.2.sem = fun _ => 0) :=
  Pipeline.θ_run_frame_track_forget cfgs (tdats D m) (0 : Fin 1) launch0 defs₀ Variants.none unsaid m ρ main
    (fun c => (tbody_obligation D m H c).loose) (fun c => (tdats D m 0 c).share_full fun _ => rfl)
    (fun _ _ => rfl) (V m) (hmain m Variants.none) (tA_eq D m) (tin D m) (tout D m) _ (fun _ h => h)

end Cert.Mix
end
-- ==== Proof.Mix.Model.lean ====
/- The mixing half in the real numbers, from its arguments: the forward rows that the backward pass starts from, and the
   derivative's way of writing the two gradients that the backward pass writes otherwise. -/
module

public import proofs.«01_k».proof.Proof.Mix.Spec

@[expose] public section

noncomputable section

namespace Cert.Mix

open Idealize.ShloMosaic Cert.Reals

/-- Rows numbered by the natural numbers: zero beyond the last one. -/
def ext {k : ℕ} (f : Fin 4096 → Fin k → ℝ) (n : ℕ) (j : Fin k) : ℝ := if h : n < 4096 then f ⟨n, h⟩ j else 0

theorem ext_val {k : ℕ} (f : Fin 4096 → Fin k → ℝ) (r : Fin 4096) (j : Fin k) : ext f r.val j = f r j := dif_pos r.isLt

/-- The arguments that the claimed gradients depend on. -/
structure Args where
  dh : Fin 4096 → Fin 1024 → ℝ
  x : Fin 4096 → Fin 1024 → ℝ
  g : Fin 1024 → ℝ
  win : Fin 1024 → Fin 1536 → ℝ
  bin : Fin 1536 → ℝ
  w : Fin 31 → Fin 512 → ℝ
  bd : Fin 512 → ℝ
  lg : Fin 512 → ℝ
  lb : Fin 512 → ℝ
  wp : Fin 4 → Fin 128 → Fin 128 → ℝ
  sp : Fin 512 → ℝ
  wo : Fin 1024 → Fin 1024 → ℝ

namespace Args

variable (A : Args)

/-- The forward rows: the norm's factor, the projection, the gated value, the padded one, and the convolution. -/
def r1 (r : Fin 4096) : ℝ := (√((∑ d, A.x r d * A.x r d) / 1024 + eps))⁻¹
def z (r : Fin 4096) (k : Fin 1536) : ℝ := (∑ d, A.x r d * A.r1 r * A.g d * A.win d k) + A.bin k
def a (r : Fin 4096) (j : Fin 512) : ℝ := A.z r (colA j)
def gate (r : Fin 4096) (j : Fin 512) : ℝ := A.z r (colG j)
def u (r : Fin 4096) (j : Fin 512) : ℝ := A.a r j * sg (A.gate r j)
def up (n : ℕ) (j : Fin 512) : ℝ := if 30 ≤ n then ext A.u (n - 30) j else 0
def v (r : Fin 4096) (j : Fin 512) : ℝ := (∑ k : Fin 31, A.up (r.val + k.val) j * A.w k j) + A.bd j

/-- What the backward pass works on. -/
def data : Data where
  dh := ext A.dh
  x := ext A.x
  a := ext A.a
  gate := ext A.gate
  v := ext A.v
  m := fun _ _ => 0
  g := A.g
  win := fun k d => A.win d k
  w := fun k j => if h : k.val < 31 then A.w ⟨k.val, h⟩ j else 0
  lg := A.lg
  lb := A.lb
  wp := A.wp
  sp := A.sp
  wo := A.wo

theorem data_u (n : ℕ) (j : Fin 512) : A.data.u n j = ext A.u n j := by
  unfold Data.u
  show ext A.a n j * sg (ext A.gate n j) = ext A.u n j
  unfold ext
  by_cases h : n < 4096
  · rw [dif_pos h, dif_pos h, dif_pos h, u]
  · rw [dif_neg h, dif_neg h, dif_neg h, zero_mul]

theorem data_r1 (r : Fin 4096) : A.data.r1 r.val = A.r1 r := by
  unfold Data.r1 r1
  show (√((∑ d, ext A.x r.val d * ext A.x r.val d) / 1024 + eps))⁻¹ = _
  simp only [ext_val]

end Args

/-- The centred row sums to zero. -/
theorem Data.sum_xc (D : Data) (n : ℕ) : ∑ j, D.xc n j = 0 := by
  unfold Data.xc
  rw [Finset.sum_sub_distrib, Finset.sum_const, Finset.card_univ, Fintype.card_fin, nsmul_eq_mul]
  push_cast
  ring

/-- The factor by which the derivative scales the centred row: the variance's share. -/
def Data.share (D : Data) (n : ℕ) : ℝ :=
  (∑ j, D.xc n j * D.dvh n j) * (-(1 / 2) * (D.rstd n / ((∑ k, D.xc n k * D.xc n k) / 512 + lnEps))) / 512

/-- The gradient of the convolution as the derivative of the layer norm writes it: through the root, the variance and
    the mean. -/
theorem Data.dvr_of (D : Data) (n : ℕ) (j : Fin 512) :
    D.dvh n j * D.rstd n + D.share n * (2 * D.xc n j)
      + ((∑ k, -(D.dvh n k * D.rstd n)) + ∑ k, -(D.share n * (2 * D.xc n k))) / 512 = D.dvr n j := by
  have hV : 0 < (∑ k, D.xc n k * D.xc n k) / 512 + lnEps := msq_pos (fun k => D.xc n k) (by norm_num) lnEps_pos
  have e1 : (∑ k, -(D.dvh n k * D.rstd n)) = -(D.rstd n * ∑ k, D.dvh n k) := by
    rw [Finset.sum_neg_distrib, Finset.mul_sum]
    exact congrArg Neg.neg (Finset.sum_congr rfl fun k _ => mul_comm _ _)
  have e2 : (∑ k, -(D.share n * (2 * D.xc n k))) = 0 := by
    rw [Finset.sum_neg_distrib, ← Finset.mul_sum, ← Finset.mul_sum, D.sum_xc n]
    ring
  have e3 : (∑ k, D.dvh n k * D.vhat n k) = D.rstd n * ∑ k, D.xc n k * D.dvh n k := by
    rw [Finset.mul_sum]
    exact Finset.sum_congr rfl fun k _ => by unfold Data.vhat; ring
  have e4 : D.rstd n / ((∑ k, D.xc n k * D.xc n k) / 512 + lnEps) = D.rstd n * (D.rstd n * D.rstd n) := by
    rw [div_eq_mul_inv]
    congr 1
    unfold Data.rstd
    rw [← mul_inv, Real.mul_self_sqrt hV.le]
  rw [e1, e2]
  unfold Data.dvr Data.share
  rw [e3, e4]
  unfold Data.vhat
  ring

/-- The factor by which the derivative scales the input's row: the mean square's share. -/
def Data.rshare (D : Data) (n : ℕ) : ℝ :=
  (∑ d, D.x n d * D.dnn n d) * (-(1 / 2) * (D.r1 n / ((∑ d, D.x n d * D.x n d) / 1024 + eps))) / 1024

/-- The gradient of the input as the derivative of the first norm writes it: through the root and the mean square. -/
theorem Data.dx_of (D : Data) (n : ℕ) (d : Fin 1024) :
    D.dh n d + (D.dnn n d * D.r1 n + D.x n d * D.rshare n + D.rshare n * D.x n d) = D.dx n d := by
  have hV : 0 < (∑ k, D.x n k * D.x n k) / 1024 + eps := msq_pos (fun k => D.x n k) (by norm_num) eps_pos
  have e3 : (∑ k, D.dnn n k * D.xhat n k) = D.r1 n * ∑ k, D.x n k * D.dnn n k := by
    rw [Finset.mul_sum]
    exact Finset.sum_congr rfl fun k _ => by unfold Data.xhat; ring
  have e4 : D.r1 n / ((∑ k, D.x n k * D.x n k) / 1024 + eps) = D.r1 n * (D.r1 n * D.r1 n) := by
    rw [div_eq_mul_inv]
    congr 1
    unfold Data.r1
    rw [← mul_inv, Real.mul_self_sqrt hV.le]
  unfold Data.dx Data.rshare
  rw [e3, e4]
  unfold Data.xhat
  ring

/-- The gradient of a tap: each row of the padded input times the gradient of the row it fed. Numbering by the row of the
    input gives the sum that the backward pass takes. -/
theorem Args.taps (A : Args) (k : ℕ) (hk : k < 31) (j : Fin 512) :
    ∑ r : Fin 4096, A.up (r.val + k) j * A.data.dvr r.val j = ∑ r : Fin 4096, A.data.dwt r.val k j := by
  have e0 : ∀ n, n < 4096 → A.up (n + k) j * A.data.dvr n j = A.up (n + k) j * A.data.dv n j := fun n h => by
    unfold Data.dv
    rw [if_pos h]
  have e1 : ∀ n, 4096 ≤ n → A.up (n + k) j * A.data.dv n j = 0 := fun n h => by
    unfold Data.dv
    rw [if_neg (by omega), mul_zero]
  have e2 : ∀ n, n < 30 - k → A.up (n + k) j * A.data.dv n j = 0 := fun n h => by
    unfold Args.up
    rw [if_neg (by omega), zero_mul]
  have e3 : ∀ n, A.up (30 - k + n + k) j * A.data.dv (30 - k + n) j = A.data.dwt n k j := fun n => by
    unfold Args.up Data.dwt
    rw [if_pos (by omega), if_pos hk, A.data_u, show 30 - k + n + k - 30 = n by omega, show 30 - k + n = n + (30 - k) by omega]
  calc ∑ r : Fin 4096, A.up (r.val + k) j * A.data.dvr r.val j
      = ∑ r : Fin 4096, A.up (r.val + k) j * A.data.dv r.val j := Finset.sum_congr rfl fun r _ => e0 r.val r.isLt
    _ = ∑ n ∈ Finset.range 4096, A.up (n + k) j * A.data.dv n j := Fin.sum_univ_eq_sum_range (fun n => A.up (n + k) j * A.data.dv n j) 4096
    _ = ∑ n ∈ Finset.range (4096 + (30 - k)), A.up (n + k) j * A.data.dv n j := by
        rw [Finset.sum_range_add, Finset.sum_eq_zero (s := Finset.range (30 - k)) fun n _ => e1 _ (by omega), add_zero]
    _ = ∑ n ∈ Finset.range (30 - k + 4096), A.up (n + k) j * A.data.dv n j := by rw [Nat.add_comm]
    _ = ∑ n ∈ Finset.range 4096, A.data.dwt n k j := by
        rw [Finset.sum_range_add, Finset.sum_eq_zero (s := Finset.range (30 - k)) fun n hn => e2 n (Finset.mem_range.1 hn), zero_add]
        exact Finset.sum_congr rfl fun n _ => e3 n
    _ = ∑ r : Fin 4096, A.data.dwt r.val k j := (Fin.sum_univ_eq_sum_range (fun n => A.data.dwt n k j) 4096).symm

/-- A sum over eight blocks of 512 rows, last block first, is the sum over all rows. -/
theorem sum_blocks (f : ℕ → ℝ) :
    ∑ s ∈ Finset.range 8, ∑ r : Fin 512, f (512 * (7 - s) + r.val) = ∑ r : Fin 4096, f r.val := by
  have h : ∀ n, ∑ s ∈ Finset.range n, ∑ r : Fin 512, f (512 * s + r.val) = ∑ m ∈ Finset.range (512 * n), f m := fun n => by
    induction n with
    | zero => rfl
    | succ n ih =>
      rw [Finset.sum_range_succ, ih, Nat.mul_succ, Finset.sum_range_add]
      exact congrArg _ (Fin.sum_univ_eq_sum_range (fun m => f (512 * n + m)) 512)
  rw [Finset.sum_range_reflect (fun s => ∑ r : Fin 512, f (512 * s + r.val)) 8, h 8]
  exact (Fin.sum_univ_eq_sum_range f 4096).symm

end Cert.Mix

end
-- ==== Proof.Mix.Reference.lean ====
/- The derivative's buffers at real arguments: each milestone at an index is a row function of the real model. -/
module

public import proofs.«01_k».proof.Proof.Mix.Model
public import proofs.«01_k».proof.Proof.Gen.Reference2Ideal.Run
public import proofs.«01_k».proof.Proof.Gen.Reference2Ideal.Read
public import Idealize.ShloMosaic.Lib.Pointwise
public import Idealize.ShloMosaic.Lib.WordCmp
import Mathlib.Tactic.FieldSimp
import Mathlib.Tactic.Ring

@[expose] public section

set_option maxRecDepth 16384

noncomputable section

namespace Cert.Mix

open Cert.Reference2Ideal Cert.Reference2Ideal.Read Idealize.ShloMosaic Cert.Reals

/-- The arguments that the claimed gradients depend on. -/
structure Refs where
  (x0 x1 : Vec Ideal S1x4096x1024 .f32) (x2 : Vec Ideal S1x1024 .f32) (x3 : Vec Ideal S1x1024x1536 .f32)
  (x4 : Vec Ideal S1x1536 .f32) (x5 : Vec Ideal S1x31x512 .f32) (x6 x7 x8 : Vec Ideal S1x512 .f32)
  (x9 : Vec Ideal S1x4x128x128 .f32) (x10 : Vec Ideal S1x512 .f32) (x11 : Vec Ideal S1x1024x1024 .f32)

/-- The arguments hold real numbers. -/
structure Refs.Real (x : Refs) (A : Args) : Prop where
  x0 : ∀ r k, x.x0 (ix3 0 r k) = (A.dh r k : EReal)
  x1 : ∀ r k, x.x1 (ix3 0 r k) = (A.x r k : EReal)
  x2 : ∀ k, x.x2 (ix2 0 k) = (A.g k : EReal)
  x3 : ∀ k f, x.x3 (ix3 0 k f) = (A.win k f : EReal)
  x4 : ∀ k, x.x4 (ix2 0 k) = (A.bin k : EReal)
  x5 : ∀ k j, x.x5 (ix3 0 k j) = (A.w k j : EReal)
  x6 : ∀ k, x.x6 (ix2 0 k) = (A.bd k : EReal)
  x7 : ∀ k, x.x7 (ix2 0 k) = (A.lg k : EReal)
  x8 : ∀ k, x.x8 (ix2 0 k) = (A.lb k : EReal)
  x9 : ∀ q k l, x.x9 (ix4 0 q k l) = (A.wp q k l : EReal)
  x10 : ∀ k, x.x10 (ix2 0 k) = (A.sp k : EReal)
  x11 : ∀ j k, x.x11 (ix3 0 j k) = (A.wo j k : EReal)

namespace Refs.Real

variable {x : Refs} {A : Args} (hx : x.Real A)
include hx

/-- The factor of the first norm. -/
theorem v11 (n : Fin 4096) : val_main_v11 (F := Ideal) x.x1 (ix2 n 0) = ((A.r1 n : ℝ) : EReal) := by
  pointwise [val_main_v11, val_main_v10, val_main_v8, val_main_v6, val_main_v5, val_main_v4, val_main_v0, val_main_cst, val_main_v7, val_main_cst_0, val_main_v9, val_main_cst_1]
  simp only [hx.x1, cZero, EReal.coe_zero, zero_add, add_zero, mul_c, add_c, sub_c, sum_c]
  exact rsqrt1024 (fun d => A.x n d)

/-- The first projection. -/
theorem v23 (n : Fin 4096) (k : Fin 1536) : val_main_v23 (F := Ideal) x.x1 x.x2 x.x3 x.x4 (ix2 n k) = ((A.z n k : ℝ) : EReal) := by
  pointwise [val_main_v23, val_main_v20, val_main_v19, val_main_v16, val_main_v0, val_main_v15, val_main_v18, val_main_v17, val_main_v1, val_main_v3, val_main_v22, val_main_v21, val_main_v2]
  simp only [hx.x1, hx.v11, hx.x2, hx.x3, hx.x4, cZero, EReal.coe_zero, zero_add, add_zero, mul_c, add_c, sub_c, sum_c]
  rfl

/-- Its value and gate columns. -/
theorem v29 (n : Fin 4096) (j : Fin 512) : val_main_v29 (F := Ideal) x.x1 x.x2 x.x3 x.x4 (ix2 n j) = ((A.a n j : ℝ) : EReal) := by
  pointwise [val_main_v29]
  exact hx.v23 n _

theorem v30 (n : Fin 4096) (j : Fin 512) : val_main_v30 (F := Ideal) x.x1 x.x2 x.x3 x.x4 (ix2 n j) = ((A.gate n j : ℝ) : EReal) := by
  pointwise [val_main_v30]
  exact hx.v23 n _

theorem v37 (n : Fin 4096) (j : Fin 512) : val_main_v37 (F := Ideal) x.x1 x.x2 x.x3 x.x4 (ix2 n j) = ((sg (A.gate n j) : ℝ) : EReal) := by
  pointwise [val_main_v37, val_main_v36, val_main_cst_4, val_main_v35, val_main_v34, val_main_cst_3, val_main_v33, val_main_v32]
  simp only [hx.v30]
  exact Ideal.logistic_coe _

/-- The gated value. -/
theorem v41 (n : Fin 4096) (j : Fin 512) : val_main_v41 (F := Ideal) x.x1 x.x2 x.x3 x.x4 (ix2 n j) = ((A.u n j : ℝ) : EReal) := by
  pointwise [val_main_v41]
  simp only [hx.v29, hx.v37, cZero, EReal.coe_zero, zero_add, add_zero, mul_c, add_c, sub_c, sum_c]
  rfl

/-- The padded rows: thirty rows of zero before the gated values. -/
theorem v43 (m : Fin 4126) (j : Fin 512) : val_main_v43 (F := Ideal) x.x1 x.x2 x.x3 x.x4 (ix2 m j) = ((A.up m.val j : ℝ) : EReal) := by
  pointwise [val_main_v43, val_main_v42, val_main_cst_6]
  by_cases h : m.val < 30
  · rw [dif_pos h]
    refine EReal.coe_zero.symm.trans (congrArg Real.toEReal ?_)
    unfold Args.up
    rw [if_neg (by omega)]
  · rw [dif_neg h]
    refine (hx.v41 ⟨m.val - 30, by omega⟩ j).trans (congrArg Real.toEReal ?_)
    unfold Args.up
    rw [if_pos (by omega)]
    exact (ext_val A.u ⟨m.val - 30, by omega⟩ j).symm

omit hx in
/-- The row that tap `k` of row `n` reads. -/
theorem v52 (n : Fin 4096) (k : Fin 31) : val_main_v52 (F := Ideal) (ix2 n k) = BitVec.ofNat 32 (n.val + k.val) := by
  pointwise [val_main_v52, val_main_v49, val_main_v51, val_main_v48, val_main_v50, val_main_v47, val_main_v46, val_main_v45, val_main_c, val_main_c_8]
  have e : IntOp.addi (BitVec.ofNat 32 n.val) (BitVec.ofNat 32 k.val) = BitVec.ofNat 32 (n.val + k.val) := (BitVec.ofNat_add n.val k.val).symm
  rw [e, WordCmp.cmpi_slt_eq, WordCmp.toInt_ofNat_of_lt (show n.val + k.val < 2 ^ (32 - 1) by omega)]
  unfold Scalar.select
  rw [if_neg]
  intro h
  have h' := of_decide_eq_true ((WordCmp.ofBool_eq_one_iff' _).1 h)
  simp at h'
  omega

omit hx in
/-- The rows that the taps read: row `n + k` of the padded rows. -/
theorem gathered (X : FVec Ideal S4126x512 .f32) (n : Fin 4096) (k : Fin 31) (j : Fin 512) :
    Host.gather gather_S4126x512_S4096x31x1_S4096x31x512_2_0_n_n_0_2_1512 X (val_main_v53 (F := Ideal)) (ix3 n k j)
      = X (ix2 ⟨n.val + k.val, by omega⟩ j) := by
  have hi : ∀ q : S4096x31x1.Idx, (q 0).val = n.val → (q 1).val = k.val →
      (val_main_v53 (F := Ideal) q).toInt.toNat = n.val + k.val := fun q h0 h1 => by
    have eq : val_main_v53 (F := Ideal) q = val_main_v52 (F := Ideal) (ix2 n k) := by
      rw [val_main_v53_apply]
      exact congrArg _ (funext fun a => Fin.ext (by
        match a with
        | ⟨0, _⟩ => exact h0
        | ⟨1, _⟩ => exact h1))
    rw [eq, v52, WordCmp.toInt_ofNat_of_lt (show n.val + k.val < 2 ^ (32 - 1) by omega)]
    rfl
  unfold Host.gather
  congr 1
  funext a
  refine Fin.ext ?_
  set d := gather_S4126x512_S4096x31x1_S4096x31x512_2_0_n_n_0_2_1512 with hd
  show d.start (ix3 n k j) (val_main_v53 (F := Ideal)) a + d.batchCoord (ix3 n k j) a + d.offCoord (ix3 n k j) a = _
  rw [GatherDims.batchCoord_eq_zero _ _ _ (List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ d.startIndexMap from List.mem_singleton.mpr rfl), hi _ rfl rfl]
    show min (n.val + k.val) (4126 - 1) = n.val + k.val
    omega
  | ⟨1, _⟩ =>
    unfold GatherDims.start
    rw [dif_neg (show (⟨1, by decide⟩ : Fin 2) ∉ d.startIndexMap from fun h => absurd (List.mem_singleton.1 h) (by decide)), Nat.zero_add]
    rfl

theorem v54 (n : Fin 4096) (k : Fin 31) (j : Fin 512) : val_main_v54 (F := Ideal) x.x1 x.x2 x.x3 x.x4 (ix3 n k j) = ((A.up (n.val + k.val) j : ℝ) : EReal) := by
  unfold val_main_v54
  rw [gathered, hx.v43]

/-- The convolution. -/
theorem v61 (n : Fin 4096) (j : Fin 512) : val_main_v61 (F := Ideal) x.x1 x.x2 x.x3 x.x4 x.x5 x.x6 (ix2 n j) = ((A.v n j : ℝ) : EReal) := by
  pointwise [val_main_v61, val_main_v58, val_main_v57, val_main_v56, val_main_v55, val_main_v25, val_main_cst_9, val_main_v60, val_main_v59, val_main_v26]
  simp only [hx.v54, hx.x5, hx.x6, cZero, EReal.coe_zero, zero_add, add_zero, mul_c, add_c, sub_c, sum_c]
  rfl

omit hx in
theorem v_eq (n : Fin 4096) (j : Fin 512) : A.v n j = A.data.v n.val j := (ext_val A.v n j).symm

/-- The layer norm. -/
theorem v76 (n : Fin 4096) (j : Fin 512) : val_main_v76 (F := Ideal) x.x1 x.x2 x.x3 x.x4 x.x5 x.x6 (ix2 n j) = ((A.data.xc n.val j : ℝ) : EReal) := by
  pointwise [val_main_v76, val_main_v75, val_main_v65, val_main_v63, val_main_v62, val_main_cst_10, val_main_v64, val_main_cst_11]
  simp only [hx.v61, v_eq, cZero, EReal.coe_zero, zero_add, add_zero, mul_c, add_c, sub_c, sum_c, div512]
  rfl

theorem v67 (n : Fin 4096) (j : Fin 512) : val_main_v67 (F := Ideal) x.x1 x.x2 x.x3 x.x4 x.x5 x.x6 (ix2 n j) = ((A.data.xc n.val j : ℝ) : EReal) := by
  pointwise [val_main_v67, val_main_v66, val_main_v65, val_main_v63, val_main_v62, val_main_cst_10, val_main_v64, val_main_cst_11]
  simp only [hx.v61, v_eq, cZero, EReal.coe_zero, zero_add, add_zero, mul_c, add_c, sub_c, sum_c, div512]
  rfl

theorem v79 (n : Fin 4096) : val_main_v79 (F := Ideal) x.x1 x.x2 x.x3 x.x4 x.x5 x.x6 (ix2 n 0) = ((A.data.rstd n.val : ℝ) : EReal) := by
  pointwise [val_main_v79, val_main_v78, val_main_v74, val_main_v72, val_main_v71, val_main_v68, val_main_cst_13, val_main_v73, val_main_cst_14, val_main_v77, val_main_cst_15]
  simp only [hx.v67, cZero, EReal.coe_zero, zero_add, add_zero, mul_c, add_c, sub_c, sum_c]
  exact rsqrt512 (fun k => A.data.xc n.val k)

theorem v78 (n : Fin 4096) : val_main_v78 (F := Ideal) x.x1 x.x2 x.x3 x.x4 x.x5 x.x6 (ix2 n 0) = (((∑ k, A.data.xc n.val k * A.data.xc n.val k) / 512 + lnEps : ℝ) : EReal) := by
  pointwise [val_main_v78, val_main_v74, val_main_v72, val_main_v71, val_main_v68, val_main_cst_13, val_main_v73, val_main_cst_14, val_main_v77, val_main_cst_15]
  simp only [hx.v67, cZero, EReal.coe_zero, zero_add, add_zero, mul_c, add_c, sub_c, sum_c, div512, cLnEps]

theorem v82 (n : Fin 4096) : val_main_v82 (F := Ideal) x.x1 x.x2 x.x3 x.x4 x.x5 x.x6 (ix2 n 0) = ((-(1 / 2) * (A.data.rstd n.val / ((∑ k, A.data.xc n.val k * A.data.xc n.val k) / 512 + lnEps)) : ℝ) : EReal) := by
  pointwise [val_main_v82, val_main_v81, val_main_cst_16, val_main_v80]
  simp only [hx.v79, hx.v78, cNegHalf, div_c _ (msq_pos (fun k => A.data.xc n.val k) (by norm_num : (0 : ℝ) < 512) lnEps_pos).ne', cZero, EReal.coe_zero, zero_add, add_zero, mul_c, add_c, sub_c, sum_c]

theorem v84 (n : Fin 4096) (j : Fin 512) : val_main_v84 (F := Ideal) x.x1 x.x2 x.x3 x.x4 x.x5 x.x6 (ix2 n j) = ((A.data.vhat n.val j : ℝ) : EReal) := by
  pointwise [val_main_v84, val_main_v83]
  simp only [hx.v76, hx.v79, cZero, EReal.coe_zero, zero_add, add_zero, mul_c, add_c, sub_c, sum_c]
  rfl

theorem v90 (n : Fin 4096) (j : Fin 512) : val_main_v90 (F := Ideal) x.x1 x.x2 x.x3 x.x4 x.x5 x.x6 x.x7 x.x8 (ix2 n j) = ((A.data.ln n.val j : ℝ) : EReal) := by
  pointwise [val_main_v90, val_main_v87, val_main_v86, val_main_v85, val_main_v27, val_main_v89, val_main_v88, val_main_v28]
  simp only [hx.v84, hx.x7, hx.x8, cZero, EReal.coe_zero, zero_add, add_zero, mul_c, add_c, sub_c, sum_c]
  rfl

theorem v91_2 (n : Fin 4096) (j : Fin 512) : val_main_v91_2 (F := Ideal) x.x1 x.x2 x.x3 x.x4 x.x5 x.x6 x.x7 x.x8 (ix2 n j) = ((sg (A.data.ln n.val j) : ℝ) : EReal) := by
  pointwise [val_main_v91_2, val_main_call0_v4, val_main_call0_cst_0, val_main_call0_v3, val_main_call0_v2, val_main_call0_cst, val_main_call0_v1, val_main_call0_v0]
  simp only [hx.v90]
  exact Ideal.logistic_coe _

theorem v91_1 (n : Fin 4096) (j : Fin 512) : val_main_v91_1 (F := Ideal) x.x1 x.x2 x.x3 x.x4 x.x5 x.x6 x.x7 x.x8 (ix2 n j) = ((sg (A.data.ln n.val j) * (1 - sg (A.data.ln n.val j)) : ℝ) : EReal) := by
  pointwise [val_main_v91_1, val_main_call0_v7, val_main_call0_v6, val_main_call0_cst_1]
  simp only [hx.v91_2, one_c, cZero, EReal.coe_zero, zero_add, add_zero, mul_c, add_c, sub_c, sum_c]

/-- The gradient at the output projection's input. -/
theorem v182 (n : Fin 4096) (k : Fin 1024) : val_main_v182 (F := Ideal) x.x0 x.x11 (ix2 n k) = ((A.data.dy n.val k : ℝ) : EReal) := by
  pointwise [val_main_v182, val_main_v181, val_main_v178]
  simp only [hx.x0, hx.x11, ← ext_val A.dh, cZero, EReal.coe_zero, zero_add, add_zero, mul_c, add_c, sub_c, sum_c]
  rfl

theorem v183 (n : Fin 4096) (j : Fin 512) : val_main_v183 (F := Ideal) x.x0 x.x11 (ix2 n j) = ((A.data.dy n.val (outA j) : ℝ) : EReal) := by
  pointwise [val_main_v183]
  exact hx.v182 n _

/-- The gradient at the layer norm's output. -/
theorem v242 (n : Fin 4096) (j : Fin 512) : val_main_v242 (F := Ideal) x.x0 x.x1 x.x2 x.x3 x.x4 x.x5 x.x6 x.x7 x.x8 x.x11 (ix2 n j) = ((A.data.dln n.val j : ℝ) : EReal) := by
  pointwise [val_main_v242, val_main_call9_v1, val_main_call9_v2, val_main_call9_v0]
  simp only [hx.v183, hx.v90, hx.v91_2, hx.v91_1, cZero, EReal.coe_zero, zero_add, add_zero, mul_c, add_c, sub_c, sum_c]
  exact congrArg Real.toEReal (by unfold Data.dln; ring)

theorem v250 (n : Fin 4096) (j : Fin 512) : val_main_v250 (F := Ideal) x.x0 x.x1 x.x2 x.x3 x.x4 x.x5 x.x6 x.x7 x.x8 x.x11 (ix2 n j) = ((A.data.dvh n.val j : ℝ) : EReal) := by
  pointwise [val_main_v250, val_main_v249, val_main_v85, val_main_v27]
  simp only [hx.v242, hx.x7, cZero, EReal.coe_zero, zero_add, add_zero, mul_c, add_c, sub_c, sum_c]
  rfl

/-- The gradient through the variance. -/
theorem v262 (n : Fin 4096) : val_main_v262 (F := Ideal) x.x0 x.x1 x.x2 x.x3 x.x4 x.x5 x.x6 x.x7 x.x8 x.x11 (ix2 n 0) = ((A.data.share n.val : ℝ) : EReal) := by
  pointwise [val_main_v262, val_main_v257, val_main_v254, val_main_v253, val_main_v252, val_main_cst_45, val_main_v261, val_main_cst_47]
  simp only [hx.v76, hx.v250, hx.v82, div512, cZero, EReal.coe_zero, zero_add, add_zero, mul_c, add_c, sub_c, sum_c]
  rfl

theorem v256 (n : Fin 4096) (j : Fin 512) : val_main_v256 (F := Ideal) x.x0 x.x1 x.x2 x.x3 x.x4 x.x5 x.x6 x.x7 x.x8 x.x11 (ix2 n j) = ((A.data.dvh n.val j * A.data.rstd n.val : ℝ) : EReal) := by
  pointwise [val_main_v256, val_main_v255]
  simp only [hx.v250, hx.v79, cZero, EReal.coe_zero, zero_add, add_zero, mul_c, add_c, sub_c, sum_c]

theorem v265 (n : Fin 4096) (j : Fin 512) : val_main_v265 (F := Ideal) x.x0 x.x1 x.x2 x.x3 x.x4 x.x5 x.x6 x.x7 x.x8 x.x11 (ix2 n j) = ((A.data.share n.val * (2 * A.data.xc n.val j) : ℝ) : EReal) := by
  pointwise [val_main_v265, val_main_v264, val_main_v263, val_main_cst_48, val_main_v70, val_main_v69, val_main_cst_12]
  simp only [hx.v262, hx.v67, cTwo, Finset.univ_unique, Fin.default_eq_zero, Finset.sum_singleton, cZero, EReal.coe_zero, zero_add, add_zero, mul_c, add_c, sub_c, sum_c]

/-- The gradient of the convolution. -/
theorem v275 (n : Fin 4096) (j : Fin 512) : val_main_v275 (F := Ideal) x.x0 x.x1 x.x2 x.x3 x.x4 x.x5 x.x6 x.x7 x.x8 x.x11 (ix2 n j) = ((A.data.dvr n.val j : ℝ) : EReal) := by
  pointwise [val_main_v275, val_main_v269, val_main_v274, val_main_v273, val_main_v272, val_main_v270, val_main_v260, val_main_v259, val_main_v258, val_main_cst_46, val_main_v268, val_main_v267, val_main_v266, val_main_cst_49, val_main_v271, val_main_cst_50, val_main_cst_51]
  simp only [hx.v256, hx.v265, ← EReal.coe_neg, Finset.univ_unique, Fin.default_eq_zero, Finset.sum_singleton, cZero, EReal.coe_zero, zero_add, add_zero, mul_c, add_c, sub_c, sum_c, div512]
  exact congrArg Real.toEReal (A.data.dvr_of n.val j)

/-- The incoming gradient, and the sums over the rows. -/
theorem v324 (n : Fin 4096) (k : Fin 1024) : val_main_v324 (F := Ideal) x.x0 (ix2 n k) = ((A.data.dh n.val k : ℝ) : EReal) := by
  pointwise [val_main_v324, val_main_v181]
  exact (hx.x0 n k).trans (congrArg Real.toEReal (ext_val A.dh n k).symm)

theorem v285 (k : Fin 31) (j : Fin 512) : val_main_v285 (F := Ideal) x.x0 x.x1 x.x2 x.x3 x.x4 x.x5 x.x6 x.x7 x.x8 x.x11 (ix2 k j) = ((∑ n : Fin 4096, A.data.dwt n.val k.val j : ℝ) : EReal) := by
  pointwise [val_main_v285, val_main_v282, val_main_v281, val_main_v280, val_main_v279, val_main_cst_54, val_main_cst_55]
  simp only [hx.v54, hx.v275, Finset.univ_unique, Fin.default_eq_zero, Finset.sum_singleton, cZero, EReal.coe_zero, zero_add, add_zero, mul_c, add_c, sub_c, sum_c]
  exact congrArg Real.toEReal (A.taps k.val k.isLt j)

theorem v327 (k : Fin 32) (j : Fin 512) : val_main_v327 (F := Ideal) x.x0 x.x1 x.x2 x.x3 x.x4 x.x5 x.x6 x.x7 x.x8 x.x11 (ix2 k j) = ((∑ n : Fin 4096, A.data.dwt n.val k.val j : ℝ) : EReal) := by
  pointwise [val_main_v327, val_main_call10_v0, val_main_c_67]
  by_cases h : k.val < 31
  · rw [dif_pos h]
    exact hx.v285 ⟨k.val, h⟩ j
  · rw [dif_neg h]
    have e : ∀ n, A.data.dwt n k.val j = 0 := fun n => if_neg h
    simp only [e, Finset.sum_const_zero]
    show (((0#32).toInt : ℝ) : EReal) = _
    simp

theorem v328 (j : Fin 512) : val_main_v328 (F := Ideal) x.x0 x.x1 x.x2 x.x3 x.x4 x.x5 x.x6 x.x7 x.x8 x.x11 (ix2 0 j) = ((∑ n : Fin 4096, A.data.dvr n.val j : ℝ) : EReal) := by
  pointwise [val_main_v328, val_main_v278, val_main_v277, val_main_v276, val_main_cst_52, val_main_cst_53]
  simp only [hx.v275, hx.v242, hx.v84, Finset.univ_unique, Fin.default_eq_zero, Finset.sum_singleton, cZero, EReal.coe_zero, zero_add, add_zero, mul_c, add_c, sub_c, sum_c]

theorem v329 (j : Fin 512) : val_main_v329 (F := Ideal) x.x0 x.x1 x.x2 x.x3 x.x4 x.x5 x.x6 x.x7 x.x8 x.x11 (ix2 0 j) = ((∑ n : Fin 4096, A.data.dln n.val j * A.data.vhat n.val j : ℝ) : EReal) := by
  pointwise [val_main_v329, val_main_v251, val_main_v248, val_main_v247, val_main_v246, val_main_cst_43, val_main_cst_44]
  simp only [hx.v275, hx.v242, hx.v84, Finset.univ_unique, Fin.default_eq_zero, Finset.sum_singleton, cZero, EReal.coe_zero, zero_add, add_zero, mul_c, add_c, sub_c, sum_c]
  exact congrArg Real.toEReal (Finset.sum_congr rfl fun n _ => mul_comm _ _)

theorem v330 (j : Fin 512) : val_main_v330 (F := Ideal) x.x0 x.x1 x.x2 x.x3 x.x4 x.x5 x.x6 x.x7 x.x8 x.x11 (ix2 0 j) = ((∑ n : Fin 4096, A.data.dln n.val j : ℝ) : EReal) := by
  pointwise [val_main_v330, val_main_v245, val_main_v244, val_main_v243, val_main_cst_41, val_main_cst_42]
  simp only [hx.v275, hx.v242, hx.v84, Finset.univ_unique, Fin.default_eq_zero, Finset.sum_singleton, cZero, EReal.coe_zero, zero_add, add_zero, mul_c, add_c, sub_c, sum_c]

end Refs.Real

end Cert.Mix

end
-- ==== Proof.Mix.Inputs.lean ====
/- What the input blocks of the mixing half's backward call hold at every grid point: rows of what the host computes from
   the arguments, and the whole weights. -/
module

public import proofs.«01_k».proof.Proof.Mix.Reference
public import proofs.«01_k».proof.Proof.Mix.Reads
public import Idealize.ShloMosaic.Lib.Pipeline.ValueKit

@[expose] public section

set_option maxRecDepth 16384

noncomputable section

namespace Cert.Mix

open Cert.Kernel2Ideal Cert.Kernel2Ideal.Gen Idealize.ShloMosaic Idealize.ShloMosaic.TcCoe Cert.Reals

variable (m : (ℓ : Loc nD τ sig) → Buf (Elt Ideal) ℓ) (c : Dev nD)

/-- The arguments a memory holds on a device. -/
def kin : Refs :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8), m ((c : Thread nD τ).loc main_arg9), m ((c : Thread nD τ).loc main_arg10), m ((c : Thread nD τ).loc main_arg11)⟩

/-- The points go through the blocks of 512 rows from the last to the first; the weights are whole at every point. -/
theorem in_rows : ∀ t : Fin cfg0.N, (win0_0.index t 0 = 7 - t.val ∧ win0_0.index t 1 = 0) ∧ (win0_1.index t 0 = 7 - t.val ∧ win0_1.index t 1 = 0) ∧ (win0_2.index t 0 = 7 - t.val ∧ win0_2.index t 1 = 0) ∧
    (win0_3.index t 0 = 7 - t.val ∧ win0_3.index t 1 = 0) ∧ (win0_4.index t 0 = 7 - t.val ∧ win0_4.index t 1 = 0) ∧
    (∀ a, win0_6.index t a = 0) ∧ (∀ a, win0_7.index t a = 0) ∧ (∀ a, win0_8.index t a = 0) ∧ (∀ a, win0_9.index t a = 0) ∧ (∀ a, win0_10.index t a = 0) ∧ (∀ a, win0_11.index t a = 0) ∧ (∀ a, win0_12.index t a = 0) ∧ (∀ a, win0_13.index t a = 0) :=
  (by decide +kernel : ∀ t : Fin grid0.N, _)

/-- Row `i` of the block of point `t`, in the array. -/
def row (t : Fin 8) (i : Fin 512) : Fin 4096 := ⟨512 * (7 - t.val) + i.val, by omega⟩

/-- The lines after the first one leave what the first computes for the call. -/
theorem keeps {b : Ref sig .tc} (hb : b = main_v21 ∨ b = main_v22 ∨ b = main_v51) :
    V m c b = StableHlo.after (hostOps0 : List (HloOp τ sig (Elt Ideal))) (fun b => m (c, b)) b := by
  obtain rfl | rfl | rfl := hb
  all_goals
    show StableHlo.after (List.flatten (hostOps0 :: _)) _ _ = _
    rw [List.flatten_cons, StableHlo.after_append]
    exact StableHlo.after_of_forall_not_mem (b := Proc.devRef .tc _) _ _ (List.forall_iff_forall_mem.mp (by
      simp only [hostOps0_1, hostOps0_2, hostOps0_3, hostOps0_4, hostOps0_5, hostOps0_6, hostOps0_7, hostOps0_8, hostOps0_9, hostOps0_10, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide)))

/-- Joining the one-batch axis of the incoming gradient to its rows leaves every entry. -/
theorem flat_rows (x : Vec Ideal S1x4096x1024 .f32) (n : Fin 4096) (k : Fin 1024) :
    (shapeCast S4096x1024 x shapeCasts_S1x4096x1024_S4096x1024 : Vec Ideal S4096x1024 .f32) (ix2 n k) = x (ix3 0 n k) := by
  pointwise

/-- The output projection's weights, without their leading axis of one. -/
theorem flat_wo (x : Vec Ideal S1x1024x1024 .f32) (i k : Fin 1024) :
    (truncf .bf16 (shapeCast S1024x1024 x shapeCasts_S1x1024x1024_S1024x1024) bitsLt_bf16_f32 : FVec Ideal S1024x1024 .bf16) (ix2 i k) = x (ix3 0 i k) := by
  pointwise

/-- The first projection's weights, without their leading axis of one and turned. -/
theorem flat_win (x : Vec Ideal S1x1024x1536 .f32) (k : Fin 1536) (d : Fin 1024) :
    (truncf .bf16 (transpose S1536x1024 [1, 0] (shapeCast S1024x1536 x shapeCasts_S1x1024x1536_S1024x1536) transposes_S1024x1536_S1536x1024_1_0) bitsLt_bf16_f32
      : FVec Ideal S1536x1024 .bf16) (ix2 k d) = x (ix3 0 d k) := by
  pointwise

/-- The pooling's weights, without their leading axis of one. -/
theorem flat_wp (x : Vec Ideal S1x4x128x128 .f32) (q : Fin 4) (k l : Fin 128) :
    (truncf .bf16 (shapeCast S4x128x128 x shapeCasts_S1x4x128x128_S4x128x128) bitsLt_bf16_f32 : FVec Ideal S4x128x128 .bf16) (ix3 q k l) = x (ix4 0 q k l) := by
  pointwise

/-- The taps, without their leading axis of one and with a row of zeros after the last. -/
theorem flat_w (x : Vec Ideal S1x31x512 .f32) (k : Fin 32) (j : Fin 512) :
    (pad S32x512 ![0, 0] ![1, 0] ![0, 0] (shapeCast S31x512 x shapeCasts_S1x31x512_S31x512 : Vec Ideal S31x512 .f32)
      (sitofp (F := Ideal) .f32 (broadcast S_ 0#32) : Vec Ideal S_ .f32) pads_S31x512_S32x512_010_000 h_S_ : Vec Ideal S32x512 .f32) (ix2 k j)
      = if h : k.val < 31 then x (ix3 0 ⟨k.val, h⟩ j) else ((0 : ℝ) : EReal) := by
  pointwise
  split_ifs
  · rfl
  · show (((0#32).toInt : ℝ) : EReal) = _
    simp

/-- What the call is given of the forward pass is the first stage of the reference: the projection's two halves and the convolution. -/
theorem saved_a : V m c main_v21 = Cert.Reference2Ideal.Read.val_main_v29 (F := Ideal) (kin m c).x1 (kin m c).x2 (kin m c).x3 (kin m c).x4 := by
  rw [keeps m c (.inl rfl)]
  entry_read
  rfl
theorem saved_gate : V m c main_v22 = Cert.Reference2Ideal.Read.val_main_v30 (F := Ideal) (kin m c).x1 (kin m c).x2 (kin m c).x3 (kin m c).x4 := by
  rw [keeps m c (.inr (.inl rfl))]
  entry_read
  rfl
theorem saved_v : V m c main_v51 = Cert.Reference2Ideal.Read.val_main_v61 (F := Ideal) (kin m c).x1 (kin m c).x2 (kin m c).x3 (kin m c).x4 (kin m c).x5 (kin m c).x6 := by
  rw [keeps m c (.inr (.inr rfl))]
  entry_read
  rfl

variable {m c} {A : Args} (g : (kin m c).Real A)
include g

theorem in0 (t : Fin cfg0.N) (i : Fin 512) (k : Fin 1024) :
    (iblk m c 0 t : Vec Ideal S512x1024 .f32) (ix2 i k) = (A.dh (row t i) k : EReal) := by
  have e : (win0_0.blk t).view.emb (ix2 i k) = (ix2 (row t i) k : S4096x1024.Idx) := by blk_ext [in_rows t, row]
  unfold iblk
  rw [View.read_apply]
  erw [e]
  exact (flat_rows _ _ _).trans (g.x0 _ _)

theorem in1 (t : Fin cfg0.N) (i : Fin 512) (k : Fin 1024) :
    (iblk m c 1 t : Vec Ideal S512x1024 .f32) (ix2 i k) = (A.x (row t i) k : EReal) := by
  have e : (win0_1.blk t).view.emb (ix2 i k) = (ix2 (row t i) k : S4096x1024.Idx) := by blk_ext [in_rows t, row]
  unfold iblk
  rw [View.read_apply]
  erw [e]
  exact (flat_rows _ _ _).trans (g.x1 _ _)

theorem in6 (t : Fin cfg0.N) (k : Fin 1024) :
    (iblk m c 6 t : Vec Ideal S1x1024 .f32) (ix2 0 k) = (A.g k : EReal) := by
  have e : (win0_6.blk t).view.emb (ix2 0 k) = (ix2 0 k : S1x1024.Idx) := by blk_ext [in_rows t]
  unfold iblk
  rw [View.read_apply]
  erw [e]
  exact g.x2 k

theorem in7 (t : Fin cfg0.N) (k : Fin 1536) (d : Fin 1024) :
    (iblk m c 7 t : Vec Ideal S1536x1024 .bf16) (ix2 k d) = (A.win d k : EReal) := by
  have e : (win0_7.blk t).view.emb (ix2 k d) = (ix2 k d : S1536x1024.Idx) := by blk_ext [in_rows t]
  unfold iblk
  rw [View.read_apply]
  erw [e]
  exact (flat_win _ _ _).trans (g.x3 d k)

theorem in2 (t : Fin cfg0.N) (i k : Fin 512) :
    (iblk m c 2 t : Vec Ideal S512x512 .f32) (ix2 i k) = (A.a (row t i) k : EReal) := by
  have e : (win0_2.blk t).view.emb (ix2 i k) = (ix2 (row t i) k : S4096x512.Idx) := by blk_ext [in_rows t, row]
  unfold iblk
  rw [View.read_apply]
  erw [e]
  exact (congrFun (saved_a m c) _).trans (g.v29 _ _)

theorem in3 (t : Fin cfg0.N) (i k : Fin 512) :
    (iblk m c 3 t : Vec Ideal S512x512 .f32) (ix2 i k) = (A.gate (row t i) k : EReal) := by
  have e : (win0_3.blk t).view.emb (ix2 i k) = (ix2 (row t i) k : S4096x512.Idx) := by blk_ext [in_rows t, row]
  unfold iblk
  rw [View.read_apply]
  erw [e]
  exact (congrFun (saved_gate m c) _).trans (g.v30 _ _)

theorem in4 (t : Fin cfg0.N) (i k : Fin 512) :
    (iblk m c 4 t : Vec Ideal S512x512 .f32) (ix2 i k) = (A.v (row t i) k : EReal) := by
  have e : (win0_4.blk t).view.emb (ix2 i k) = (ix2 (row t i) k : S4096x512.Idx) := by blk_ext [in_rows t, row]
  unfold iblk
  rw [View.read_apply]
  erw [e]
  exact (congrFun (saved_v m c) _).trans (g.v61 _ _)

theorem in8 (t : Fin cfg0.N) (k : Fin 32) (j : Fin 512) :
    (iblk m c 8 t : Vec Ideal S32x512 .f32) (ix2 k j) = (A.data.w k j : EReal) := by
  have e : (win0_8.blk t).view.emb (ix2 k j) = (ix2 k j : S32x512.Idx) := by blk_ext [in_rows t]
  unfold iblk
  rw [View.read_apply]
  erw [e]
  refine (flat_w (kin m c).x5 k j).trans ?_
  show _ = ((dite (k.val < 31) (fun h => A.w ⟨k.val, h⟩ j) (fun _ => 0) : ℝ) : EReal)
  by_cases h : k.val < 31
  · rw [dif_pos h, dif_pos h]
    exact g.x5 _ _
  · rw [dif_neg h, dif_neg h]

theorem in11 (t : Fin cfg0.N) (q : Fin 4) (k l : Fin 128) :
    (iblk m c 11 t : Vec Ideal S4x128x128 .bf16) (ix3 q k l) = (A.wp q k l : EReal) := by
  have e : (win0_11.blk t).view.emb (ix3 q k l) = (ix3 q k l : S4x128x128.Idx) := by blk_ext [in_rows t]
  unfold iblk
  rw [View.read_apply]
  erw [e]
  exact (flat_wp _ _ _ _).trans (g.x9 q k l)

theorem in12 (t : Fin cfg0.N) (k : Fin 512) :
    (iblk m c 12 t : Vec Ideal S1x512 .f32) (ix2 0 k) = (A.sp k : EReal) := by
  have e : (win0_12.blk t).view.emb (ix2 0 k) = (ix2 0 k : S1x512.Idx) := by blk_ext [in_rows t]
  unfold iblk
  rw [View.read_apply]
  erw [e]
  exact g.x10 k

theorem in9 (t : Fin cfg0.N) (k : Fin 512) :
    (iblk m c 9 t : Vec Ideal S1x512 .f32) (ix2 0 k) = (A.lg k : EReal) := by
  have e : (win0_9.blk t).view.emb (ix2 0 k) = (ix2 0 k : S1x512.Idx) := by blk_ext [in_rows t]
  unfold iblk
  rw [View.read_apply]
  erw [e]
  exact g.x7 k

theorem in10 (t : Fin cfg0.N) (k : Fin 512) :
    (iblk m c 10 t : Vec Ideal S1x512 .f32) (ix2 0 k) = (A.lb k : EReal) := by
  have e : (win0_10.blk t).view.emb (ix2 0 k) = (ix2 0 k : S1x512.Idx) := by blk_ext [in_rows t]
  unfold iblk
  rw [View.read_apply]
  erw [e]
  exact g.x8 k

theorem in13 (t : Fin cfg0.N) (i k : Fin 1024) :
    (iblk m c 13 t : Vec Ideal S1024x1024 .bf16) (ix2 i k) = (A.wo i k : EReal) := by
  have e : (win0_13.blk t).view.emb (ix2 i k) = (ix2 i k : S1024x1024.Idx) := by blk_ext [in_rows t]
  unfold iblk
  rw [View.read_apply]
  erw [e]
  exact (flat_wo _ _ _).trans (g.x11 i k)

/-- At real arguments the blocks of point `t` hold the rows of the backward pass's data from row `512 * (7 - t)` on. -/
theorem ins (t : Fin cfg0.N) : Blk A.data (512 * (7 - t.val)) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t) (iblk m c 13 t) where
  hB := by omega
  h0 i k := (in0 g t i k).trans (congrArg Real.toEReal (ext_val A.dh (row t i) k).symm)
  h1 i k := (in1 g t i k).trans (congrArg Real.toEReal (ext_val A.x (row t i) k).symm)
  h2 i k := (in2 g t i k).trans (congrArg Real.toEReal (ext_val A.a (row t i) k).symm)
  h3 i k := (in3 g t i k).trans (congrArg Real.toEReal (ext_val A.gate (row t i) k).symm)
  h4 i k := (in4 g t i k).trans (congrArg Real.toEReal (ext_val A.v (row t i) k).symm)
  h6 k := in6 g t k
  h7 k d := in7 g t k d
  h8 k j := in8 g t k j
  h9 k := in9 g t k
  h10 k := in10 g t k
  h11 q k l := in11 g t q k l
  h12 k := in12 g t k
  h13 i k := in13 g t i k

end Cert.Mix

end
-- ==== Proof.Mix.Arrays.lean ====
/- The claimed result arrays of the mixing half's backward call after the run: the gradient at the first projection's output, the
   incoming gradient as it was, and the sums over all rows. -/
module

public import proofs.«01_k».proof.Proof.Mix.Track
public import proofs.«01_k».proof.Proof.Mix.Inputs
public import Idealize.ShloMosaic.Lib.Pipeline.ReadBack

@[expose] public section

set_option maxRecDepth 16384

noncomputable section

namespace Cert.Mix

open Cert.Kernel2Ideal Cert.Kernel2Ideal.Gen Idealize.ShloMosaic Idealize.ShloMosaic.TcCoe Cert.Reals

variable (D : Data) (m : (ℓ : Loc nD τ sig) → Buf (Elt Ideal) ℓ) (c : Dev nD)

/-- Point `t` writes the rows of block `7 - t` of the gradients. -/
theorem out_rows : ∀ t : Fin cfg0.N, (win0_14.index t 0 = 7 - t.val ∧ win0_14.index t 1 = 0) ∧ (win0_15.index t 0 = 7 - t.val ∧ win0_15.index t 1 = 0) ∧ win0_16.index t 0 = 7 - t.val ∧ win0_16.index t 1 = 0 :=
  (by decide +kernel : ∀ t : Fin grid0.N, _)

/-- The sums are written whole. -/
theorem out_whole : ∀ t : Fin cfg0.N, (∀ a, win0_17.index t a = 0) ∧ (∀ a, win0_18.index t a = 0) ∧ (∀ a, win0_19.index t a = 0) ∧ (∀ a, win0_20.index t a = 0) ∧ (∀ a, win0_21.index t a = 0) ∧
    (∀ a, win0_22.index t a = 0) :=
  (by decide +kernel : ∀ t : Fin grid0.N, _)

/-- The last point. -/
abbrev lastPt : Fin cfg0.N := ⟨7, by decide⟩

/-- The gradient's copy, over all rows. -/
def all16 : S4096x1024.Idx → EReal := fun i => (D.dh (i 0).val (i 1) : EReal)

theorem arr16 : (tdats D m 0 c).arrAt 16 cfg0.N = all16 D := by
  refine (tdats D m 0 c).arrAt_eq_of_covers 16 _ (by decide +kernel) fun t hf y => ?_
  have e : (win0_16.blk t).view.emb y = (ix2 (row t (y 0)) (y 1) : S4096x1024.Idx) := by blk_ext [out_rows t, row]
  blk_simp
  rw [tafter16]
  exact (congrArg (all16 D) e).symm

/-- The gradient at the first projection's output, over all rows. -/
def all15 : S4096x1536.Idx → EReal := fun i => (D.dz (i 0).val (i 1) : EReal)

theorem arr15 : (tdats D m 0 c).arrAt 15 cfg0.N = all15 D := by
  refine (tdats D m 0 c).arrAt_eq_of_covers 15 _ (by decide +kernel) fun t hf y => ?_
  have e : (win0_15.blk t).view.emb y = (ix2 (row t (y 0)) (y 1) : S4096x1536.Idx) := by blk_ext [out_rows t, row]
  blk_simp
  rw [tafter15]
  exact (congrArg (all15 D) e).symm

/-- The input's gradient, over all rows. -/
def all14 : S4096x1024.Idx → EReal := fun i => (D.dx (i 0).val (i 1) : EReal)

theorem arr14 : (tdats D m 0 c).arrAt 14 cfg0.N = all14 D := by
  refine (tdats D m 0 c).arrAt_eq_of_covers 14 _ (by decide +kernel) fun t hf y => ?_
  have e : (win0_14.blk t).view.emb y = (ix2 (row t (y 0)) (y 1) : S4096x1024.Idx) := by blk_ext [out_rows t, row]
  blk_simp
  rw [tafter14]
  exact (congrArg (all14 D) e).symm

theorem arr17 : (tdats D m 0 c).arrAt 17 cfg0.N = at17 D 7 := by
  refine (tdats D m 0 c).arrAt_eq_of_after_last 17 lastPt (by decide +kernel) _ fun j => ?_
  blk_simp
  rw [tafter17]

theorem arr18 : (tdats D m 0 c).arrAt 18 cfg0.N = at18 D 7 := by
  refine (tdats D m 0 c).arrAt_eq_of_after_last 18 lastPt (by decide +kernel) _ fun j => ?_
  blk_simp
  rw [tafter18]

theorem arr19 : (tdats D m 0 c).arrAt 19 cfg0.N = at19 D 7 := by
  refine (tdats D m 0 c).arrAt_eq_of_after_last 19 lastPt (by decide +kernel) _ fun j => ?_
  blk_simp
  rw [tafter19]

theorem arr20 : (tdats D m 0 c).arrAt 20 cfg0.N = at20 D 7 := by
  refine (tdats D m 0 c).arrAt_eq_of_after_last 20 lastPt (by decide +kernel) _ fun j => ?_
  blk_simp
  rw [tafter20]

theorem arr21 : (tdats D m 0 c).arrAt 21 cfg0.N = at21 D 7 := by
  refine (tdats D m 0 c).arrAt_eq_of_after_last 21 lastPt (by decide +kernel) _ fun j => ?_
  blk_simp
  rw [tafter21]

theorem arr22 : (tdats D m 0 c).arrAt 22 cfg0.N = at22 D 7 := by
  refine (tdats D m 0 c).arrAt_eq_of_after_last 22 lastPt (by decide +kernel) _ fun j => ?_
  blk_simp
  rw [tafter22]

end Cert.Mix

end
-- ==== Proof.Mix.HostSums.lean ====
/- Two sums of the derivative at real arguments: a running sum from the last row back, and rows added where their index says. -/
module

public import proofs.«01_k».proof.Proof.Mix.Model
public import proofs.«01_k».proof.Proof.Gen.Reference2Ideal.Read
public import Idealize.ShloMosaic.Lib.Routing.OpsOne
public import Idealize.ShloMosaic.Lib.WordCmp
public import Idealize.ShloMosaic.Lib.Pointwise

@[expose] public section

set_option maxRecDepth 16384

noncomputable section

namespace Cert.Mix

open Cert.Reference2Ideal Cert.Reference2Ideal.Read Idealize.ShloMosaic Cert.Reals
open Idealize.ShloMosaic.Routing (shape2 symm_col numel_col map_finRange_val)

/-- A sum of real numbers over a finite set. -/
theorem sum_on {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add_c]

/-- Adding numbers one after another. -/
theorem fold_sum {ι : Type} (l : List ι) (g : ι → EReal) (f : ι → ℝ) (h : ∀ n ∈ l, g n = (f n : EReal)) (a : ℝ) :
    l.foldl (fun r n => r + g n) (a : EReal) = ((a + (l.map f).sum : ℝ) : EReal) := by
  induction l generalizing a with
  | nil => simp
  | cons n l ih =>
    rw [List.foldl_cons, h n List.mem_cons_self, add_c, ih fun n hn => h n (List.mem_cons_of_mem _ hn), List.map_cons, List.sum_cons, add_assoc]

/-- The running sum from the last row back: row `n` has the sum of the rows from `n` on. -/
theorem back_sum (x : S4096x128.Idx → EReal) (f : ℕ → ℝ) (l : Fin 128) (hx : ∀ i : Fin 4096, x (ix2 i l) = (f i.val : EReal))
    (hf : ∀ n, 4096 ≤ n → f n = 0) (init : S_.Idx → EReal) (hinit : init ix0 = ((0 : ℝ) : EReal))
    (h : S4096x128.ReduceWindows (![4096, 1] : Fin 2 → Nat) ![1, 1] ![0, 0] ![4095, 0] S4096x128) (hu : 0 < S_.numel) (n : Fin 4096) :
    Host.reduceWindowAdd (F := Ideal) (φ := .f32) ![4096, 1] ![1, 1] ![0, 0] ![4095, 0] x init h hu (ix2 n l)
      = ((∑ i ∈ Finset.range 4096, f (n.val + i) : ℝ) : EReal) := by
  have hv : init (Shape.Idx.first hu) = ((0 : ℝ) : EReal) := (congrArg init (funext fun a => a.elim0)).trans hinit
  have hn := n.isLt
  unfold Host.reduceWindowAdd
  rw [Ideal.hostReduceWindowAdd_def]
  unfold Ideal.hostReduceWindowAdd Host.reduceWindow
  dsimp only
  rw [hv]
  refine (fold_sum _ _ (fun w => f (n.val + w.val)) (fun w _ => ?_) 0).trans ?_
  · have hw0 : ((shape2 4096 1).rowMajor.symm w 0).val = w.val := by rw [symm_col]; rfl
    have hw1 : ((shape2 4096 1).rowMajor.symm w 1).val = 0 := by rw [symm_col]; rfl
    split
    · next hin =>
      have h0 := hin 0
      change 0 ≤ n.val * 1 + ((shape2 4096 1).rowMajor.symm w 0).val ∧ n.val * 1 + ((shape2 4096 1).rowMajor.symm w 0).val - 0 < 4096 at h0
      rw [hw0] at h0
      refine (congrArg x (funext fun a => Fin.ext ?_)).trans (hx ⟨n.val + w.val, by omega⟩)
      match a with
      | ⟨0, _⟩ =>
        show n.val * 1 + ((shape2 4096 1).rowMajor.symm w 0).val - 0 = n.val + w.val
        rw [hw0]; omega
      | ⟨1, _⟩ =>
        show l.val * 1 + ((shape2 4096 1).rowMajor.symm w 1).val - 0 = l.val
        rw [hw1]; omega
    · next hin =>
      rw [hf]
      by_contra hlt
      refine hin fun a => ?_
      match a with
      | ⟨0, _⟩ =>
        show 0 ≤ n.val * 1 + ((shape2 4096 1).rowMajor.symm w 0).val ∧ n.val * 1 + ((shape2 4096 1).rowMajor.symm w 0).val - 0 < 4096
        rw [hw0]; omega
      | ⟨1, _⟩ =>
        show 0 ≤ l.val * 1 + ((shape2 4096 1).rowMajor.symm w 1).val ∧ l.val * 1 + ((shape2 4096 1).rowMajor.symm w 1).val - 0 < 128
        rw [hw1]
        have := l.isLt
        omega
  · rw [zero_add, map_finRange_val _ (fun w => f (n.val + w))]
    refine congrArg Real.toEReal ?_
    refine (congrArg (fun M => ((List.range M).map fun w => f (n.val + w)).sum) (numel_col 4096)).trans ?_
    rw [← List.sum_toFinset _ List.nodup_range, List.toFinset_range]

/-- A difference of windows telescopes: what is added from `n` on, less what is added from `n + w` on, is the first `w`. -/
theorem telescope (g : ℕ → ℝ) (hg : ∀ n, 4096 ≤ n → g n = 0) (w n : ℕ) :
    ∑ i ∈ Finset.range 4096, (g (n + i) - g (n + i + w)) = ∑ j ∈ Finset.range w, g (n + j) := by
  have e1 : ∑ i ∈ Finset.range (4096 + w), g (n + i) = ∑ i ∈ Finset.range 4096, g (n + i) := by
    rw [Finset.sum_range_add, Finset.sum_eq_zero (s := Finset.range w) fun i _ => hg _ (by omega), add_zero]
  have e2 : ∑ i ∈ Finset.range (w + 4096), g (n + i) = ∑ i ∈ Finset.range w, g (n + i) + ∑ i ∈ Finset.range 4096, g (n + i + w) := by
    rw [Finset.sum_range_add]
    exact congrArg _ (Finset.sum_congr rfl fun i _ => by rw [show n + (w + i) = n + i + w by omega])
  rw [Nat.add_comm, e1] at e2
  rw [Finset.sum_sub_distrib, e2]
  ring

/-- Where an update of the rows' sum lands: at the row its index names. -/
theorem lands (idx : IVec S4096x31x1 32) (hi : ∀ (n : Fin 4096) (k : Fin 31), idx (ix3 n k 0) = BitVec.ofNat 32 (n.val + k.val))
    (n : Fin 4096) (k : Fin 31) (j : Fin 512) :
    scatter_S4126x512_S4096x31x1_S4096x31x512_2_0_0_2.resultIdx? (ix3 n k j) idx = some (ix2 ⟨n.val + k.val, by omega⟩ j) := by
  set d := scatter_S4126x512_S4096x31x1_S4096x31x512_2_0_0_2 with hd
  have s0 : d.start (ix3 n k j) idx 0 = ((n.val + k.val : ℕ) : Int) := by
    unfold ScatterDims.start
    rw [dif_pos (show (0 : Fin 2) ∈ d.scatterDimsToOperandDims from List.mem_singleton.mpr rfl)]
    have e : d.siIdx (ix3 n k j) ⟨d.scatterDimsToOperandDims.idxOf 0, List.idxOf_lt_length_iff.2 (List.mem_singleton.mpr rfl)⟩ = ix3 n k 0 := by
      funext a
      apply Fin.ext
      match a with
      | ⟨0, _⟩ => rfl
      | ⟨1, _⟩ => rfl
      | ⟨2, _⟩ => rfl
    rw [e, hi, WordCmp.toInt_ofNat_of_lt (show n.val + k.val < 2 ^ (32 - 1) by omega)]
  have s1 : d.start (ix3 n k j) idx 1 = 0 := by
    unfold ScatterDims.start
    rw [dif_neg (show (1 : Fin 2) ∉ d.scatterDimsToOperandDims from fun h => absurd (List.mem_singleton.1 h) (by decide))]
  have w0 : d.window (ix3 n k j) 0 = 0 := rfl
  have w1 : d.window (ix3 n k j) 1 = j.val := rfl
  have hall : ∀ a, 0 ≤ d.start (ix3 n k j) idx a + d.window (ix3 n k j) a ∧ d.start (ix3 n k j) idx a + d.window (ix3 n k j) a < S4126x512.size a := fun a => by
    match a with
    | ⟨0, _⟩ =>
      show 0 ≤ d.start (ix3 n k j) idx 0 + d.window (ix3 n k j) 0 ∧ d.start (ix3 n k j) idx 0 + d.window (ix3 n k j) 0 < (4126 : Int)
      rw [s0, w0]
      omega
    | ⟨1, _⟩ =>
      show 0 ≤ d.start (ix3 n k j) idx 1 + d.window (ix3 n k j) 1 ∧ d.start (ix3 n k j) idx 1 + d.window (ix3 n k j) 1 < (512 : Int)
      rw [s1, w1]
      omega
  unfold ScatterDims.resultIdx?
  rw [dif_pos hall]
  refine congrArg some (funext fun a => Fin.ext ?_)
  match a with
  | ⟨0, _⟩ =>
    show (d.start (ix3 n k j) idx 0 + d.window (ix3 n k j) 0).toNat = n.val + k.val
    rw [s0, w0]
    omega
  | ⟨1, _⟩ =>
    show (d.start (ix3 n k j) idx 1 + d.window (ix3 n k j) 1).toNat = j.val
    rw [s1, w1]
    omega

/-- Rows added where their index says: a row past the first thirty has the sum of the updates of its 31 taps. -/
theorem scattered (idx : IVec S4096x31x1 32) (hi : ∀ (n : Fin 4096) (k : Fin 31), idx (ix3 n k 0) = BitVec.ofNat 32 (n.val + k.val))
    (x : S4126x512.Idx → EReal) (upd : S4096x31x512.Idx → EReal) (g : ℕ → ℝ) (w : Fin 31 → ℝ) (r : Fin 4096) (j : Fin 512)
    (hx : x (ix2 ⟨30 + r.val, by omega⟩ j) = ((0 : ℝ) : EReal)) (hg : ∀ n, 4096 ≤ n → g n = 0)
    (hu : ∀ (n : Fin 4096) (k : Fin 31), upd (ix3 n k j) = ((w k * g n.val : ℝ) : EReal)) :
    Host.scatterAdd (F := Ideal) (φ := .f32) scatter_S4126x512_S4096x31x1_S4096x31x512_2_0_0_2 x idx upd (ix2 ⟨30 + r.val, by omega⟩ j)
      = ((∑ k : Fin 31, w k * g (r.val + (30 - k.val)) : ℝ) : EReal) := by
  show x _ + ∑ q ∈ Finset.univ.filter (fun q => scatter_S4126x512_S4096x31x1_S4096x31x512_2_0_0_2.resultIdx? q idx = some (ix2 ⟨30 + r.val, by omega⟩ j)), upd q = _
  have hr := r.isLt
  have key : ∀ q : S4096x31x512.Idx, scatter_S4126x512_S4096x31x1_S4096x31x512_2_0_0_2.resultIdx? q idx = some (ix2 ⟨30 + r.val, by omega⟩ j) ↔
      (q 0).val + (q 1).val = 30 + r.val ∧ q 2 = j := fun q => by
    obtain ⟨n, k, c, rfl⟩ : ∃ (n : Fin 4096) (k : Fin 31) (c : Fin 512), q = ix3 n k c := ⟨q 0, q 1, q 2, eq_ix3 q⟩
    rw [lands idx hi, Option.some_inj]
    constructor
    · intro h
      exact ⟨congrArg Fin.val (congrFun h 0), congrFun h 1⟩
    · rintro ⟨h0, h1⟩
      change n.val + k.val = 30 + r.val at h0
      change c = j at h1
      rw [h1]
      exact congrArg (fun t => ix2 t j) (Fin.ext h0)
  have hsum : ∑ q ∈ Finset.univ.filter (fun q => scatter_S4126x512_S4096x31x1_S4096x31x512_2_0_0_2.resultIdx? q idx = some (ix2 ⟨30 + r.val, by omega⟩ j)), upd q
      = ∑ k ∈ Finset.univ.filter (fun k : Fin 31 => r.val + (30 - k.val) < 4096), ((w k * g (r.val + (30 - k.val)) : ℝ) : EReal) := by
    refine Finset.sum_bij' (fun q _ => q 1) (fun k hk => ix3 ⟨r.val + (30 - k.val), (Finset.mem_filter.1 hk).2⟩ k j) (fun q hq => ?_) (fun k hk => ?_) (fun q hq => ?_) (fun k hk => rfl) (fun q hq => ?_)
    · have h := (key q).1 (Finset.mem_filter.1 hq).2
      have h0 : (q 0).val < 4096 := (q 0).isLt
      have h1 : (q 1).val < 31 := (q 1).isLt
      exact Finset.mem_filter.2 ⟨Finset.mem_univ _, by show r.val + (30 - (q 1).val) < 4096; omega⟩
    · have h1 : k.val < 31 := k.isLt
      exact Finset.mem_filter.2 ⟨Finset.mem_univ _, (key _).2 ⟨by show r.val + (30 - k.val) + k.val = 30 + r.val; omega, rfl⟩⟩
    · have h := (key q).1 (Finset.mem_filter.1 hq).2
      have h1 : (q 1).val < 31 := (q 1).isLt
      funext a
      match a with
      | ⟨0, _⟩ => exact Fin.ext (by show r.val + (30 - (q 1).val) = (q 0).val; omega)
      | ⟨1, _⟩ => rfl
      | ⟨2, _⟩ => exact h.2.symm
    · have h := (key q).1 (Finset.mem_filter.1 hq).2
      have h0 : (q 0).val < 4096 := (q 0).isLt
      have h1 : (q 1).val < 31 := (q 1).isLt
      have e : q = ix3 (q 0) (q 1) j := (eq_ix3 q).trans (by rw [h.2]; rfl)
      have e' : upd q = ((w (q 1) * g (q 0).val : ℝ) : EReal) := (congrArg upd e).trans (hu (q 0) (q 1))
      rw [e']
      show ((w (q 1) * g (q 0).val : ℝ) : EReal) = ((w (q 1) * g (r.val + (30 - (q 1).val)) : ℝ) : EReal)
      rw [show r.val + (30 - (q 1).val) = (q 0).val by omega]
  rw [hsum, hx, sum_on, add_c, zero_add]
  refine congrArg Real.toEReal ?_
  rw [Finset.sum_filter]
  refine Finset.sum_congr rfl fun k _ => ?_
  by_cases h : r.val + (30 - k.val) < 4096
  · rw [if_pos h]
  · rw [if_neg h, hg _ (by omega), mul_zero]

end Cert.Mix

end
-- ==== Proof.Mix.PoolGrad.lean ====
/- The derivative of the convolution, the gate and the pooling at real arguments: the gradient at the first projection's output. -/
module

public import proofs.«01_k».proof.Proof.Mix.Reference
public import proofs.«01_k».proof.Proof.Mix.HostSums
public import proofs.«01_k».proof.Proof.Mix.PoolValue
import Mathlib.Tactic.Ring

@[expose] public section

set_option maxRecDepth 16384

noncomputable section

namespace Cert.Mix

open Cert.Reference2Ideal Cert.Reference2Ideal.Read Idealize.ShloMosaic Cert.Reals

namespace Refs.Real

variable {x : Refs} {A : Args} (hx : x.Real A)
include hx

/-- The gradient at the pooled half. -/
theorem v184 (n : Fin 4096) (j : Fin 512) : val_main_v184 (F := Ideal) x.x0 x.x11 (ix2 n j) = ((A.data.dy n.val (outP j) : ℝ) : EReal) := by
  pointwise [val_main_v184]
  exact hx.v182 n _

/-- The gradient before the scale. -/
theorem v186 (n : Fin 4096) (j : Fin 512) : val_main_v186 (F := Ideal) x.x0 x.x10 x.x11 (ix2 n j) = ((A.data.dy n.val (outP j) * A.data.sp j : ℝ) : EReal) := by
  pointwise [val_main_v186, val_main_v185, val_main_v174, val_main_v173]
  simp only [hx.v184, hx.x10, cZero, EReal.coe_zero, zero_add, add_zero, mul_c, add_c, sub_c, sum_c]
  rfl

/-- Group 0 of the pooling. -/
theorem v229 (n : Fin 4096) (l : Fin 128) : val_main_v229 (F := Ideal) x.x0 x.x9 x.x10 x.x11 (ix2 n l) = ((A.data.dm n.val 0 l : ℝ) : EReal) := by
  pointwise [val_main_v229, val_main_v187, val_main_v110, val_main_v109]
  simp only [hx.v186, hx.x9, cZero, EReal.coe_zero, zero_add, add_zero, mul_c, add_c, sub_c, sum_c]
  rfl

omit hx in
theorem v104 (n : Fin 4096) : val_main_v104 (F := Ideal)  (ix2 n 0) = ((((min (n.val + 1) 2 : ℕ) : ℝ) : ℝ) : EReal) := by
  pointwise [val_main_v104, val_main_v103, val_main_v102, val_main_v100, val_main_v93, val_main_v99, val_main_c_19, val_main_v101, val_main_c_20]
  exact count_word n.val 2 n.isLt (by norm_num)

theorem v232 (n : Fin 4096) (l : Fin 128) : val_main_v232 (F := Ideal) x.x0 x.x9 x.x10 x.x11 (ix2 n l) = ((A.data.dq n.val 0 l : ℝ) : EReal) := by
  pointwise [val_main_v232, val_main_v231]
  rw [hx.v229, v104, div_c _ (by positivity)]
  refine congrArg Real.toEReal ?_
  unfold Data.dq
  rw [if_pos n.isLt]
  rfl

theorem v237 (n : Fin 4096) (l : Fin 128) : val_main_v237 (F := Ideal) x.x0 x.x9 x.x10 x.x11 (ix2 n l) = ((A.data.dq n.val 0 l - A.data.dq (n.val + 2) 0 l : ℝ) : EReal) := by
  pointwise [val_main_v237, val_main_v236, val_main_v234, val_main_v233, val_main_cst_39]
  by_cases h : n.val + 2 < 4096
  · rw [dif_pos (by omega), hx.v232, hx.v232, ← EReal.coe_neg, add_c]
    refine congrArg Real.toEReal ?_
    show A.data.dq n.val 0 l + -A.data.dq (2 + n.val) 0 l = _
    rw [Nat.add_comm 2 n.val]
    ring
  · rw [dif_neg (by omega), hx.v232, add_zero]
    have e : A.data.dq (n.val + 2) 0 l = 0 := by unfold Data.dq; rw [if_neg h]
    rw [e, sub_zero]

theorem v238 (n : Fin 4096) (l : Fin 128) : val_main_v238 (F := Ideal) x.x0 x.x9 x.x10 x.x11 (ix2 n l) = ((∑ j ∈ Finset.range 2, A.data.dq (n.val + j) 0 l : ℝ) : EReal) := by
  unfold val_main_v238
  have hz : ∀ m, 4096 ≤ m → A.data.dq m 0 l = 0 := fun m h => by unfold Data.dq; rw [if_neg (by omega)]
  refine (back_sum _ (fun m => A.data.dq m 0 l - A.data.dq (m + 2) 0 l) l (fun i => hx.v237 i l) (fun m h => ?_) _ ?_ _ _ n).trans
    (congrArg Real.toEReal (telescope (fun m => A.data.dq m 0 l) hz 2 n.val))
  · show A.data.dq m 0 l - A.data.dq (m + 2) 0 l = 0
    rw [hz m h, hz _ (by omega), sub_zero]
  · pointwise [val_main_call8_call0_v0, val_main_call8_call0_cst]
    exact EReal.coe_zero.symm

theorem v239 (n : Fin 4096) (l : Fin 128) : val_main_v239 (F := Ideal) x.x0 x.x9 x.x10 x.x11 (ix2 n l) = ((A.data.dp n.val 0 l : ℝ) : EReal) := by
  pointwise [val_main_v239, val_main_v230]
  rw [hx.v229, hx.v238, ← EReal.coe_neg, add_c]
  refine congrArg Real.toEReal ?_
  unfold Data.dp
  show -A.data.dm n.val 0 l + _ = (∑ j ∈ Finset.range 2, A.data.dq (n.val + j) 0 l) - A.data.dm n.val 0 l
  ring

/-- Group 1 of the pooling. -/
theorem v216 (n : Fin 4096) (l : Fin 128) : val_main_v216 (F := Ideal) x.x0 x.x9 x.x10 x.x11 (ix2 n l) = ((A.data.dm n.val 1 l : ℝ) : EReal) := by
  pointwise [val_main_v216, val_main_v188, val_main_v130, val_main_v129]
  simp only [hx.v186, hx.x9, cZero, EReal.coe_zero, zero_add, add_zero, mul_c, add_c, sub_c, sum_c]
  rfl

omit hx in
theorem v124 (n : Fin 4096) : val_main_v124 (F := Ideal)  (ix2 n 0) = ((((min (n.val + 1) 4 : ℕ) : ℝ) : ℝ) : EReal) := by
  pointwise [val_main_v124, val_main_v123, val_main_v122, val_main_v120, val_main_v113, val_main_v119, val_main_c_23, val_main_v121, val_main_c_24]
  exact count_word n.val 4 n.isLt (by norm_num)

theorem v219 (n : Fin 4096) (l : Fin 128) : val_main_v219 (F := Ideal) x.x0 x.x9 x.x10 x.x11 (ix2 n l) = ((A.data.dq n.val 1 l : ℝ) : EReal) := by
  pointwise [val_main_v219, val_main_v218]
  rw [hx.v216, v124, div_c _ (by positivity)]
  refine congrArg Real.toEReal ?_
  unfold Data.dq
  rw [if_pos n.isLt]
  rfl

theorem v224 (n : Fin 4096) (l : Fin 128) : val_main_v224 (F := Ideal) x.x0 x.x9 x.x10 x.x11 (ix2 n l) = ((A.data.dq n.val 1 l - A.data.dq (n.val + 4) 1 l : ℝ) : EReal) := by
  pointwise [val_main_v224, val_main_v223, val_main_v221, val_main_v220, val_main_cst_37]
  by_cases h : n.val + 4 < 4096
  · rw [dif_pos (by omega), hx.v219, hx.v219, ← EReal.coe_neg, add_c]
    refine congrArg Real.toEReal ?_
    show A.data.dq n.val 1 l + -A.data.dq (4 + n.val) 1 l = _
    rw [Nat.add_comm 4 n.val]
    ring
  · rw [dif_neg (by omega), hx.v219, add_zero]
    have e : A.data.dq (n.val + 4) 1 l = 0 := by unfold Data.dq; rw [if_neg h]
    rw [e, sub_zero]

theorem v225 (n : Fin 4096) (l : Fin 128) : val_main_v225 (F := Ideal) x.x0 x.x9 x.x10 x.x11 (ix2 n l) = ((∑ j ∈ Finset.range 4, A.data.dq (n.val + j) 1 l : ℝ) : EReal) := by
  unfold val_main_v225
  have hz : ∀ m, 4096 ≤ m → A.data.dq m 1 l = 0 := fun m h => by unfold Data.dq; rw [if_neg (by omega)]
  refine (back_sum _ (fun m => A.data.dq m 1 l - A.data.dq (m + 4) 1 l) l (fun i => hx.v224 i l) (fun m h => ?_) _ ?_ _ _ n).trans
    (congrArg Real.toEReal (telescope (fun m => A.data.dq m 1 l) hz 4 n.val))
  · show A.data.dq m 1 l - A.data.dq (m + 4) 1 l = 0
    rw [hz m h, hz _ (by omega), sub_zero]
  · pointwise [val_main_call7_call0_v0, val_main_call7_call0_cst]
    exact EReal.coe_zero.symm

theorem v226 (n : Fin 4096) (l : Fin 128) : val_main_v226 (F := Ideal) x.x0 x.x9 x.x10 x.x11 (ix2 n l) = ((A.data.dp n.val 1 l : ℝ) : EReal) := by
  pointwise [val_main_v226, val_main_v217]
  rw [hx.v216, hx.v225, ← EReal.coe_neg, add_c]
  refine congrArg Real.toEReal ?_
  unfold Data.dp
  show -A.data.dm n.val 1 l + _ = (∑ j ∈ Finset.range 4, A.data.dq (n.val + j) 1 l) - A.data.dm n.val 1 l
  ring

/-- Group 2 of the pooling. -/
theorem v203 (n : Fin 4096) (l : Fin 128) : val_main_v203 (F := Ideal) x.x0 x.x9 x.x10 x.x11 (ix2 n l) = ((A.data.dm n.val 2 l : ℝ) : EReal) := by
  pointwise [val_main_v203, val_main_v189, val_main_v150, val_main_v149]
  simp only [hx.v186, hx.x9, cZero, EReal.coe_zero, zero_add, add_zero, mul_c, add_c, sub_c, sum_c]
  rfl

omit hx in
theorem v144 (n : Fin 4096) : val_main_v144 (F := Ideal)  (ix2 n 0) = ((((min (n.val + 1) 8 : ℕ) : ℝ) : ℝ) : EReal) := by
  pointwise [val_main_v144, val_main_v143, val_main_v142, val_main_v140, val_main_v133, val_main_v139, val_main_c_27, val_main_v141, val_main_c_28]
  exact count_word n.val 8 n.isLt (by norm_num)

theorem v206 (n : Fin 4096) (l : Fin 128) : val_main_v206 (F := Ideal) x.x0 x.x9 x.x10 x.x11 (ix2 n l) = ((A.data.dq n.val 2 l : ℝ) : EReal) := by
  pointwise [val_main_v206, val_main_v205]
  rw [hx.v203, v144, div_c _ (by positivity)]
  refine congrArg Real.toEReal ?_
  unfold Data.dq
  rw [if_pos n.isLt]
  rfl

theorem v211 (n : Fin 4096) (l : Fin 128) : val_main_v211 (F := Ideal) x.x0 x.x9 x.x10 x.x11 (ix2 n l) = ((A.data.dq n.val 2 l - A.data.dq (n.val + 8) 2 l : ℝ) : EReal) := by
  pointwise [val_main_v211, val_main_v210, val_main_v208, val_main_v207, val_main_cst_35]
  by_cases h : n.val + 8 < 4096
  · rw [dif_pos (by omega), hx.v206, hx.v206, ← EReal.coe_neg, add_c]
    refine congrArg Real.toEReal ?_
    show A.data.dq n.val 2 l + -A.data.dq (8 + n.val) 2 l = _
    rw [Nat.add_comm 8 n.val]
    ring
  · rw [dif_neg (by omega), hx.v206, add_zero]
    have e : A.data.dq (n.val + 8) 2 l = 0 := by unfold Data.dq; rw [if_neg h]
    rw [e, sub_zero]

theorem v212 (n : Fin 4096) (l : Fin 128) : val_main_v212 (F := Ideal) x.x0 x.x9 x.x10 x.x11 (ix2 n l) = ((∑ j ∈ Finset.range 8, A.data.dq (n.val + j) 2 l : ℝ) : EReal) := by
  unfold val_main_v212
  have hz : ∀ m, 4096 ≤ m → A.data.dq m 2 l = 0 := fun m h => by unfold Data.dq; rw [if_neg (by omega)]
  refine (back_sum _ (fun m => A.data.dq m 2 l - A.data.dq (m + 8) 2 l) l (fun i => hx.v211 i l) (fun m h => ?_) _ ?_ _ _ n).trans
    (congrArg Real.toEReal (telescope (fun m => A.data.dq m 2 l) hz 8 n.val))
  · show A.data.dq m 2 l - A.data.dq (m + 8) 2 l = 0
    rw [hz m h, hz _ (by omega), sub_zero]
  · pointwise [val_main_call6_call0_v0, val_main_call6_call0_cst]
    exact EReal.coe_zero.symm

theorem v213 (n : Fin 4096) (l : Fin 128) : val_main_v213 (F := Ideal) x.x0 x.x9 x.x10 x.x11 (ix2 n l) = ((A.data.dp n.val 2 l : ℝ) : EReal) := by
  pointwise [val_main_v213, val_main_v204]
  rw [hx.v203, hx.v212, ← EReal.coe_neg, add_c]
  refine congrArg Real.toEReal ?_
  unfold Data.dp
  show -A.data.dm n.val 2 l + _ = (∑ j ∈ Finset.range 8, A.data.dq (n.val + j) 2 l) - A.data.dm n.val 2 l
  ring

/-- Group 3 of the pooling. -/
theorem v191 (n : Fin 4096) (l : Fin 128) : val_main_v191 (F := Ideal) x.x0 x.x9 x.x10 x.x11 (ix2 n l) = ((A.data.dm n.val 3 l : ℝ) : EReal) := by
  pointwise [val_main_v191, val_main_v190, val_main_v170, val_main_v169]
  simp only [hx.v186, hx.x9, cZero, EReal.coe_zero, zero_add, add_zero, mul_c, add_c, sub_c, sum_c]
  rfl

omit hx in
theorem v164 (n : Fin 4096) : val_main_v164 (F := Ideal)  (ix2 n 0) = ((((min (n.val + 1) 16 : ℕ) : ℝ) : ℝ) : EReal) := by
  pointwise [val_main_v164, val_main_v163, val_main_v162, val_main_v160, val_main_v153, val_main_v159, val_main_c_31, val_main_v161, val_main_c_32]
  exact count_word n.val 16 n.isLt (by norm_num)

theorem v194 (n : Fin 4096) (l : Fin 128) : val_main_v194 (F := Ideal) x.x0 x.x9 x.x10 x.x11 (ix2 n l) = ((A.data.dq n.val 3 l : ℝ) : EReal) := by
  pointwise [val_main_v194, val_main_v193]
  rw [hx.v191, v164, div_c _ (by positivity)]
  refine congrArg Real.toEReal ?_
  unfold Data.dq
  rw [if_pos n.isLt]
  rfl

theorem v199 (n : Fin 4096) (l : Fin 128) : val_main_v199 (F := Ideal) x.x0 x.x9 x.x10 x.x11 (ix2 n l) = ((A.data.dq n.val 3 l - A.data.dq (n.val + 16) 3 l : ℝ) : EReal) := by
  pointwise [val_main_v199, val_main_v198, val_main_v196, val_main_v195, val_main_cst_33]
  by_cases h : n.val + 16 < 4096
  · rw [dif_pos (by omega), hx.v194, hx.v194, ← EReal.coe_neg, add_c]
    refine congrArg Real.toEReal ?_
    show A.data.dq n.val 3 l + -A.data.dq (16 + n.val) 3 l = _
    rw [Nat.add_comm 16 n.val]
    ring
  · rw [dif_neg (by omega), hx.v194, add_zero]
    have e : A.data.dq (n.val + 16) 3 l = 0 := by unfold Data.dq; rw [if_neg h]
    rw [e, sub_zero]

theorem v200 (n : Fin 4096) (l : Fin 128) : val_main_v200 (F := Ideal) x.x0 x.x9 x.x10 x.x11 (ix2 n l) = ((∑ j ∈ Finset.range 16, A.data.dq (n.val + j) 3 l : ℝ) : EReal) := by
  unfold val_main_v200
  have hz : ∀ m, 4096 ≤ m → A.data.dq m 3 l = 0 := fun m h => by unfold Data.dq; rw [if_neg (by omega)]
  refine (back_sum _ (fun m => A.data.dq m 3 l - A.data.dq (m + 16) 3 l) l (fun i => hx.v199 i l) (fun m h => ?_) _ ?_ _ _ n).trans
    (congrArg Real.toEReal (telescope (fun m => A.data.dq m 3 l) hz 16 n.val))
  · show A.data.dq m 3 l - A.data.dq (m + 16) 3 l = 0
    rw [hz m h, hz _ (by omega), sub_zero]
  · pointwise [val_main_call5_call0_v0, val_main_call5_call0_cst]
    exact EReal.coe_zero.symm

theorem v201 (n : Fin 4096) (l : Fin 128) : val_main_v201 (F := Ideal) x.x0 x.x9 x.x10 x.x11 (ix2 n l) = ((A.data.dp n.val 3 l : ℝ) : EReal) := by
  pointwise [val_main_v201, val_main_v192]
  rw [hx.v191, hx.v200, ← EReal.coe_neg, add_c]
  refine congrArg Real.toEReal ?_
  unfold Data.dp
  show -A.data.dm n.val 3 l + _ = (∑ j ∈ Finset.range 16, A.data.dq (n.val + j) 3 l) - A.data.dm n.val 3 l
  ring

theorem v241_0 (n : Fin 4096) (l : Fin 128) : val_main_v241 (F := Ideal) x.x0 x.x9 x.x10 x.x11 (ix2 n ⟨0 + l.val, by omega⟩) = ((A.data.dp n.val 0 l : ℝ) : EReal) := by
  pointwise [val_main_v241, val_main_v228, val_main_v215, val_main_v202, val_main_cst_34, val_main_v214, val_main_cst_36, val_main_v227, val_main_cst_38, val_main_v240, val_main_cst_40]
  split_ifs <;> first | (exfalso; omega) | exact (‹False ∧ _›.1).elim | simp only [hx.v201, hx.v213, hx.v226, hx.v239, add_zero, zero_add]

theorem v241_1 (n : Fin 4096) (l : Fin 128) : val_main_v241 (F := Ideal) x.x0 x.x9 x.x10 x.x11 (ix2 n ⟨128 + l.val, by omega⟩) = ((A.data.dp n.val 1 l : ℝ) : EReal) := by
  pointwise [val_main_v241, val_main_v228, val_main_v215, val_main_v202, val_main_cst_34, val_main_v214, val_main_cst_36, val_main_v227, val_main_cst_38, val_main_v240, val_main_cst_40]
  split_ifs <;> first | (exfalso; omega) | exact (‹False ∧ _›.1).elim | simp only [hx.v201, hx.v213, hx.v226, hx.v239, add_zero, zero_add]

theorem v241_2 (n : Fin 4096) (l : Fin 128) : val_main_v241 (F := Ideal) x.x0 x.x9 x.x10 x.x11 (ix2 n ⟨256 + l.val, by omega⟩) = ((A.data.dp n.val 2 l : ℝ) : EReal) := by
  pointwise [val_main_v241, val_main_v228, val_main_v215, val_main_v202, val_main_cst_34, val_main_v214, val_main_cst_36, val_main_v227, val_main_cst_38, val_main_v240, val_main_cst_40]
  split_ifs <;> first | (exfalso; omega) | exact (‹False ∧ _›.1).elim | simp only [hx.v201, hx.v213, hx.v226, hx.v239, add_zero, zero_add]

theorem v241_3 (n : Fin 4096) (l : Fin 128) : val_main_v241 (F := Ideal) x.x0 x.x9 x.x10 x.x11 (ix2 n ⟨384 + l.val, by omega⟩) = ((A.data.dp n.val 3 l : ℝ) : EReal) := by
  pointwise [val_main_v241, val_main_v228, val_main_v215, val_main_v202, val_main_cst_34, val_main_v214, val_main_cst_36, val_main_v227, val_main_cst_38, val_main_v240, val_main_cst_40]
  split_ifs <;> first | (exfalso; omega) | exact (‹False ∧ _›.1).elim | simp only [hx.v201, hx.v213, hx.v226, hx.v239, add_zero, zero_add]

end Refs.Real

end Cert.Mix

end
-- ==== Proof.Mix.GateGrad.lean ====
/- The derivative at the first projection's output, at real arguments: the convolution's and the gate's columns beside the pooled ones. -/
module

public import proofs.«01_k».proof.Proof.Mix.PoolGrad
public import proofs.«01_k».proof.Proof.Mix.Rest5
import Mathlib.Tactic.Ring

@[expose] public section

set_option maxRecDepth 16384

noncomputable section

namespace Cert.Mix

open Cert.Reference2Ideal Cert.Reference2Ideal.Read Idealize.ShloMosaic Cert.Reals

namespace Refs.Real

variable {x : Refs} {A : Args} (hx : x.Real A)
include hx

/-- What each tap sends back to its row. -/
theorem v284 (n : Fin 4096) (k : Fin 31) (j : Fin 512) : val_main_v284 (F := Ideal) x.x0 x.x1 x.x2 x.x3 x.x4 x.x5 x.x6 x.x7 x.x8 x.x11 (ix3 n k j) = ((A.w k j * A.data.dv n.val j : ℝ) : EReal) := by
  pointwise [val_main_v284, val_main_v279, val_main_v283, val_main_v55, val_main_v25]
  simp only [hx.v275, hx.x5, Finset.univ_unique, Fin.default_eq_zero, Finset.sum_singleton, cZero, EReal.coe_zero, zero_add, add_zero, mul_c, add_c, sub_c, sum_c]
  refine congrArg Real.toEReal ?_
  unfold Data.dv
  rw [if_pos n.isLt, mul_comm]

/-- The rows' sum: what the taps send back to a row of the gated value. -/
theorem v287 (r : Fin 4096) (j : Fin 512) : val_main_v287 (F := Ideal) x.x0 x.x1 x.x2 x.x3 x.x4 x.x5 x.x6 x.x7 x.x8 x.x11 (ix2 ⟨30 + r.val, by omega⟩ j) = ((A.data.du r.val j : ℝ) : EReal) := by
  unfold val_main_v287
  refine (scattered _ (fun n k => ?_) _ _ (fun n => A.data.dv n j) (fun k => A.w k j) r j ?_ (fun n h => ?_) (fun n k => hx.v284 n k j)).trans ?_
  · rw [val_main_v53_apply]
    refine (congrArg _ (funext fun a => Fin.ext (by
      match a with
      | ⟨0, _⟩ => rfl
      | ⟨1, _⟩ => rfl))).trans (v52 n k)
  · pointwise [val_main_v286, val_main_cst_56]
    exact EReal.coe_zero.symm
  · unfold Data.dv
    rw [if_neg (by omega)]
  · refine congrArg Real.toEReal (Finset.sum_congr rfl fun k _ => ?_)
    refine congrArg (· * _) ?_
    show A.w k j = dite (k.val < 31) (fun h => A.w ⟨k.val, h⟩ j) (fun _ => 0)
    rw [dif_pos k.isLt]

theorem v289 (n : Fin 4096) (j : Fin 512) : val_main_v289 (F := Ideal) x.x0 x.x1 x.x2 x.x3 x.x4 x.x5 x.x6 x.x7 x.x8 x.x11 (ix2 n j) = ((A.data.du n.val j : ℝ) : EReal) := by
  pointwise [val_main_v289]
  exact hx.v287 n j

/-- The value's and the gate's gradients. -/
theorem v291 (n : Fin 4096) (j : Fin 512) : val_main_v291 (F := Ideal) x.x0 x.x1 x.x2 x.x3 x.x4 x.x5 x.x6 x.x7 x.x8 x.x11 (ix2 n j) = ((A.data.da n.val j : ℝ) : EReal) := by
  pointwise [val_main_v291]
  simp only [hx.v289, hx.v37, cZero, EReal.coe_zero, zero_add, add_zero, mul_c, add_c, sub_c, sum_c]
  unfold Data.da
  rw [show A.data.gate n.val j = A.gate n j from ext_val A.gate n j]

theorem v292 (n : Fin 4096) (j : Fin 512) : val_main_v292 (F := Ideal) x.x0 x.x1 x.x2 x.x3 x.x4 x.x5 x.x6 x.x7 x.x8 x.x11 (ix2 n j) = ((A.data.dgate n.val j : ℝ) : EReal) := by
  pointwise [val_main_v292, val_main_v290, val_main_v40, val_main_v39, val_main_v38, val_main_cst_5]
  simp only [hx.v289, hx.v29, hx.v37, one_c, cZero, EReal.coe_zero, zero_add, add_zero, mul_c, add_c, sub_c, sum_c]
  refine congrArg Real.toEReal ?_
  unfold Data.dgate
  rw [show A.data.gate n.val j = A.gate n j from ext_val A.gate n j, show A.data.a n.val j = A.a n j from ext_val A.a n j]
  ring

theorem v241 (n : Fin 4096) (q : Fin 4) (l : Fin 128) : val_main_v241 (F := Ideal) x.x0 x.x9 x.x10 x.x11 (ix2 n (lane q l)) = ((A.data.dp n.val q l : ℝ) : EReal) := by
  match q with
  | 0 => exact (congrArg (fun k => val_main_v241 (F := Ideal) x.x0 x.x9 x.x10 x.x11 (ix2 n k)) (Fin.ext rfl)).trans (hx.v241_0 n l)
  | 1 => exact hx.v241_1 n l
  | 2 => exact hx.v241_2 n l
  | 3 => exact hx.v241_3 n l

theorem v297_A (n : Fin 4096) (j : Fin 512) : val_main_v297 (F := Ideal) x.x0 x.x1 x.x2 x.x3 x.x4 x.x5 x.x6 x.x7 x.x8 x.x9 x.x10 x.x11 (ix2 n (colA j)) = ((A.data.da n.val j : ℝ) : EReal) := by
  unfold colA
  pointwise [val_main_v297, val_main_v295, val_main_v293, val_main_cst_57, val_main_v294, val_main_cst_58, val_main_v296, val_main_cst_59]
  split_ifs <;> first | (exfalso; omega) | exact (‹False ∧ _›.1).elim | simp only [hx.v291, hx.v292, add_zero, zero_add]

theorem v297_G (n : Fin 4096) (j : Fin 512) : val_main_v297 (F := Ideal) x.x0 x.x1 x.x2 x.x3 x.x4 x.x5 x.x6 x.x7 x.x8 x.x9 x.x10 x.x11 (ix2 n (colG j)) = ((A.data.dgate n.val j : ℝ) : EReal) := by
  unfold colG
  pointwise [val_main_v297, val_main_v295, val_main_v293, val_main_cst_57, val_main_v294, val_main_cst_58, val_main_v296, val_main_cst_59]
  split_ifs <;> first | (exfalso; omega) | exact (‹False ∧ _›.1).elim | simp only [hx.v291, hx.v292, add_zero, zero_add]

theorem v297_P (n : Fin 4096) (q : Fin 4) (l : Fin 128) : val_main_v297 (F := Ideal) x.x0 x.x1 x.x2 x.x3 x.x4 x.x5 x.x6 x.x7 x.x8 x.x9 x.x10 x.x11 (ix2 n (colP (lane q l))) = ((A.data.dp n.val q l : ℝ) : EReal) := by
  unfold colP
  pointwise [val_main_v297, val_main_v295, val_main_v293, val_main_cst_57, val_main_v294, val_main_cst_58, val_main_v296, val_main_cst_59]
  split_ifs <;> first | (exfalso; omega) | exact (‹False ∧ _›.1).elim | simp only [hx.v291, hx.v292, add_zero, zero_add, hx.v241]

/-- The gradient at the first projection's output. -/
theorem v297 (n : Fin 4096) (k : Fin 1536) : val_main_v297 (F := Ideal) x.x0 x.x1 x.x2 x.x3 x.x4 x.x5 x.x6 x.x7 x.x8 x.x9 x.x10 x.x11 (ix2 n k) = ((A.data.dz n.val k : ℝ) : EReal) := by
  obtain ⟨j, rfl⟩ | ⟨j, rfl⟩ | ⟨q, l, rfl⟩ := columns k
  · rw [hx.v297_A, Data.dz_colA]
  · rw [hx.v297_G, Data.dz_colG]
  · rw [hx.v297_P, Data.dz_colP]

/-- The result: the gradient, rounded. -/
theorem v323 (n : Fin 4096) (k : Fin 1536) : val_main_v323 (F := Ideal) x.x0 x.x1 x.x2 x.x3 x.x4 x.x5 x.x6 x.x7 x.x8 x.x9 x.x10 x.x11 (ix2 n k) = ((A.data.dz n.val k : ℝ) : EReal) := by
  pointwise [val_main_v323]
  exact hx.v297 n k

end Refs.Real

end Cert.Mix

end
-- ==== Proof.Mix.NormGrad.lean ====
/- The derivative of the first projection and the first norm at real arguments: the input's gradient and the weight's, and
   the two sums over the rows. -/
module

public import proofs.«01_k».proof.Proof.Mix.GateGrad
import Mathlib.Tactic.Ring

@[expose] public section

set_option maxRecDepth 16384

noncomputable section

namespace Cert.Mix

open Cert.Reference2Ideal Cert.Reference2Ideal.Read Idealize.ShloMosaic Cert.Reals

namespace Refs.Real

variable {x : Refs} {A : Args} (hx : x.Real A)
include hx

/-- The incoming gradient, the input and the factor of the norm. -/
theorem v181 (n : Fin 4096) (d : Fin 1024) : val_main_v181 (F := Ideal) x.x0 (ix2 n d) = ((A.data.dh n.val d : ℝ) : EReal) := by
  pointwise [val_main_v181]
  exact (hx.x0 n d).trans (congrArg Real.toEReal (ext_val A.dh n d).symm)

theorem v0 (n : Fin 4096) (d : Fin 1024) : val_main_v0 (F := Ideal) x.x1 (ix2 n d) = ((A.data.x n.val d : ℝ) : EReal) := by
  pointwise [val_main_v0]
  exact (hx.x1 n d).trans (congrArg Real.toEReal (ext_val A.x n d).symm)

theorem factor (n : Fin 4096) : val_main_v11 (F := Ideal) x.x1 (ix2 n 0) = ((A.data.r1 n.val : ℝ) : EReal) :=
  (hx.v11 n).trans (congrArg Real.toEReal (A.data_r1 n).symm)

/-- The mean square, and what the root's derivative makes of it. -/
theorem v10 (n : Fin 4096) : val_main_v10 (F := Ideal) x.x1 (ix2 n 0) = (((∑ d, A.data.x n.val d * A.data.x n.val d) / 1024 + eps : ℝ) : EReal) := by
  pointwise [val_main_v10, val_main_v8, val_main_v6, val_main_v5, val_main_v4, val_main_cst, val_main_v7, val_main_cst_0, val_main_v9, val_main_cst_1]
  simp only [hx.v0, cZero, EReal.coe_zero, zero_add, add_zero, mul_c, add_c, sub_c, sum_c, div1024, cEps]

theorem v14 (n : Fin 4096) : val_main_v14 (F := Ideal) x.x1 (ix2 n 0) = ((-(1 / 2) * (A.data.r1 n.val / ((∑ d, A.data.x n.val d * A.data.x n.val d) / 1024 + eps)) : ℝ) : EReal) := by
  pointwise [val_main_v14, val_main_v13, val_main_cst_2, val_main_v12]
  simp only [hx.factor, hx.v10, cNegHalf, div_c _ (msq_pos (fun d => A.data.x n.val d) (by norm_num : (0 : ℝ) < 1024) eps_pos).ne', cZero, EReal.coe_zero, zero_add, add_zero, mul_c, add_c, sub_c, sum_c]

/-- The gradient at the norm's output. -/
theorem v301 (n : Fin 4096) (d : Fin 1024) : val_main_v301 (F := Ideal) x.x0 x.x1 x.x2 x.x3 x.x4 x.x5 x.x6 x.x7 x.x8 x.x9 x.x10 x.x11 (ix2 n d) = ((A.data.dxn n.val d : ℝ) : EReal) := by
  pointwise [val_main_v301, val_main_v3]
  simp only [hx.v297, hx.x3, cZero, EReal.coe_zero, zero_add, add_zero, mul_c, add_c, sub_c, sum_c]
  rfl

theorem v16 (n : Fin 4096) (d : Fin 1024) : val_main_v16 (F := Ideal) x.x1 (ix2 n d) = ((A.data.xhat n.val d : ℝ) : EReal) := by
  pointwise [val_main_v16, val_main_v15]
  simp only [hx.v0, hx.factor, cZero, EReal.coe_zero, zero_add, add_zero, mul_c, add_c, sub_c, sum_c]
  rfl

theorem v306 (n : Fin 4096) (d : Fin 1024) : val_main_v306 (F := Ideal) x.x0 x.x1 x.x2 x.x3 x.x4 x.x5 x.x6 x.x7 x.x8 x.x9 x.x10 x.x11 (ix2 n d) = ((A.data.dnn n.val d : ℝ) : EReal) := by
  pointwise [val_main_v306, val_main_v305, val_main_v17, val_main_v1]
  simp only [hx.v301, hx.x2, cZero, EReal.coe_zero, zero_add, add_zero, mul_c, add_c, sub_c, sum_c]
  rfl

/-- The mean square's share. -/
theorem v316 (n : Fin 4096) : val_main_v316 (F := Ideal) x.x0 x.x1 x.x2 x.x3 x.x4 x.x5 x.x6 x.x7 x.x8 x.x9 x.x10 x.x11 (ix1 n) = ((A.data.rshare n.val : ℝ) : EReal) := by
  pointwise [val_main_v316, val_main_v315, val_main_v313, val_main_v310, val_main_v309, val_main_v308, val_main_cst_64, val_main_v314, val_main_cst_65, val_main_cst_66]
  simp only [hx.v0, hx.v306, hx.v14, Finset.univ_unique, Fin.default_eq_zero, Finset.sum_singleton, cZero, EReal.coe_zero, zero_add, add_zero, mul_c, add_c, sub_c, sum_c, div1024]
  rfl

/-- The input's gradient. -/
theorem v322 (n : Fin 4096) (d : Fin 1024) : val_main_v322 (F := Ideal) x.x0 x.x1 x.x2 x.x3 x.x4 x.x5 x.x6 x.x7 x.x8 x.x9 x.x10 x.x11 (ix2 n d) = ((A.data.dx n.val d : ℝ) : EReal) := by
  pointwise [val_main_v322, val_main_v321, val_main_v319, val_main_v312, val_main_v311, val_main_v318, val_main_v317, val_main_v320]
  simp only [hx.v181, hx.v0, hx.v306, hx.factor, hx.v316, cZero, EReal.coe_zero, zero_add, add_zero, mul_c, add_c, sub_c, sum_c]
  exact congrArg Real.toEReal (A.data.dx_of n.val d)

/-- The weight's gradient, and the bias's: sums over the rows. -/
theorem v325 (d : Fin 1024) : val_main_v325 (F := Ideal) x.x0 x.x1 x.x2 x.x3 x.x4 x.x5 x.x6 x.x7 x.x8 x.x9 x.x10 x.x11 (ix2 0 d) = ((∑ n : Fin 4096, A.data.dgt n.val d : ℝ) : EReal) := by
  pointwise [val_main_v325, val_main_v307, val_main_v304, val_main_v303, val_main_v302, val_main_cst_62, val_main_cst_63]
  simp only [hx.v16, hx.v301, Finset.univ_unique, Fin.default_eq_zero, Finset.sum_singleton, cZero, EReal.coe_zero, zero_add, add_zero, mul_c, add_c, sub_c, sum_c]
  exact congrArg Real.toEReal (Finset.sum_congr rfl fun n _ => mul_comm _ _)

theorem v326 (k : Fin 1536) : val_main_v326 (F := Ideal) x.x0 x.x1 x.x2 x.x3 x.x4 x.x5 x.x6 x.x7 x.x8 x.x9 x.x10 x.x11 (ix2 0 k) = ((∑ n : Fin 4096, A.data.dz n.val k : ℝ) : EReal) := by
  pointwise [val_main_v326, val_main_v300, val_main_v299, val_main_v298, val_main_cst_60, val_main_cst_61]
  simp only [hx.v297, Finset.univ_unique, Fin.default_eq_zero, Finset.sum_singleton, cZero, EReal.coe_zero, zero_add, add_zero, mul_c, add_c, sub_c, sum_c]

end Refs.Real

end Cert.Mix

end
-- ==== Proof.Mix.Claim.lean ====
/- The claims about the backward call of the mixing half. -/
module

public import proofs.«01_k».proof.Defs
public import proofs.«01_k».proof.Proof.Mix.Frame
public import proofs.«01_k».proof.Proof.Mix.Arrays
public import proofs.«01_k».proof.Proof.Mix.NormGrad
public import proofs.«01_k».proof.Proof.Finite
public import proofs.«01_k».proof.Proof.Gen.Reference2Ideal.Run
public import proofs.«01_k».proof.Proof.Gen.Reference2Ideal.Read
public import proofs.«01_k».proof.Proof.Gen.Kernel2

@[expose] public section

set_option maxRecDepth 16384

noncomputable section

namespace Cert.Pre_finite2

/-- The shape facts the precondition states. -/
instance facts : Cert.Pre_finite2.Facts where
  bcast_S_S1x4096x1024 := by decide
  bcast_S_S1x1024 := by decide
  bcast_S_S1x1024x1536 := by decide
  bcast_S_S1x1536 := by decide
  bcast_S_S1x31x512 := by decide
  bcast_S_S1x512 := by decide
  bcast_S_S1x4x128x128 := by decide
  bcast_S_S1x1024x1024 := by decide

end Cert.Pre_finite2

namespace Cert.Mix

open Idealize.ShloMosaic Idealize.ShloMosaic.Tactic Idealize.SL.Sem Cert.Reals

/-- The idealized kernel's frame. -/
theorem frame_ideal : Cert.quiescent_Kernel2Ideal := fun m ρ _ => frame m ρ

/-- The kernel's calls are the idealized kernel's: the same text. -/
theorem defs_eq : Cert.Kernel2.defs (F := Bits) = Cert.Kernel2Ideal.defs (F := Bits) := by sl_kernel_rfl

/-- The kernel's host program is the idealized kernel's: the same text. -/
theorem main_eq : Cert.Kernel2.main (F := Bits) = Cert.Kernel2Ideal.main (F := Bits) := by sl_kernel_rfl

/-- The kernel's frame: the same text, at bits. -/
theorem frame_kernel : Cert.quiescent_Kernel2 := by
  unfold Cert.quiescent_Kernel2
  rw [defs_eq, main_eq]
  intro m ρ _
  refine Eq.mp ?_ (frame (F := Bits) m ρ)
  sl_kernel_rfl

/-- The reference's frame, from its run. -/
theorem frame_reference : Cert.quiescent_Reference2Ideal := fun m ρ _ =>
  (θ_run Cert.Reference2Ideal.defs _ _).mono (fun r h => ⟨fun c => (h c).2.2.2.2.2.2.2.2.2, sem_eq_zero_of_no_sems (by decide) r.2⟩)
    (Cert.Reference2Ideal.Value.run (F := Ideal) m ρ)

/-! ## The precondition gives real arguments -/

/-- The real numbers a memory's arguments hold on a device. -/
def argsOf (m : (ℓ : Loc Cert.Kernel2Ideal.nD Cert.Kernel2Ideal.τ Cert.Kernel2Ideal.sig) → Buf (Elt Ideal) ℓ) (c : Dev Cert.Kernel2Ideal.nD) : Args where
  dh := fun r k => ((m (c.tc.loc Cert.Kernel2Ideal.main_arg0) : Vec Ideal Cert.Kernel2Ideal.S1x4096x1024 .f32) (ix3 0 r k) : EReal).toReal
  x := fun r k => ((m (c.tc.loc Cert.Kernel2Ideal.main_arg1) : Vec Ideal Cert.Kernel2Ideal.S1x4096x1024 .f32) (ix3 0 r k) : EReal).toReal
  g := fun k => ((m (c.tc.loc Cert.Kernel2Ideal.main_arg2) : Vec Ideal Cert.Kernel2Ideal.S1x1024 .f32) (ix2 0 k) : EReal).toReal
  win := fun r k => ((m (c.tc.loc Cert.Kernel2Ideal.main_arg3) : Vec Ideal Cert.Kernel2Ideal.S1x1024x1536 .f32) (ix3 0 r k) : EReal).toReal
  bin := fun k => ((m (c.tc.loc Cert.Kernel2Ideal.main_arg4) : Vec Ideal Cert.Kernel2Ideal.S1x1536 .f32) (ix2 0 k) : EReal).toReal
  w := fun r k => ((m (c.tc.loc Cert.Kernel2Ideal.main_arg5) : Vec Ideal Cert.Kernel2Ideal.S1x31x512 .f32) (ix3 0 r k) : EReal).toReal
  bd := fun k => ((m (c.tc.loc Cert.Kernel2Ideal.main_arg6) : Vec Ideal Cert.Kernel2Ideal.S1x512 .f32) (ix2 0 k) : EReal).toReal
  lg := fun k => ((m (c.tc.loc Cert.Kernel2Ideal.main_arg7) : Vec Ideal Cert.Kernel2Ideal.S1x512 .f32) (ix2 0 k) : EReal).toReal
  lb := fun k => ((m (c.tc.loc Cert.Kernel2Ideal.main_arg8) : Vec Ideal Cert.Kernel2Ideal.S1x512 .f32) (ix2 0 k) : EReal).toReal
  wp := fun q k l => ((m (c.tc.loc Cert.Kernel2Ideal.main_arg9) : Vec Ideal Cert.Kernel2Ideal.S1x4x128x128 .f32) (ix4 0 q k l) : EReal).toReal
  sp := fun k => ((m (c.tc.loc Cert.Kernel2Ideal.main_arg10) : Vec Ideal Cert.Kernel2Ideal.S1x512 .f32) (ix2 0 k) : EReal).toReal
  wo := fun r k => ((m (c.tc.loc Cert.Kernel2Ideal.main_arg11) : Vec Ideal Cert.Kernel2Ideal.S1x1024x1024 .f32) (ix3 0 r k) : EReal).toReal

/-- Finite arguments hold real numbers. -/
theorem real_of_pre {m : (ℓ : Loc Cert.Kernel2Ideal.nD Cert.Kernel2Ideal.τ Cert.Kernel2Ideal.sig) → Buf (Elt Ideal) ℓ} (h : Cert.Pre_Kernel2Ideal_finite2 m)
    (c : Dev Cert.Kernel2Ideal.nD) : (kin m c).Real (argsOf m c) where
  x0 r k := real_of_lt_inf _ _ (h c).1 _
  x1 r k := real_of_lt_inf _ _ (h c).2.1 _
  x2 k := real_of_lt_inf _ _ (h c).2.2.1 _
  x3 r k := real_of_lt_inf _ _ (h c).2.2.2.1 _
  x4 k := real_of_lt_inf _ _ (h c).2.2.2.2.1 _
  x5 r k := real_of_lt_inf _ _ (h c).2.2.2.2.2.1 _
  x6 k := real_of_lt_inf _ _ (h c).2.2.2.2.2.2.1 _
  x7 k := real_of_lt_inf _ _ (h c).2.2.2.2.2.2.2.1 _
  x8 k := real_of_lt_inf _ _ (h c).2.2.2.2.2.2.2.2.1 _
  x9 q k l := real_of_lt_inf _ _ (h c).2.2.2.2.2.2.2.2.2.1 _
  x10 k := real_of_lt_inf _ _ (h c).2.2.2.2.2.2.2.2.2.2.1 _
  x11 r k := real_of_lt_inf _ _ (h c).2.2.2.2.2.2.2.2.2.2.2 _

/-! ## The reference's results as arrays -/

/-- The arguments a memory of the reference holds on a device. -/
def refsOf (m' : (ℓ : Loc Cert.Reference2Ideal.nD Cert.Reference2Ideal.τ Cert.Reference2Ideal.sig) → Buf (Elt Ideal) ℓ) (c : Dev Cert.Reference2Ideal.nD) : Refs :=
  ⟨m' (c.tc.loc Cert.Reference2Ideal.main_arg0), m' (c.tc.loc Cert.Reference2Ideal.main_arg1), m' (c.tc.loc Cert.Reference2Ideal.main_arg2), m' (c.tc.loc Cert.Reference2Ideal.main_arg3), m' (c.tc.loc Cert.Reference2Ideal.main_arg4), m' (c.tc.loc Cert.Reference2Ideal.main_arg5), m' (c.tc.loc Cert.Reference2Ideal.main_arg6), m' (c.tc.loc Cert.Reference2Ideal.main_arg7), m' (c.tc.loc Cert.Reference2Ideal.main_arg8), m' (c.tc.loc Cert.Reference2Ideal.main_arg9), m' (c.tc.loc Cert.Reference2Ideal.main_arg10), m' (c.tc.loc Cert.Reference2Ideal.main_arg11)⟩

/-- A row array is known by its columns. -/
theorem row_ext {u v : Vec Ideal Cert.Kernel2Ideal.S1x512 .f32} (h : ∀ k, u (ix2 0 k) = v (ix2 0 k)) : u = v := by
  funext i
  have e : i = ix2 0 (i 1) := (eq_ix2 i).trans (congrArg (ix2 · (i 1)) (Subsingleton.elim _ _))
  rw [e]
  exact h _

open Cert.Reference2Ideal Cert.Reference2Ideal.Read in
section

variable {x : Refs} {A : Args} (hx : x.Real A)
include hx

theorem ref14 : val_main_v322 (F := Ideal) x.x0 x.x1 x.x2 x.x3 x.x4 x.x5 x.x6 x.x7 x.x8 x.x9 x.x10 x.x11 = all14 A.data := by
  funext i
  rw [eq_ix2 i]
  exact hx.v322 _ _

theorem ref16 : val_main_v324 (F := Ideal) x.x0 = all16 A.data := by
  funext i
  rw [eq_ix2 i]
  exact hx.v324 _ _

theorem ref15 : val_main_v323 (F := Ideal) x.x0 x.x1 x.x2 x.x3 x.x4 x.x5 x.x6 x.x7 x.x8 x.x9 x.x10 x.x11 = all15 A.data := by
  funext i
  rw [eq_ix2 i]
  exact hx.v323 _ _

theorem ref17 : val_main_v325 (F := Ideal) x.x0 x.x1 x.x2 x.x3 x.x4 x.x5 x.x6 x.x7 x.x8 x.x9 x.x10 x.x11 = at17 A.data 7 :=
  ext_row fun d => (hx.v325 d).trans (congrArg Real.toEReal (sum_blocks fun n => A.data.dgt n d).symm)

theorem ref18 : val_main_v326 (F := Ideal) x.x0 x.x1 x.x2 x.x3 x.x4 x.x5 x.x6 x.x7 x.x8 x.x9 x.x10 x.x11 = at18 A.data 7 :=
  ext_row fun k => (hx.v326 k).trans (congrArg Real.toEReal (sum_blocks fun n => A.data.dz n k).symm)

theorem ref19 : val_main_v327 (F := Ideal) x.x0 x.x1 x.x2 x.x3 x.x4 x.x5 x.x6 x.x7 x.x8 x.x11 = at19 A.data 7 := by
  funext i
  rw [eq_ix2 i]
  exact (hx.v327 _ _).trans (congrArg Real.toEReal (sum_blocks fun n => A.data.dwt n (i 0).val (i 1)).symm)

theorem ref20 : val_main_v328 (F := Ideal) x.x0 x.x1 x.x2 x.x3 x.x4 x.x5 x.x6 x.x7 x.x8 x.x11 = at20 A.data 7 :=
  row_ext fun k => (hx.v328 k).trans (congrArg Real.toEReal (sum_blocks fun n => A.data.dvr n k).symm)

theorem ref21 : val_main_v329 (F := Ideal) x.x0 x.x1 x.x2 x.x3 x.x4 x.x5 x.x6 x.x7 x.x8 x.x11 = at21 A.data 7 :=
  row_ext fun k => (hx.v329 k).trans (congrArg Real.toEReal (sum_blocks fun n => A.data.dln n k * A.data.vhat n k).symm)

theorem ref22 : val_main_v330 (F := Ideal) x.x0 x.x1 x.x2 x.x3 x.x4 x.x5 x.x6 x.x7 x.x8 x.x11 = at22 A.data 7 :=
  row_ext fun k => (hx.v330 k).trans (congrArg Real.toEReal (sum_blocks fun n => A.data.dln n k).symm)

end

/-- What the reference ends with, at real arguments. -/
theorem ref_results (m' : (ℓ : Loc Cert.Reference2Ideal.nD Cert.Reference2Ideal.τ Cert.Reference2Ideal.sig) → Buf (Elt Ideal) ℓ) (ρ' : Dev Cert.Reference2Ideal.nD → PrngReg)
    {A : Args} (hx : ∀ c, (refsOf m' c).Real A) :
    θ_run (Cert.Reference2Ideal.defs (F := Ideal)) (onTc (τ := Cert.Reference2Ideal.τ) (Cert.Reference2Ideal.main (F := Ideal))) ⟨m', fun _ => 0, ρ'⟩ (fun r => ∀ c : Dev Cert.Reference2Ideal.nD,
      r.2.mem ((c.tc : Thread Cert.Reference2Ideal.nD Cert.Reference2Ideal.τ).loc Cert.Reference2Ideal.main_v322) = (all14 A.data)
      ∧ r.2.mem ((c.tc : Thread Cert.Reference2Ideal.nD Cert.Reference2Ideal.τ).loc Cert.Reference2Ideal.main_v323) = (all15 A.data)
      ∧ r.2.mem ((c.tc : Thread Cert.Reference2Ideal.nD Cert.Reference2Ideal.τ).loc Cert.Reference2Ideal.main_v324) = (all16 A.data)
      ∧ r.2.mem ((c.tc : Thread Cert.Reference2Ideal.nD Cert.Reference2Ideal.τ).loc Cert.Reference2Ideal.main_v325) = (at17 A.data 7)
      ∧ r.2.mem ((c.tc : Thread Cert.Reference2Ideal.nD Cert.Reference2Ideal.τ).loc Cert.Reference2Ideal.main_v326) = (at18 A.data 7)
      ∧ r.2.mem ((c.tc : Thread Cert.Reference2Ideal.nD Cert.Reference2Ideal.τ).loc Cert.Reference2Ideal.main_v327) = (at19 A.data 7)
      ∧ r.2.mem ((c.tc : Thread Cert.Reference2Ideal.nD Cert.Reference2Ideal.τ).loc Cert.Reference2Ideal.main_v328) = (at20 A.data 7)
      ∧ r.2.mem ((c.tc : Thread Cert.Reference2Ideal.nD Cert.Reference2Ideal.τ).loc Cert.Reference2Ideal.main_v329) = (at21 A.data 7)
      ∧ r.2.mem ((c.tc : Thread Cert.Reference2Ideal.nD Cert.Reference2Ideal.τ).loc Cert.Reference2Ideal.main_v330) = (at22 A.data 7)
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)) := by
  refine (θ_run Cert.Reference2Ideal.defs _ _).mono (fun r h c => ?_) (Cert.Reference2Ideal.Value.run m' ρ')
  have h14 := (Cert.Reference2Ideal.Read.val_main_v322_eq (F := Ideal) (StableHlo.launchContents m' c)).trans (ref14 (x := refsOf m' c) (hx c))
  have h17 := (Cert.Reference2Ideal.Read.val_main_v325_eq (F := Ideal) (StableHlo.launchContents m' c)).trans (ref17 (x := refsOf m' c) (hx c))
  have h15 := (Cert.Reference2Ideal.Read.val_main_v323_eq (F := Ideal) (StableHlo.launchContents m' c)).trans (ref15 (x := refsOf m' c) (hx c))
  have h18 := (Cert.Reference2Ideal.Read.val_main_v326_eq (F := Ideal) (StableHlo.launchContents m' c)).trans (ref18 (x := refsOf m' c) (hx c))
  have h16 := (Cert.Reference2Ideal.Read.val_main_v324_eq (F := Ideal) (StableHlo.launchContents m' c)).trans (ref16 (x := refsOf m' c) (hx c))
  have h19 := (Cert.Reference2Ideal.Read.val_main_v327_eq (F := Ideal) (StableHlo.launchContents m' c)).trans (ref19 (x := refsOf m' c) (hx c))
  have h20 := (Cert.Reference2Ideal.Read.val_main_v328_eq (F := Ideal) (StableHlo.launchContents m' c)).trans (ref20 (x := refsOf m' c) (hx c))
  have h21 := (Cert.Reference2Ideal.Read.val_main_v329_eq (F := Ideal) (StableHlo.launchContents m' c)).trans (ref21 (x := refsOf m' c) (hx c))
  have h22 := (Cert.Reference2Ideal.Read.val_main_v330_eq (F := Ideal) (StableHlo.launchContents m' c)).trans (ref22 (x := refsOf m' c) (hx c))
  exact ⟨((h c).1).trans h14, ((h c).2.1).trans h15, ((h c).2.2.1).trans h16, ((h c).2.2.2.1).trans h17, ((h c).2.2.2.2.1).trans h18, ((h c).2.2.2.2.2.1).trans h19, ((h c).2.2.2.2.2.2.1).trans h20, ((h c).2.2.2.2.2.2.2.1).trans h21, ((h c).2.2.2.2.2.2.2.2.1).trans h22, (h c).2.2.2.2.2.2.2.2.2⟩

set_option maxHeartbeats 1000000 in
/-- The call and the reference end with equal results. -/
theorem algebraic : Cert.algebraic_Kernel2Ideal_Reference2Ideal_pre_finite2 := by
  intro m ρ m' ρ' hpre hag
  have hr : ∀ c, (refsOf m' c).Real (argsOf m c) := fun c =>
    have g := real_of_pre hpre c
    {x0 := fun r k => (congrFun ((hag c).1) _).trans (g.x0 r k),
      x1 := fun r k => (congrFun ((hag c).2.1) _).trans (g.x1 r k),
      x2 := fun k => (congrFun ((hag c).2.2.1) _).trans (g.x2 k),
      x3 := fun r k => (congrFun ((hag c).2.2.2.1) _).trans (g.x3 r k),
      x4 := fun k => (congrFun ((hag c).2.2.2.2.1) _).trans (g.x4 k),
      x5 := fun r k => (congrFun ((hag c).2.2.2.2.2.1) _).trans (g.x5 r k),
      x6 := fun k => (congrFun ((hag c).2.2.2.2.2.2.1) _).trans (g.x6 k),
      x7 := fun k => (congrFun ((hag c).2.2.2.2.2.2.2.1) _).trans (g.x7 k),
      x8 := fun k => (congrFun ((hag c).2.2.2.2.2.2.2.2.1) _).trans (g.x8 k),
      x9 := fun q k l => (congrFun ((hag c).2.2.2.2.2.2.2.2.2.1) _).trans (g.x9 q k l),
      x10 := fun k => (congrFun ((hag c).2.2.2.2.2.2.2.2.2.2.1) _).trans (g.x10 k),
      x11 := fun r k => (congrFun ((hag c).2.2.2.2.2.2.2.2.2.2.2) _).trans (g.x11 r k) }
  have one : ∀ c : Dev Cert.Kernel2Ideal.nD, c = 0 := fun c => Subsingleton.elim (α := Fin 1) c 0
  have T := trun (argsOf m 0).data m ρ fun c t => by rw [one c]; exact ins (real_of_pre hpre 0) t
  refine ⟨fun _ => all14 (argsOf m 0).data, fun _ => all15 (argsOf m 0).data, fun _ => all16 (argsOf m 0).data, fun _ => at17 (argsOf m 0).data 7, fun _ => at18 (argsOf m 0).data 7, fun _ => at19 (argsOf m 0).data 7, fun _ => at20 (argsOf m 0).data 7, fun _ => at21 (argsOf m 0).data 7,
    fun _ => at22 (argsOf m 0).data 7, ?_, ?_⟩
  · refine (θ_run Cert.Kernel2Ideal.defs _ _).mono (fun r h c => ⟨(((tdats _ m 0 c).toRForget_arrAt_iff (w := 14) rfl _ _).mp ((h.1 c).1 14)).trans (arr14 _ m c),
      (((tdats _ m 0 c).toRForget_arrAt_iff (w := 15) rfl _ _).mp ((h.1 c).1 15)).trans (arr15 _ m c),
      (((tdats _ m 0 c).toRForget_arrAt_iff (w := 16) rfl _ _).mp ((h.1 c).1 16)).trans (arr16 _ m c),
      (((tdats _ m 0 c).toRForget_arrAt_iff (w := 17) rfl _ _).mp ((h.1 c).1 17)).trans (arr17 _ m c),
      (((tdats _ m 0 c).toRForget_arrAt_iff (w := 18) rfl _ _).mp ((h.1 c).1 18)).trans (arr18 _ m c),
      (((tdats _ m 0 c).toRForget_arrAt_iff (w := 19) rfl _ _).mp ((h.1 c).1 19)).trans (arr19 _ m c),
      (((tdats _ m 0 c).toRForget_arrAt_iff (w := 20) rfl _ _).mp ((h.1 c).1 20)).trans (arr20 _ m c),
      (((tdats _ m 0 c).toRForget_arrAt_iff (w := 21) rfl _ _).mp ((h.1 c).1 21)).trans (arr21 _ m c),
      (((tdats _ m 0 c).toRForget_arrAt_iff (w := 22) rfl _ _).mp ((h.1 c).1 22)).trans (arr22 _ m c),
      ((h.1 c).2 Cert.Kernel2Ideal.main_arg0 (Pipeline.mem_restRefs_of Cert.Kernel2Ideal.main_arg0 (by decide) (by decide))).trans (Cert.Kernel2Ideal.Gen.V_main_arg0 m c),
      ((h.1 c).2 Cert.Kernel2Ideal.main_arg1 (Pipeline.mem_restRefs_of Cert.Kernel2Ideal.main_arg1 (by decide) (by decide))).trans (Cert.Kernel2Ideal.Gen.V_main_arg1 m c),
      (h.1.arr_in c 6 rfl).trans (Cert.Kernel2Ideal.Gen.V_main_arg2 m c),
      ((h.1 c).2 Cert.Kernel2Ideal.main_arg3 (Pipeline.mem_restRefs_of Cert.Kernel2Ideal.main_arg3 (by decide) (by decide))).trans (Cert.Kernel2Ideal.Gen.V_main_arg3 m c),
      ((h.1 c).2 Cert.Kernel2Ideal.main_arg4 (Pipeline.mem_restRefs_of Cert.Kernel2Ideal.main_arg4 (by decide) (by decide))).trans (Cert.Kernel2Ideal.Gen.V_main_arg4 m c),
      ((h.1 c).2 Cert.Kernel2Ideal.main_arg5 (Pipeline.mem_restRefs_of Cert.Kernel2Ideal.main_arg5 (by decide) (by decide))).trans (Cert.Kernel2Ideal.Gen.V_main_arg5 m c),
      ((h.1 c).2 Cert.Kernel2Ideal.main_arg6 (Pipeline.mem_restRefs_of Cert.Kernel2Ideal.main_arg6 (by decide) (by decide))).trans (Cert.Kernel2Ideal.Gen.V_main_arg6 m c),
      (h.1.arr_in c 9 rfl).trans (Cert.Kernel2Ideal.Gen.V_main_arg7 m c),
      (h.1.arr_in c 10 rfl).trans (Cert.Kernel2Ideal.Gen.V_main_arg8 m c),
      ((h.1 c).2 Cert.Kernel2Ideal.main_arg9 (Pipeline.mem_restRefs_of Cert.Kernel2Ideal.main_arg9 (by decide) (by decide))).trans (Cert.Kernel2Ideal.Gen.V_main_arg9 m c),
      (h.1.arr_in c 12 rfl).trans (Cert.Kernel2Ideal.Gen.V_main_arg10 m c),
      ((h.1 c).2 Cert.Kernel2Ideal.main_arg11 (Pipeline.mem_restRefs_of Cert.Kernel2Ideal.main_arg11 (by decide) (by decide))).trans (Cert.Kernel2Ideal.Gen.V_main_arg11 m c)⟩) T
  · exact ref_results m' ρ' fun c => one c ▸ hr c

end Cert.Mix

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Ffn.Claim
public import proofs.«01_k».proof.Proof.Mix.Claim
public import proofs.«01_k».proof.Proof.Gen.Kernel2
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame, from its run. -/
theorem frame_reference : Cert.quiescent_ReferenceIdeal := fun m ρ _ =>
  (θ_run Cert.ReferenceIdeal.defs _ _).mono (fun r h => ⟨fun c => (h c).2.2.2.2.2.2.2.2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.facts, Cert.Pre_finite2.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, Cert.Mix.frame_kernel, Cert.Mix.frame_ideal, fun m ρ _ => Cert.Mix.frame_ideal m ρ trivial,
  Cert.Mix.frame_reference, fun m ρ _ => Cert.Mix.frame_reference m ρ trivial, trivial, Cert.Ffn.algebraic, trivial, Cert.Mix.algebraic⟩

end Cert.Proof

end
